-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnCtx (m : (ℓ : Loc Cert.FfnCtx.nD Cert.FfnCtx.τ Cert.FfnCtx.sig) → Buf (Elt Bits) ℓ) : Prop :=
  True

def Pre_FfnCtxIdeal (m : (ℓ : Loc Cert.FfnCtxIdeal.nD Cert.FfnCtxIdeal.τ Cert.FfnCtxIdeal.sig) → Buf (Elt Ideal) ℓ) : Prop :=
  True

def Pre_FfnCtxReferenceIdeal (m : (ℓ : Loc Cert.FfnCtxReferenceIdeal.nD Cert.FfnCtxReferenceIdeal.τ Cert.FfnCtxReferenceIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_ModAb (m : (ℓ : Loc Cert.ModAb.nD Cert.ModAb.τ Cert.ModAb.sig) → Buf (Elt Bits) ℓ) : Prop :=
  True

def Pre_ModAbIdeal (m : (ℓ : Loc Cert.ModAbIdeal.nD Cert.ModAbIdeal.τ Cert.ModAbIdeal.sig) → Buf (Elt Ideal) ℓ) : Prop :=
  True

def Pre_ModAbReferenceIdeal (m : (ℓ : Loc Cert.ModAbReferenceIdeal.nD Cert.ModAbReferenceIdeal.τ Cert.ModAbReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_CdOut (m : (ℓ : Loc Cert.CdOut.nD Cert.CdOut.τ Cert.CdOut.sig) → Buf (Elt Bits) ℓ) : Prop :=
  True

def Pre_CdOutIdeal (m : (ℓ : Loc Cert.CdOutIdeal.nD Cert.CdOutIdeal.τ Cert.CdOutIdeal.sig) → Buf (Elt Ideal) ℓ) : Prop :=
  True

def Pre_CdOutIdeal_finite_heads [hPre_finite_heads : Cert.Pre_finite_heads.Facts] (m : (ℓ : Loc Cert.CdOutIdeal.nD Cert.CdOutIdeal.τ Cert.CdOutIdeal.sig) → Buf (Elt Ideal) ℓ) : Prop :=
  ∀ c : Dev Cert.CdOutIdeal.nD,
    (Cert.Pre_finite_heads.fn (F := Ideal) (m ((c.tc : Thread Cert.CdOutIdeal.nD Cert.CdOutIdeal.τ).loc Cert.CdOutIdeal.main_arg0)) (m ((c.tc : Thread Cert.CdOutIdeal.nD Cert.CdOutIdeal.τ).loc Cert.CdOutIdeal.main_arg1)) (m ((c.tc : Thread Cert.CdOutIdeal.nD Cert.CdOutIdeal.τ).loc Cert.CdOutIdeal.main_arg2)) (m ((c.tc : Thread Cert.CdOutIdeal.nD Cert.CdOutIdeal.τ).loc Cert.CdOutIdeal.main_arg3)) (m ((c.tc : Thread Cert.CdOutIdeal.nD Cert.CdOutIdeal.τ).loc Cert.CdOutIdeal.main_arg4)) (m ((c.tc : Thread Cert.CdOutIdeal.nD Cert.CdOutIdeal.τ).loc Cert.CdOutIdeal.main_arg5)) (m ((c.tc : Thread Cert.CdOutIdeal.nD Cert.CdOutIdeal.τ).loc Cert.CdOutIdeal.main_arg6)) (m ((c.tc : Thread Cert.CdOutIdeal.nD Cert.CdOutIdeal.τ).loc Cert.CdOutIdeal.main_arg7)) (m ((c.tc : Thread Cert.CdOutIdeal.nD Cert.CdOutIdeal.τ).loc Cert.CdOutIdeal.main_arg8)) (m ((c.tc : Thread Cert.CdOutIdeal.nD Cert.CdOutIdeal.τ).loc Cert.CdOutIdeal.main_arg9)) (m ((c.tc : Thread Cert.CdOutIdeal.nD Cert.CdOutIdeal.τ).loc Cert.CdOutIdeal.main_arg10)) (m ((c.tc : Thread Cert.CdOutIdeal.nD Cert.CdOutIdeal.τ).loc Cert.CdOutIdeal.main_arg11)) (m ((c.tc : Thread Cert.CdOutIdeal.nD Cert.CdOutIdeal.τ).loc Cert.CdOutIdeal.main_arg12)) (m ((c.tc : Thread Cert.CdOutIdeal.nD Cert.CdOutIdeal.τ).loc Cert.CdOutIdeal.main_arg13)) (m ((c.tc : Thread Cert.CdOutIdeal.nD Cert.CdOutIdeal.τ).loc Cert.CdOutIdeal.main_arg14)) (m ((c.tc : Thread Cert.CdOutIdeal.nD Cert.CdOutIdeal.τ).loc Cert.CdOutIdeal.main_arg15)) (m ((c.tc : Thread Cert.CdOutIdeal.nD Cert.CdOutIdeal.τ).loc Cert.CdOutIdeal.main_arg16))) = (fun _ => 1#1)

def Pre_CdOutReferenceIdeal (m : (ℓ : Loc Cert.CdOutReferenceIdeal.nD Cert.CdOutReferenceIdeal.τ Cert.CdOutReferenceIdeal.sig) → Buf (Elt Ideal) ℓ) : Prop :=
  True

def Pre_CdOutReferenceIdeal_finite_heads [hPre_finite_heads : Cert.Pre_finite_heads.Facts] (m : (ℓ : Loc Cert.CdOutReferenceIdeal.nD Cert.CdOutReferenceIdeal.τ Cert.CdOutReferenceIdeal.sig) → Buf (Elt Ideal) ℓ) : Prop :=
  ∀ c : Dev Cert.CdOutReferenceIdeal.nD,
    (Cert.Pre_finite_heads.fn (F := Ideal) (m ((c.tc : Thread Cert.CdOutReferenceIdeal.nD Cert.CdOutReferenceIdeal.τ).loc Cert.CdOutReferenceIdeal.main_arg0)) (m ((c.tc : Thread Cert.CdOutReferenceIdeal.nD Cert.CdOutReferenceIdeal.τ).loc Cert.CdOutReferenceIdeal.main_arg1)) (m ((c.tc : Thread Cert.CdOutReferenceIdeal.nD Cert.CdOutReferenceIdeal.τ).loc Cert.CdOutReferenceIdeal.main_arg2)) (m ((c.tc : Thread Cert.CdOutReferenceIdeal.nD Cert.CdOutReferenceIdeal.τ).loc Cert.CdOutReferenceIdeal.main_arg3)) (m ((c.tc : Thread Cert.CdOutReferenceIdeal.nD Cert.CdOutReferenceIdeal.τ).loc Cert.CdOutReferenceIdeal.main_arg4)) (m ((c.tc : Thread Cert.CdOutReferenceIdeal.nD Cert.CdOutReferenceIdeal.τ).loc Cert.CdOutReferenceIdeal.main_arg5)) (m ((c.tc : Thread Cert.CdOutReferenceIdeal.nD Cert.CdOutReferenceIdeal.τ).loc Cert.CdOutReferenceIdeal.main_arg6)) (m ((c.tc : Thread Cert.CdOutReferenceIdeal.nD Cert.CdOutReferenceIdeal.τ).loc Cert.CdOutReferenceIdeal.main_arg7)) (m ((c.tc : Thread Cert.CdOutReferenceIdeal.nD Cert.CdOutReferenceIdeal.τ).loc Cert.CdOutReferenceIdeal.main_arg8)) (m ((c.tc : Thread Cert.CdOutReferenceIdeal.nD Cert.CdOutReferenceIdeal.τ).loc Cert.CdOutReferenceIdeal.main_arg9)) (m ((c.tc : Thread Cert.CdOutReferenceIdeal.nD Cert.CdOutReferenceIdeal.τ).loc Cert.CdOutReferenceIdeal.main_arg10)) (m ((c.tc : Thread Cert.CdOutReferenceIdeal.nD Cert.CdOutReferenceIdeal.τ).loc Cert.CdOutReferenceIdeal.main_arg11)) (m ((c.tc : Thread Cert.CdOutReferenceIdeal.nD Cert.CdOutReferenceIdeal.τ).loc Cert.CdOutReferenceIdeal.main_arg12)) (m ((c.tc : Thread Cert.CdOutReferenceIdeal.nD Cert.CdOutReferenceIdeal.τ).loc Cert.CdOutReferenceIdeal.main_arg13)) (m ((c.tc : Thread Cert.CdOutReferenceIdeal.nD Cert.CdOutReferenceIdeal.τ).loc Cert.CdOutReferenceIdeal.main_arg14)) (m ((c.tc : Thread Cert.CdOutReferenceIdeal.nD Cert.CdOutReferenceIdeal.τ).loc Cert.CdOutReferenceIdeal.main_arg15)) (m ((c.tc : Thread Cert.CdOutReferenceIdeal.nD Cert.CdOutReferenceIdeal.τ).loc Cert.CdOutReferenceIdeal.main_arg16))) = (fun _ => 1#1)

def Pre_Window (m : (ℓ : Loc Cert.Window.nD Cert.Window.τ Cert.Window.sig) → Buf (Elt Bits) ℓ) : Prop :=
  True

def Pre_WindowIdeal (m : (ℓ : Loc Cert.WindowIdeal.nD Cert.WindowIdeal.τ Cert.WindowIdeal.sig) → Buf (Elt Ideal) ℓ) : Prop :=
  True

def Pre_WindowIdeal_finite_windows [hPre_finite_windows : Cert.Pre_finite_windows.Facts] (m : (ℓ : Loc Cert.WindowIdeal.nD Cert.WindowIdeal.τ Cert.WindowIdeal.sig) → Buf (Elt Ideal) ℓ) : Prop :=
  ∀ c : Dev Cert.WindowIdeal.nD,
    (Cert.Pre_finite_windows.fn (F := Ideal) (m ((c.tc : Thread Cert.WindowIdeal.nD Cert.WindowIdeal.τ).loc Cert.WindowIdeal.main_arg0)) (m ((c.tc : Thread Cert.WindowIdeal.nD Cert.WindowIdeal.τ).loc Cert.WindowIdeal.main_arg1)) (m ((c.tc : Thread Cert.WindowIdeal.nD Cert.WindowIdeal.τ).loc Cert.WindowIdeal.main_arg2)) (m ((c.tc : Thread Cert.WindowIdeal.nD Cert.WindowIdeal.τ).loc Cert.WindowIdeal.main_arg3))) = (fun _ => 1#1)

def Pre_WindowReferenceIdeal (m : (ℓ : Loc Cert.WindowReferenceIdeal.nD Cert.WindowReferenceIdeal.τ Cert.WindowReferenceIdeal.sig) → Buf (Elt Ideal) ℓ) : Prop :=
  True

def Pre_WindowReferenceIdeal_finite_windows [hPre_finite_windows : Cert.Pre_finite_windows.Facts] (m : (ℓ : Loc Cert.WindowReferenceIdeal.nD Cert.WindowReferenceIdeal.τ Cert.WindowReferenceIdeal.sig) → Buf (Elt Ideal) ℓ) : Prop :=
  ∀ c : Dev Cert.WindowReferenceIdeal.nD,
    (Cert.Pre_finite_windows.fn (F := Ideal) (m ((c.tc : Thread Cert.WindowReferenceIdeal.nD Cert.WindowReferenceIdeal.τ).loc Cert.WindowReferenceIdeal.main_arg0)) (m ((c.tc : Thread Cert.WindowReferenceIdeal.nD Cert.WindowReferenceIdeal.τ).loc Cert.WindowReferenceIdeal.main_arg1)) (m ((c.tc : Thread Cert.WindowReferenceIdeal.nD Cert.WindowReferenceIdeal.τ).loc Cert.WindowReferenceIdeal.main_arg2)) (m ((c.tc : Thread Cert.WindowReferenceIdeal.nD Cert.WindowReferenceIdeal.τ).loc Cert.WindowReferenceIdeal.main_arg3))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_ranks [hPre_finite_ranks : Cert.Pre_finite_ranks.Facts] (m : (ℓ : Loc Cert.PrepIdeal.nD Cert.PrepIdeal.τ Cert.PrepIdeal.sig) → Buf (Elt Ideal) ℓ) : Prop :=
  ∀ c : Dev Cert.PrepIdeal.nD,
    (Cert.Pre_finite_ranks.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9)) (m ((c.tc : Thread Cert.PrepIdeal.nD Cert.PrepIdeal.τ).loc Cert.PrepIdeal.main_arg10)) (m ((c.tc : Thread Cert.PrepIdeal.nD Cert.PrepIdeal.τ).loc Cert.PrepIdeal.main_arg11)) (m ((c.tc : Thread Cert.PrepIdeal.nD Cert.PrepIdeal.τ).loc Cert.PrepIdeal.main_arg12)) (m ((c.tc : Thread Cert.PrepIdeal.nD Cert.PrepIdeal.τ).loc Cert.PrepIdeal.main_arg13))) = (fun _ => 1#1)

def Pre_PrepReferenceIdeal (m : (ℓ : Loc Cert.PrepReferenceIdeal.nD Cert.PrepReferenceIdeal.τ Cert.PrepReferenceIdeal.sig) → Buf (Elt Ideal) ℓ) : Prop :=
  True

def Pre_PrepReferenceIdeal_finite_ranks [hPre_finite_ranks : Cert.Pre_finite_ranks.Facts] (m : (ℓ : Loc Cert.PrepReferenceIdeal.nD Cert.PrepReferenceIdeal.τ Cert.PrepReferenceIdeal.sig) → Buf (Elt Ideal) ℓ) : Prop :=
  ∀ c : Dev Cert.PrepReferenceIdeal.nD,
    (Cert.Pre_finite_ranks.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8)) (m ((c.tc : Thread Cert.PrepReferenceIdeal.nD Cert.PrepReferenceIdeal.τ).loc Cert.PrepReferenceIdeal.main_arg9)) (m ((c.tc : Thread Cert.PrepReferenceIdeal.nD Cert.PrepReferenceIdeal.τ).loc Cert.PrepReferenceIdeal.main_arg10)) (m ((c.tc : Thread Cert.PrepReferenceIdeal.nD Cert.PrepReferenceIdeal.τ).loc Cert.PrepReferenceIdeal.main_arg11)) (m ((c.tc : Thread Cert.PrepReferenceIdeal.nD Cert.PrepReferenceIdeal.τ).loc Cert.PrepReferenceIdeal.main_arg12)) (m ((c.tc : Thread Cert.PrepReferenceIdeal.nD Cert.PrepReferenceIdeal.τ).loc Cert.PrepReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_FfnCtx [hFfnCtx : Cert.FfnCtx.Facts] : Prop :=
  ∀ (m : (ℓ : Loc Cert.FfnCtx.nD Cert.FfnCtx.τ Cert.FfnCtx.sig) → Buf (Elt Bits) ℓ) (g : Dev Cert.FfnCtx.nD → PrngReg), Pre_FfnCtx m →
    θ_run (Cert.FfnCtx.defs (F := Bits)) (onTc (τ := Cert.FfnCtx.τ) (Cert.FfnCtx.main (F := Bits))) ⟨m, fun _ => 0, g⟩ (fun r => (∀ c : Dev Cert.FfnCtx.nD,
      r.2.mem ((c.tc : Thread Cert.FfnCtx.nD Cert.FfnCtx.τ).loc Cert.FfnCtx.main_arg0) = m ((c.tc : Thread Cert.FfnCtx.nD Cert.FfnCtx.τ).loc Cert.FfnCtx.main_arg0)
      ∧ r.2.mem ((c.tc : Thread Cert.FfnCtx.nD Cert.FfnCtx.τ).loc Cert.FfnCtx.main_arg1) = m ((c.tc : Thread Cert.FfnCtx.nD Cert.FfnCtx.τ).loc Cert.FfnCtx.main_arg1)
      ∧ r.2.mem ((c.tc : Thread Cert.FfnCtx.nD Cert.FfnCtx.τ).loc Cert.FfnCtx.main_arg2) = m ((c.tc : Thread Cert.FfnCtx.nD Cert.FfnCtx.τ).loc Cert.FfnCtx.main_arg2)
      ∧ r.2.mem ((c.tc : Thread Cert.FfnCtx.nD Cert.FfnCtx.τ).loc Cert.FfnCtx.main_arg3) = m ((c.tc : Thread Cert.FfnCtx.nD Cert.FfnCtx.τ).loc Cert.FfnCtx.main_arg3)
      ∧ r.2.mem ((c.tc : Thread Cert.FfnCtx.nD Cert.FfnCtx.τ).loc Cert.FfnCtx.main_arg4) = m ((c.tc : Thread Cert.FfnCtx.nD Cert.FfnCtx.τ).loc Cert.FfnCtx.main_arg4)
      ∧ r.2.mem ((c.tc : Thread Cert.FfnCtx.nD Cert.FfnCtx.τ).loc Cert.FfnCtx.main_arg5) = m ((c.tc : Thread Cert.FfnCtx.nD Cert.FfnCtx.τ).loc Cert.FfnCtx.main_arg5)
      ∧ r.2.mem ((c.tc : Thread Cert.FfnCtx.nD Cert.FfnCtx.τ).loc Cert.FfnCtx.main_arg6) = m ((c.tc : Thread Cert.FfnCtx.nD Cert.FfnCtx.τ).loc Cert.FfnCtx.main_arg6)
      ∧ r.2.mem ((c.tc : Thread Cert.FfnCtx.nD Cert.FfnCtx.τ).loc Cert.FfnCtx.main_arg7) = m ((c.tc : Thread Cert.FfnCtx.nD Cert.FfnCtx.τ).loc Cert.FfnCtx.main_arg7))
      ∧ r.2.sem = fun _ => 0)

def quiescent_FfnCtxIdeal [hFfnCtxIdeal : Cert.FfnCtxIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg), Pre_FfnCtxIdeal m →
    θ_run (Cert.FfnCtxIdeal.defs (F := Ideal)) (onTc (τ := Cert.FfnCtxIdeal.τ) (Cert.FfnCtxIdeal.main (F := Ideal))) ⟨m, fun _ => 0, g⟩ (fun r => (∀ c : Dev Cert.FfnCtxIdeal.nD,
      r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
      ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
      ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
      ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
      ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4)
      ∧ r.2.mem ((c.tc : Thread Cert.FfnCtxIdeal.nD Cert.FfnCtxIdeal.τ).loc Cert.FfnCtxIdeal.main_arg5) = m ((c.tc : Thread Cert.FfnCtxIdeal.nD Cert.FfnCtxIdeal.τ).loc Cert.FfnCtxIdeal.main_arg5)
      ∧ r.2.mem ((c.tc : Thread Cert.FfnCtxIdeal.nD Cert.FfnCtxIdeal.τ).loc Cert.FfnCtxIdeal.main_arg6) = m ((c.tc : Thread Cert.FfnCtxIdeal.nD Cert.FfnCtxIdeal.τ).loc Cert.FfnCtxIdeal.main_arg6)
      ∧ r.2.mem ((c.tc : Thread Cert.FfnCtxIdeal.nD Cert.FfnCtxIdeal.τ).loc Cert.FfnCtxIdeal.main_arg7) = m ((c.tc : Thread Cert.FfnCtxIdeal.nD Cert.FfnCtxIdeal.τ).loc Cert.FfnCtxIdeal.main_arg7))
      ∧ r.2.sem = fun _ => 0)

def quiescent_FfnCtxReferenceIdeal [hFfnCtxReferenceIdeal : Cert.FfnCtxReferenceIdeal.Facts] : Prop :=
  ∀ (m : (ℓ : Loc Cert.FfnCtxReferenceIdeal.nD Cert.FfnCtxReferenceIdeal.τ Cert.FfnCtxReferenceIdeal.sig) → Buf (Elt Ideal) ℓ) (g : Dev Cert.FfnCtxReferenceIdeal.nD → PrngReg), Pre_FfnCtxReferenceIdeal m →
    θ_run (Cert.FfnCtxReferenceIdeal.defs (F := Ideal)) (onTc (τ := Cert.FfnCtxReferenceIdeal.τ) (Cert.FfnCtxReferenceIdeal.main (F := Ideal))) ⟨m, fun _ => 0, g⟩ (fun r => (∀ c : Dev Cert.FfnCtxReferenceIdeal.nD,
      r.2.mem ((c.tc : Thread Cert.FfnCtxReferenceIdeal.nD Cert.FfnCtxReferenceIdeal.τ).loc Cert.FfnCtxReferenceIdeal.main_arg0) = m ((c.tc : Thread Cert.FfnCtxReferenceIdeal.nD Cert.FfnCtxReferenceIdeal.τ).loc Cert.FfnCtxReferenceIdeal.main_arg0)
      ∧ r.2.mem ((c.tc : Thread Cert.FfnCtxReferenceIdeal.nD Cert.FfnCtxReferenceIdeal.τ).loc Cert.FfnCtxReferenceIdeal.main_arg1) = m ((c.tc : Thread Cert.FfnCtxReferenceIdeal.nD Cert.FfnCtxReferenceIdeal.τ).loc Cert.FfnCtxReferenceIdeal.main_arg1)
      ∧ r.2.mem ((c.tc : Thread Cert.FfnCtxReferenceIdeal.nD Cert.FfnCtxReferenceIdeal.τ).loc Cert.FfnCtxReferenceIdeal.main_arg2) = m ((c.tc : Thread Cert.FfnCtxReferenceIdeal.nD Cert.FfnCtxReferenceIdeal.τ).loc Cert.FfnCtxReferenceIdeal.main_arg2)
      ∧ r.2.mem ((c.tc : Thread Cert.FfnCtxReferenceIdeal.nD Cert.FfnCtxReferenceIdeal.τ).loc Cert.FfnCtxReferenceIdeal.main_arg3) = m ((c.tc : Thread Cert.FfnCtxReferenceIdeal.nD Cert.FfnCtxReferenceIdeal.τ).loc Cert.FfnCtxReferenceIdeal.main_arg3)
      ∧ r.2.mem ((c.tc : Thread Cert.FfnCtxReferenceIdeal.nD Cert.FfnCtxReferenceIdeal.τ).loc Cert.FfnCtxReferenceIdeal.main_arg4) = m ((c.tc : Thread Cert.FfnCtxReferenceIdeal.nD Cert.FfnCtxReferenceIdeal.τ).loc Cert.FfnCtxReferenceIdeal.main_arg4)
      ∧ r.2.mem ((c.tc : Thread Cert.FfnCtxReferenceIdeal.nD Cert.FfnCtxReferenceIdeal.τ).loc Cert.FfnCtxReferenceIdeal.main_arg5) = m ((c.tc : Thread Cert.FfnCtxReferenceIdeal.nD Cert.FfnCtxReferenceIdeal.τ).loc Cert.FfnCtxReferenceIdeal.main_arg5)
      ∧ r.2.mem ((c.tc : Thread Cert.FfnCtxReferenceIdeal.nD Cert.FfnCtxReferenceIdeal.τ).loc Cert.FfnCtxReferenceIdeal.main_arg6) = m ((c.tc : Thread Cert.FfnCtxReferenceIdeal.nD Cert.FfnCtxReferenceIdeal.τ).loc Cert.FfnCtxReferenceIdeal.main_arg6)
      ∧ r.2.mem ((c.tc : Thread Cert.FfnCtxReferenceIdeal.nD Cert.FfnCtxReferenceIdeal.τ).loc Cert.FfnCtxReferenceIdeal.main_arg7) = m ((c.tc : Thread Cert.FfnCtxReferenceIdeal.nD Cert.FfnCtxReferenceIdeal.τ).loc Cert.FfnCtxReferenceIdeal.main_arg7))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3))
      ∧ r.2.sem = fun _ => 0)

def quiescent_ModAb [hModAb : Cert.ModAb.Facts] : Prop :=
  ∀ (m : (ℓ : Loc Cert.ModAb.nD Cert.ModAb.τ Cert.ModAb.sig) → Buf (Elt Bits) ℓ) (g : Dev Cert.ModAb.nD → PrngReg), Pre_ModAb m →
    θ_run (Cert.ModAb.defs (F := Bits)) (onTc (τ := Cert.ModAb.τ) (Cert.ModAb.main (F := Bits))) ⟨m, fun _ => 0, g⟩ (fun r => (∀ c : Dev Cert.ModAb.nD,
      r.2.mem ((c.tc : Thread Cert.ModAb.nD Cert.ModAb.τ).loc Cert.ModAb.main_arg0) = m ((c.tc : Thread Cert.ModAb.nD Cert.ModAb.τ).loc Cert.ModAb.main_arg0)
      ∧ r.2.mem ((c.tc : Thread Cert.ModAb.nD Cert.ModAb.τ).loc Cert.ModAb.main_arg1) = m ((c.tc : Thread Cert.ModAb.nD Cert.ModAb.τ).loc Cert.ModAb.main_arg1)
      ∧ r.2.mem ((c.tc : Thread Cert.ModAb.nD Cert.ModAb.τ).loc Cert.ModAb.main_arg2) = m ((c.tc : Thread Cert.ModAb.nD Cert.ModAb.τ).loc Cert.ModAb.main_arg2)
      ∧ r.2.mem ((c.tc : Thread Cert.ModAb.nD Cert.ModAb.τ).loc Cert.ModAb.main_arg3) = m ((c.tc : Thread Cert.ModAb.nD Cert.ModAb.τ).loc Cert.ModAb.main_arg3))
      ∧ r.2.sem = fun _ => 0)

def quiescent_ModAbIdeal [hModAbIdeal : Cert.ModAbIdeal.Facts] : Prop :=
  ∀ (m : (ℓ : Loc Cert.ModAbIdeal.nD Cert.ModAbIdeal.τ Cert.ModAbIdeal.sig) → Buf (Elt Ideal) ℓ) (g : Dev Cert.ModAbIdeal.nD → PrngReg), Pre_ModAbIdeal m →
    θ_run (Cert.ModAbIdeal.defs (F := Ideal)) (onTc (τ := Cert.ModAbIdeal.τ) (Cert.ModAbIdeal.main (F := Ideal))) ⟨m, fun _ => 0, g⟩ (fun r => (∀ c : Dev Cert.ModAbIdeal.nD,
      r.2.mem ((c.tc : Thread Cert.ModAbIdeal.nD Cert.ModAbIdeal.τ).loc Cert.ModAbIdeal.main_arg0) = m ((c.tc : Thread Cert.ModAbIdeal.nD Cert.ModAbIdeal.τ).loc Cert.ModAbIdeal.main_arg0)
      ∧ r.2.mem ((c.tc : Thread Cert.ModAbIdeal.nD Cert.ModAbIdeal.τ).loc Cert.ModAbIdeal.main_arg1) = m ((c.tc : Thread Cert.ModAbIdeal.nD Cert.ModAbIdeal.τ).loc Cert.ModAbIdeal.main_arg1)
      ∧ r.2.mem ((c.tc : Thread Cert.ModAbIdeal.nD Cert.ModAbIdeal.τ).loc Cert.ModAbIdeal.main_arg2) = m ((c.tc : Thread Cert.ModAbIdeal.nD Cert.ModAbIdeal.τ).loc Cert.ModAbIdeal.main_arg2)
      ∧ r.2.mem ((c.tc : Thread Cert.ModAbIdeal.nD Cert.ModAbIdeal.τ).loc Cert.ModAbIdeal.main_arg3) = m ((c.tc : Thread Cert.ModAbIdeal.nD Cert.ModAbIdeal.τ).loc Cert.ModAbIdeal.main_arg3))
      ∧ r.2.sem = fun _ => 0)

def quiescent_ModAbReferenceIdeal [hModAbReferenceIdeal : Cert.ModAbReferenceIdeal.Facts] : Prop :=
  ∀ (m : (ℓ : Loc Cert.ModAbReferenceIdeal.nD Cert.ModAbReferenceIdeal.τ Cert.ModAbReferenceIdeal.sig) → Buf (Elt Ideal) ℓ) (g : Dev Cert.ModAbReferenceIdeal.nD → PrngReg), Pre_ModAbReferenceIdeal m →
    θ_run (Cert.ModAbReferenceIdeal.defs (F := Ideal)) (onTc (τ := Cert.ModAbReferenceIdeal.τ) (Cert.ModAbReferenceIdeal.main (F := Ideal))) ⟨m, fun _ => 0, g⟩ (fun r => (∀ c : Dev Cert.ModAbReferenceIdeal.nD,
      r.2.mem ((c.tc : Thread Cert.ModAbReferenceIdeal.nD Cert.ModAbReferenceIdeal.τ).loc Cert.ModAbReferenceIdeal.main_arg0) = m ((c.tc : Thread Cert.ModAbReferenceIdeal.nD Cert.ModAbReferenceIdeal.τ).loc Cert.ModAbReferenceIdeal.main_arg0)
      ∧ r.2.mem ((c.tc : Thread Cert.ModAbReferenceIdeal.nD Cert.ModAbReferenceIdeal.τ).loc Cert.ModAbReferenceIdeal.main_arg1) = m ((c.tc : Thread Cert.ModAbReferenceIdeal.nD Cert.ModAbReferenceIdeal.τ).loc Cert.ModAbReferenceIdeal.main_arg1)
      ∧ r.2.mem ((c.tc : Thread Cert.ModAbReferenceIdeal.nD Cert.ModAbReferenceIdeal.τ).loc Cert.ModAbReferenceIdeal.main_arg2) = m ((c.tc : Thread Cert.ModAbReferenceIdeal.nD Cert.ModAbReferenceIdeal.τ).loc Cert.ModAbReferenceIdeal.main_arg2)
      ∧ r.2.mem ((c.tc : Thread Cert.ModAbReferenceIdeal.nD Cert.ModAbReferenceIdeal.τ).loc Cert.ModAbReferenceIdeal.main_arg3) = m ((c.tc : Thread Cert.ModAbReferenceIdeal.nD Cert.ModAbReferenceIdeal.τ).loc Cert.ModAbReferenceIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_CdOut [hCdOut : Cert.CdOut.Facts] : Prop :=
  ∀ (m : (ℓ : Loc Cert.CdOut.nD Cert.CdOut.τ Cert.CdOut.sig) → Buf (Elt Bits) ℓ) (g : Dev Cert.CdOut.nD → PrngReg), Pre_CdOut m →
    θ_run (Cert.CdOut.defs (F := Bits)) (onTc (τ := Cert.CdOut.τ) (Cert.CdOut.main (F := Bits))) ⟨m, fun _ => 0, g⟩ (fun r => (∀ c : Dev Cert.CdOut.nD,
      r.2.mem ((c.tc : Thread Cert.CdOut.nD Cert.CdOut.τ).loc Cert.CdOut.main_arg0) = m ((c.tc : Thread Cert.CdOut.nD Cert.CdOut.τ).loc Cert.CdOut.main_arg0)
      ∧ r.2.mem ((c.tc : Thread Cert.CdOut.nD Cert.CdOut.τ).loc Cert.CdOut.main_arg1) = m ((c.tc : Thread Cert.CdOut.nD Cert.CdOut.τ).loc Cert.CdOut.main_arg1)
      ∧ r.2.mem ((c.tc : Thread Cert.CdOut.nD Cert.CdOut.τ).loc Cert.CdOut.main_arg2) = m ((c.tc : Thread Cert.CdOut.nD Cert.CdOut.τ).loc Cert.CdOut.main_arg2)
      ∧ r.2.mem ((c.tc : Thread Cert.CdOut.nD Cert.CdOut.τ).loc Cert.CdOut.main_arg3) = m ((c.tc : Thread Cert.CdOut.nD Cert.CdOut.τ).loc Cert.CdOut.main_arg3)
      ∧ r.2.mem ((c.tc : Thread Cert.CdOut.nD Cert.CdOut.τ).loc Cert.CdOut.main_arg4) = m ((c.tc : Thread Cert.CdOut.nD Cert.CdOut.τ).loc Cert.CdOut.main_arg4)
      ∧ r.2.mem ((c.tc : Thread Cert.CdOut.nD Cert.CdOut.τ).loc Cert.CdOut.main_arg5) = m ((c.tc : Thread Cert.CdOut.nD Cert.CdOut.τ).loc Cert.CdOut.main_arg5)
      ∧ r.2.mem ((c.tc : Thread Cert.CdOut.nD Cert.CdOut.τ).loc Cert.CdOut.main_arg6) = m ((c.tc : Thread Cert.CdOut.nD Cert.CdOut.τ).loc Cert.CdOut.main_arg6)
      ∧ r.2.mem ((c.tc : Thread Cert.CdOut.nD Cert.CdOut.τ).loc Cert.CdOut.main_arg7) = m ((c.tc : Thread Cert.CdOut.nD Cert.CdOut.τ).loc Cert.CdOut.main_arg7)
      ∧ r.2.mem ((c.tc : Thread Cert.CdOut.nD Cert.CdOut.τ).loc Cert.CdOut.main_arg8) = m ((c.tc : Thread Cert.CdOut.nD Cert.CdOut.τ).loc Cert.CdOut.main_arg8)
      ∧ r.2.mem ((c.tc : Thread Cert.CdOut.nD Cert.CdOut.τ).loc Cert.CdOut.main_arg9) = m ((c.tc : Thread Cert.CdOut.nD Cert.CdOut.τ).loc Cert.CdOut.main_arg9)
      ∧ r.2.mem ((c.tc : Thread Cert.CdOut.nD Cert.CdOut.τ).loc Cert.CdOut.main_arg10) = m ((c.tc : Thread Cert.CdOut.nD Cert.CdOut.τ).loc Cert.CdOut.main_arg10)
      ∧ r.2.mem ((c.tc : Thread Cert.CdOut.nD Cert.CdOut.τ).loc Cert.CdOut.main_arg11) = m ((c.tc : Thread Cert.CdOut.nD Cert.CdOut.τ).loc Cert.CdOut.main_arg11)
      ∧ r.2.mem ((c.tc : Thread Cert.CdOut.nD Cert.CdOut.τ).loc Cert.CdOut.main_arg12) = m ((c.tc : Thread Cert.CdOut.nD Cert.CdOut.τ).loc Cert.CdOut.main_arg12)
      ∧ r.2.mem ((c.tc : Thread Cert.CdOut.nD Cert.CdOut.τ).loc Cert.CdOut.main_arg13) = m ((c.tc : Thread Cert.CdOut.nD Cert.CdOut.τ).loc Cert.CdOut.main_arg13)
      ∧ r.2.mem ((c.tc : Thread Cert.CdOut.nD Cert.CdOut.τ).loc Cert.CdOut.main_arg14) = m ((c.tc : Thread Cert.CdOut.nD Cert.CdOut.τ).loc Cert.CdOut.main_arg14)
      ∧ r.2.mem ((c.tc : Thread Cert.CdOut.nD Cert.CdOut.τ).loc Cert.CdOut.main_arg15) = m ((c.tc : Thread Cert.CdOut.nD Cert.CdOut.τ).loc Cert.CdOut.main_arg15)
      ∧ r.2.mem ((c.tc : Thread Cert.CdOut.nD Cert.CdOut.τ).loc Cert.CdOut.main_arg16) = m ((c.tc : Thread Cert.CdOut.nD Cert.CdOut.τ).loc Cert.CdOut.main_arg16))
      ∧ r.2.sem = fun _ => 0)

def quiescent_CdOutIdeal [hCdOutIdeal : Cert.CdOutIdeal.Facts] : Prop :=
  ∀ (m : (ℓ : Loc Cert.CdOutIdeal.nD Cert.CdOutIdeal.τ Cert.CdOutIdeal.sig) → Buf (Elt Ideal) ℓ) (g : Dev Cert.CdOutIdeal.nD → PrngReg), Pre_CdOutIdeal m →
    θ_run (Cert.CdOutIdeal.defs (F := Ideal)) (onTc (τ := Cert.CdOutIdeal.τ) (Cert.CdOutIdeal.main (F := Ideal))) ⟨m, fun _ => 0, g⟩ (fun r => (∀ c : Dev Cert.CdOutIdeal.nD,
      r.2.mem ((c.tc : Thread Cert.CdOutIdeal.nD Cert.CdOutIdeal.τ).loc Cert.CdOutIdeal.main_arg0) = m ((c.tc : Thread Cert.CdOutIdeal.nD Cert.CdOutIdeal.τ).loc Cert.CdOutIdeal.main_arg0)
      ∧ r.2.mem ((c.tc : Thread Cert.CdOutIdeal.nD Cert.CdOutIdeal.τ).loc Cert.CdOutIdeal.main_arg1) = m ((c.tc : Thread Cert.CdOutIdeal.nD Cert.CdOutIdeal.τ).loc Cert.CdOutIdeal.main_arg1)
      ∧ r.2.mem ((c.tc : Thread Cert.CdOutIdeal.nD Cert.CdOutIdeal.τ).loc Cert.CdOutIdeal.main_arg2) = m ((c.tc : Thread Cert.CdOutIdeal.nD Cert.CdOutIdeal.τ).loc Cert.CdOutIdeal.main_arg2)
      ∧ r.2.mem ((c.tc : Thread Cert.CdOutIdeal.nD Cert.CdOutIdeal.τ).loc Cert.CdOutIdeal.main_arg3) = m ((c.tc : Thread Cert.CdOutIdeal.nD Cert.CdOutIdeal.τ).loc Cert.CdOutIdeal.main_arg3)
      ∧ r.2.mem ((c.tc : Thread Cert.CdOutIdeal.nD Cert.CdOutIdeal.τ).loc Cert.CdOutIdeal.main_arg4) = m ((c.tc : Thread Cert.CdOutIdeal.nD Cert.CdOutIdeal.τ).loc Cert.CdOutIdeal.main_arg4)
      ∧ r.2.mem ((c.tc : Thread Cert.CdOutIdeal.nD Cert.CdOutIdeal.τ).loc Cert.CdOutIdeal.main_arg5) = m ((c.tc : Thread Cert.CdOutIdeal.nD Cert.CdOutIdeal.τ).loc Cert.CdOutIdeal.main_arg5)
      ∧ r.2.mem ((c.tc : Thread Cert.CdOutIdeal.nD Cert.CdOutIdeal.τ).loc Cert.CdOutIdeal.main_arg6) = m ((c.tc : Thread Cert.CdOutIdeal.nD Cert.CdOutIdeal.τ).loc Cert.CdOutIdeal.main_arg6)
      ∧ r.2.mem ((c.tc : Thread Cert.CdOutIdeal.nD Cert.CdOutIdeal.τ).loc Cert.CdOutIdeal.main_arg7) = m ((c.tc : Thread Cert.CdOutIdeal.nD Cert.CdOutIdeal.τ).loc Cert.CdOutIdeal.main_arg7)
      ∧ r.2.mem ((c.tc : Thread Cert.CdOutIdeal.nD Cert.CdOutIdeal.τ).loc Cert.CdOutIdeal.main_arg8) = m ((c.tc : Thread Cert.CdOutIdeal.nD Cert.CdOutIdeal.τ).loc Cert.CdOutIdeal.main_arg8)
      ∧ r.2.mem ((c.tc : Thread Cert.CdOutIdeal.nD Cert.CdOutIdeal.τ).loc Cert.CdOutIdeal.main_arg9) = m ((c.tc : Thread Cert.CdOutIdeal.nD Cert.CdOutIdeal.τ).loc Cert.CdOutIdeal.main_arg9)
      ∧ r.2.mem ((c.tc : Thread Cert.CdOutIdeal.nD Cert.CdOutIdeal.τ).loc Cert.CdOutIdeal.main_arg10) = m ((c.tc : Thread Cert.CdOutIdeal.nD Cert.CdOutIdeal.τ).loc Cert.CdOutIdeal.main_arg10)
      ∧ r.2.mem ((c.tc : Thread Cert.CdOutIdeal.nD Cert.CdOutIdeal.τ).loc Cert.CdOutIdeal.main_arg11) = m ((c.tc : Thread Cert.CdOutIdeal.nD Cert.CdOutIdeal.τ).loc Cert.CdOutIdeal.main_arg11)
      ∧ r.2.mem ((c.tc : Thread Cert.CdOutIdeal.nD Cert.CdOutIdeal.τ).loc Cert.CdOutIdeal.main_arg12) = m ((c.tc : Thread Cert.CdOutIdeal.nD Cert.CdOutIdeal.τ).loc Cert.CdOutIdeal.main_arg12)
      ∧ r.2.mem ((c.tc : Thread Cert.CdOutIdeal.nD Cert.CdOutIdeal.τ).loc Cert.CdOutIdeal.main_arg13) = m ((c.tc : Thread Cert.CdOutIdeal.nD Cert.CdOutIdeal.τ).loc Cert.CdOutIdeal.main_arg13)
      ∧ r.2.mem ((c.tc : Thread Cert.CdOutIdeal.nD Cert.CdOutIdeal.τ).loc Cert.CdOutIdeal.main_arg14) = m ((c.tc : Thread Cert.CdOutIdeal.nD Cert.CdOutIdeal.τ).loc Cert.CdOutIdeal.main_arg14)
      ∧ r.2.mem ((c.tc : Thread Cert.CdOutIdeal.nD Cert.CdOutIdeal.τ).loc Cert.CdOutIdeal.main_arg15) = m ((c.tc : Thread Cert.CdOutIdeal.nD Cert.CdOutIdeal.τ).loc Cert.CdOutIdeal.main_arg15)
      ∧ r.2.mem ((c.tc : Thread Cert.CdOutIdeal.nD Cert.CdOutIdeal.τ).loc Cert.CdOutIdeal.main_arg16) = m ((c.tc : Thread Cert.CdOutIdeal.nD Cert.CdOutIdeal.τ).loc Cert.CdOutIdeal.main_arg16))
      ∧ r.2.sem = fun _ => 0)

def quiescent_CdOutIdeal_pre_finite_heads [hCdOutIdeal : Cert.CdOutIdeal.Facts] [hPre_finite_heads : Cert.Pre_finite_heads.Facts] : Prop :=
  ∀ (m : (ℓ : Loc Cert.CdOutIdeal.nD Cert.CdOutIdeal.τ Cert.CdOutIdeal.sig) → Buf (Elt Ideal) ℓ) (g : Dev Cert.CdOutIdeal.nD → PrngReg), Pre_CdOutIdeal_finite_heads m →
    θ_run (Cert.CdOutIdeal.defs (F := Ideal)) (onTc (τ := Cert.CdOutIdeal.τ) (Cert.CdOutIdeal.main (F := Ideal))) ⟨m, fun _ => 0, g⟩ (fun r => (∀ c : Dev Cert.CdOutIdeal.nD,
      r.2.mem ((c.tc : Thread Cert.CdOutIdeal.nD Cert.CdOutIdeal.τ).loc Cert.CdOutIdeal.main_arg0) = m ((c.tc : Thread Cert.CdOutIdeal.nD Cert.CdOutIdeal.τ).loc Cert.CdOutIdeal.main_arg0)
      ∧ r.2.mem ((c.tc : Thread Cert.CdOutIdeal.nD Cert.CdOutIdeal.τ).loc Cert.CdOutIdeal.main_arg1) = m ((c.tc : Thread Cert.CdOutIdeal.nD Cert.CdOutIdeal.τ).loc Cert.CdOutIdeal.main_arg1)
      ∧ r.2.mem ((c.tc : Thread Cert.CdOutIdeal.nD Cert.CdOutIdeal.τ).loc Cert.CdOutIdeal.main_arg2) = m ((c.tc : Thread Cert.CdOutIdeal.nD Cert.CdOutIdeal.τ).loc Cert.CdOutIdeal.main_arg2)
      ∧ r.2.mem ((c.tc : Thread Cert.CdOutIdeal.nD Cert.CdOutIdeal.τ).loc Cert.CdOutIdeal.main_arg3) = m ((c.tc : Thread Cert.CdOutIdeal.nD Cert.CdOutIdeal.τ).loc Cert.CdOutIdeal.main_arg3)
      ∧ r.2.mem ((c.tc : Thread Cert.CdOutIdeal.nD Cert.CdOutIdeal.τ).loc Cert.CdOutIdeal.main_arg4) = m ((c.tc : Thread Cert.CdOutIdeal.nD Cert.CdOutIdeal.τ).loc Cert.CdOutIdeal.main_arg4)
      ∧ r.2.mem ((c.tc : Thread Cert.CdOutIdeal.nD Cert.CdOutIdeal.τ).loc Cert.CdOutIdeal.main_arg5) = m ((c.tc : Thread Cert.CdOutIdeal.nD Cert.CdOutIdeal.τ).loc Cert.CdOutIdeal.main_arg5)
      ∧ r.2.mem ((c.tc : Thread Cert.CdOutIdeal.nD Cert.CdOutIdeal.τ).loc Cert.CdOutIdeal.main_arg6) = m ((c.tc : Thread Cert.CdOutIdeal.nD Cert.CdOutIdeal.τ).loc Cert.CdOutIdeal.main_arg6)
      ∧ r.2.mem ((c.tc : Thread Cert.CdOutIdeal.nD Cert.CdOutIdeal.τ).loc Cert.CdOutIdeal.main_arg7) = m ((c.tc : Thread Cert.CdOutIdeal.nD Cert.CdOutIdeal.τ).loc Cert.CdOutIdeal.main_arg7)
      ∧ r.2.mem ((c.tc : Thread Cert.CdOutIdeal.nD Cert.CdOutIdeal.τ).loc Cert.CdOutIdeal.main_arg8) = m ((c.tc : Thread Cert.CdOutIdeal.nD Cert.CdOutIdeal.τ).loc Cert.CdOutIdeal.main_arg8)
      ∧ r.2.mem ((c.tc : Thread Cert.CdOutIdeal.nD Cert.CdOutIdeal.τ).loc Cert.CdOutIdeal.main_arg9) = m ((c.tc : Thread Cert.CdOutIdeal.nD Cert.CdOutIdeal.τ).loc Cert.CdOutIdeal.main_arg9)
      ∧ r.2.mem ((c.tc : Thread Cert.CdOutIdeal.nD Cert.CdOutIdeal.τ).loc Cert.CdOutIdeal.main_arg10) = m ((c.tc : Thread Cert.CdOutIdeal.nD Cert.CdOutIdeal.τ).loc Cert.CdOutIdeal.main_arg10)
      ∧ r.2.mem ((c.tc : Thread Cert.CdOutIdeal.nD Cert.CdOutIdeal.τ).loc Cert.CdOutIdeal.main_arg11) = m ((c.tc : Thread Cert.CdOutIdeal.nD Cert.CdOutIdeal.τ).loc Cert.CdOutIdeal.main_arg11)
      ∧ r.2.mem ((c.tc : Thread Cert.CdOutIdeal.nD Cert.CdOutIdeal.τ).loc Cert.CdOutIdeal.main_arg12) = m ((c.tc : Thread Cert.CdOutIdeal.nD Cert.CdOutIdeal.τ).loc Cert.CdOutIdeal.main_arg12)
      ∧ r.2.mem ((c.tc : Thread Cert.CdOutIdeal.nD Cert.CdOutIdeal.τ).loc Cert.CdOutIdeal.main_arg13) = m ((c.tc : Thread Cert.CdOutIdeal.nD Cert.CdOutIdeal.τ).loc Cert.CdOutIdeal.main_arg13)
      ∧ r.2.mem ((c.tc : Thread Cert.CdOutIdeal.nD Cert.CdOutIdeal.τ).loc Cert.CdOutIdeal.main_arg14) = m ((c.tc : Thread Cert.CdOutIdeal.nD Cert.CdOutIdeal.τ).loc Cert.CdOutIdeal.main_arg14)
      ∧ r.2.mem ((c.tc : Thread Cert.CdOutIdeal.nD Cert.CdOutIdeal.τ).loc Cert.CdOutIdeal.main_arg15) = m ((c.tc : Thread Cert.CdOutIdeal.nD Cert.CdOutIdeal.τ).loc Cert.CdOutIdeal.main_arg15)
      ∧ r.2.mem ((c.tc : Thread Cert.CdOutIdeal.nD Cert.CdOutIdeal.τ).loc Cert.CdOutIdeal.main_arg16) = m ((c.tc : Thread Cert.CdOutIdeal.nD Cert.CdOutIdeal.τ).loc Cert.CdOutIdeal.main_arg16))
      ∧ r.2.sem = fun _ => 0)

def quiescent_CdOutReferenceIdeal [hCdOutReferenceIdeal : Cert.CdOutReferenceIdeal.Facts] : Prop :=
  ∀ (m : (ℓ : Loc Cert.CdOutReferenceIdeal.nD Cert.CdOutReferenceIdeal.τ Cert.CdOutReferenceIdeal.sig) → Buf (Elt Ideal) ℓ) (g : Dev Cert.CdOutReferenceIdeal.nD → PrngReg), Pre_CdOutReferenceIdeal m →
    θ_run (Cert.CdOutReferenceIdeal.defs (F := Ideal)) (onTc (τ := Cert.CdOutReferenceIdeal.τ) (Cert.CdOutReferenceIdeal.main (F := Ideal))) ⟨m, fun _ => 0, g⟩ (fun r => (∀ c : Dev Cert.CdOutReferenceIdeal.nD,
      r.2.mem ((c.tc : Thread Cert.CdOutReferenceIdeal.nD Cert.CdOutReferenceIdeal.τ).loc Cert.CdOutReferenceIdeal.main_arg0) = m ((c.tc : Thread Cert.CdOutReferenceIdeal.nD Cert.CdOutReferenceIdeal.τ).loc Cert.CdOutReferenceIdeal.main_arg0)
      ∧ r.2.mem ((c.tc : Thread Cert.CdOutReferenceIdeal.nD Cert.CdOutReferenceIdeal.τ).loc Cert.CdOutReferenceIdeal.main_arg1) = m ((c.tc : Thread Cert.CdOutReferenceIdeal.nD Cert.CdOutReferenceIdeal.τ).loc Cert.CdOutReferenceIdeal.main_arg1)
      ∧ r.2.mem ((c.tc : Thread Cert.CdOutReferenceIdeal.nD Cert.CdOutReferenceIdeal.τ).loc Cert.CdOutReferenceIdeal.main_arg2) = m ((c.tc : Thread Cert.CdOutReferenceIdeal.nD Cert.CdOutReferenceIdeal.τ).loc Cert.CdOutReferenceIdeal.main_arg2)
      ∧ r.2.mem ((c.tc : Thread Cert.CdOutReferenceIdeal.nD Cert.CdOutReferenceIdeal.τ).loc Cert.CdOutReferenceIdeal.main_arg3) = m ((c.tc : Thread Cert.CdOutReferenceIdeal.nD Cert.CdOutReferenceIdeal.τ).loc Cert.CdOutReferenceIdeal.main_arg3)
      ∧ r.2.mem ((c.tc : Thread Cert.CdOutReferenceIdeal.nD Cert.CdOutReferenceIdeal.τ).loc Cert.CdOutReferenceIdeal.main_arg4) = m ((c.tc : Thread Cert.CdOutReferenceIdeal.nD Cert.CdOutReferenceIdeal.τ).loc Cert.CdOutReferenceIdeal.main_arg4)
      ∧ r.2.mem ((c.tc : Thread Cert.CdOutReferenceIdeal.nD Cert.CdOutReferenceIdeal.τ).loc Cert.CdOutReferenceIdeal.main_arg5) = m ((c.tc : Thread Cert.CdOutReferenceIdeal.nD Cert.CdOutReferenceIdeal.τ).loc Cert.CdOutReferenceIdeal.main_arg5)
      ∧ r.2.mem ((c.tc : Thread Cert.CdOutReferenceIdeal.nD Cert.CdOutReferenceIdeal.τ).loc Cert.CdOutReferenceIdeal.main_arg6) = m ((c.tc : Thread Cert.CdOutReferenceIdeal.nD Cert.CdOutReferenceIdeal.τ).loc Cert.CdOutReferenceIdeal.main_arg6)
      ∧ r.2.mem ((c.tc : Thread Cert.CdOutReferenceIdeal.nD Cert.CdOutReferenceIdeal.τ).loc Cert.CdOutReferenceIdeal.main_arg7) = m ((c.tc : Thread Cert.CdOutReferenceIdeal.nD Cert.CdOutReferenceIdeal.τ).loc Cert.CdOutReferenceIdeal.main_arg7)
      ∧ r.2.mem ((c.tc : Thread Cert.CdOutReferenceIdeal.nD Cert.CdOutReferenceIdeal.τ).loc Cert.CdOutReferenceIdeal.main_arg8) = m ((c.tc : Thread Cert.CdOutReferenceIdeal.nD Cert.CdOutReferenceIdeal.τ).loc Cert.CdOutReferenceIdeal.main_arg8)
      ∧ r.2.mem ((c.tc : Thread Cert.CdOutReferenceIdeal.nD Cert.CdOutReferenceIdeal.τ).loc Cert.CdOutReferenceIdeal.main_arg9) = m ((c.tc : Thread Cert.CdOutReferenceIdeal.nD Cert.CdOutReferenceIdeal.τ).loc Cert.CdOutReferenceIdeal.main_arg9)
      ∧ r.2.mem ((c.tc : Thread Cert.CdOutReferenceIdeal.nD Cert.CdOutReferenceIdeal.τ).loc Cert.CdOutReferenceIdeal.main_arg10) = m ((c.tc : Thread Cert.CdOutReferenceIdeal.nD Cert.CdOutReferenceIdeal.τ).loc Cert.CdOutReferenceIdeal.main_arg10)
      ∧ r.2.mem ((c.tc : Thread Cert.CdOutReferenceIdeal.nD Cert.CdOutReferenceIdeal.τ).loc Cert.CdOutReferenceIdeal.main_arg11) = m ((c.tc : Thread Cert.CdOutReferenceIdeal.nD Cert.CdOutReferenceIdeal.τ).loc Cert.CdOutReferenceIdeal.main_arg11)
      ∧ r.2.mem ((c.tc : Thread Cert.CdOutReferenceIdeal.nD Cert.CdOutReferenceIdeal.τ).loc Cert.CdOutReferenceIdeal.main_arg12) = m ((c.tc : Thread Cert.CdOutReferenceIdeal.nD Cert.CdOutReferenceIdeal.τ).loc Cert.CdOutReferenceIdeal.main_arg12)
      ∧ r.2.mem ((c.tc : Thread Cert.CdOutReferenceIdeal.nD Cert.CdOutReferenceIdeal.τ).loc Cert.CdOutReferenceIdeal.main_arg13) = m ((c.tc : Thread Cert.CdOutReferenceIdeal.nD Cert.CdOutReferenceIdeal.τ).loc Cert.CdOutReferenceIdeal.main_arg13)
      ∧ r.2.mem ((c.tc : Thread Cert.CdOutReferenceIdeal.nD Cert.CdOutReferenceIdeal.τ).loc Cert.CdOutReferenceIdeal.main_arg14) = m ((c.tc : Thread Cert.CdOutReferenceIdeal.nD Cert.CdOutReferenceIdeal.τ).loc Cert.CdOutReferenceIdeal.main_arg14)
      ∧ r.2.mem ((c.tc : Thread Cert.CdOutReferenceIdeal.nD Cert.CdOutReferenceIdeal.τ).loc Cert.CdOutReferenceIdeal.main_arg15) = m ((c.tc : Thread Cert.CdOutReferenceIdeal.nD Cert.CdOutReferenceIdeal.τ).loc Cert.CdOutReferenceIdeal.main_arg15)
      ∧ r.2.mem ((c.tc : Thread Cert.CdOutReferenceIdeal.nD Cert.CdOutReferenceIdeal.τ).loc Cert.CdOutReferenceIdeal.main_arg16) = m ((c.tc : Thread Cert.CdOutReferenceIdeal.nD Cert.CdOutReferenceIdeal.τ).loc Cert.CdOutReferenceIdeal.main_arg16))
      ∧ r.2.sem = fun _ => 0)

def quiescent_CdOutReferenceIdeal_pre_finite_heads [hCdOutReferenceIdeal : Cert.CdOutReferenceIdeal.Facts] [hPre_finite_heads : Cert.Pre_finite_heads.Facts] : Prop :=
  ∀ (m : (ℓ : Loc Cert.CdOutReferenceIdeal.nD Cert.CdOutReferenceIdeal.τ Cert.CdOutReferenceIdeal.sig) → Buf (Elt Ideal) ℓ) (g : Dev Cert.CdOutReferenceIdeal.nD → PrngReg), Pre_CdOutReferenceIdeal_finite_heads m →
    θ_run (Cert.CdOutReferenceIdeal.defs (F := Ideal)) (onTc (τ := Cert.CdOutReferenceIdeal.τ) (Cert.CdOutReferenceIdeal.main (F := Ideal))) ⟨m, fun _ => 0, g⟩ (fun r => (∀ c : Dev Cert.CdOutReferenceIdeal.nD,
      r.2.mem ((c.tc : Thread Cert.CdOutReferenceIdeal.nD Cert.CdOutReferenceIdeal.τ).loc Cert.CdOutReferenceIdeal.main_arg0) = m ((c.tc : Thread Cert.CdOutReferenceIdeal.nD Cert.CdOutReferenceIdeal.τ).loc Cert.CdOutReferenceIdeal.main_arg0)
      ∧ r.2.mem ((c.tc : Thread Cert.CdOutReferenceIdeal.nD Cert.CdOutReferenceIdeal.τ).loc Cert.CdOutReferenceIdeal.main_arg1) = m ((c.tc : Thread Cert.CdOutReferenceIdeal.nD Cert.CdOutReferenceIdeal.τ).loc Cert.CdOutReferenceIdeal.main_arg1)
      ∧ r.2.mem ((c.tc : Thread Cert.CdOutReferenceIdeal.nD Cert.CdOutReferenceIdeal.τ).loc Cert.CdOutReferenceIdeal.main_arg2) = m ((c.tc : Thread Cert.CdOutReferenceIdeal.nD Cert.CdOutReferenceIdeal.τ).loc Cert.CdOutReferenceIdeal.main_arg2)
      ∧ r.2.mem ((c.tc : Thread Cert.CdOutReferenceIdeal.nD Cert.CdOutReferenceIdeal.τ).loc Cert.CdOutReferenceIdeal.main_arg3) = m ((c.tc : Thread Cert.CdOutReferenceIdeal.nD Cert.CdOutReferenceIdeal.τ).loc Cert.CdOutReferenceIdeal.main_arg3)
      ∧ r.2.mem ((c.tc : Thread Cert.CdOutReferenceIdeal.nD Cert.CdOutReferenceIdeal.τ).loc Cert.CdOutReferenceIdeal.main_arg4) = m ((c.tc : Thread Cert.CdOutReferenceIdeal.nD Cert.CdOutReferenceIdeal.τ).loc Cert.CdOutReferenceIdeal.main_arg4)
      ∧ r.2.mem ((c.tc : Thread Cert.CdOutReferenceIdeal.nD Cert.CdOutReferenceIdeal.τ).loc Cert.CdOutReferenceIdeal.main_arg5) = m ((c.tc : Thread Cert.CdOutReferenceIdeal.nD Cert.CdOutReferenceIdeal.τ).loc Cert.CdOutReferenceIdeal.main_arg5)
      ∧ r.2.mem ((c.tc : Thread Cert.CdOutReferenceIdeal.nD Cert.CdOutReferenceIdeal.τ).loc Cert.CdOutReferenceIdeal.main_arg6) = m ((c.tc : Thread Cert.CdOutReferenceIdeal.nD Cert.CdOutReferenceIdeal.τ).loc Cert.CdOutReferenceIdeal.main_arg6)
      ∧ r.2.mem ((c.tc : Thread Cert.CdOutReferenceIdeal.nD Cert.CdOutReferenceIdeal.τ).loc Cert.CdOutReferenceIdeal.main_arg7) = m ((c.tc : Thread Cert.CdOutReferenceIdeal.nD Cert.CdOutReferenceIdeal.τ).loc Cert.CdOutReferenceIdeal.main_arg7)
      ∧ r.2.mem ((c.tc : Thread Cert.CdOutReferenceIdeal.nD Cert.CdOutReferenceIdeal.τ).loc Cert.CdOutReferenceIdeal.main_arg8) = m ((c.tc : Thread Cert.CdOutReferenceIdeal.nD Cert.CdOutReferenceIdeal.τ).loc Cert.CdOutReferenceIdeal.main_arg8)
      ∧ r.2.mem ((c.tc : Thread Cert.CdOutReferenceIdeal.nD Cert.CdOutReferenceIdeal.τ).loc Cert.CdOutReferenceIdeal.main_arg9) = m ((c.tc : Thread Cert.CdOutReferenceIdeal.nD Cert.CdOutReferenceIdeal.τ).loc Cert.CdOutReferenceIdeal.main_arg9)
      ∧ r.2.mem ((c.tc : Thread Cert.CdOutReferenceIdeal.nD Cert.CdOutReferenceIdeal.τ).loc Cert.CdOutReferenceIdeal.main_arg10) = m ((c.tc : Thread Cert.CdOutReferenceIdeal.nD Cert.CdOutReferenceIdeal.τ).loc Cert.CdOutReferenceIdeal.main_arg10)
      ∧ r.2.mem ((c.tc : Thread Cert.CdOutReferenceIdeal.nD Cert.CdOutReferenceIdeal.τ).loc Cert.CdOutReferenceIdeal.main_arg11) = m ((c.tc : Thread Cert.CdOutReferenceIdeal.nD Cert.CdOutReferenceIdeal.τ).loc Cert.CdOutReferenceIdeal.main_arg11)
      ∧ r.2.mem ((c.tc : Thread Cert.CdOutReferenceIdeal.nD Cert.CdOutReferenceIdeal.τ).loc Cert.CdOutReferenceIdeal.main_arg12) = m ((c.tc : Thread Cert.CdOutReferenceIdeal.nD Cert.CdOutReferenceIdeal.τ).loc Cert.CdOutReferenceIdeal.main_arg12)
      ∧ r.2.mem ((c.tc : Thread Cert.CdOutReferenceIdeal.nD Cert.CdOutReferenceIdeal.τ).loc Cert.CdOutReferenceIdeal.main_arg13) = m ((c.tc : Thread Cert.CdOutReferenceIdeal.nD Cert.CdOutReferenceIdeal.τ).loc Cert.CdOutReferenceIdeal.main_arg13)
      ∧ r.2.mem ((c.tc : Thread Cert.CdOutReferenceIdeal.nD Cert.CdOutReferenceIdeal.τ).loc Cert.CdOutReferenceIdeal.main_arg14) = m ((c.tc : Thread Cert.CdOutReferenceIdeal.nD Cert.CdOutReferenceIdeal.τ).loc Cert.CdOutReferenceIdeal.main_arg14)
      ∧ r.2.mem ((c.tc : Thread Cert.CdOutReferenceIdeal.nD Cert.CdOutReferenceIdeal.τ).loc Cert.CdOutReferenceIdeal.main_arg15) = m ((c.tc : Thread Cert.CdOutReferenceIdeal.nD Cert.CdOutReferenceIdeal.τ).loc Cert.CdOutReferenceIdeal.main_arg15)
      ∧ r.2.mem ((c.tc : Thread Cert.CdOutReferenceIdeal.nD Cert.CdOutReferenceIdeal.τ).loc Cert.CdOutReferenceIdeal.main_arg16) = m ((c.tc : Thread Cert.CdOutReferenceIdeal.nD Cert.CdOutReferenceIdeal.τ).loc Cert.CdOutReferenceIdeal.main_arg16))
      ∧ r.2.sem = fun _ => 0)

def quiescent_Window [hWindow : Cert.Window.Facts] : Prop :=
  ∀ (m : (ℓ : Loc Cert.Window.nD Cert.Window.τ Cert.Window.sig) → Buf (Elt Bits) ℓ) (g : Dev Cert.Window.nD → PrngReg), Pre_Window m →
    θ_run (Cert.Window.defs (F := Bits)) (onTc (τ := Cert.Window.τ) (Cert.Window.main (F := Bits))) ⟨m, fun _ => 0, g⟩ (fun r => (∀ c : Dev Cert.Window.nD,
      r.2.mem ((c.tc : Thread Cert.Window.nD Cert.Window.τ).loc Cert.Window.main_arg0) = m ((c.tc : Thread Cert.Window.nD Cert.Window.τ).loc Cert.Window.main_arg0)
      ∧ r.2.mem ((c.tc : Thread Cert.Window.nD Cert.Window.τ).loc Cert.Window.main_arg1) = m ((c.tc : Thread Cert.Window.nD Cert.Window.τ).loc Cert.Window.main_arg1)
      ∧ r.2.mem ((c.tc : Thread Cert.Window.nD Cert.Window.τ).loc Cert.Window.main_arg2) = m ((c.tc : Thread Cert.Window.nD Cert.Window.τ).loc Cert.Window.main_arg2)
      ∧ r.2.mem ((c.tc : Thread Cert.Window.nD Cert.Window.τ).loc Cert.Window.main_arg3) = m ((c.tc : Thread Cert.Window.nD Cert.Window.τ).loc Cert.Window.main_arg3))
      ∧ r.2.sem = fun _ => 0)

def quiescent_WindowIdeal [hWindowIdeal : Cert.WindowIdeal.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
      ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2)
      ∧ r.2.mem ((c.tc : Thread Cert.WindowIdeal.nD Cert.WindowIdeal.τ).loc Cert.WindowIdeal.main_arg3) = m ((c.tc : Thread Cert.WindowIdeal.nD Cert.WindowIdeal.τ).loc Cert.WindowIdeal.main_arg3))
      ∧ r.2.sem = fun _ => 0)

def quiescent_WindowIdeal_pre_finite_windows [hWindowIdeal : Cert.WindowIdeal.Facts] [hPre_finite_windows : Cert.Pre_finite_windows.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal_finite_windows m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
      ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2)
      ∧ r.2.mem ((c.tc : Thread Cert.WindowIdeal.nD Cert.WindowIdeal.τ).loc Cert.WindowIdeal.main_arg3) = m ((c.tc : Thread Cert.WindowIdeal.nD Cert.WindowIdeal.τ).loc Cert.WindowIdeal.main_arg3))
      ∧ r.2.sem = fun _ => 0)

def quiescent_WindowReferenceIdeal [hWindowReferenceIdeal : Cert.WindowReferenceIdeal.Facts] : Prop :=
  ∀ (m : (ℓ : Loc Cert.WindowReferenceIdeal.nD Cert.WindowReferenceIdeal.τ Cert.WindowReferenceIdeal.sig) → Buf (Elt Ideal) ℓ) (g : Dev Cert.WindowReferenceIdeal.nD → PrngReg), Pre_WindowReferenceIdeal m →
    θ_run (Cert.WindowReferenceIdeal.defs (F := Ideal)) (onTc (τ := Cert.WindowReferenceIdeal.τ) (Cert.WindowReferenceIdeal.main (F := Ideal))) ⟨m, fun _ => 0, g⟩ (fun r => (∀ c : Dev Cert.WindowReferenceIdeal.nD,
      r.2.mem ((c.tc : Thread Cert.WindowReferenceIdeal.nD Cert.WindowReferenceIdeal.τ).loc Cert.WindowReferenceIdeal.main_arg0) = m ((c.tc : Thread Cert.WindowReferenceIdeal.nD Cert.WindowReferenceIdeal.τ).loc Cert.WindowReferenceIdeal.main_arg0)
      ∧ r.2.mem ((c.tc : Thread Cert.WindowReferenceIdeal.nD Cert.WindowReferenceIdeal.τ).loc Cert.WindowReferenceIdeal.main_arg1) = m ((c.tc : Thread Cert.WindowReferenceIdeal.nD Cert.WindowReferenceIdeal.τ).loc Cert.WindowReferenceIdeal.main_arg1)
      ∧ r.2.mem ((c.tc : Thread Cert.WindowReferenceIdeal.nD Cert.WindowReferenceIdeal.τ).loc Cert.WindowReferenceIdeal.main_arg2) = m ((c.tc : Thread Cert.WindowReferenceIdeal.nD Cert.WindowReferenceIdeal.τ).loc Cert.WindowReferenceIdeal.main_arg2)
      ∧ r.2.mem ((c.tc : Thread Cert.WindowReferenceIdeal.nD Cert.WindowReferenceIdeal.τ).loc Cert.WindowReferenceIdeal.main_arg3) = m ((c.tc : Thread Cert.WindowReferenceIdeal.nD Cert.WindowReferenceIdeal.τ).loc Cert.WindowReferenceIdeal.main_arg3))
      ∧ r.2.sem = fun _ => 0)

def quiescent_WindowReferenceIdeal_pre_finite_windows [hWindowReferenceIdeal : Cert.WindowReferenceIdeal.Facts] [hPre_finite_windows : Cert.Pre_finite_windows.Facts] : Prop :=
  ∀ (m : (ℓ : Loc Cert.WindowReferenceIdeal.nD Cert.WindowReferenceIdeal.τ Cert.WindowReferenceIdeal.sig) → Buf (Elt Ideal) ℓ) (g : Dev Cert.WindowReferenceIdeal.nD → PrngReg), Pre_WindowReferenceIdeal_finite_windows m →
    θ_run (Cert.WindowReferenceIdeal.defs (F := Ideal)) (onTc (τ := Cert.WindowReferenceIdeal.τ) (Cert.WindowReferenceIdeal.main (F := Ideal))) ⟨m, fun _ => 0, g⟩ (fun r => (∀ c : Dev Cert.WindowReferenceIdeal.nD,
      r.2.mem ((c.tc : Thread Cert.WindowReferenceIdeal.nD Cert.WindowReferenceIdeal.τ).loc Cert.WindowReferenceIdeal.main_arg0) = m ((c.tc : Thread Cert.WindowReferenceIdeal.nD Cert.WindowReferenceIdeal.τ).loc Cert.WindowReferenceIdeal.main_arg0)
      ∧ r.2.mem ((c.tc : Thread Cert.WindowReferenceIdeal.nD Cert.WindowReferenceIdeal.τ).loc Cert.WindowReferenceIdeal.main_arg1) = m ((c.tc : Thread Cert.WindowReferenceIdeal.nD Cert.WindowReferenceIdeal.τ).loc Cert.WindowReferenceIdeal.main_arg1)
      ∧ r.2.mem ((c.tc : Thread Cert.WindowReferenceIdeal.nD Cert.WindowReferenceIdeal.τ).loc Cert.WindowReferenceIdeal.main_arg2) = m ((c.tc : Thread Cert.WindowReferenceIdeal.nD Cert.WindowReferenceIdeal.τ).loc Cert.WindowReferenceIdeal.main_arg2)
      ∧ r.2.mem ((c.tc : Thread Cert.WindowReferenceIdeal.nD Cert.WindowReferenceIdeal.τ).loc Cert.WindowReferenceIdeal.main_arg3) = m ((c.tc : Thread Cert.WindowReferenceIdeal.nD Cert.WindowReferenceIdeal.τ).loc Cert.WindowReferenceIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9)
      ∧ r.2.mem ((c.tc : Thread Cert.Prep.nD Cert.Prep.τ).loc Cert.Prep.main_arg10) = m ((c.tc : Thread Cert.Prep.nD Cert.Prep.τ).loc Cert.Prep.main_arg10)
      ∧ r.2.mem ((c.tc : Thread Cert.Prep.nD Cert.Prep.τ).loc Cert.Prep.main_arg11) = m ((c.tc : Thread Cert.Prep.nD Cert.Prep.τ).loc Cert.Prep.main_arg11)
      ∧ r.2.mem ((c.tc : Thread Cert.Prep.nD Cert.Prep.τ).loc Cert.Prep.main_arg12) = m ((c.tc : Thread Cert.Prep.nD Cert.Prep.τ).loc Cert.Prep.main_arg12)
      ∧ r.2.mem ((c.tc : Thread Cert.Prep.nD Cert.Prep.τ).loc Cert.Prep.main_arg13) = m ((c.tc : Thread Cert.Prep.nD Cert.Prep.τ).loc Cert.Prep.main_arg13))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
      ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
      ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
      ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13))
      ∧ r.2.sem = fun _ => 0)

def quiescent_PrepIdeal_pre_finite_ranks [hPrepIdeal : Cert.PrepIdeal.Facts] [hPre_finite_ranks : Cert.Pre_finite_ranks.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_ranks m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
      ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
      ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
      ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6)
      ∧ r.2.mem ((c.tc : Thread Cert.PrepReferenceIdeal.nD Cert.PrepReferenceIdeal.τ).loc Cert.PrepReferenceIdeal.main_arg7) = m ((c.tc : Thread Cert.PrepReferenceIdeal.nD Cert.PrepReferenceIdeal.τ).loc Cert.PrepReferenceIdeal.main_arg7)
      ∧ r.2.mem ((c.tc : Thread Cert.PrepReferenceIdeal.nD Cert.PrepReferenceIdeal.τ).loc Cert.PrepReferenceIdeal.main_arg8) = m ((c.tc : Thread Cert.PrepReferenceIdeal.nD Cert.PrepReferenceIdeal.τ).loc Cert.PrepReferenceIdeal.main_arg8)
      ∧ r.2.mem ((c.tc : Thread Cert.PrepReferenceIdeal.nD Cert.PrepReferenceIdeal.τ).loc Cert.PrepReferenceIdeal.main_arg9) = m ((c.tc : Thread Cert.PrepReferenceIdeal.nD Cert.PrepReferenceIdeal.τ).loc Cert.PrepReferenceIdeal.main_arg9)
      ∧ r.2.mem ((c.tc : Thread Cert.PrepReferenceIdeal.nD Cert.PrepReferenceIdeal.τ).loc Cert.PrepReferenceIdeal.main_arg10) = m ((c.tc : Thread Cert.PrepReferenceIdeal.nD Cert.PrepReferenceIdeal.τ).loc Cert.PrepReferenceIdeal.main_arg10)
      ∧ r.2.mem ((c.tc : Thread Cert.PrepReferenceIdeal.nD Cert.PrepReferenceIdeal.τ).loc Cert.PrepReferenceIdeal.main_arg11) = m ((c.tc : Thread Cert.PrepReferenceIdeal.nD Cert.PrepReferenceIdeal.τ).loc Cert.PrepReferenceIdeal.main_arg11)
      ∧ r.2.mem ((c.tc : Thread Cert.PrepReferenceIdeal.nD Cert.PrepReferenceIdeal.τ).loc Cert.PrepReferenceIdeal.main_arg12) = m ((c.tc : Thread Cert.PrepReferenceIdeal.nD Cert.PrepReferenceIdeal.τ).loc Cert.PrepReferenceIdeal.main_arg12)
      ∧ r.2.mem ((c.tc : Thread Cert.PrepReferenceIdeal.nD Cert.PrepReferenceIdeal.τ).loc Cert.PrepReferenceIdeal.main_arg13) = m ((c.tc : Thread Cert.PrepReferenceIdeal.nD Cert.PrepReferenceIdeal.τ).loc Cert.PrepReferenceIdeal.main_arg13))
      ∧ r.2.sem = fun _ => 0)

def quiescent_PrepReferenceIdeal_pre_finite_ranks [hPrepReferenceIdeal : Cert.PrepReferenceIdeal.Facts] [hPre_finite_ranks : Cert.Pre_finite_ranks.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal_finite_ranks m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6)
      ∧ r.2.mem ((c.tc : Thread Cert.PrepReferenceIdeal.nD Cert.PrepReferenceIdeal.τ).loc Cert.PrepReferenceIdeal.main_arg7) = m ((c.tc : Thread Cert.PrepReferenceIdeal.nD Cert.PrepReferenceIdeal.τ).loc Cert.PrepReferenceIdeal.main_arg7)
      ∧ r.2.mem ((c.tc : Thread Cert.PrepReferenceIdeal.nD Cert.PrepReferenceIdeal.τ).loc Cert.PrepReferenceIdeal.main_arg8) = m ((c.tc : Thread Cert.PrepReferenceIdeal.nD Cert.PrepReferenceIdeal.τ).loc Cert.PrepReferenceIdeal.main_arg8)
      ∧ r.2.mem ((c.tc : Thread Cert.PrepReferenceIdeal.nD Cert.PrepReferenceIdeal.τ).loc Cert.PrepReferenceIdeal.main_arg9) = m ((c.tc : Thread Cert.PrepReferenceIdeal.nD Cert.PrepReferenceIdeal.τ).loc Cert.PrepReferenceIdeal.main_arg9)
      ∧ r.2.mem ((c.tc : Thread Cert.PrepReferenceIdeal.nD Cert.PrepReferenceIdeal.τ).loc Cert.PrepReferenceIdeal.main_arg10) = m ((c.tc : Thread Cert.PrepReferenceIdeal.nD Cert.PrepReferenceIdeal.τ).loc Cert.PrepReferenceIdeal.main_arg10)
      ∧ r.2.mem ((c.tc : Thread Cert.PrepReferenceIdeal.nD Cert.PrepReferenceIdeal.τ).loc Cert.PrepReferenceIdeal.main_arg11) = m ((c.tc : Thread Cert.PrepReferenceIdeal.nD Cert.PrepReferenceIdeal.τ).loc Cert.PrepReferenceIdeal.main_arg11)
      ∧ r.2.mem ((c.tc : Thread Cert.PrepReferenceIdeal.nD Cert.PrepReferenceIdeal.τ).loc Cert.PrepReferenceIdeal.main_arg12) = m ((c.tc : Thread Cert.PrepReferenceIdeal.nD Cert.PrepReferenceIdeal.τ).loc Cert.PrepReferenceIdeal.main_arg12)
      ∧ r.2.mem ((c.tc : Thread Cert.PrepReferenceIdeal.nD Cert.PrepReferenceIdeal.τ).loc Cert.PrepReferenceIdeal.main_arg13) = m ((c.tc : Thread Cert.PrepReferenceIdeal.nD Cert.PrepReferenceIdeal.τ).loc Cert.PrepReferenceIdeal.main_arg13))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v51) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_FfnCtx_FfnCtxIdeal : Prop :=
  True

def algebraic_FfnCtxIdeal_FfnCtxReferenceIdeal [hFfnCtxIdeal : Cert.FfnCtxIdeal.Facts] [hFfnCtxReferenceIdeal : Cert.FfnCtxReferenceIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg)
    (m' : (ℓ : Loc Cert.FfnCtxReferenceIdeal.nD Cert.FfnCtxReferenceIdeal.τ Cert.FfnCtxReferenceIdeal.sig) → Buf (Elt Ideal) ℓ) (g' : Dev Cert.FfnCtxReferenceIdeal.nD → PrngReg), Pre_FfnCtxIdeal m →
    (∀ c : Dev Cert.FfnCtxIdeal.nD,
      m' ((c.tc : Thread Cert.FfnCtxReferenceIdeal.nD Cert.FfnCtxReferenceIdeal.τ).loc Cert.FfnCtxReferenceIdeal.main_arg0) = m ((c.tc : Thread Cert.FfnCtxIdeal.nD Cert.FfnCtxIdeal.τ).loc Cert.FfnCtxIdeal.main_arg0)
      ∧ m' ((c.tc : Thread Cert.FfnCtxReferenceIdeal.nD Cert.FfnCtxReferenceIdeal.τ).loc Cert.FfnCtxReferenceIdeal.main_arg1) = m ((c.tc : Thread Cert.FfnCtxIdeal.nD Cert.FfnCtxIdeal.τ).loc Cert.FfnCtxIdeal.main_arg1)
      ∧ m' ((c.tc : Thread Cert.FfnCtxReferenceIdeal.nD Cert.FfnCtxReferenceIdeal.τ).loc Cert.FfnCtxReferenceIdeal.main_arg2) = m ((c.tc : Thread Cert.FfnCtxIdeal.nD Cert.FfnCtxIdeal.τ).loc Cert.FfnCtxIdeal.main_arg2)
      ∧ m' ((c.tc : Thread Cert.FfnCtxReferenceIdeal.nD Cert.FfnCtxReferenceIdeal.τ).loc Cert.FfnCtxReferenceIdeal.main_arg3) = m ((c.tc : Thread Cert.FfnCtxIdeal.nD Cert.FfnCtxIdeal.τ).loc Cert.FfnCtxIdeal.main_arg3)
      ∧ m' ((c.tc : Thread Cert.FfnCtxReferenceIdeal.nD Cert.FfnCtxReferenceIdeal.τ).loc Cert.FfnCtxReferenceIdeal.main_arg4) = m ((c.tc : Thread Cert.FfnCtxIdeal.nD Cert.FfnCtxIdeal.τ).loc Cert.FfnCtxIdeal.main_arg4)
      ∧ m' ((c.tc : Thread Cert.FfnCtxReferenceIdeal.nD Cert.FfnCtxReferenceIdeal.τ).loc Cert.FfnCtxReferenceIdeal.main_arg5) = m ((c.tc : Thread Cert.FfnCtxIdeal.nD Cert.FfnCtxIdeal.τ).loc Cert.FfnCtxIdeal.main_arg5)
      ∧ m' ((c.tc : Thread Cert.FfnCtxReferenceIdeal.nD Cert.FfnCtxReferenceIdeal.τ).loc Cert.FfnCtxReferenceIdeal.main_arg6) = m ((c.tc : Thread Cert.FfnCtxIdeal.nD Cert.FfnCtxIdeal.τ).loc Cert.FfnCtxIdeal.main_arg6)
      ∧ m' ((c.tc : Thread Cert.FfnCtxReferenceIdeal.nD Cert.FfnCtxReferenceIdeal.τ).loc Cert.FfnCtxReferenceIdeal.main_arg7) = m ((c.tc : Thread Cert.FfnCtxIdeal.nD Cert.FfnCtxIdeal.τ).loc Cert.FfnCtxIdeal.main_arg7)) →
    ∃ (v0 : (c : Dev Cert.FfnCtxIdeal.nD) → Buf (Elt Ideal) ((c.tc : Thread Cert.FfnCtxIdeal.nD Cert.FfnCtxIdeal.τ).loc Cert.FfnCtxIdeal.main_v6)),
      θ_run (Cert.FfnCtxIdeal.defs (F := Ideal)) (onTc (τ := Cert.FfnCtxIdeal.τ) (Cert.FfnCtxIdeal.main (F := Ideal))) ⟨m, fun _ => 0, g⟩ (fun r => ∀ c : Dev Cert.FfnCtxIdeal.nD,
          r.2.mem ((c.tc : Thread Cert.FfnCtxIdeal.nD Cert.FfnCtxIdeal.τ).loc Cert.FfnCtxIdeal.main_v6) = v0 c
          ∧ r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
          ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
          ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
          ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
          ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4)
          ∧ r.2.mem ((c.tc : Thread Cert.FfnCtxIdeal.nD Cert.FfnCtxIdeal.τ).loc Cert.FfnCtxIdeal.main_arg5) = m ((c.tc : Thread Cert.FfnCtxIdeal.nD Cert.FfnCtxIdeal.τ).loc Cert.FfnCtxIdeal.main_arg5)
          ∧ r.2.mem ((c.tc : Thread Cert.FfnCtxIdeal.nD Cert.FfnCtxIdeal.τ).loc Cert.FfnCtxIdeal.main_arg6) = m ((c.tc : Thread Cert.FfnCtxIdeal.nD Cert.FfnCtxIdeal.τ).loc Cert.FfnCtxIdeal.main_arg6)
          ∧ r.2.mem ((c.tc : Thread Cert.FfnCtxIdeal.nD Cert.FfnCtxIdeal.τ).loc Cert.FfnCtxIdeal.main_arg7) = m ((c.tc : Thread Cert.FfnCtxIdeal.nD Cert.FfnCtxIdeal.τ).loc Cert.FfnCtxIdeal.main_arg7))
      ∧ θ_run (Cert.FfnCtxReferenceIdeal.defs (F := Ideal)) (onTc (τ := Cert.FfnCtxReferenceIdeal.τ) (Cert.FfnCtxReferenceIdeal.main (F := Ideal))) ⟨m', fun _ => 0, g'⟩ (fun r => ∀ c : Dev Cert.FfnCtxReferenceIdeal.nD,
          r.2.mem ((c.tc : Thread Cert.FfnCtxReferenceIdeal.nD Cert.FfnCtxReferenceIdeal.τ).loc Cert.FfnCtxReferenceIdeal.main_v106) = v0 c
          ∧ r.2.mem ((c.tc : Thread Cert.FfnCtxReferenceIdeal.nD Cert.FfnCtxReferenceIdeal.τ).loc Cert.FfnCtxReferenceIdeal.main_arg0) = m' ((c.tc : Thread Cert.FfnCtxReferenceIdeal.nD Cert.FfnCtxReferenceIdeal.τ).loc Cert.FfnCtxReferenceIdeal.main_arg0)
          ∧ r.2.mem ((c.tc : Thread Cert.FfnCtxReferenceIdeal.nD Cert.FfnCtxReferenceIdeal.τ).loc Cert.FfnCtxReferenceIdeal.main_arg1) = m' ((c.tc : Thread Cert.FfnCtxReferenceIdeal.nD Cert.FfnCtxReferenceIdeal.τ).loc Cert.FfnCtxReferenceIdeal.main_arg1)
          ∧ r.2.mem ((c.tc : Thread Cert.FfnCtxReferenceIdeal.nD Cert.FfnCtxReferenceIdeal.τ).loc Cert.FfnCtxReferenceIdeal.main_arg2) = m' ((c.tc : Thread Cert.FfnCtxReferenceIdeal.nD Cert.FfnCtxReferenceIdeal.τ).loc Cert.FfnCtxReferenceIdeal.main_arg2)
          ∧ r.2.mem ((c.tc : Thread Cert.FfnCtxReferenceIdeal.nD Cert.FfnCtxReferenceIdeal.τ).loc Cert.FfnCtxReferenceIdeal.main_arg3) = m' ((c.tc : Thread Cert.FfnCtxReferenceIdeal.nD Cert.FfnCtxReferenceIdeal.τ).loc Cert.FfnCtxReferenceIdeal.main_arg3)
          ∧ r.2.mem ((c.tc : Thread Cert.FfnCtxReferenceIdeal.nD Cert.FfnCtxReferenceIdeal.τ).loc Cert.FfnCtxReferenceIdeal.main_arg4) = m' ((c.tc : Thread Cert.FfnCtxReferenceIdeal.nD Cert.FfnCtxReferenceIdeal.τ).loc Cert.FfnCtxReferenceIdeal.main_arg4)
          ∧ r.2.mem ((c.tc : Thread Cert.FfnCtxReferenceIdeal.nD Cert.FfnCtxReferenceIdeal.τ).loc Cert.FfnCtxReferenceIdeal.main_arg5) = m' ((c.tc : Thread Cert.FfnCtxReferenceIdeal.nD Cert.FfnCtxReferenceIdeal.τ).loc Cert.FfnCtxReferenceIdeal.main_arg5)
          ∧ r.2.mem ((c.tc : Thread Cert.FfnCtxReferenceIdeal.nD Cert.FfnCtxReferenceIdeal.τ).loc Cert.FfnCtxReferenceIdeal.main_arg6) = m' ((c.tc : Thread Cert.FfnCtxReferenceIdeal.nD Cert.FfnCtxReferenceIdeal.τ).loc Cert.FfnCtxReferenceIdeal.main_arg6)
          ∧ r.2.mem ((c.tc : Thread Cert.FfnCtxReferenceIdeal.nD Cert.FfnCtxReferenceIdeal.τ).loc Cert.FfnCtxReferenceIdeal.main_arg7) = m' ((c.tc : Thread Cert.FfnCtxReferenceIdeal.nD Cert.FfnCtxReferenceIdeal.τ).loc Cert.FfnCtxReferenceIdeal.main_arg7))

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)
      ∧ m' ((c.tc : Thread Cert.ModReferenceIdeal.nD Cert.ModReferenceIdeal.τ).loc Cert.ModReferenceIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v2)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v2) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v41) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2)
          ∧ r.2.mem ((c.tc : Thread Cert.ModReferenceIdeal.nD Cert.ModReferenceIdeal.τ).loc Cert.ModReferenceIdeal.main_arg3) = m' ((c.tc : Thread Cert.ModReferenceIdeal.nD Cert.ModReferenceIdeal.τ).loc Cert.ModReferenceIdeal.main_arg3))

def preserves_ModAb_ModAbIdeal : Prop :=
  True

def algebraic_ModAbIdeal_ModAbReferenceIdeal [hModAbIdeal : Cert.ModAbIdeal.Facts] [hModAbReferenceIdeal : Cert.ModAbReferenceIdeal.Facts] : Prop :=
  ∀ (m : (ℓ : Loc Cert.ModAbIdeal.nD Cert.ModAbIdeal.τ Cert.ModAbIdeal.sig) → Buf (Elt Ideal) ℓ) (g : Dev Cert.ModAbIdeal.nD → PrngReg)
    (m' : (ℓ : Loc Cert.ModAbReferenceIdeal.nD Cert.ModAbReferenceIdeal.τ Cert.ModAbReferenceIdeal.sig) → Buf (Elt Ideal) ℓ) (g' : Dev Cert.ModAbReferenceIdeal.nD → PrngReg), Pre_ModAbIdeal m →
    (∀ c : Dev Cert.ModAbIdeal.nD,
      m' ((c.tc : Thread Cert.ModAbReferenceIdeal.nD Cert.ModAbReferenceIdeal.τ).loc Cert.ModAbReferenceIdeal.main_arg0) = m ((c.tc : Thread Cert.ModAbIdeal.nD Cert.ModAbIdeal.τ).loc Cert.ModAbIdeal.main_arg0)
      ∧ m' ((c.tc : Thread Cert.ModAbReferenceIdeal.nD Cert.ModAbReferenceIdeal.τ).loc Cert.ModAbReferenceIdeal.main_arg1) = m ((c.tc : Thread Cert.ModAbIdeal.nD Cert.ModAbIdeal.τ).loc Cert.ModAbIdeal.main_arg1)
      ∧ m' ((c.tc : Thread Cert.ModAbReferenceIdeal.nD Cert.ModAbReferenceIdeal.τ).loc Cert.ModAbReferenceIdeal.main_arg2) = m ((c.tc : Thread Cert.ModAbIdeal.nD Cert.ModAbIdeal.τ).loc Cert.ModAbIdeal.main_arg2)
      ∧ m' ((c.tc : Thread Cert.ModAbReferenceIdeal.nD Cert.ModAbReferenceIdeal.τ).loc Cert.ModAbReferenceIdeal.main_arg3) = m ((c.tc : Thread Cert.ModAbIdeal.nD Cert.ModAbIdeal.τ).loc Cert.ModAbIdeal.main_arg3)) →
    ∃ (v0 : (c : Dev Cert.ModAbIdeal.nD) → Buf (Elt Ideal) ((c.tc : Thread Cert.ModAbIdeal.nD Cert.ModAbIdeal.τ).loc Cert.ModAbIdeal.main_v2)),
      θ_run (Cert.ModAbIdeal.defs (F := Ideal)) (onTc (τ := Cert.ModAbIdeal.τ) (Cert.ModAbIdeal.main (F := Ideal))) ⟨m, fun _ => 0, g⟩ (fun r => ∀ c : Dev Cert.ModAbIdeal.nD,
          r.2.mem ((c.tc : Thread Cert.ModAbIdeal.nD Cert.ModAbIdeal.τ).loc Cert.ModAbIdeal.main_v2) = v0 c
          ∧ r.2.mem ((c.tc : Thread Cert.ModAbIdeal.nD Cert.ModAbIdeal.τ).loc Cert.ModAbIdeal.main_arg0) = m ((c.tc : Thread Cert.ModAbIdeal.nD Cert.ModAbIdeal.τ).loc Cert.ModAbIdeal.main_arg0)
          ∧ r.2.mem ((c.tc : Thread Cert.ModAbIdeal.nD Cert.ModAbIdeal.τ).loc Cert.ModAbIdeal.main_arg1) = m ((c.tc : Thread Cert.ModAbIdeal.nD Cert.ModAbIdeal.τ).loc Cert.ModAbIdeal.main_arg1)
          ∧ r.2.mem ((c.tc : Thread Cert.ModAbIdeal.nD Cert.ModAbIdeal.τ).loc Cert.ModAbIdeal.main_arg2) = m ((c.tc : Thread Cert.ModAbIdeal.nD Cert.ModAbIdeal.τ).loc Cert.ModAbIdeal.main_arg2)
          ∧ r.2.mem ((c.tc : Thread Cert.ModAbIdeal.nD Cert.ModAbIdeal.τ).loc Cert.ModAbIdeal.main_arg3) = m ((c.tc : Thread Cert.ModAbIdeal.nD Cert.ModAbIdeal.τ).loc Cert.ModAbIdeal.main_arg3))
      ∧ θ_run (Cert.ModAbReferenceIdeal.defs (F := Ideal)) (onTc (τ := Cert.ModAbReferenceIdeal.τ) (Cert.ModAbReferenceIdeal.main (F := Ideal))) ⟨m', fun _ => 0, g'⟩ (fun r => ∀ c : Dev Cert.ModAbReferenceIdeal.nD,
          r.2.mem ((c.tc : Thread Cert.ModAbReferenceIdeal.nD Cert.ModAbReferenceIdeal.τ).loc Cert.ModAbReferenceIdeal.main_v41) = v0 c
          ∧ r.2.mem ((c.tc : Thread Cert.ModAbReferenceIdeal.nD Cert.ModAbReferenceIdeal.τ).loc Cert.ModAbReferenceIdeal.main_arg0) = m' ((c.tc : Thread Cert.ModAbReferenceIdeal.nD Cert.ModAbReferenceIdeal.τ).loc Cert.ModAbReferenceIdeal.main_arg0)
          ∧ r.2.mem ((c.tc : Thread Cert.ModAbReferenceIdeal.nD Cert.ModAbReferenceIdeal.τ).loc Cert.ModAbReferenceIdeal.main_arg1) = m' ((c.tc : Thread Cert.ModAbReferenceIdeal.nD Cert.ModAbReferenceIdeal.τ).loc Cert.ModAbReferenceIdeal.main_arg1)
          ∧ r.2.mem ((c.tc : Thread Cert.ModAbReferenceIdeal.nD Cert.ModAbReferenceIdeal.τ).loc Cert.ModAbReferenceIdeal.main_arg2) = m' ((c.tc : Thread Cert.ModAbReferenceIdeal.nD Cert.ModAbReferenceIdeal.τ).loc Cert.ModAbReferenceIdeal.main_arg2)
          ∧ r.2.mem ((c.tc : Thread Cert.ModAbReferenceIdeal.nD Cert.ModAbReferenceIdeal.τ).loc Cert.ModAbReferenceIdeal.main_arg3) = m' ((c.tc : Thread Cert.ModAbReferenceIdeal.nD Cert.ModAbReferenceIdeal.τ).loc Cert.ModAbReferenceIdeal.main_arg3))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v1) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_CdOut_CdOutIdeal : Prop :=
  True

def algebraic_CdOutIdeal_CdOutReferenceIdeal_pre_finite_heads [hCdOutIdeal : Cert.CdOutIdeal.Facts] [hCdOutReferenceIdeal : Cert.CdOutReferenceIdeal.Facts] [hPre_finite_heads : Cert.Pre_finite_heads.Facts] : Prop :=
  ∀ (m : (ℓ : Loc Cert.CdOutIdeal.nD Cert.CdOutIdeal.τ Cert.CdOutIdeal.sig) → Buf (Elt Ideal) ℓ) (g : Dev Cert.CdOutIdeal.nD → PrngReg)
    (m' : (ℓ : Loc Cert.CdOutReferenceIdeal.nD Cert.CdOutReferenceIdeal.τ Cert.CdOutReferenceIdeal.sig) → Buf (Elt Ideal) ℓ) (g' : Dev Cert.CdOutReferenceIdeal.nD → PrngReg), Pre_CdOutIdeal_finite_heads m →
    (∀ c : Dev Cert.CdOutIdeal.nD,
      m' ((c.tc : Thread Cert.CdOutReferenceIdeal.nD Cert.CdOutReferenceIdeal.τ).loc Cert.CdOutReferenceIdeal.main_arg0) = m ((c.tc : Thread Cert.CdOutIdeal.nD Cert.CdOutIdeal.τ).loc Cert.CdOutIdeal.main_arg0)
      ∧ m' ((c.tc : Thread Cert.CdOutReferenceIdeal.nD Cert.CdOutReferenceIdeal.τ).loc Cert.CdOutReferenceIdeal.main_arg1) = m ((c.tc : Thread Cert.CdOutIdeal.nD Cert.CdOutIdeal.τ).loc Cert.CdOutIdeal.main_arg1)
      ∧ m' ((c.tc : Thread Cert.CdOutReferenceIdeal.nD Cert.CdOutReferenceIdeal.τ).loc Cert.CdOutReferenceIdeal.main_arg2) = m ((c.tc : Thread Cert.CdOutIdeal.nD Cert.CdOutIdeal.τ).loc Cert.CdOutIdeal.main_arg2)
      ∧ m' ((c.tc : Thread Cert.CdOutReferenceIdeal.nD Cert.CdOutReferenceIdeal.τ).loc Cert.CdOutReferenceIdeal.main_arg3) = m ((c.tc : Thread Cert.CdOutIdeal.nD Cert.CdOutIdeal.τ).loc Cert.CdOutIdeal.main_arg3)
      ∧ m' ((c.tc : Thread Cert.CdOutReferenceIdeal.nD Cert.CdOutReferenceIdeal.τ).loc Cert.CdOutReferenceIdeal.main_arg4) = m ((c.tc : Thread Cert.CdOutIdeal.nD Cert.CdOutIdeal.τ).loc Cert.CdOutIdeal.main_arg4)
      ∧ m' ((c.tc : Thread Cert.CdOutReferenceIdeal.nD Cert.CdOutReferenceIdeal.τ).loc Cert.CdOutReferenceIdeal.main_arg5) = m ((c.tc : Thread Cert.CdOutIdeal.nD Cert.CdOutIdeal.τ).loc Cert.CdOutIdeal.main_arg5)
      ∧ m' ((c.tc : Thread Cert.CdOutReferenceIdeal.nD Cert.CdOutReferenceIdeal.τ).loc Cert.CdOutReferenceIdeal.main_arg6) = m ((c.tc : Thread Cert.CdOutIdeal.nD Cert.CdOutIdeal.τ).loc Cert.CdOutIdeal.main_arg6)
      ∧ m' ((c.tc : Thread Cert.CdOutReferenceIdeal.nD Cert.CdOutReferenceIdeal.τ).loc Cert.CdOutReferenceIdeal.main_arg7) = m ((c.tc : Thread Cert.CdOutIdeal.nD Cert.CdOutIdeal.τ).loc Cert.CdOutIdeal.main_arg7)
      ∧ m' ((c.tc : Thread Cert.CdOutReferenceIdeal.nD Cert.CdOutReferenceIdeal.τ).loc Cert.CdOutReferenceIdeal.main_arg8) = m ((c.tc : Thread Cert.CdOutIdeal.nD Cert.CdOutIdeal.τ).loc Cert.CdOutIdeal.main_arg8)
      ∧ m' ((c.tc : Thread Cert.CdOutReferenceIdeal.nD Cert.CdOutReferenceIdeal.τ).loc Cert.CdOutReferenceIdeal.main_arg9) = m ((c.tc : Thread Cert.CdOutIdeal.nD Cert.CdOutIdeal.τ).loc Cert.CdOutIdeal.main_arg9)
      ∧ m' ((c.tc : Thread Cert.CdOutReferenceIdeal.nD Cert.CdOutReferenceIdeal.τ).loc Cert.CdOutReferenceIdeal.main_arg10) = m ((c.tc : Thread Cert.CdOutIdeal.nD Cert.CdOutIdeal.τ).loc Cert.CdOutIdeal.main_arg10)
      ∧ m' ((c.tc : Thread Cert.CdOutReferenceIdeal.nD Cert.CdOutReferenceIdeal.τ).loc Cert.CdOutReferenceIdeal.main_arg11) = m ((c.tc : Thread Cert.CdOutIdeal.nD Cert.CdOutIdeal.τ).loc Cert.CdOutIdeal.main_arg11)
      ∧ m' ((c.tc : Thread Cert.CdOutReferenceIdeal.nD Cert.CdOutReferenceIdeal.τ).loc Cert.CdOutReferenceIdeal.main_arg12) = m ((c.tc : Thread Cert.CdOutIdeal.nD Cert.CdOutIdeal.τ).loc Cert.CdOutIdeal.main_arg12)
      ∧ m' ((c.tc : Thread Cert.CdOutReferenceIdeal.nD Cert.CdOutReferenceIdeal.τ).loc Cert.CdOutReferenceIdeal.main_arg13) = m ((c.tc : Thread Cert.CdOutIdeal.nD Cert.CdOutIdeal.τ).loc Cert.CdOutIdeal.main_arg13)
      ∧ m' ((c.tc : Thread Cert.CdOutReferenceIdeal.nD Cert.CdOutReferenceIdeal.τ).loc Cert.CdOutReferenceIdeal.main_arg14) = m ((c.tc : Thread Cert.CdOutIdeal.nD Cert.CdOutIdeal.τ).loc Cert.CdOutIdeal.main_arg14)
      ∧ m' ((c.tc : Thread Cert.CdOutReferenceIdeal.nD Cert.CdOutReferenceIdeal.τ).loc Cert.CdOutReferenceIdeal.main_arg15) = m ((c.tc : Thread Cert.CdOutIdeal.nD Cert.CdOutIdeal.τ).loc Cert.CdOutIdeal.main_arg15)
      ∧ m' ((c.tc : Thread Cert.CdOutReferenceIdeal.nD Cert.CdOutReferenceIdeal.τ).loc Cert.CdOutReferenceIdeal.main_arg16) = m ((c.tc : Thread Cert.CdOutIdeal.nD Cert.CdOutIdeal.τ).loc Cert.CdOutIdeal.main_arg16)) →
    ∃ (v0 : (c : Dev Cert.CdOutIdeal.nD) → Buf (Elt Ideal) ((c.tc : Thread Cert.CdOutIdeal.nD Cert.CdOutIdeal.τ).loc Cert.CdOutIdeal.main_v9)),
      θ_run (Cert.CdOutIdeal.defs (F := Ideal)) (onTc (τ := Cert.CdOutIdeal.τ) (Cert.CdOutIdeal.main (F := Ideal))) ⟨m, fun _ => 0, g⟩ (fun r => ∀ c : Dev Cert.CdOutIdeal.nD,
          r.2.mem ((c.tc : Thread Cert.CdOutIdeal.nD Cert.CdOutIdeal.τ).loc Cert.CdOutIdeal.main_v9) = v0 c
          ∧ r.2.mem ((c.tc : Thread Cert.CdOutIdeal.nD Cert.CdOutIdeal.τ).loc Cert.CdOutIdeal.main_arg0) = m ((c.tc : Thread Cert.CdOutIdeal.nD Cert.CdOutIdeal.τ).loc Cert.CdOutIdeal.main_arg0)
          ∧ r.2.mem ((c.tc : Thread Cert.CdOutIdeal.nD Cert.CdOutIdeal.τ).loc Cert.CdOutIdeal.main_arg1) = m ((c.tc : Thread Cert.CdOutIdeal.nD Cert.CdOutIdeal.τ).loc Cert.CdOutIdeal.main_arg1)
          ∧ r.2.mem ((c.tc : Thread Cert.CdOutIdeal.nD Cert.CdOutIdeal.τ).loc Cert.CdOutIdeal.main_arg2) = m ((c.tc : Thread Cert.CdOutIdeal.nD Cert.CdOutIdeal.τ).loc Cert.CdOutIdeal.main_arg2)
          ∧ r.2.mem ((c.tc : Thread Cert.CdOutIdeal.nD Cert.CdOutIdeal.τ).loc Cert.CdOutIdeal.main_arg3) = m ((c.tc : Thread Cert.CdOutIdeal.nD Cert.CdOutIdeal.τ).loc Cert.CdOutIdeal.main_arg3)
          ∧ r.2.mem ((c.tc : Thread Cert.CdOutIdeal.nD Cert.CdOutIdeal.τ).loc Cert.CdOutIdeal.main_arg4) = m ((c.tc : Thread Cert.CdOutIdeal.nD Cert.CdOutIdeal.τ).loc Cert.CdOutIdeal.main_arg4)
          ∧ r.2.mem ((c.tc : Thread Cert.CdOutIdeal.nD Cert.CdOutIdeal.τ).loc Cert.CdOutIdeal.main_arg5) = m ((c.tc : Thread Cert.CdOutIdeal.nD Cert.CdOutIdeal.τ).loc Cert.CdOutIdeal.main_arg5)
          ∧ r.2.mem ((c.tc : Thread Cert.CdOutIdeal.nD Cert.CdOutIdeal.τ).loc Cert.CdOutIdeal.main_arg6) = m ((c.tc : Thread Cert.CdOutIdeal.nD Cert.CdOutIdeal.τ).loc Cert.CdOutIdeal.main_arg6)
          ∧ r.2.mem ((c.tc : Thread Cert.CdOutIdeal.nD Cert.CdOutIdeal.τ).loc Cert.CdOutIdeal.main_arg7) = m ((c.tc : Thread Cert.CdOutIdeal.nD Cert.CdOutIdeal.τ).loc Cert.CdOutIdeal.main_arg7)
          ∧ r.2.mem ((c.tc : Thread Cert.CdOutIdeal.nD Cert.CdOutIdeal.τ).loc Cert.CdOutIdeal.main_arg8) = m ((c.tc : Thread Cert.CdOutIdeal.nD Cert.CdOutIdeal.τ).loc Cert.CdOutIdeal.main_arg8)
          ∧ r.2.mem ((c.tc : Thread Cert.CdOutIdeal.nD Cert.CdOutIdeal.τ).loc Cert.CdOutIdeal.main_arg9) = m ((c.tc : Thread Cert.CdOutIdeal.nD Cert.CdOutIdeal.τ).loc Cert.CdOutIdeal.main_arg9)
          ∧ r.2.mem ((c.tc : Thread Cert.CdOutIdeal.nD Cert.CdOutIdeal.τ).loc Cert.CdOutIdeal.main_arg10) = m ((c.tc : Thread Cert.CdOutIdeal.nD Cert.CdOutIdeal.τ).loc Cert.CdOutIdeal.main_arg10)
          ∧ r.2.mem ((c.tc : Thread Cert.CdOutIdeal.nD Cert.CdOutIdeal.τ).loc Cert.CdOutIdeal.main_arg11) = m ((c.tc : Thread Cert.CdOutIdeal.nD Cert.CdOutIdeal.τ).loc Cert.CdOutIdeal.main_arg11)
          ∧ r.2.mem ((c.tc : Thread Cert.CdOutIdeal.nD Cert.CdOutIdeal.τ).loc Cert.CdOutIdeal.main_arg12) = m ((c.tc : Thread Cert.CdOutIdeal.nD Cert.CdOutIdeal.τ).loc Cert.CdOutIdeal.main_arg12)
          ∧ r.2.mem ((c.tc : Thread Cert.CdOutIdeal.nD Cert.CdOutIdeal.τ).loc Cert.CdOutIdeal.main_arg13) = m ((c.tc : Thread Cert.CdOutIdeal.nD Cert.CdOutIdeal.τ).loc Cert.CdOutIdeal.main_arg13)
          ∧ r.2.mem ((c.tc : Thread Cert.CdOutIdeal.nD Cert.CdOutIdeal.τ).loc Cert.CdOutIdeal.main_arg14) = m ((c.tc : Thread Cert.CdOutIdeal.nD Cert.CdOutIdeal.τ).loc Cert.CdOutIdeal.main_arg14)
          ∧ r.2.mem ((c.tc : Thread Cert.CdOutIdeal.nD Cert.CdOutIdeal.τ).loc Cert.CdOutIdeal.main_arg15) = m ((c.tc : Thread Cert.CdOutIdeal.nD Cert.CdOutIdeal.τ).loc Cert.CdOutIdeal.main_arg15)
          ∧ r.2.mem ((c.tc : Thread Cert.CdOutIdeal.nD Cert.CdOutIdeal.τ).loc Cert.CdOutIdeal.main_arg16) = m ((c.tc : Thread Cert.CdOutIdeal.nD Cert.CdOutIdeal.τ).loc Cert.CdOutIdeal.main_arg16))
      ∧ θ_run (Cert.CdOutReferenceIdeal.defs (F := Ideal)) (onTc (τ := Cert.CdOutReferenceIdeal.τ) (Cert.CdOutReferenceIdeal.main (F := Ideal))) ⟨m', fun _ => 0, g'⟩ (fun r => ∀ c : Dev Cert.CdOutReferenceIdeal.nD,
          r.2.mem ((c.tc : Thread Cert.CdOutReferenceIdeal.nD Cert.CdOutReferenceIdeal.τ).loc Cert.CdOutReferenceIdeal.main_v90) = v0 c
          ∧ r.2.mem ((c.tc : Thread Cert.CdOutReferenceIdeal.nD Cert.CdOutReferenceIdeal.τ).loc Cert.CdOutReferenceIdeal.main_arg0) = m' ((c.tc : Thread Cert.CdOutReferenceIdeal.nD Cert.CdOutReferenceIdeal.τ).loc Cert.CdOutReferenceIdeal.main_arg0)
          ∧ r.2.mem ((c.tc : Thread Cert.CdOutReferenceIdeal.nD Cert.CdOutReferenceIdeal.τ).loc Cert.CdOutReferenceIdeal.main_arg1) = m' ((c.tc : Thread Cert.CdOutReferenceIdeal.nD Cert.CdOutReferenceIdeal.τ).loc Cert.CdOutReferenceIdeal.main_arg1)
          ∧ r.2.mem ((c.tc : Thread Cert.CdOutReferenceIdeal.nD Cert.CdOutReferenceIdeal.τ).loc Cert.CdOutReferenceIdeal.main_arg2) = m' ((c.tc : Thread Cert.CdOutReferenceIdeal.nD Cert.CdOutReferenceIdeal.τ).loc Cert.CdOutReferenceIdeal.main_arg2)
          ∧ r.2.mem ((c.tc : Thread Cert.CdOutReferenceIdeal.nD Cert.CdOutReferenceIdeal.τ).loc Cert.CdOutReferenceIdeal.main_arg3) = m' ((c.tc : Thread Cert.CdOutReferenceIdeal.nD Cert.CdOutReferenceIdeal.τ).loc Cert.CdOutReferenceIdeal.main_arg3)
          ∧ r.2.mem ((c.tc : Thread Cert.CdOutReferenceIdeal.nD Cert.CdOutReferenceIdeal.τ).loc Cert.CdOutReferenceIdeal.main_arg4) = m' ((c.tc : Thread Cert.CdOutReferenceIdeal.nD Cert.CdOutReferenceIdeal.τ).loc Cert.CdOutReferenceIdeal.main_arg4)
          ∧ r.2.mem ((c.tc : Thread Cert.CdOutReferenceIdeal.nD Cert.CdOutReferenceIdeal.τ).loc Cert.CdOutReferenceIdeal.main_arg5) = m' ((c.tc : Thread Cert.CdOutReferenceIdeal.nD Cert.CdOutReferenceIdeal.τ).loc Cert.CdOutReferenceIdeal.main_arg5)
          ∧ r.2.mem ((c.tc : Thread Cert.CdOutReferenceIdeal.nD Cert.CdOutReferenceIdeal.τ).loc Cert.CdOutReferenceIdeal.main_arg6) = m' ((c.tc : Thread Cert.CdOutReferenceIdeal.nD Cert.CdOutReferenceIdeal.τ).loc Cert.CdOutReferenceIdeal.main_arg6)
          ∧ r.2.mem ((c.tc : Thread Cert.CdOutReferenceIdeal.nD Cert.CdOutReferenceIdeal.τ).loc Cert.CdOutReferenceIdeal.main_arg7) = m' ((c.tc : Thread Cert.CdOutReferenceIdeal.nD Cert.CdOutReferenceIdeal.τ).loc Cert.CdOutReferenceIdeal.main_arg7)
          ∧ r.2.mem ((c.tc : Thread Cert.CdOutReferenceIdeal.nD Cert.CdOutReferenceIdeal.τ).loc Cert.CdOutReferenceIdeal.main_arg8) = m' ((c.tc : Thread Cert.CdOutReferenceIdeal.nD Cert.CdOutReferenceIdeal.τ).loc Cert.CdOutReferenceIdeal.main_arg8)
          ∧ r.2.mem ((c.tc : Thread Cert.CdOutReferenceIdeal.nD Cert.CdOutReferenceIdeal.τ).loc Cert.CdOutReferenceIdeal.main_arg9) = m' ((c.tc : Thread Cert.CdOutReferenceIdeal.nD Cert.CdOutReferenceIdeal.τ).loc Cert.CdOutReferenceIdeal.main_arg9)
          ∧ r.2.mem ((c.tc : Thread Cert.CdOutReferenceIdeal.nD Cert.CdOutReferenceIdeal.τ).loc Cert.CdOutReferenceIdeal.main_arg10) = m' ((c.tc : Thread Cert.CdOutReferenceIdeal.nD Cert.CdOutReferenceIdeal.τ).loc Cert.CdOutReferenceIdeal.main_arg10)
          ∧ r.2.mem ((c.tc : Thread Cert.CdOutReferenceIdeal.nD Cert.CdOutReferenceIdeal.τ).loc Cert.CdOutReferenceIdeal.main_arg11) = m' ((c.tc : Thread Cert.CdOutReferenceIdeal.nD Cert.CdOutReferenceIdeal.τ).loc Cert.CdOutReferenceIdeal.main_arg11)
          ∧ r.2.mem ((c.tc : Thread Cert.CdOutReferenceIdeal.nD Cert.CdOutReferenceIdeal.τ).loc Cert.CdOutReferenceIdeal.main_arg12) = m' ((c.tc : Thread Cert.CdOutReferenceIdeal.nD Cert.CdOutReferenceIdeal.τ).loc Cert.CdOutReferenceIdeal.main_arg12)
          ∧ r.2.mem ((c.tc : Thread Cert.CdOutReferenceIdeal.nD Cert.CdOutReferenceIdeal.τ).loc Cert.CdOutReferenceIdeal.main_arg13) = m' ((c.tc : Thread Cert.CdOutReferenceIdeal.nD Cert.CdOutReferenceIdeal.τ).loc Cert.CdOutReferenceIdeal.main_arg13)
          ∧ r.2.mem ((c.tc : Thread Cert.CdOutReferenceIdeal.nD Cert.CdOutReferenceIdeal.τ).loc Cert.CdOutReferenceIdeal.main_arg14) = m' ((c.tc : Thread Cert.CdOutReferenceIdeal.nD Cert.CdOutReferenceIdeal.τ).loc Cert.CdOutReferenceIdeal.main_arg14)
          ∧ r.2.mem ((c.tc : Thread Cert.CdOutReferenceIdeal.nD Cert.CdOutReferenceIdeal.τ).loc Cert.CdOutReferenceIdeal.main_arg15) = m' ((c.tc : Thread Cert.CdOutReferenceIdeal.nD Cert.CdOutReferenceIdeal.τ).loc Cert.CdOutReferenceIdeal.main_arg15)
          ∧ r.2.mem ((c.tc : Thread Cert.CdOutReferenceIdeal.nD Cert.CdOutReferenceIdeal.τ).loc Cert.CdOutReferenceIdeal.main_arg16) = m' ((c.tc : Thread Cert.CdOutReferenceIdeal.nD Cert.CdOutReferenceIdeal.τ).loc Cert.CdOutReferenceIdeal.main_arg16))

def preserves_Window_WindowIdeal : Prop :=
  IdealRules.named_const.Statement Cert.WindowIdeal.κ "mask" .f32 0xF149F2CA#32 ⊥

def algebraic_WindowIdeal_WindowReferenceIdeal_pre_finite_windows [hWindowIdeal : Cert.WindowIdeal.Facts] [hWindowReferenceIdeal : Cert.WindowReferenceIdeal.Facts] [hPre_finite_windows : Cert.Pre_finite_windows.Facts] : Prop :=
  ∀ (m : (ℓ : Loc Cert.WindowIdeal.nD Cert.WindowIdeal.τ Cert.WindowIdeal.sig) → Buf (Elt Ideal) ℓ) (g : Dev Cert.WindowIdeal.nD → PrngReg)
    (m' : (ℓ : Loc Cert.WindowReferenceIdeal.nD Cert.WindowReferenceIdeal.τ Cert.WindowReferenceIdeal.sig) → Buf (Elt Ideal) ℓ) (g' : Dev Cert.WindowReferenceIdeal.nD → PrngReg), Pre_WindowIdeal_finite_windows m →
    (∀ c : Dev Cert.WindowIdeal.nD,
      m' ((c.tc : Thread Cert.WindowReferenceIdeal.nD Cert.WindowReferenceIdeal.τ).loc Cert.WindowReferenceIdeal.main_arg0) = m ((c.tc : Thread Cert.WindowIdeal.nD Cert.WindowIdeal.τ).loc Cert.WindowIdeal.main_arg0)
      ∧ m' ((c.tc : Thread Cert.WindowReferenceIdeal.nD Cert.WindowReferenceIdeal.τ).loc Cert.WindowReferenceIdeal.main_arg1) = m ((c.tc : Thread Cert.WindowIdeal.nD Cert.WindowIdeal.τ).loc Cert.WindowIdeal.main_arg1)
      ∧ m' ((c.tc : Thread Cert.WindowReferenceIdeal.nD Cert.WindowReferenceIdeal.τ).loc Cert.WindowReferenceIdeal.main_arg2) = m ((c.tc : Thread Cert.WindowIdeal.nD Cert.WindowIdeal.τ).loc Cert.WindowIdeal.main_arg2)
      ∧ m' ((c.tc : Thread Cert.WindowReferenceIdeal.nD Cert.WindowReferenceIdeal.τ).loc Cert.WindowReferenceIdeal.main_arg3) = m ((c.tc : Thread Cert.WindowIdeal.nD Cert.WindowIdeal.τ).loc Cert.WindowIdeal.main_arg3)) →
    ∃ (v0 : (c : Dev Cert.WindowIdeal.nD) → Buf (Elt Ideal) ((c.tc : Thread Cert.WindowIdeal.nD Cert.WindowIdeal.τ).loc Cert.WindowIdeal.main_v1)),
      θ_run (Cert.WindowIdeal.defs (F := Ideal)) (onTc (τ := Cert.WindowIdeal.τ) (Cert.WindowIdeal.main (F := Ideal))) ⟨m, fun _ => 0, g⟩ (fun r => ∀ c : Dev Cert.WindowIdeal.nD,
          r.2.mem ((c.tc : Thread Cert.WindowIdeal.nD Cert.WindowIdeal.τ).loc Cert.WindowIdeal.main_v1) = v0 c
          ∧ r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
          ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
          ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2)
          ∧ r.2.mem ((c.tc : Thread Cert.WindowIdeal.nD Cert.WindowIdeal.τ).loc Cert.WindowIdeal.main_arg3) = m ((c.tc : Thread Cert.WindowIdeal.nD Cert.WindowIdeal.τ).loc Cert.WindowIdeal.main_arg3))
      ∧ θ_run (Cert.WindowReferenceIdeal.defs (F := Ideal)) (onTc (τ := Cert.WindowReferenceIdeal.τ) (Cert.WindowReferenceIdeal.main (F := Ideal))) ⟨m', fun _ => 0, g'⟩ (fun r => ∀ c : Dev Cert.WindowReferenceIdeal.nD,
          r.2.mem ((c.tc : Thread Cert.WindowReferenceIdeal.nD Cert.WindowReferenceIdeal.τ).loc Cert.WindowReferenceIdeal.main_v89) = v0 c
          ∧ r.2.mem ((c.tc : Thread Cert.WindowReferenceIdeal.nD Cert.WindowReferenceIdeal.τ).loc Cert.WindowReferenceIdeal.main_arg0) = m' ((c.tc : Thread Cert.WindowReferenceIdeal.nD Cert.WindowReferenceIdeal.τ).loc Cert.WindowReferenceIdeal.main_arg0)
          ∧ r.2.mem ((c.tc : Thread Cert.WindowReferenceIdeal.nD Cert.WindowReferenceIdeal.τ).loc Cert.WindowReferenceIdeal.main_arg1) = m' ((c.tc : Thread Cert.WindowReferenceIdeal.nD Cert.WindowReferenceIdeal.τ).loc Cert.WindowReferenceIdeal.main_arg1)
          ∧ r.2.mem ((c.tc : Thread Cert.WindowReferenceIdeal.nD Cert.WindowReferenceIdeal.τ).loc Cert.WindowReferenceIdeal.main_arg2) = m' ((c.tc : Thread Cert.WindowReferenceIdeal.nD Cert.WindowReferenceIdeal.τ).loc Cert.WindowReferenceIdeal.main_arg2)
          ∧ r.2.mem ((c.tc : Thread Cert.WindowReferenceIdeal.nD Cert.WindowReferenceIdeal.τ).loc Cert.WindowReferenceIdeal.main_arg3) = m' ((c.tc : Thread Cert.WindowReferenceIdeal.nD Cert.WindowReferenceIdeal.τ).loc Cert.WindowReferenceIdeal.main_arg3))

def preserves_Prep_PrepIdeal : Prop :=
  True

def algebraic_PrepIdeal_PrepReferenceIdeal_pre_finite_ranks [hPrepIdeal : Cert.PrepIdeal.Facts] [hPrepReferenceIdeal : Cert.PrepReferenceIdeal.Facts] [hPre_finite_ranks : Cert.Pre_finite_ranks.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal_finite_ranks m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)
      ∧ m' ((c.tc : Thread Cert.PrepReferenceIdeal.nD Cert.PrepReferenceIdeal.τ).loc Cert.PrepReferenceIdeal.main_arg5) = m ((c.tc : Thread Cert.PrepIdeal.nD Cert.PrepIdeal.τ).loc Cert.PrepIdeal.main_arg5)
      ∧ m' ((c.tc : Thread Cert.PrepReferenceIdeal.nD Cert.PrepReferenceIdeal.τ).loc Cert.PrepReferenceIdeal.main_arg6) = m ((c.tc : Thread Cert.PrepIdeal.nD Cert.PrepIdeal.τ).loc Cert.PrepIdeal.main_arg6)
      ∧ m' ((c.tc : Thread Cert.PrepReferenceIdeal.nD Cert.PrepReferenceIdeal.τ).loc Cert.PrepReferenceIdeal.main_arg7) = m ((c.tc : Thread Cert.PrepIdeal.nD Cert.PrepIdeal.τ).loc Cert.PrepIdeal.main_arg7)
      ∧ m' ((c.tc : Thread Cert.PrepReferenceIdeal.nD Cert.PrepReferenceIdeal.τ).loc Cert.PrepReferenceIdeal.main_arg8) = m ((c.tc : Thread Cert.PrepIdeal.nD Cert.PrepIdeal.τ).loc Cert.PrepIdeal.main_arg8)
      ∧ m' ((c.tc : Thread Cert.PrepReferenceIdeal.nD Cert.PrepReferenceIdeal.τ).loc Cert.PrepReferenceIdeal.main_arg9) = m ((c.tc : Thread Cert.PrepIdeal.nD Cert.PrepIdeal.τ).loc Cert.PrepIdeal.main_arg9)
      ∧ m' ((c.tc : Thread Cert.PrepReferenceIdeal.nD Cert.PrepReferenceIdeal.τ).loc Cert.PrepReferenceIdeal.main_arg10) = m ((c.tc : Thread Cert.PrepIdeal.nD Cert.PrepIdeal.τ).loc Cert.PrepIdeal.main_arg10)
      ∧ m' ((c.tc : Thread Cert.PrepReferenceIdeal.nD Cert.PrepReferenceIdeal.τ).loc Cert.PrepReferenceIdeal.main_arg11) = m ((c.tc : Thread Cert.PrepIdeal.nD Cert.PrepIdeal.τ).loc Cert.PrepIdeal.main_arg11)
      ∧ m' ((c.tc : Thread Cert.PrepReferenceIdeal.nD Cert.PrepReferenceIdeal.τ).loc Cert.PrepReferenceIdeal.main_arg12) = m ((c.tc : Thread Cert.PrepIdeal.nD Cert.PrepIdeal.τ).loc Cert.PrepIdeal.main_arg12)
      ∧ m' ((c.tc : Thread Cert.PrepReferenceIdeal.nD Cert.PrepReferenceIdeal.τ).loc Cert.PrepReferenceIdeal.main_arg13) = m ((c.tc : Thread Cert.PrepIdeal.nD Cert.PrepIdeal.τ).loc Cert.PrepIdeal.main_arg13)) →
    ∃ (v0 : (c : Dev Cert.PrepIdeal.nD) → Buf (Elt Ideal) ((c.tc : Thread Cert.PrepIdeal.nD Cert.PrepIdeal.τ).loc Cert.PrepIdeal.main_v114_2)) (v1 : (c : Dev Cert.PrepIdeal.nD) → Buf (Elt Ideal) ((c.tc : Thread Cert.PrepIdeal.nD Cert.PrepIdeal.τ).loc Cert.PrepIdeal.main_v114_4)) (v2 : (c : Dev Cert.PrepIdeal.nD) → Buf (Elt Ideal) ((c.tc : Thread Cert.PrepIdeal.nD Cert.PrepIdeal.τ).loc Cert.PrepIdeal.main_v114_5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v114_2) = v0 c
          ∧ r.2.mem ((c.tc : Thread Cert.PrepIdeal.nD Cert.PrepIdeal.τ).loc Cert.PrepIdeal.main_v114_4) = v1 c
          ∧ r.2.mem ((c.tc : Thread Cert.PrepIdeal.nD Cert.PrepIdeal.τ).loc Cert.PrepIdeal.main_v114_5) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
          ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
          ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
          ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
          ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v60) = v0 c
          ∧ r.2.mem ((c.tc : Thread Cert.PrepReferenceIdeal.nD Cert.PrepReferenceIdeal.τ).loc Cert.PrepReferenceIdeal.main_v61) = v1 c
          ∧ r.2.mem ((c.tc : Thread Cert.PrepReferenceIdeal.nD Cert.PrepReferenceIdeal.τ).loc Cert.PrepReferenceIdeal.main_v59) = v2 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5)
          ∧ r.2.mem ((c.tc : Thread Cert.PrepReferenceIdeal.nD Cert.PrepReferenceIdeal.τ).loc Cert.PrepReferenceIdeal.main_arg6) = m' ((c.tc : Thread Cert.PrepReferenceIdeal.nD Cert.PrepReferenceIdeal.τ).loc Cert.PrepReferenceIdeal.main_arg6)
          ∧ r.2.mem ((c.tc : Thread Cert.PrepReferenceIdeal.nD Cert.PrepReferenceIdeal.τ).loc Cert.PrepReferenceIdeal.main_arg7) = m' ((c.tc : Thread Cert.PrepReferenceIdeal.nD Cert.PrepReferenceIdeal.τ).loc Cert.PrepReferenceIdeal.main_arg7)
          ∧ r.2.mem ((c.tc : Thread Cert.PrepReferenceIdeal.nD Cert.PrepReferenceIdeal.τ).loc Cert.PrepReferenceIdeal.main_arg8) = m' ((c.tc : Thread Cert.PrepReferenceIdeal.nD Cert.PrepReferenceIdeal.τ).loc Cert.PrepReferenceIdeal.main_arg8)
          ∧ r.2.mem ((c.tc : Thread Cert.PrepReferenceIdeal.nD Cert.PrepReferenceIdeal.τ).loc Cert.PrepReferenceIdeal.main_arg9) = m' ((c.tc : Thread Cert.PrepReferenceIdeal.nD Cert.PrepReferenceIdeal.τ).loc Cert.PrepReferenceIdeal.main_arg9)
          ∧ r.2.mem ((c.tc : Thread Cert.PrepReferenceIdeal.nD Cert.PrepReferenceIdeal.τ).loc Cert.PrepReferenceIdeal.main_arg10) = m' ((c.tc : Thread Cert.PrepReferenceIdeal.nD Cert.PrepReferenceIdeal.τ).loc Cert.PrepReferenceIdeal.main_arg10)
          ∧ r.2.mem ((c.tc : Thread Cert.PrepReferenceIdeal.nD Cert.PrepReferenceIdeal.τ).loc Cert.PrepReferenceIdeal.main_arg11) = m' ((c.tc : Thread Cert.PrepReferenceIdeal.nD Cert.PrepReferenceIdeal.τ).loc Cert.PrepReferenceIdeal.main_arg11)
          ∧ r.2.mem ((c.tc : Thread Cert.PrepReferenceIdeal.nD Cert.PrepReferenceIdeal.τ).loc Cert.PrepReferenceIdeal.main_arg12) = m' ((c.tc : Thread Cert.PrepReferenceIdeal.nD Cert.PrepReferenceIdeal.τ).loc Cert.PrepReferenceIdeal.main_arg12)
          ∧ r.2.mem ((c.tc : Thread Cert.PrepReferenceIdeal.nD Cert.PrepReferenceIdeal.τ).loc Cert.PrepReferenceIdeal.main_arg13) = m' ((c.tc : Thread Cert.PrepReferenceIdeal.nD Cert.PrepReferenceIdeal.τ).loc Cert.PrepReferenceIdeal.main_arg13))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfnCtx : Cert.FfnCtx.Facts) (hFfnCtxIdeal : Cert.FfnCtxIdeal.Facts) (hFfnCtxReferenceIdeal : Cert.FfnCtxReferenceIdeal.Facts) (hMod : Cert.Mod.Facts) (hModIdeal : Cert.ModIdeal.Facts) (hModReferenceIdeal : Cert.ModReferenceIdeal.Facts) (hModAb : Cert.ModAb.Facts) (hModAbIdeal : Cert.ModAbIdeal.Facts) (hModAbReferenceIdeal : Cert.ModAbReferenceIdeal.Facts) (hOut : Cert.Out.Facts) (hOutIdeal : Cert.OutIdeal.Facts) (hOutReferenceIdeal : Cert.OutReferenceIdeal.Facts) (hCdOut : Cert.CdOut.Facts) (hCdOutIdeal : Cert.CdOutIdeal.Facts) (hCdOutReferenceIdeal : Cert.CdOutReferenceIdeal.Facts) (hWindow : Cert.Window.Facts) (hWindowIdeal : Cert.WindowIdeal.Facts) (hWindowReferenceIdeal : Cert.WindowReferenceIdeal.Facts) (hPrep : Cert.Prep.Facts) (hPrepIdeal : Cert.PrepIdeal.Facts) (hPrepReferenceIdeal : Cert.PrepReferenceIdeal.Facts) (hPre_finite_scores : Cert.Pre_finite_scores.Facts) (hPre_finite_heads : Cert.Pre_finite_heads.Facts) (hPre_finite_windows : Cert.Pre_finite_windows.Facts) (hPre_finite_ranks : Cert.Pre_finite_ranks.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnCtx (hFfnCtx := hFfnCtx)
    ∧ quiescent_FfnCtxIdeal (hFfnCtxIdeal := hFfnCtxIdeal)
    ∧ quiescent_FfnCtxReferenceIdeal (hFfnCtxReferenceIdeal := hFfnCtxReferenceIdeal)
    ∧ quiescent_Mod (hMod := hMod)
    ∧ quiescent_ModIdeal (hModIdeal := hModIdeal)
    ∧ quiescent_ModReferenceIdeal (hModReferenceIdeal := hModReferenceIdeal)
    ∧ quiescent_ModAb (hModAb := hModAb)
    ∧ quiescent_ModAbIdeal (hModAbIdeal := hModAbIdeal)
    ∧ quiescent_ModAbReferenceIdeal (hModAbReferenceIdeal := hModAbReferenceIdeal)
    ∧ quiescent_Out (hOut := hOut)
    ∧ quiescent_OutIdeal (hOutIdeal := hOutIdeal)
    ∧ quiescent_OutReferenceIdeal (hOutReferenceIdeal := hOutReferenceIdeal)
    ∧ quiescent_CdOut (hCdOut := hCdOut)
    ∧ quiescent_CdOutIdeal (hCdOutIdeal := hCdOutIdeal)
    ∧ quiescent_CdOutIdeal_pre_finite_heads (hCdOutIdeal := hCdOutIdeal) (hPre_finite_heads := hPre_finite_heads)
    ∧ quiescent_CdOutReferenceIdeal (hCdOutReferenceIdeal := hCdOutReferenceIdeal)
    ∧ quiescent_CdOutReferenceIdeal_pre_finite_heads (hCdOutReferenceIdeal := hCdOutReferenceIdeal) (hPre_finite_heads := hPre_finite_heads)
    ∧ quiescent_Window (hWindow := hWindow)
    ∧ quiescent_WindowIdeal (hWindowIdeal := hWindowIdeal)
    ∧ quiescent_WindowIdeal_pre_finite_windows (hWindowIdeal := hWindowIdeal) (hPre_finite_windows := hPre_finite_windows)
    ∧ quiescent_WindowReferenceIdeal (hWindowReferenceIdeal := hWindowReferenceIdeal)
    ∧ quiescent_WindowReferenceIdeal_pre_finite_windows (hWindowReferenceIdeal := hWindowReferenceIdeal) (hPre_finite_windows := hPre_finite_windows)
    ∧ quiescent_Prep (hPrep := hPrep)
    ∧ quiescent_PrepIdeal (hPrepIdeal := hPrepIdeal)
    ∧ quiescent_PrepIdeal_pre_finite_ranks (hPrepIdeal := hPrepIdeal) (hPre_finite_ranks := hPre_finite_ranks)
    ∧ quiescent_PrepReferenceIdeal (hPrepReferenceIdeal := hPrepReferenceIdeal)
    ∧ quiescent_PrepReferenceIdeal_pre_finite_ranks (hPrepReferenceIdeal := hPrepReferenceIdeal) (hPre_finite_ranks := hPre_finite_ranks)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnReferenceIdeal (hFfnIdeal := hFfnIdeal) (hFfnReferenceIdeal := hFfnReferenceIdeal)
    ∧ preserves_FfnCtx_FfnCtxIdeal
    ∧ algebraic_FfnCtxIdeal_FfnCtxReferenceIdeal (hFfnCtxIdeal := hFfnCtxIdeal) (hFfnCtxReferenceIdeal := hFfnCtxReferenceIdeal)
    ∧ preserves_Mod_ModIdeal
    ∧ algebraic_ModIdeal_ModReferenceIdeal (hModIdeal := hModIdeal) (hModReferenceIdeal := hModReferenceIdeal)
    ∧ preserves_ModAb_ModAbIdeal
    ∧ algebraic_ModAbIdeal_ModAbReferenceIdeal (hModAbIdeal := hModAbIdeal) (hModAbReferenceIdeal := hModAbReferenceIdeal)
    ∧ preserves_Out_OutIdeal
    ∧ algebraic_OutIdeal_OutReferenceIdeal (hOutIdeal := hOutIdeal) (hOutReferenceIdeal := hOutReferenceIdeal)
    ∧ preserves_CdOut_CdOutIdeal
    ∧ algebraic_CdOutIdeal_CdOutReferenceIdeal_pre_finite_heads (hCdOutIdeal := hCdOutIdeal) (hCdOutReferenceIdeal := hCdOutReferenceIdeal) (hPre_finite_heads := hPre_finite_heads)
    ∧ preserves_Window_WindowIdeal
    ∧ algebraic_WindowIdeal_WindowReferenceIdeal_pre_finite_windows (hWindowIdeal := hWindowIdeal) (hWindowReferenceIdeal := hWindowReferenceIdeal) (hPre_finite_windows := hPre_finite_windows)
    ∧ preserves_Prep_PrepIdeal
    ∧ algebraic_PrepIdeal_PrepReferenceIdeal_pre_finite_ranks (hPrepIdeal := hPrepIdeal) (hPrepReferenceIdeal := hPrepReferenceIdeal) (hPre_finite_ranks := hPre_finite_ranks)
-- ==== Pre_finite_heads.lean ====
abbrev S8x2304x1024 : Shape := ⟨3, ![8, 2304, 1024]⟩
abbrev S8x2x1024 : Shape := ⟨3, ![8, 2, 1024]⟩
abbrev S8x2304x512 : Shape := ⟨3, ![8, 2304, 512]⟩
abbrev S8x64 : Shape := ⟨2, ![8, 64]⟩
abbrev S512 : Shape := ⟨1, ![512]⟩
abbrev S128 : Shape := ⟨1, ![128]⟩
abbrev S1024x1024 : Shape := ⟨2, ![1024, 1024]⟩
abbrev S_ : Shape := ⟨0, ![]⟩

class Facts : Prop where
  bcast_S_S8x2304x512 : S_.BroadcastsInDim S8x2304x512 (![] : Fin 0 → Fin S8x2304x512.rank)
  reducesTo_S8x2304x512_S_d0_1_2 : S8x2304x512.ReducesTo [0, 1, 2] S_
  h_S_ : 0 < S_.numel
  bcast_S_S8x64 : S_.BroadcastsInDim S8x64 (![] : Fin 0 → Fin S8x64.rank)
  reducesTo_S8x64_S_d0_1 : S8x64.ReducesTo [0, 1] S_

variable [Facts]

def fn_part2 {F : FTy → Type} [FloatOps F] (main_arg10 : FVec F S8x2304x512 .f32) (main_arg12 : FVec F S8x64 .f32) (main_v33 : IVec S_ 1) : IVec S_ 1 :=
  let main_v34 : FVec F S8x2304x512 .f32 := Host.absf main_arg10
  let main_cst_12 : FVec F S_ .f32 := constant S_ .f32 0x7F800000#32
  let main_v35 : FVec F S8x2304x512 .f32 := broadcastInDim S8x2304x512 ![] bcast_S_S8x2304x512 main_cst_12
  let main_v36 : IVec S8x2304x512 1 := cmpf .olt main_v34 main_v35
  let main_c_13 : IVec S_ 1 := constantI S_ 1 1#1
  let main_v37 : IVec S_ 1 := (fun x v => Host.reduce IntOp.andi x v reducesTo_S8x2304x512_S_d0_1_2 h_S_) main_v36 main_c_13
  let main_v38 : IVec S_ 1 := andi main_v33 main_v37
  let main_v39 : FVec F S8x64 .f32 := Host.absf main_arg12
  let main_cst_14 : FVec F S_ .f32 := constant S_ .f32 0x7F800000#32
  let main_v40 : FVec F S8x64 .f32 := broadcastInDim S8x64 ![] bcast_S_S8x64 main_cst_14
  let main_v41 : IVec S8x64 1 := cmpf .olt main_v39 main_v40
  let main_c_15 : IVec S_ 1 := constantI S_ 1 1#1
  let main_v42 : IVec S_ 1 := (fun x v => Host.reduce IntOp.andi x v reducesTo_S8x64_S_d0_1 h_S_) main_v41 main_c_15
  let main_v43 : IVec S_ 1 := andi main_v38 main_v42
  main_v43

def fn_part1 {F : FTy → Type} [FloatOps F] (main_arg6 : FVec F S8x2304x512 .f32) (main_arg7 : FVec F S8x2304x512 .f32) (main_arg9 : FVec F S8x2304x512 .f32) (main_arg10 : FVec F S8x2304x512 .f32) (main_arg12 : FVec F S8x64 .f32) (main_v13 : IVec S_ 1) (main_v16 : IVec S8x2304x512 1) : IVec S_ 1 :=
  let main_c_5 : IVec S_ 1 := constantI S_ 1 1#1
  let main_v17 : IVec S_ 1 := (fun x v => Host.reduce IntOp.andi x v reducesTo_S8x2304x512_S_d0_1_2 h_S_) main_v16 main_c_5
  let main_v18 : IVec S_ 1 := andi main_v13 main_v17
  let main_v19 : FVec F S8x2304x512 .f32 := Host.absf main_arg6
  let main_cst_6 : FVec F S_ .f32 := constant S_ .f32 0x7F800000#32
  let main_v20 : FVec F S8x2304x512 .f32 := broadcastInDim S8x2304x512 ![] bcast_S_S8x2304x512 main_cst_6
  let main_v21 : IVec S8x2304x512 1 := cmpf .olt main_v19 main_v20
  let main_c_7 : IVec S_ 1 := constantI S_ 1 1#1
  let main_v22 : IVec S_ 1 := (fun x v => Host.reduce IntOp.andi x v reducesTo_S8x2304x512_S_d0_1_2 h_S_) main_v21 main_c_7
  let main_v23 : IVec S_ 1 := andi main_v18 main_v22
  let main_v24 : FVec F S8x2304x512 .f32 := Host.absf main_arg7
  let main_cst_8 : FVec F S_ .f32 := constant S_ .f32 0x7F800000#32
  let main_v25 : FVec F S8x2304x512 .f32 := broadcastInDim S8x2304x512 ![] bcast_S_S8x2304x512 main_cst_8
  let main_v26 : IVec S8x2304x512 1 := cmpf .olt main_v24 main_v25
  let main_c_9 : IVec S_ 1 := constantI S_ 1 1#1
  let main_v27 : IVec S_ 1 := (fun x v => Host.reduce IntOp.andi x v reducesTo_S8x2304x512_S_d0_1_2 h_S_) main_v26 main_c_9
  let main_v28 : IVec S_ 1 := andi main_v23 main_v27
  let main_v29 : FVec F S8x2304x512 .f32 := Host.absf main_arg9
  let main_cst_10 : FVec F S_ .f32 := constant S_ .f32 0x7F800000#32
  let main_v30 : FVec F S8x2304x512 .f32 := broadcastInDim S8x2304x512 ![] bcast_S_S8x2304x512 main_cst_10
  let main_v31 : IVec S8x2304x512 1 := cmpf .olt main_v29 main_v30
  let main_c_11 : IVec S_ 1 := constantI S_ 1 1#1
  let main_v32 : IVec S_ 1 := (fun x v => Host.reduce IntOp.andi x v reducesTo_S8x2304x512_S_d0_1_2 h_S_) main_v31 main_c_11
  let main_v33 : IVec S_ 1 := andi main_v28 main_v32
  fn_part2 (F := F) main_arg10 main_arg12 main_v33

def fn {F : FTy → Type} [FloatOps F] (main_arg0 : FVec F S8x2304x1024 .f32) (main_arg1 : FVec F S8x2x1024 .f32) (main_arg2 : FVec F S8x2304x512 .f32) (main_arg3 : FVec F S8x2304x512 .f32) (main_arg4 : FVec F S8x2304x512 .f32) (main_arg5 : FVec F S8x2304x512 .f32) (main_arg6 : FVec F S8x2304x512 .f32) (main_arg7 : FVec F S8x2304x512 .f32) (main_arg8 : FVec F S8x2304x512 .f32) (main_arg9 : FVec F S8x2304x512 .f32) (main_arg10 : FVec F S8x2304x512 .f32) (main_arg11 : FVec F S8x2304x512 .f32) (main_arg12 : FVec F S8x64 .f32) (main_arg13 : FVec F S512 .f32) (main_arg14 : FVec F S512 .f32) (main_arg15 : FVec F S128 .f32) (main_arg16 : FVec F S1024x1024 .f32) : IVec S_ 1 :=
  let main_v0 : FVec F S8x2304x512 .f32 := Host.absf main_arg2
  let main_cst : FVec F S_ .f32 := constant S_ .f32 0x7F800000#32
  let main_v1 : FVec F S8x2304x512 .f32 := broadcastInDim S8x2304x512 ![] bcast_S_S8x2304x512 main_cst
  let main_v2 : IVec S8x2304x512 1 := cmpf .olt main_v0 main_v1
  let main_c : IVec S_ 1 := constantI S_ 1 1#1
  let main_v3 : IVec S_ 1 := (fun x v => Host.reduce IntOp.andi x v reducesTo_S8x2304x512_S_d0_1_2 h_S_) main_v2 main_c
  let main_v4 : FVec F S8x2304x512 .f32 := Host.absf main_arg3
  let main_cst_0 : FVec F S_ .f32 := constant S_ .f32 0x7F800000#32
  let main_v5 : FVec F S8x2304x512 .f32 := broadcastInDim S8x2304x512 ![] bcast_S_S8x2304x512 main_cst_0
  let main_v6 : IVec S8x2304x512 1 := cmpf .olt main_v4 main_v5
  let main_c_1 : IVec S_ 1 := constantI S_ 1 1#1
  let main_v7 : IVec S_ 1 := (fun x v => Host.reduce IntOp.andi x v reducesTo_S8x2304x512_S_d0_1_2 h_S_) main_v6 main_c_1
  let main_v8 : IVec S_ 1 := andi main_v3 main_v7
  let main_v9 : FVec F S8x2304x512 .f32 := Host.absf main_arg4
  let main_cst_2 : FVec F S_ .f32 := constant S_ .f32 0x7F800000#32
  let main_v10 : FVec F S8x2304x512 .f32 := broadcastInDim S8x2304x512 ![] bcast_S_S8x2304x512 main_cst_2
  let main_v11 : IVec S8x2304x512 1 := cmpf .olt main_v9 main_v10
  let main_c_3 : IVec S_ 1 := constantI S_ 1 1#1
  let main_v12 : IVec S_ 1 := (fun x v => Host.reduce IntOp.andi x v reducesTo_S8x2304x512_S_d0_1_2 h_S_) main_v11 main_c_3
  let main_v13 : IVec S_ 1 := andi main_v8 main_v12
  let main_v14 : FVec F S8x2304x512 .f32 := Host.absf main_arg5
  let main_cst_4 : FVec F S_ .f32 := constant S_ .f32 0x7F800000#32
  let main_v15 : FVec F S8x2304x512 .f32 := broadcastInDim S8x2304x512 ![] bcast_S_S8x2304x512 main_cst_4
  let main_v16 : IVec S8x2304x512 1 := cmpf .olt main_v14 main_v15
  fn_part1 (F := F) main_arg6 main_arg7 main_arg9 main_arg10 main_arg12 main_v13 main_v16
-- ==== Pre_finite_ranks.lean ====
abbrev S8x2304x1536 : Shape := ⟨3, ![8, 2304, 1536]⟩
abbrev S2304 : Shape := ⟨1, ![2304]⟩
abbrev S64 : Shape := ⟨1, ![64]⟩
abbrev S256 : Shape := ⟨1, ![256]⟩
abbrev S256x768 : Shape := ⟨2, ![256, 768]⟩
abbrev S256x512 : Shape := ⟨2, ![256, 512]⟩
abbrev S32 : Shape := ⟨1, ![32]⟩
abbrev S_ : Shape := ⟨0, ![]⟩

class Facts : Prop where
  bcast_S_S8x2304x1536 : S_.BroadcastsInDim S8x2304x1536 (![] : Fin 0 → Fin S8x2304x1536.rank)
  reducesTo_S8x2304x1536_S_d0_1_2 : S8x2304x1536.ReducesTo [0, 1, 2] S_
  h_S_ : 0 < S_.numel
  bcast_S_S256 : S_.BroadcastsInDim S256 (![] : Fin 0 → Fin S256.rank)
  reducesTo_S256_S_d0 : S256.ReducesTo [0] S_
  bcast_S_S256x768 : S_.BroadcastsInDim S256x768 (![] : Fin 0 → Fin S256x768.rank)
  reducesTo_S256x768_S_d0_1 : S256x768.ReducesTo [0, 1] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg8 : FVec F S256x512 .f32) (main_v13 : IVec S_ 1) (main_v16 : IVec S256x768 1) : IVec S_ 1 :=
  let main_c_5 : IVec S_ 1 := constantI S_ 1 1#1
  let main_v17 : IVec S_ 1 := (fun x v => Host.reduce IntOp.andi x v reducesTo_S256x768_S_d0_1 h_S_) main_v16 main_c_5
  let main_v18 : IVec S_ 1 := andi main_v13 main_v17
  let main_v19 : FVec F S256x512 .f32 := Host.absf main_arg8
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  main_v23

def fn {F : FTy → Type} [FloatOps F] (main_arg0 : FVec F S8x2304x1536 .f32) (main_arg1 : IVec S2304 32) (main_arg2 : IVec S2304 32) (main_arg3 : FVec F S64 .f32) (main_arg4 : FVec F S64 .f32) (main_arg5 : FVec F S256 .f32) (main_arg6 : FVec F S256 .f32) (main_arg7 : FVec F S256x768 .f32) (main_arg8 : FVec F S256x512 .f32) (main_arg9 : FVec F S256x512 .f32) (main_arg10 : FVec F S64 .f32) (main_arg11 : FVec F S32 .f32) (main_arg12 : FVec F S64 .f32) (main_arg13 : FVec F S32 .f32) : IVec S_ 1 :=
  let main_v0 : FVec F S8x2304x1536 .f32 := Host.absf main_arg0
  let main_cst : FVec F S_ .f32 := constant S_ .f32 0x7F800000#32
  let main_v1 : FVec F S8x2304x1536 .f32 := broadcastInDim S8x2304x1536 ![] bcast_S_S8x2304x1536 main_cst
  let main_v2 : IVec S8x2304x1536 1 := cmpf .olt main_v0 main_v1
  let main_c : IVec S_ 1 := constantI S_ 1 1#1
  let main_v3 : IVec S_ 1 := (fun x v => Host.reduce IntOp.andi x v reducesTo_S8x2304x1536_S_d0_1_2 h_S_) main_v2 main_c
  let main_v4 : FVec F S256 .f32 := Host.absf main_arg5
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg6
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x768 .f32 := Host.absf main_arg7
  let main_cst_4 : FVec F S_ .f32 := constant S_ .f32 0x7F800000#32
  let main_v15 : FVec F S256x768 .f32 := broadcastInDim S256x768 ![] bcast_S_S256x768 main_cst_4
  let main_v16 : IVec S256x768 1 := cmpf .olt main_v14 main_v15
  fn_part1 (F := F) main_arg8 main_v13 main_v16
-- ==== Pre_finite_scores.lean ====
abbrev S8x8x2304x64 : Shape := ⟨4, ![8, 8, 2304, 64]⟩
abbrev S8x8x2304x32 : Shape := ⟨4, ![8, 8, 2304, 32]⟩
abbrev S8x1x2304x32 : Shape := ⟨4, ![8, 1, 2304, 32]⟩
abbrev S_ : Shape := ⟨0, ![]⟩

class Facts : Prop where
  bcast_S_S8x8x2304x64 : S_.BroadcastsInDim S8x8x2304x64 (![] : Fin 0 → Fin S8x8x2304x64.rank)
  reducesTo_S8x8x2304x64_S_d0_1_2_3 : S8x8x2304x64.ReducesTo [0, 1, 2, 3] S_
  h_S_ : 0 < S_.numel
  bcast_S_S8x8x2304x32 : S_.BroadcastsInDim S8x8x2304x32 (![] : Fin 0 → Fin S8x8x2304x32.rank)
  reducesTo_S8x8x2304x32_S_d0_1_2_3 : S8x8x2304x32.ReducesTo [0, 1, 2, 3] S_
  bcast_S_S8x1x2304x32 : S_.BroadcastsInDim S8x1x2304x32 (![] : Fin 0 → Fin S8x1x2304x32.rank)
  reducesTo_S8x1x2304x32_S_d0_1_2_3 : S8x1x2304x32.ReducesTo [0, 1, 2, 3] S_

variable [Facts]

def fn_part1 {F : FTy → Type} [FloatOps F] (main_v13 : IVec S_ 1) (main_v16 : IVec S8x1x2304x32 1) : IVec S_ 1 :=
  let main_c_5 : IVec S_ 1 := constantI S_ 1 1#1
  let main_v17 : IVec S_ 1 := (fun x v => Host.reduce IntOp.andi x v reducesTo_S8x1x2304x32_S_d0_1_2_3 h_S_) main_v16 main_c_5
  let main_v18 : IVec S_ 1 := andi main_v13 main_v17
  main_v18

def fn {F : FTy → Type} [FloatOps F] (main_arg0 : FVec F S8x8x2304x64 .f32) (main_arg1 : FVec F S8x8x2304x32 .f32) (main_arg2 : FVec F S8x8x2304x64 .f32) (main_arg3 : FVec F S8x1x2304x32 .f32) (main_arg4 : FVec F S8x8x2304x64 .f32) : IVec S_ 1 :=
  let main_v0 : FVec F S8x8x2304x64 .f32 := Host.absf main_arg0
  let main_cst : FVec F S_ .f32 := constant S_ .f32 0x7F800000#32
  let main_v1 : FVec F S8x8x2304x64 .f32 := broadcastInDim S8x8x2304x64 ![] bcast_S_S8x8x2304x64 main_cst
  let main_v2 : IVec S8x8x2304x64 1 := cmpf .olt main_v0 main_v1
  let main_c : IVec S_ 1 := constantI S_ 1 1#1
  let main_v3 : IVec S_ 1 := (fun x v => Host.reduce IntOp.andi x v reducesTo_S8x8x2304x64_S_d0_1_2_3 h_S_) main_v2 main_c
  let main_v4 : FVec F S8x8x2304x32 .f32 := Host.absf main_arg1
  let main_cst_0 : FVec F S_ .f32 := constant S_ .f32 0x7F800000#32
  let main_v5 : FVec F S8x8x2304x32 .f32 := broadcastInDim S8x8x2304x32 ![] bcast_S_S8x8x2304x32 main_cst_0
  let main_v6 : IVec S8x8x2304x32 1 := cmpf .olt main_v4 main_v5
  let main_c_1 : IVec S_ 1 := constantI S_ 1 1#1
  let main_v7 : IVec S_ 1 := (fun x v => Host.reduce IntOp.andi x v reducesTo_S8x8x2304x32_S_d0_1_2_3 h_S_) main_v6 main_c_1
  let main_v8 : IVec S_ 1 := andi main_v3 main_v7
  let main_v9 : FVec F S8x8x2304x64 .f32 := Host.absf main_arg2
  let main_cst_2 : FVec F S_ .f32 := constant S_ .f32 0x7F800000#32
  let main_v10 : FVec F S8x8x2304x64 .f32 := broadcastInDim S8x8x2304x64 ![] bcast_S_S8x8x2304x64 main_cst_2
  let main_v11 : IVec S8x8x2304x64 1 := cmpf .olt main_v9 main_v10
  let main_c_3 : IVec S_ 1 := constantI S_ 1 1#1
  let main_v12 : IVec S_ 1 := (fun x v => Host.reduce IntOp.andi x v reducesTo_S8x8x2304x64_S_d0_1_2_3 h_S_) main_v11 main_c_3
  let main_v13 : IVec S_ 1 := andi main_v8 main_v12
  let main_v14 : FVec F S8x1x2304x32 .f32 := Host.absf main_arg3
  let main_cst_4 : FVec F S_ .f32 := constant S_ .f32 0x7F800000#32
  let main_v15 : FVec F S8x1x2304x32 .f32 := broadcastInDim S8x1x2304x32 ![] bcast_S_S8x1x2304x32 main_cst_4
  let main_v16 : IVec S8x1x2304x32 1 := cmpf .olt main_v14 main_v15
  fn_part1 (F := F) main_v13 main_v16
-- ==== Pre_finite_windows.lean ====
abbrev S8x8x2304x64 : Shape := ⟨4, ![8, 8, 2304, 64]⟩
abbrev S8x2x2304x64 : Shape := ⟨4, ![8, 2, 2304, 64]⟩
abbrev S8 : Shape := ⟨1, ![8]⟩
abbrev S_ : Shape := ⟨0, ![]⟩

class Facts : Prop where
  bcast_S_S8x8x2304x64 : S_.BroadcastsInDim S8x8x2304x64 (![] : Fin 0 → Fin S8x8x2304x64.rank)
  reducesTo_S8x8x2304x64_S_d0_1_2_3 : S8x8x2304x64.ReducesTo [0, 1, 2, 3] S_
  h_S_ : 0 < S_.numel
  bcast_S_S8x2x2304x64 : S_.BroadcastsInDim S8x2x2304x64 (![] : Fin 0 → Fin S8x2x2304x64.rank)
  reducesTo_S8x2x2304x64_S_d0_1_2_3 : S8x2x2304x64.ReducesTo [0, 1, 2, 3] S_
  bcast_S_S8 : S_.BroadcastsInDim S8 (![] : Fin 0 → Fin S8.rank)
  reducesTo_S8_S_d0 : S8.ReducesTo [0] S_

variable [Facts]

def fn {F : FTy → Type} [FloatOps F] (main_arg0 : FVec F S8x8x2304x64 .f32) (main_arg1 : FVec F S8x2x2304x64 .f32) (main_arg2 : FVec F S8x2x2304x64 .f32) (main_arg3 : FVec F S8 .f32) : IVec S_ 1 :=
  let main_v0 : FVec F S8x8x2304x64 .f32 := Host.absf main_arg0
  let main_cst : FVec F S_ .f32 := constant S_ .f32 0x7F800000#32
  let main_v1 : FVec F S8x8x2304x64 .f32 := broadcastInDim S8x8x2304x64 ![] bcast_S_S8x8x2304x64 main_cst
  let main_v2 : IVec S8x8x2304x64 1 := cmpf .olt main_v0 main_v1
  let main_c : IVec S_ 1 := constantI S_ 1 1#1
  let main_v3 : IVec S_ 1 := (fun x v => Host.reduce IntOp.andi x v reducesTo_S8x8x2304x64_S_d0_1_2_3 h_S_) main_v2 main_c
  let main_v4 : FVec F S8x2x2304x64 .f32 := Host.absf main_arg1
  let main_cst_0 : FVec F S_ .f32 := constant S_ .f32 0x7F800000#32
  let main_v5 : FVec F S8x2x2304x64 .f32 := broadcastInDim S8x2x2304x64 ![] bcast_S_S8x2x2304x64 main_cst_0
  let main_v6 : IVec S8x2x2304x64 1 := cmpf .olt main_v4 main_v5
  let main_c_1 : IVec S_ 1 := constantI S_ 1 1#1
  let main_v7 : IVec S_ 1 := (fun x v => Host.reduce IntOp.andi x v reducesTo_S8x2x2304x64_S_d0_1_2_3 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S8x8x2304x64 : Shape := ⟨4, ![8, 8, 2304, 64]⟩
abbrev S8x8x2304x32 : Shape := ⟨4, ![8, 8, 2304, 32]⟩
abbrev S8x1x2304x32 : Shape := ⟨4, ![8, 1, 2304, 32]⟩
abbrev S_ : Shape := ⟨0, ![]⟩
abbrev S8 : Shape := ⟨1, ![8]⟩
abbrev S8x1x1 : Shape := ⟨3, ![8, 1, 1]⟩
abbrev S8x2048x512 : Shape := ⟨3, ![8, 2048, 512]⟩
abbrev S1x2x256x64 : Shape := ⟨4, ![1, 2, 256, 64]⟩
abbrev S1x2x2304x64 : Shape := ⟨4, ![1, 2, 2304, 64]⟩
abbrev S1x2x256x32 : Shape := ⟨4, ![1, 2, 256, 32]⟩
abbrev S1x1x2304x32 : Shape := ⟨4, ![1, 1, 2304, 32]⟩
abbrev S2x1x1 : Shape := ⟨3, ![2, 1, 1]⟩
abbrev S1x256x128 : Shape := ⟨3, ![1, 256, 128]⟩
abbrev S1x1x256x64 : Shape := ⟨4, ![1, 1, 256, 64]⟩
abbrev S256x64 : Shape := ⟨2, ![256, 64]⟩
abbrev S1x1x2304x64 : Shape := ⟨4, ![1, 1, 2304, 64]⟩
abbrev S2304x64 : Shape := ⟨2, ![2304, 64]⟩
abbrev S256x2304 : Shape := ⟨2, ![256, 2304]⟩
abbrev S1x1x256x32 : Shape := ⟨4, ![1, 1, 256, 32]⟩
abbrev S256x32 : Shape := ⟨2, ![256, 32]⟩
abbrev S2304x32 : Shape := ⟨2, ![2304, 32]⟩
abbrev S256 : Shape := ⟨1, ![256]⟩
abbrev S256x1 : Shape := ⟨2, ![256, 1]⟩
abbrev S256x128 : Shape := ⟨2, ![256, 128]⟩

abbrev nBuf : Space → Nat
  | .hbm => 9
  | .vmem => 14
  | .smem => 0
  | _ => 0

abbrev bufTy : (tb : Table) → Fin (tcTables nBuf tb) → BufTy
  | .hbm, ⟨0, _⟩ => ⟨S8x8x2304x64, .f32⟩
  | .hbm, ⟨1, _⟩ => ⟨S8x8x2304x32, .f32⟩
  | .hbm, ⟨2, _⟩ => ⟨S8x8x2304x64, .f32⟩
  | .hbm, ⟨3, _⟩ => ⟨S8x1x2304x32, .f32⟩
  | .hbm, ⟨4, _⟩ => ⟨S8x8x2304x64, .f32⟩
  | .hbm, ⟨5, _⟩ => ⟨S_, .f32⟩
  | .hbm, ⟨6, _⟩ => ⟨S8, .f32⟩
  | .hbm, ⟨7, _⟩ => ⟨S8x1x1, .f32⟩
  | .hbm, ⟨8, _⟩ => ⟨S8x2048x512, .f32⟩
  | .local _ .vmem, ⟨0, _⟩ => ⟨S1x2x256x64, .f32⟩
  | .local _ .vmem, ⟨1, _⟩ => ⟨S1x2x256x64, .f32⟩
  | .local _ .vmem, ⟨2, _⟩ => ⟨S1x2x2304x64, .f32⟩
  | .local _ .vmem, ⟨3, _⟩ => ⟨S1x2x2304x64, .f32⟩
  | .local _ .vmem, ⟨4, _⟩ => ⟨S1x2x256x32, .f32⟩
  | .local _ .vmem, ⟨5, _⟩ => ⟨S1x2x256x32, .f32⟩
  | .local _ .vmem, ⟨6, _⟩ => ⟨S1x1x2304x32, .f32⟩
  | .local _ .vmem, ⟨7, _⟩ => ⟨S1x1x2304x32, .f32⟩
  | .local _ .vmem, ⟨8, _⟩ => ⟨S1x2x2304x64, .f32⟩
  | .local _ .vmem, ⟨9, _⟩ => ⟨S1x2x2304x64, .f32⟩
  | .local _ .vmem, ⟨10, _⟩ => ⟨S2x1x1, .f32⟩
  | .local _ .vmem, ⟨11, _⟩ => ⟨S2x1x1, .f32⟩
  | .local _ .vmem, ⟨12, _⟩ => ⟨S1x256x128, .f32⟩
  | .local _ .vmem, ⟨13, _⟩ => ⟨S1x256x128, .f32⟩
  | _, _ => ⟨S8x8x2304x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c0_i32_0 : BitVec 32 := 0#32
  ![arg0.toNat, arg1.toNat, v0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c2_i32_0 : BitVec 32 := 2#32
  let v1 : BitVec 32 := Scalar.divsi v0 c2_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![arg0.toNat, v17.toNat, c0_i32_5.toNat, c0_i32_6.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c0_i32_0 : BitVec 32 := 0#32
  ![arg0.toNat, arg1.toNat, v0.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c2_i32_0 : BitVec 32 := 2#32
  let v1 : BitVec 32 := Scalar.divsi v0 c2_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![arg0.toNat, v17.toNat, c0_i32_5.toNat, c0_i32_6.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x2304x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x2304x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x2x2304x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S8x8x2304x64 : Shape := ⟨4, ![8, 8, 2304, 64]⟩
abbrev S8x8x2304x32 : Shape := ⟨4, ![8, 8, 2304, 32]⟩
abbrev S8x1x2304x32 : Shape := ⟨4, ![8, 1, 2304, 32]⟩
abbrev S8x8x2048x64 : Shape := ⟨4, ![8, 8, 2048, 64]⟩
abbrev S8x8x2048x32 : Shape := ⟨4, ![8, 8, 2048, 32]⟩
abbrev S8x8x2048x2304 : Shape := ⟨4, ![8, 8, 2048, 2304]⟩
abbrev S8x2304x32 : Shape := ⟨3, ![8, 2304, 32]⟩
abbrev S_ : Shape := ⟨0, ![]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩
abbrev S8x2048x8x64 : Shape := ⟨4, ![8, 2048, 8, 64]⟩
abbrev S8x2048x512 : Shape := ⟨3, ![8, 2048, 512]⟩

abbrev nBuf : Space → Nat
  | .hbm => 31
  | .vmem => 0
  | .smem => 0
  | _ => 0

abbrev bufTy : (tb : Table) → Fin (tcTables nBuf tb) → BufTy
  | .hbm, ⟨0, _⟩ => ⟨S8x8x2304x64, .f32⟩
  | .hbm, ⟨1, _⟩ => ⟨S8x8x2304x32, .f32⟩
  | .hbm, ⟨2, _⟩ => ⟨S8x8x2304x64, .f32⟩
  | .hbm, ⟨3, _⟩ => ⟨S8x1x2304x32, .f32⟩
  | .hbm, ⟨4, _⟩ => ⟨S8x8x2304x64, .f32⟩
  | .hbm, ⟨5, _⟩ => ⟨S8x8x2048x64, .f32⟩
  | .hbm, ⟨6, _⟩ => ⟨S8x8x2048x32, .f32⟩
  | .hbm, ⟨7, _⟩ => ⟨S8x8x2048x2304, .f32⟩
  | .hbm, ⟨8, _⟩ => ⟨S8x2304x32, .f32⟩
  | .hbm, ⟨9, _⟩ => ⟨S8x8x2048x2304, .f32⟩
  | .hbm, ⟨10, _⟩ => ⟨S8x8x2048x2304, .f32⟩
  | .hbm, ⟨11, _⟩ => ⟨S_, .f32⟩
  | .hbm, ⟨12, _⟩ => ⟨S8x8x2048x2304, .f32⟩
  | .hbm, ⟨13, _⟩ => ⟨S8x8x2048x2304, .f32⟩
  | .hbm, ⟨14, _⟩ => ⟨S_, .f32⟩
  | .hbm, ⟨15, _⟩ => ⟨S8x8x2048, .f32⟩
  | .hbm, ⟨16, _⟩ => ⟨S_, .f32⟩
  | .hbm, ⟨17, _⟩ => ⟨S8x8x2048, .f32⟩
  | .hbm, ⟨18, _⟩ => ⟨S8x8x2048, .f32⟩
  | .hbm, ⟨19, _⟩ => ⟨S8x8x2048x1, .f32⟩
  | .hbm, ⟨20, _⟩ => ⟨S8x8x2048x2304, .f32⟩
  | .hbm, ⟨21, _⟩ => ⟨S8x8x2048x2304, .f32⟩
  | .hbm, ⟨22, _⟩ => ⟨S8x8x2048x2304, .f32⟩
  | .hbm, ⟨23, _⟩ => ⟨S_, .f32⟩
  | .hbm, ⟨24, _⟩ => ⟨S8x8x2048, .f32⟩
  | .hbm, ⟨25, _⟩ => ⟨S8x8x2048x1, .f32⟩
  | .hbm, ⟨26, _⟩ => ⟨S8x8x2048x2304, .f32⟩
  | .hbm, ⟨27, _⟩ => ⟨S8x8x2048x2304, .f32⟩
  | .hbm, ⟨28, _⟩ => ⟨S8x8x64x2048, .f32⟩
  | .hbm, ⟨29, _⟩ => ⟨S8x2048x8x64, .f32⟩
  | .hbm, ⟨30, _⟩ => ⟨S8x2048x512, .f32⟩
  | _, _ => ⟨S8x8x2304x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Ffn.lean ====
abbrev S8x2048x1024 : Shape := ⟨3, ![8, 2048, 1024]⟩
abbrev S8x2x1024 : Shape := ⟨3, ![8, 2, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x2x1x1024 : Shape := ⟨4, ![8, 2, 1, 1024]⟩
abbrev S1x5632 : Shape := ⟨2, ![1, 5632]⟩
abbrev S1x8x1024 : Shape := ⟨3, ![1, 8, 1024]⟩
abbrev S1x256x1024 : Shape := ⟨3, ![1, 256, 1024]⟩
abbrev S1x1x1x1024 : Shape := ⟨4, ![1, 1, 1, 1024]⟩
abbrev S256x1024 : Shape := ⟨2, ![256, 1024]⟩
abbrev S8x1024 : Shape := ⟨2, ![8, 1024]⟩
abbrev S272x1024 : Shape := ⟨2, ![272, 1024]⟩
abbrev S1x1024 : Shape := ⟨2, ![1, 1024]⟩
abbrev S272 : Shape := ⟨1, ![272]⟩
abbrev S272x1 : Shape := ⟨2, ![272, 1]⟩
abbrev S1024x256 : Shape := ⟨2, ![1024, 256]⟩
abbrev S272x256 : Shape := ⟨2, ![272, 256]⟩
abbrev S3x256 : Shape := ⟨2, ![3, 256]⟩
abbrev S1x256 : Shape := ⟨2, ![1, 256]⟩
abbrev S256x256 : Shape := ⟨2, ![256, 256]⟩

abbrev nBuf : Space → Nat
  | .hbm => 15
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S8x2x1024, .f32⟩
  | .hbm, ⟨2, _⟩ => ⟨S8x2x1024, .f32⟩
  | .hbm, ⟨3, _⟩ => ⟨S8x2x1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S8x2x1x1024, .f32⟩
  | .hbm, ⟨9, _⟩ => ⟨S8x2x1x1024, .f32⟩
  | .hbm, ⟨10, _⟩ => ⟨S8x2x1x1024, .f32⟩
  | .hbm, ⟨11, _⟩ => ⟨S1024x5632, .bf16⟩
  | .hbm, ⟨12, _⟩ => ⟨S1x5632, .f32⟩
  | .hbm, ⟨13, _⟩ => ⟨S2816x1024, .bf16⟩
  | .hbm, ⟨14, _⟩ => ⟨S8x2048x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1024x5632, .bf16⟩
  | .local _ .vmem, ⟨13, _⟩ => ⟨S3x5632, .f32⟩
  | .local _ .vmem, ⟨14, _⟩ => ⟨S1x5632, .f32⟩
  | .local _ .vmem, ⟨15, _⟩ => ⟨S2816x1024, .bf16⟩
  | .local _ .vmem, ⟨16, _⟩ => ⟨S1x256x1024, .f32⟩
  | .local _ .vmem, ⟨17, _⟩ => ⟨S1x256x1024, .f32⟩
  | .local _ .vmem, ⟨18, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg1 c0_i32
  let c1_i32 : BitVec 32 := 1#32
  let c0_i32_0 : BitVec 32 := 0#32
  let v1 : BitVec 32 := Scalar.select v0 c1_i32 c0_i32_0
  let c0_i32_1 : BitVec 32 := 0#32
  let c0_i32_2 : BitVec 32 := 0#32
  let c0_i32_3 : BitVec 32 := 0#32
  ![arg0.toNat, v1.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg1 c0_i32
  let c1_i32 : BitVec 32 := 1#32
  let c0_i32_0 : BitVec 32 := 0#32
  let v1 : BitVec 32 := Scalar.select v0 c1_i32 c0_i32_0
  let c0_i32_1 : BitVec 32 := 0#32
  let c0_i32_2 : BitVec 32 := 0#32
  let c0_i32_3 : BitVec 32 := 0#32
  ![arg0.toNat, v1.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg1 c0_i32
  let c1_i32 : BitVec 32 := 1#32
  let c0_i32_0 : BitVec 32 := 0#32
  let v1 : BitVec 32 := Scalar.select v0 c1_i32 c0_i32_0
  let c0_i32_1 : BitVec 32 := 0#32
  let c0_i32_2 : BitVec 32 := 0#32
  let c0_i32_3 : BitVec 32 := 0#32
  ![arg0.toNat, v1.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnReferenceIdeal.lean ====
abbrev S8x2048x1024 : Shape := ⟨3, ![8, 2048, 1024]⟩
abbrev S8x2x1024 : Shape := ⟨3, ![8, 2, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩

abbrev nBuf : Space → Nat
  | .hbm => 74
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2x1024, .f32⟩
  | .hbm, ⟨2, _⟩ => ⟨S8x2x1024, .f32⟩
  | .hbm, ⟨3, _⟩ => ⟨S8x2x1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x5632, .f32⟩
  | .hbm, ⟨32, _⟩ => ⟨S_, .i32⟩
  | .hbm, ⟨33, _⟩ => ⟨S_, .f32⟩
  | .hbm, ⟨34, _⟩ => ⟨S8x2050x5632, .f32⟩
  | .hbm, ⟨35, _⟩ => ⟨S8x2048x5632, .f32⟩
  | .hbm, ⟨36, _⟩ => ⟨S1x5632, .f32⟩
  | .hbm, ⟨37, _⟩ => ⟨S5632, .f32⟩
  | .hbm, ⟨38, _⟩ => ⟨S1x1x5632, .f32⟩
  | .hbm, ⟨39, _⟩ => ⟨S8x2048x5632, .f32⟩
  | .hbm, ⟨40, _⟩ => ⟨S8x2048x5632, .f32⟩
  | .hbm, ⟨41, _⟩ => ⟨S8x2048x5632, .f32⟩
  | .hbm, ⟨42, _⟩ => ⟨S1x5632, .f32⟩
  | .hbm, ⟨43, _⟩ => ⟨S5632, .f32⟩
  | .hbm, ⟨44, _⟩ => ⟨S1x1x5632, .f32⟩
  | .hbm, ⟨45, _⟩ => ⟨S8x2048x5632, .f32⟩
  | .hbm, ⟨46, _⟩ => ⟨S8x2048x5632, .f32⟩
  | .hbm, ⟨47, _⟩ => ⟨S8x2048x5632, .f32⟩
  | .hbm, ⟨48, _⟩ => ⟨S8x2048x5632, .f32⟩
  | .hbm, ⟨49, _⟩ => ⟨S1x5632, .f32⟩
  | .hbm, ⟨50, _⟩ => ⟨S5632, .f32⟩
  | .hbm, ⟨51, _⟩ => ⟨S1x1x5632, .f32⟩
  | .hbm, ⟨52, _⟩ => ⟨S8x2048x5632, .f32⟩
  | .hbm, ⟨53, _⟩ => ⟨S8x2048x5632, .f32⟩
  | .hbm, ⟨54, _⟩ => ⟨S8x2048x5632, .f32⟩
  | .hbm, ⟨55, _⟩ => ⟨S1x1x5632, .f32⟩
  | .hbm, ⟨56, _⟩ => ⟨S8x2048x5632, .f32⟩
  | .hbm, ⟨57, _⟩ => ⟨S8x2048x5632, .f32⟩
  | .hbm, ⟨58, _⟩ => ⟨S8x2048x2816, .f32⟩
  | .hbm, ⟨59, _⟩ => ⟨S8x2048x2816, .f32⟩
  | .hbm, ⟨60, _⟩ => ⟨S8x2048x2816, .f32⟩
  | .hbm, ⟨61, _⟩ => ⟨S8x2048x2816, .f32⟩
  | .hbm, ⟨62, _⟩ => ⟨S_, .f32⟩
  | .hbm, ⟨63, _⟩ => ⟨S8x2048x2816, .f32⟩
  | .hbm, ⟨64, _⟩ => ⟨S8x2048x2816, .f32⟩
  | .hbm, ⟨65, _⟩ => ⟨S_, .f32⟩
  | .hbm, ⟨66, _⟩ => ⟨S8x2048x2816, .f32⟩
  | .hbm, ⟨67, _⟩ => ⟨S8x2048x2816, .f32⟩
  | .hbm, ⟨68, _⟩ => ⟨S8x2048x2816, .f32⟩
  | .hbm, ⟨69, _⟩ => ⟨S8x2048x2816, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== FfnCtx.lean ====
abbrev S8x2304x1024 : Shape := ⟨3, ![8, 2304, 1024]⟩
abbrev S8x2x1024 : Shape := ⟨3, ![8, 2, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x2x1x1024 : Shape := ⟨4, ![8, 2, 1, 1024]⟩
abbrev S1x5632 : Shape := ⟨2, ![1, 5632]⟩
abbrev S1x8x1024 : Shape := ⟨3, ![1, 8, 1024]⟩
abbrev S1x256x1024 : Shape := ⟨3, ![1, 256, 1024]⟩
abbrev S1x1x1x1024 : Shape := ⟨4, ![1, 1, 1, 1024]⟩
abbrev S256x1024 : Shape := ⟨2, ![256, 1024]⟩
abbrev S8x1024 : Shape := ⟨2, ![8, 1024]⟩
abbrev S272x1024 : Shape := ⟨2, ![272, 1024]⟩
abbrev S1x1024 : Shape := ⟨2, ![1, 1024]⟩
abbrev S272 : Shape := ⟨1, ![272]⟩
abbrev S272x1 : Shape := ⟨2, ![272, 1]⟩
abbrev S1024x256 : Shape := ⟨2, ![1024, 256]⟩
abbrev S272x256 : Shape := ⟨2, ![272, 256]⟩
abbrev S3x256 : Shape := ⟨2, ![3, 256]⟩
abbrev S1x256 : Shape := ⟨2, ![1, 256]⟩
abbrev S256x256 : Shape := ⟨2, ![256, 256]⟩

abbrev nBuf : Space → Nat
  | .hbm => 15
  | .vmem => 19
  | .smem => 0
  | _ => 0

abbrev bufTy : (tb : Table) → Fin (tcTables nBuf tb) → BufTy
  | .hbm, ⟨0, _⟩ => ⟨S8x2304x1024, .f32⟩
  | .hbm, ⟨1, _⟩ => ⟨S8x2x1024, .f32⟩
  | .hbm, ⟨2, _⟩ => ⟨S8x2x1024, .f32⟩
  | .hbm, ⟨3, _⟩ => ⟨S8x2x1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S8x2x1x1024, .f32⟩
  | .hbm, ⟨9, _⟩ => ⟨S8x2x1x1024, .f32⟩
  | .hbm, ⟨10, _⟩ => ⟨S8x2x1x1024, .f32⟩
  | .hbm, ⟨11, _⟩ => ⟨S1024x5632, .bf16⟩
  | .hbm, ⟨12, _⟩ => ⟨S1x5632, .f32⟩
  | .hbm, ⟨13, _⟩ => ⟨S2816x1024, .bf16⟩
  | .hbm, ⟨14, _⟩ => ⟨S8x2304x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1024x5632, .bf16⟩
  | .local _ .vmem, ⟨13, _⟩ => ⟨S3x5632, .f32⟩
  | .local _ .vmem, ⟨14, _⟩ => ⟨S1x5632, .f32⟩
  | .local _ .vmem, ⟨15, _⟩ => ⟨S2816x1024, .bf16⟩
  | .local _ .vmem, ⟨16, _⟩ => ⟨S1x256x1024, .f32⟩
  | .local _ .vmem, ⟨17, _⟩ => ⟨S1x256x1024, .f32⟩
  | .local _ .vmem, ⟨18, _⟩ => ⟨S256x1024, .f32⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c287_i32 : BitVec 32 := 287#32
  let v2 : BitVec 32 := Scalar.minsi v1 c287_i32
  let c0_i32 : BitVec 32 := 0#32
  let c0_i32_0 : BitVec 32 := 0#32
  ![arg0.toNat, v2.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnCtxReferenceIdeal.lean ====
abbrev S8x2304x1024 : Shape := ⟨3, ![8, 2304, 1024]⟩
abbrev S8x2x1024 : Shape := ⟨3, ![8, 2, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x256x1024 : Shape := ⟨3, ![8, 256, 1024]⟩
abbrev S8x1x1024 : Shape := ⟨3, ![8, 1, 1024]⟩
abbrev S_ : Shape := ⟨0, ![]⟩
abbrev S8x256 : Shape := ⟨2, ![8, 256]⟩
abbrev S8x256x1 : Shape := ⟨3, ![8, 256, 1]⟩
abbrev S8x256x5632 : Shape := ⟨3, ![8, 256, 5632]⟩
abbrev S8x258x5632 : Shape := ⟨3, ![8, 258, 5632]⟩
abbrev S1x5632 : Shape := ⟨2, ![1, 5632]⟩
abbrev S1x1x5632 : Shape := ⟨3, ![1, 1, 5632]⟩
abbrev S8x256x2816 : Shape := ⟨3, ![8, 256, 2816]⟩
abbrev S8x2048x1024 : Shape := ⟨3, ![8, 2048, 1024]⟩
abbrev S8x2048 : Shape := ⟨2, ![8, 2048]⟩
abbrev S8x2048x1 : Shape := ⟨3, ![8, 2048, 1]⟩
abbrev S8x2048x5632 : Shape := ⟨3, ![8, 2048, 5632]⟩
abbrev S8x2050x5632 : Shape := ⟨3, ![8, 2050, 5632]⟩
abbrev S8x2048x2816 : Shape := ⟨3, ![8, 2048, 2816]⟩

abbrev nBuf : Space → Nat
  | .hbm => 143
  | .vmem => 0
  | .smem => 0
  | _ => 0

abbrev hbmTy0_0 (i : Nat) : BufTy := match i % 128 with
  | 0 => ⟨S8x2304x1024, .f32⟩
  | 1 => ⟨S8x2x1024, .f32⟩
  | 2 => ⟨S8x2x1024, .f32⟩
  | 3 => ⟨S8x2x1024, .f32⟩
  | 4 => ⟨S1024x5632, .f32⟩
  | 5 => ⟨S3x5632, .f32⟩
  | 6 => ⟨S5632, .f32⟩
  | 7 => ⟨S2816x1024, .f32⟩
  | 8 => ⟨S8x256x1024, .f32⟩
  | 9 => ⟨S8x1x1024, .f32⟩
  | 10 => ⟨S8x1x1024, .f32⟩
  | 11 => ⟨S8x1x1024, .f32⟩
  | 12 => ⟨S8x256x1024, .f32⟩
  | 13 => ⟨S_, .f32⟩
  | 14 => ⟨S8x256, .f32⟩
  | 15 => ⟨S8x256x1, .f32⟩
  | 16 => ⟨S_, .f32⟩
  | 17 => ⟨S8x256x1, .f32⟩
  | 18 => ⟨S8x256x1, .f32⟩
  | 19 => ⟨S_, .f32⟩
  | 20 => ⟨S8x256x1, .f32⟩
  | 21 => ⟨S8x256x1, .f32⟩
  | 22 => ⟨S8x256x1, .f32⟩
  | 23 => ⟨S8x256x1024, .f32⟩
  | 24 => ⟨S8x256x1024, .f32⟩
  | 25 => ⟨S_, .f32⟩
  | 26 => ⟨S8x1x1024, .f32⟩
  | 27 => ⟨S8x1x1024, .f32⟩
  | 28 => ⟨S8x256x1024, .f32⟩
  | 29 => ⟨S8x256x1024, .f32⟩
  | 30 => ⟨S8x256x1024, .f32⟩
  | 31 => ⟨S8x256x1024, .f32⟩
  | 32 => ⟨S8x256x5632, .f32⟩
  | 33 => ⟨S_, .i32⟩
  | 34 => ⟨S_, .f32⟩
  | 35 => ⟨S8x258x5632, .f32⟩
  | 36 => ⟨S8x256x5632, .f32⟩
  | 37 => ⟨S1x5632, .f32⟩
  | 38 => ⟨S5632, .f32⟩
  | 39 => ⟨S1x1x5632, .f32⟩
  | 40 => ⟨S8x256x5632, .f32⟩
  | 41 => ⟨S8x256x5632, .f32⟩
  | 42 => ⟨S8x256x5632, .f32⟩
  | 43 => ⟨S1x5632, .f32⟩
  | 44 => ⟨S5632, .f32⟩
  | 45 => ⟨S1x1x5632, .f32⟩
  | 46 => ⟨S8x256x5632, .f32⟩
  | 47 => ⟨S8x256x5632, .f32⟩
  | 48 => ⟨S8x256x5632, .f32⟩
  | 49 => ⟨S8x256x5632, .f32⟩
  | 50 => ⟨S1x5632, .f32⟩
  | 51 => ⟨S5632, .f32⟩
  | 52 => ⟨S1x1x5632, .f32⟩
  | 53 => ⟨S8x256x5632, .f32⟩
  | 54 => ⟨S8x256x5632, .f32⟩
  | 55 => ⟨S8x256x5632, .f32⟩
  | 56 => ⟨S1x1x5632, .f32⟩
  | 57 => ⟨S8x256x5632, .f32⟩
  | 58 => ⟨S8x256x5632, .f32⟩
  | 59 => ⟨S8x256x2816, .f32⟩
  | 60 => ⟨S8x256x2816, .f32⟩
  | 61 => ⟨S8x256x2816, .f32⟩
  | 62 => ⟨S8x256x2816, .f32⟩
  | 63 => ⟨S_, .f32⟩
  | 64 => ⟨S8x256x2816, .f32⟩
  | 65 => ⟨S8x256x2816, .f32⟩
  | 66 => ⟨S_, .f32⟩
  | 67 => ⟨S8x256x2816, .f32⟩
  | 68 => ⟨S8x256x2816, .f32⟩
  | 69 => ⟨S8x256x2816, .f32⟩
  | 70 => ⟨S8x256x2816, .f32⟩
  | 71 => ⟨S8x256x1024, .f32⟩
  | 72 => ⟨S8x256x1024, .f32⟩
  | 73 => ⟨S8x256x1024, .f32⟩
  | 74 => ⟨S8x256x1024, .f32⟩
  | 75 => ⟨S8x2048x1024, .f32⟩
  | 76 => ⟨S8x1x1024, .f32⟩
  | 77 => ⟨S8x1x1024, .f32⟩
  | 78 => ⟨S8x1x1024, .f32⟩
  | 79 => ⟨S8x2048x1024, .f32⟩
  | 80 => ⟨S_, .f32⟩
  | 81 => ⟨S8x2048, .f32⟩
  | 82 => ⟨S8x2048x1, .f32⟩
  | 83 => ⟨S_, .f32⟩
  | 84 => ⟨S8x2048x1, .f32⟩
  | 85 => ⟨S8x2048x1, .f32⟩
  | 86 => ⟨S_, .f32⟩
  | 87 => ⟨S8x2048x1, .f32⟩
  | 88 => ⟨S8x2048x1, .f32⟩
  | 89 => ⟨S8x2048x1, .f32⟩
  | 90 => ⟨S8x2048x1024, .f32⟩
  | 91 => ⟨S8x2048x1024, .f32⟩
  | 92 => ⟨S_, .f32⟩
  | 93 => ⟨S8x1x1024, .f32⟩
  | 94 => ⟨S8x1x1024, .f32⟩
  | 95 => ⟨S8x2048x1024, .f32⟩
  | 96 => ⟨S8x2048x1024, .f32⟩
  | 97 => ⟨S8x2048x1024, .f32⟩
  | 98 => ⟨S8x2048x1024, .f32⟩
  | 99 => ⟨S8x2048x5632, .f32⟩
  | 100 => ⟨S_, .i32⟩
  | 101 => ⟨S_, .f32⟩
  | 102 => ⟨S8x2050x5632, .f32⟩
  | 103 => ⟨S8x2048x5632, .f32⟩
  | 104 => ⟨S1x5632, .f32⟩
  | 105 => ⟨S5632, .f32⟩
  | 106 => ⟨S1x1x5632, .f32⟩
  | 107 => ⟨S8x2048x5632, .f32⟩
  | 108 => ⟨S8x2048x5632, .f32⟩
  | 109 => ⟨S8x2048x5632, .f32⟩
  | 110 => ⟨S1x5632, .f32⟩
  | 111 => ⟨S5632, .f32⟩
  | 112 => ⟨S1x1x5632, .f32⟩
  | 113 => ⟨S8x2048x5632, .f32⟩
  | 114 => ⟨S8x2048x5632, .f32⟩
  | 115 => ⟨S8x2048x5632, .f32⟩
  | 116 => ⟨S8x2048x5632, .f32⟩
  | 117 => ⟨S1x5632, .f32⟩
  | 118 => ⟨S5632, .f32⟩
  | 119 => ⟨S1x1x5632, .f32⟩
  | 120 => ⟨S8x2048x5632, .f32⟩
  | 121 => ⟨S8x2048x5632, .f32⟩
  | 122 => ⟨S8x2048x5632, .f32⟩
  | 123 => ⟨S1x1x5632, .f32⟩
  | 124 => ⟨S8x2048x5632, .f32⟩
  | 125 => ⟨S8x2048x5632, .f32⟩
  | 126 => ⟨S8x2048x2816, .f32⟩
  | 127 => ⟨S8x2048x2816, .f32⟩
  | _ => ⟨S8x2304x1024, .f32⟩

abbrev hbmTy0_1 (i : Nat) : BufTy := match i % 128 with
  | 0 => ⟨S8x2048x2816, .f32⟩
  | 1 => ⟨S8x2048x2816, .f32⟩
  | 2 => ⟨S_, .f32⟩
  | 3 => ⟨S8x2048x2816, .f32⟩
  | 4 => ⟨S8x2048x2816, .f32⟩
  | 5 => ⟨S_, .f32⟩
  | 6 => ⟨S8x2048x2816, .f32⟩
  | 7 => ⟨S8x2048x2816, .f32⟩
  | 8 => ⟨S8x2048x2816, .f32⟩
  | 9 => ⟨S8x2048x2816, .f32⟩
  | 10 => ⟨S8x2048x1024, .f32⟩
  | 11 => ⟨S8x2048x1024, .f32⟩
  | 12 => ⟨S8x2048x1024, .f32⟩
  | 13 => ⟨S8x2048x1024, .f32⟩
  | 14 => ⟨S8x2304x1024, .f32⟩
  | _ => ⟨S8x2304x1024, .f32⟩

abbrev hbmTy (i : Nat) : BufTy := match i / 128 with
  | 0 => hbmTy0_0 i
  | 1 => hbmTy0_1 i
  | _ => ⟨S8x2304x1024, .f32⟩

abbrev bufTy : (tb : Table) → Fin (tcTables nBuf tb) → BufTy
  | .hbm, ⟨i, _⟩ => hbmTy i
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_call0_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_3 : Ref sig .tc := ⟨.hbm, 80, rfl⟩
abbrev main_v58 : Ref sig .tc := ⟨.hbm, 81, rfl⟩
abbrev main_v59 : Ref sig .tc := ⟨.hbm, 82, rfl⟩
abbrev main_cst_4 : Ref sig .tc := ⟨.hbm, 83, rfl⟩
abbrev main_v60 : Ref sig .tc := ⟨.hbm, 84, rfl⟩
abbrev main_v61 : Ref sig .tc := ⟨.hbm, 85, rfl⟩
abbrev main_cst_5 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_6 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_7 : Ref sig .tc := ⟨.hbm, 100, rfl⟩
abbrev main_call2_v0 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_call3_v0 : Ref sig .tc := ⟨.hbm, 128, rfl⟩
abbrev main_call3_v1 : Ref sig .tc := ⟨.hbm, 129, rfl⟩
abbrev main_call3_cst : Ref sig .tc := ⟨.hbm, 130, rfl⟩
abbrev main_call3_v2 : Ref sig .tc := ⟨.hbm, 131, rfl⟩
abbrev main_call3_v3 : Ref sig .tc := ⟨.hbm, 132, rfl⟩
abbrev main_call3_cst_0 : Ref sig .tc := ⟨.hbm, 133, rfl⟩
abbrev main_call3_v4 : Ref sig .tc := ⟨.hbm, 134, rfl⟩
abbrev main_call3_v5 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩

abbrev nD : Nat := 1
abbrev τ : Topo := Topo.v7x

variable {F : FTy → Type} [FloatOps F]
-- ==== Mod.lean ====
abbrev S8x2304x1024 : Shape := ⟨3, ![8, 2304, 1024]⟩
abbrev S8x2x1024 : Shape := ⟨3, ![8, 2, 1024]⟩
abbrev S1024x3984 : Shape := ⟨2, ![1024, 3984]⟩
abbrev S_ : Shape := ⟨0, ![]⟩
abbrev S1024x4096 : Shape := ⟨2, ![1024, 4096]⟩
abbrev S8x2304x4096 : Shape := ⟨3, ![8, 2304, 4096]⟩
abbrev S1x768x1024 : Shape := ⟨3, ![1, 768, 1024]⟩
abbrev S1x2x1024 : Shape := ⟨3, ![1, 2, 1024]⟩
abbrev S1024x1024 : Shape := ⟨2, ![1024, 1024]⟩
abbrev S768x1024 : Shape := ⟨2, ![768, 1024]⟩
abbrev S768x1 : Shape := ⟨2, ![768, 1]⟩
abbrev S1x1x1024 : Shape := ⟨3, ![1, 1, 1024]⟩
abbrev S1x1024 : Shape := ⟨2, ![1, 1024]⟩
abbrev S768 : Shape := ⟨1, ![768]⟩

abbrev nBuf : Space → Nat
  | .hbm => 9
  | .vmem => 11
  | .smem => 0
  | _ => 0

abbrev bufTy : (tb : Table) → Fin (tcTables nBuf tb) → BufTy
  | .hbm, ⟨0, _⟩ => ⟨S8x2304x1024, .f32⟩
  | .hbm, ⟨1, _⟩ => ⟨S8x2x1024, .f32⟩
  | .hbm, ⟨2, _⟩ => ⟨S8x2x1024, .f32⟩
  | .hbm, ⟨3, _⟩ => ⟨S1024x3984, .f32⟩
  | .hbm, ⟨4, _⟩ => ⟨S1024x3984, .bf16⟩
  | .hbm, ⟨5, _⟩ => ⟨S_, .i32⟩
  | .hbm, ⟨6, _⟩ => ⟨S_, .bf16⟩
  | .hbm, ⟨7, _⟩ => ⟨S1024x4096, .bf16⟩
  | .hbm, ⟨8, _⟩ => ⟨S8x2304x4096, .f32⟩
  | .local _ .vmem, ⟨0, _⟩ => ⟨S1x768x1024, .f32⟩
  | .local _ .vmem, ⟨1, _⟩ => ⟨S1x768x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x2x1024, .f32⟩
  | .local _ .vmem, ⟨5, _⟩ => ⟨S1x2x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x768x1024, .f32⟩
  | .local _ .vmem, ⟨9, _⟩ => ⟨S1x768x1024, .f32⟩
  | .local _ .vmem, ⟨10, _⟩ => ⟨S768x1024, .bf16⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 3, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ModReferenceIdeal.lean ====
abbrev S8x2304x1024 : Shape := ⟨3, ![8, 2304, 1024]⟩
abbrev S8x2x1024 : Shape := ⟨3, ![8, 2, 1024]⟩
abbrev S1024x3984 : Shape := ⟨2, ![1024, 3984]⟩
abbrev S8x256x1024 : Shape := ⟨3, ![8, 256, 1024]⟩
abbrev S8x1x1024 : Shape := ⟨3, ![8, 1, 1024]⟩
abbrev S_ : Shape := ⟨0, ![]⟩
abbrev S8x256 : Shape := ⟨2, ![8, 256]⟩
abbrev S8x256x1 : Shape := ⟨3, ![8, 256, 1]⟩
abbrev S8x2048x1024 : Shape := ⟨3, ![8, 2048, 1024]⟩
abbrev S8x2048 : Shape := ⟨2, ![8, 2048]⟩
abbrev S8x2048x1 : Shape := ⟨3, ![8, 2048, 1]⟩
abbrev S8x256x3984 : Shape := ⟨3, ![8, 256, 3984]⟩
abbrev S8x2048x3984 : Shape := ⟨3, ![8, 2048, 3984]⟩
abbrev S8x2304x3984 : Shape := ⟨3, ![8, 2304, 3984]⟩
abbrev S8x2304x4096 : Shape := ⟨3, ![8, 2304, 4096]⟩

abbrev nBuf : Space → Nat
  | .hbm => 56
  | .vmem => 0
  | .smem => 0
  | _ => 0

abbrev bufTy : (tb : Table) → Fin (tcTables nBuf tb) → BufTy
  | .hbm, ⟨0, _⟩ => ⟨S8x2304x1024, .f32⟩
  | .hbm, ⟨1, _⟩ => ⟨S8x2x1024, .f32⟩
  | .hbm, ⟨2, _⟩ => ⟨S8x2x1024, .f32⟩
  | .hbm, ⟨3, _⟩ => ⟨S1024x3984, .f32⟩
  | .hbm, ⟨4, _⟩ => ⟨S8x256x1024, .f32⟩
  | .hbm, ⟨5, _⟩ => ⟨S8x1x1024, .f32⟩
  | .hbm, ⟨6, _⟩ => ⟨S8x1x1024, .f32⟩
  | .hbm, ⟨7, _⟩ => ⟨S8x256x1024, .f32⟩
  | .hbm, ⟨8, _⟩ => ⟨S_, .f32⟩
  | .hbm, ⟨9, _⟩ => ⟨S8x256, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S_, .f32⟩
  | .hbm, ⟨15, _⟩ => ⟨S8x256x1, .f32⟩
  | .hbm, ⟨16, _⟩ => ⟨S8x256x1, .f32⟩
  | .hbm, ⟨17, _⟩ => ⟨S8x256x1, .f32⟩
  | .hbm, ⟨18, _⟩ => ⟨S8x256x1024, .f32⟩
  | .hbm, ⟨19, _⟩ => ⟨S8x256x1024, .f32⟩
  | .hbm, ⟨20, _⟩ => ⟨S_, .f32⟩
  | .hbm, ⟨21, _⟩ => ⟨S8x1x1024, .f32⟩
  | .hbm, ⟨22, _⟩ => ⟨S8x1x1024, .f32⟩
  | .hbm, ⟨23, _⟩ => ⟨S8x256x1024, .f32⟩
  | .hbm, ⟨24, _⟩ => ⟨S8x256x1024, .f32⟩
  | .hbm, ⟨25, _⟩ => ⟨S8x256x1024, .f32⟩
  | .hbm, ⟨26, _⟩ => ⟨S8x256x1024, .f32⟩
  | .hbm, ⟨27, _⟩ => ⟨S8x2048x1024, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S_, .f32⟩
  | .hbm, ⟨32, _⟩ => ⟨S8x2048, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S8x2048x1, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x1x1024, .f32⟩
  | .hbm, ⟨45, _⟩ => ⟨S8x1x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S8x256x3984, .f32⟩
  | .hbm, ⟨51, _⟩ => ⟨S8x2048x3984, .f32⟩
  | .hbm, ⟨52, _⟩ => ⟨S8x2304x3984, .f32⟩
  | .hbm, ⟨53, _⟩ => ⟨S_, .i32⟩
  | .hbm, ⟨54, _⟩ => ⟨S_, .f32⟩
  | .hbm, ⟨55, _⟩ => ⟨S8x2304x4096, .f32⟩
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c : Ref sig .tc := ⟨.hbm, 53, rfl⟩
abbrev main_call0_v0 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== ModAb.lean ====
abbrev S8x2304x1024 : Shape := ⟨3, ![8, 2304, 1024]⟩
abbrev S8x2x1024 : Shape := ⟨3, ![8, 2, 1024]⟩
abbrev S1024x1312 : Shape := ⟨2, ![1024, 1312]⟩
abbrev S_ : Shape := ⟨0, ![]⟩
abbrev S1024x1536 : Shape := ⟨2, ![1024, 1536]⟩
abbrev S8x2304x1536 : Shape := ⟨3, ![8, 2304, 1536]⟩
abbrev S1x768x1024 : Shape := ⟨3, ![1, 768, 1024]⟩
abbrev S1x2x1024 : Shape := ⟨3, ![1, 2, 1024]⟩
abbrev S1024x768 : Shape := ⟨2, ![1024, 768]⟩
abbrev S1x768x768 : Shape := ⟨3, ![1, 768, 768]⟩
abbrev S768x1024 : Shape := ⟨2, ![768, 1024]⟩
abbrev S768x1 : Shape := ⟨2, ![768, 1]⟩
abbrev S1x1x1024 : Shape := ⟨3, ![1, 1, 1024]⟩
abbrev S1x1024 : Shape := ⟨2, ![1, 1024]⟩
abbrev S768 : Shape := ⟨1, ![768]⟩
abbrev S768x768 : Shape := ⟨2, ![768, 768]⟩

abbrev nBuf : Space → Nat
  | .hbm => 9
  | .vmem => 11
  | .smem => 0
  | _ => 0

abbrev bufTy : (tb : Table) → Fin (tcTables nBuf tb) → BufTy
  | .hbm, ⟨0, _⟩ => ⟨S8x2304x1024, .f32⟩
  | .hbm, ⟨1, _⟩ => ⟨S8x2x1024, .f32⟩
  | .hbm, ⟨2, _⟩ => ⟨S8x2x1024, .f32⟩
  | .hbm, ⟨3, _⟩ => ⟨S1024x1312, .f32⟩
  | .hbm, ⟨4, _⟩ => ⟨S1024x1312, .bf16⟩
  | .hbm, ⟨5, _⟩ => ⟨S_, .i32⟩
  | .hbm, ⟨6, _⟩ => ⟨S_, .bf16⟩
  | .hbm, ⟨7, _⟩ => ⟨S1024x1536, .bf16⟩
  | .hbm, ⟨8, _⟩ => ⟨S8x2304x1536, .f32⟩
  | .local _ .vmem, ⟨0, _⟩ => ⟨S1x768x1024, .f32⟩
  | .local _ .vmem, ⟨1, _⟩ => ⟨S1x768x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x2x1024, .f32⟩
  | .local _ .vmem, ⟨5, _⟩ => ⟨S1x2x1024, .f32⟩
  | .local _ .vmem, ⟨6, _⟩ => ⟨S1024x768, .bf16⟩
  | .local _ .vmem, ⟨7, _⟩ => ⟨S1024x768, .bf16⟩
  | .local _ .vmem, ⟨8, _⟩ => ⟨S1x768x768, .f32⟩
  | .local _ .vmem, ⟨9, _⟩ => ⟨S1x768x768, .f32⟩
  | .local _ .vmem, ⟨10, _⟩ => ⟨S768x1024, .bf16⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 3, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x768x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ModAbReferenceIdeal.lean ====
abbrev S8x2304x1024 : Shape := ⟨3, ![8, 2304, 1024]⟩
abbrev S8x2x1024 : Shape := ⟨3, ![8, 2, 1024]⟩
abbrev S1024x1312 : Shape := ⟨2, ![1024, 1312]⟩
abbrev S8x256x1024 : Shape := ⟨3, ![8, 256, 1024]⟩
abbrev S8x1x1024 : Shape := ⟨3, ![8, 1, 1024]⟩
abbrev S_ : Shape := ⟨0, ![]⟩
abbrev S8x256 : Shape := ⟨2, ![8, 256]⟩
abbrev S8x256x1 : Shape := ⟨3, ![8, 256, 1]⟩
abbrev S8x2048x1024 : Shape := ⟨3, ![8, 2048, 1024]⟩
abbrev S8x2048 : Shape := ⟨2, ![8, 2048]⟩
abbrev S8x2048x1 : Shape := ⟨3, ![8, 2048, 1]⟩
abbrev S8x256x1312 : Shape := ⟨3, ![8, 256, 1312]⟩
abbrev S8x2048x1312 : Shape := ⟨3, ![8, 2048, 1312]⟩
abbrev S8x2304x1312 : Shape := ⟨3, ![8, 2304, 1312]⟩
abbrev S8x2304x1536 : Shape := ⟨3, ![8, 2304, 1536]⟩

abbrev nBuf : Space → Nat
  | .hbm => 56
  | .vmem => 0
  | .smem => 0
  | _ => 0

abbrev bufTy : (tb : Table) → Fin (tcTables nBuf tb) → BufTy
  | .hbm, ⟨0, _⟩ => ⟨S8x2304x1024, .f32⟩
  | .hbm, ⟨1, _⟩ => ⟨S8x2x1024, .f32⟩
  | .hbm, ⟨2, _⟩ => ⟨S8x2x1024, .f32⟩
  | .hbm, ⟨3, _⟩ => ⟨S1024x1312, .f32⟩
  | .hbm, ⟨4, _⟩ => ⟨S8x256x1024, .f32⟩
  | .hbm, ⟨5, _⟩ => ⟨S8x1x1024, .f32⟩
  | .hbm, ⟨6, _⟩ => ⟨S8x1x1024, .f32⟩
  | .hbm, ⟨7, _⟩ => ⟨S8x256x1024, .f32⟩
  | .hbm, ⟨8, _⟩ => ⟨S_, .f32⟩
  | .hbm, ⟨9, _⟩ => ⟨S8x256, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S_, .f32⟩
  | .hbm, ⟨15, _⟩ => ⟨S8x256x1, .f32⟩
  | .hbm, ⟨16, _⟩ => ⟨S8x256x1, .f32⟩
  | .hbm, ⟨17, _⟩ => ⟨S8x256x1, .f32⟩
  | .hbm, ⟨18, _⟩ => ⟨S8x256x1024, .f32⟩
  | .hbm, ⟨19, _⟩ => ⟨S8x256x1024, .f32⟩
  | .hbm, ⟨20, _⟩ => ⟨S_, .f32⟩
  | .hbm, ⟨21, _⟩ => ⟨S8x1x1024, .f32⟩
  | .hbm, ⟨22, _⟩ => ⟨S8x1x1024, .f32⟩
  | .hbm, ⟨23, _⟩ => ⟨S8x256x1024, .f32⟩
  | .hbm, ⟨24, _⟩ => ⟨S8x256x1024, .f32⟩
  | .hbm, ⟨25, _⟩ => ⟨S8x256x1024, .f32⟩
  | .hbm, ⟨26, _⟩ => ⟨S8x256x1024, .f32⟩
  | .hbm, ⟨27, _⟩ => ⟨S8x2048x1024, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S_, .f32⟩
  | .hbm, ⟨32, _⟩ => ⟨S8x2048, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S8x2048x1, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x1x1024, .f32⟩
  | .hbm, ⟨45, _⟩ => ⟨S8x1x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S8x256x1312, .f32⟩
  | .hbm, ⟨51, _⟩ => ⟨S8x2048x1312, .f32⟩
  | .hbm, ⟨52, _⟩ => ⟨S8x2304x1312, .f32⟩
  | .hbm, ⟨53, _⟩ => ⟨S_, .i32⟩
  | .hbm, ⟨54, _⟩ => ⟨S_, .f32⟩
  | .hbm, ⟨55, _⟩ => ⟨S8x2304x1536, .f32⟩
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c : Ref sig .tc := ⟨.hbm, 53, rfl⟩
abbrev main_call0_v0 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Out.lean ====
abbrev S8x2304x1024 : Shape := ⟨3, ![8, 2304, 1024]⟩
abbrev S1024x1024 : Shape := ⟨2, ![1024, 1024]⟩
abbrev S18432x1024 : Shape := ⟨2, ![18432, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8x2304x1024, .f32⟩
  | .hbm, ⟨1, _⟩ => ⟨S1024x1024, .f32⟩
  | .hbm, ⟨2, _⟩ => ⟨S18432x1024, .f32⟩
  | .hbm, ⟨3, _⟩ => ⟨S1024x1024, .bf16⟩
  | .hbm, ⟨4, _⟩ => ⟨S18432x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![18, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutReferenceIdeal.lean ====
abbrev S8x2304x1024 : Shape := ⟨3, ![8, 2304, 1024]⟩
abbrev S1024x1024 : Shape := ⟨2, ![1024, 1024]⟩
abbrev S18432x1024 : Shape := ⟨2, ![18432, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x2304x1024, .f32⟩
  | .hbm, ⟨1, _⟩ => ⟨S1024x1024, .f32⟩
  | .hbm, ⟨2, _⟩ => ⟨S8x2304x1024, .f32⟩
  | .hbm, ⟨3, _⟩ => ⟨S18432x1024, .f32⟩
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== CdOut.lean ====
abbrev S8x2304x1024 : Shape := ⟨3, ![8, 2304, 1024]⟩
abbrev S8x2x1024 : Shape := ⟨3, ![8, 2, 1024]⟩
abbrev S8x2304x512 : Shape := ⟨3, ![8, 2304, 512]⟩
abbrev S8x64 : Shape := ⟨2, ![8, 64]⟩
abbrev S512 : Shape := ⟨1, ![512]⟩
abbrev S128 : Shape := ⟨1, ![128]⟩
abbrev S1024x1024 : Shape := ⟨2, ![1024, 1024]⟩
abbrev S1x512 : Shape := ⟨2, ![1, 512]⟩
abbrev S1x128 : Shape := ⟨2, ![1, 128]⟩
abbrev S4x128 : Shape := ⟨2, ![4, 128]⟩
abbrev S8x2x1x1024 : Shape := ⟨4, ![8, 2, 1, 1024]⟩
abbrev S8x2048x1024 : Shape := ⟨3, ![8, 2048, 1024]⟩
abbrev S1x256x512 : Shape := ⟨3, ![1, 256, 512]⟩
abbrev S1x256x1024 : Shape := ⟨3, ![1, 256, 1024]⟩
abbrev S1x1x1x1024 : Shape := ⟨4, ![1, 1, 1, 1024]⟩
abbrev S512x512 : Shape := ⟨2, ![512, 512]⟩
abbrev S256x512 : Shape := ⟨2, ![256, 512]⟩
abbrev S256x1024 : Shape := ⟨2, ![256, 1024]⟩
abbrev S1x1024 : Shape := ⟨2, ![1, 1024]⟩

abbrev nBuf : Space → Nat
  | .hbm => 27
  | .vmem => 31
  | .smem => 0
  | _ => 0

abbrev bufTy : (tb : Table) → Fin (tcTables nBuf tb) → BufTy
  | .hbm, ⟨0, _⟩ => ⟨S8x2304x1024, .f32⟩
  | .hbm, ⟨1, _⟩ => ⟨S8x2x1024, .f32⟩
  | .hbm, ⟨2, _⟩ => ⟨S8x2304x512, .f32⟩
  | .hbm, ⟨3, _⟩ => ⟨S8x2304x512, .f32⟩
  | .hbm, ⟨4, _⟩ => ⟨S8x2304x512, .f32⟩
  | .hbm, ⟨5, _⟩ => ⟨S8x2304x512, .f32⟩
  | .hbm, ⟨6, _⟩ => ⟨S8x2304x512, .f32⟩
  | .hbm, ⟨7, _⟩ => ⟨S8x2304x512, .f32⟩
  | .hbm, ⟨8, _⟩ => ⟨S8x2304x512, .f32⟩
  | .hbm, ⟨9, _⟩ => ⟨S8x2304x512, .f32⟩
  | .hbm, ⟨10, _⟩ => ⟨S8x2304x512, .f32⟩
  | .hbm, ⟨11, _⟩ => ⟨S8x2304x512, .f32⟩
  | .hbm, ⟨12, _⟩ => ⟨S8x64, .f32⟩
  | .hbm, ⟨13, _⟩ => ⟨S512, .f32⟩
  | .hbm, ⟨14, _⟩ => ⟨S512, .f32⟩
  | .hbm, ⟨15, _⟩ => ⟨S128, .f32⟩
  | .hbm, ⟨16, _⟩ => ⟨S1024x1024, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x128, .f32⟩
  | .hbm, ⟨21, _⟩ => ⟨S4x128, .f32⟩
  | .hbm, ⟨22, _⟩ => ⟨S512, .f32⟩
  | .hbm, ⟨23, _⟩ => ⟨S1x512, .f32⟩
  | .hbm, ⟨24, _⟩ => ⟨S8x2x1x1024, .f32⟩
  | .hbm, ⟨25, _⟩ => ⟨S1024x1024, .bf16⟩
  | .hbm, ⟨26, _⟩ => ⟨S8x2048x1024, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x1024, .f32⟩
  | .local _ .vmem, ⟨21, _⟩ => ⟨S1x256x1024, .f32⟩
  | .local _ .vmem, ⟨22, _⟩ => ⟨S1x1x1x1024, .f32⟩
  | .local _ .vmem, ⟨23, _⟩ => ⟨S1x1x1x1024, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1024x1024, .bf16⟩
  | .local _ .vmem, ⟨29, _⟩ => ⟨S1x256x1024, .f32⟩
  | .local _ .vmem, ⟨30, _⟩ => ⟨S1x256x1024, .f32⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_11 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 1 := Scalar.cmpi .sge v0 c1_i32_0
  let c1_i32_1 : BitVec 32 := 1#32
  let c0_i32 : BitVec 32 := 0#32
  let v2 : BitVec 32 := Scalar.select v1 c1_i32_1 c0_i32
  let c0_i32_2 : BitVec 32 := 0#32
  let c0_i32_3 : BitVec 32 := 0#32
  let c0_i32_4 : BitVec 32 := 0#32
  ![arg0.toNat, v2.toNat, c0_i32_2.toNat, c0_i32_3.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== CdOutReferenceIdeal.lean ====
abbrev S8x2304x1024 : Shape := ⟨3, ![8, 2304, 1024]⟩
abbrev S8x2x1024 : Shape := ⟨3, ![8, 2, 1024]⟩
abbrev S8x2304x512 : Shape := ⟨3, ![8, 2304, 512]⟩
abbrev S8x64 : Shape := ⟨2, ![8, 64]⟩
abbrev S512 : Shape := ⟨1, ![512]⟩
abbrev S128 : Shape := ⟨1, ![128]⟩
abbrev S1024x1024 : Shape := ⟨2, ![1024, 1024]⟩
abbrev S8x2048x1024 : Shape := ⟨3, ![8, 2048, 1024]⟩
abbrev S8x2048x512 : Shape := ⟨3, ![8, 2048, 512]⟩
abbrev S8x2048x8x64 : Shape := ⟨4, ![8, 2048, 8, 64]⟩
abbrev S_ : Shape := ⟨0, ![]⟩
abbrev S8x2048x8 : Shape := ⟨3, ![8, 2048, 8]⟩
abbrev S8x2048x8x1 : Shape := ⟨4, ![8, 2048, 8, 1]⟩
abbrev S1x1x8x64 : Shape := ⟨4, ![1, 1, 8, 64]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S8x1x1024 : Shape := ⟨3, ![8, 1, 1024]⟩

abbrev nBuf : Space → Nat
  | .hbm => 127
  | .vmem => 0
  | .smem => 0
  | _ => 0

abbrev bufTy : (tb : Table) → Fin (tcTables nBuf tb) → BufTy
  | .hbm, ⟨0, _⟩ => ⟨S8x2304x1024, .f32⟩
  | .hbm, ⟨1, _⟩ => ⟨S8x2x1024, .f32⟩
  | .hbm, ⟨2, _⟩ => ⟨S8x2304x512, .f32⟩
  | .hbm, ⟨3, _⟩ => ⟨S8x2304x512, .f32⟩
  | .hbm, ⟨4, _⟩ => ⟨S8x2304x512, .f32⟩
  | .hbm, ⟨5, _⟩ => ⟨S8x2304x512, .f32⟩
  | .hbm, ⟨6, _⟩ => ⟨S8x2304x512, .f32⟩
  | .hbm, ⟨7, _⟩ => ⟨S8x2304x512, .f32⟩
  | .hbm, ⟨8, _⟩ => ⟨S8x2304x512, .f32⟩
  | .hbm, ⟨9, _⟩ => ⟨S8x2304x512, .f32⟩
  | .hbm, ⟨10, _⟩ => ⟨S8x2304x512, .f32⟩
  | .hbm, ⟨11, _⟩ => ⟨S8x2304x512, .f32⟩
  | .hbm, ⟨12, _⟩ => ⟨S8x64, .f32⟩
  | .hbm, ⟨13, _⟩ => ⟨S512, .f32⟩
  | .hbm, ⟨14, _⟩ => ⟨S512, .f32⟩
  | .hbm, ⟨15, _⟩ => ⟨S128, .f32⟩
  | .hbm, ⟨16, _⟩ => ⟨S1024x1024, .f32⟩
  | .hbm, ⟨17, _⟩ => ⟨S8x2048x1024, .f32⟩
  | .hbm, ⟨18, _⟩ => ⟨S8x2048x512, .f32⟩
  | .hbm, ⟨19, _⟩ => ⟨S8x2048x512, .f32⟩
  | .hbm, ⟨20, _⟩ => ⟨S8x2048x512, .f32⟩
  | .hbm, ⟨21, _⟩ => ⟨S8x2048x512, .f32⟩
  | .hbm, ⟨22, _⟩ => ⟨S8x2048x512, .f32⟩
  | .hbm, ⟨23, _⟩ => ⟨S8x2048x512, .f32⟩
  | .hbm, ⟨24, _⟩ => ⟨S8x2048x512, .f32⟩
  | .hbm, ⟨25, _⟩ => ⟨S8x2048x512, .f32⟩
  | .hbm, ⟨26, _⟩ => ⟨S8x2048x512, .f32⟩
  | .hbm, ⟨27, _⟩ => ⟨S8x2048x512, .f32⟩
  | .hbm, ⟨28, _⟩ => ⟨S8x2048x8x64, .f32⟩
  | .hbm, ⟨29, _⟩ => ⟨S8x2048x8x64, .f32⟩
  | .hbm, ⟨30, _⟩ => ⟨S8x2048x8x64, .f32⟩
  | .hbm, ⟨31, _⟩ => ⟨S8x2048x8x64, .f32⟩
  | .hbm, ⟨32, _⟩ => ⟨S8x2048x8x64, .f32⟩
  | .hbm, ⟨33, _⟩ => ⟨S8x2048x8x64, .f32⟩
  | .hbm, ⟨34, _⟩ => ⟨S8x2048x8x64, .f32⟩
  | .hbm, ⟨35, _⟩ => ⟨S_, .f32⟩
  | .hbm, ⟨36, _⟩ => ⟨S8x2048x8, .f32⟩
  | .hbm, ⟨37, _⟩ => ⟨S8x2048x8x1, .f32⟩
  | .hbm, ⟨38, _⟩ => ⟨S_, .f32⟩
  | .hbm, ⟨39, _⟩ => ⟨S8x2048x8x1, .f32⟩
  | .hbm, ⟨40, _⟩ => ⟨S8x2048x8x1, .f32⟩
  | .hbm, ⟨41, _⟩ => ⟨S8x2048x8x64, .f32⟩
  | .hbm, ⟨42, _⟩ => ⟨S8x2048x8x64, .f32⟩
  | .hbm, ⟨43, _⟩ => ⟨S8x2048x8x64, .f32⟩
  | .hbm, ⟨44, _⟩ => ⟨S_, .f32⟩
  | .hbm, ⟨45, _⟩ => ⟨S8x2048x8, .f32⟩
  | .hbm, ⟨46, _⟩ => ⟨S8x2048x8x1, .f32⟩
  | .hbm, ⟨47, _⟩ => ⟨S_, .f32⟩
  | .hbm, ⟨48, _⟩ => ⟨S8x2048x8x1, .f32⟩
  | .hbm, ⟨49, _⟩ => ⟨S8x2048x8x1, .f32⟩
  | .hbm, ⟨50, _⟩ => ⟨S8x2048x8x64, .f32⟩
  | .hbm, ⟨51, _⟩ => ⟨S8x2048x8x64, .f32⟩
  | .hbm, ⟨52, _⟩ => ⟨S_, .f32⟩
  | .hbm, ⟨53, _⟩ => ⟨S8x2048x8x1, .f32⟩
  | .hbm, ⟨54, _⟩ => ⟨S8x2048x8x1, .f32⟩
  | .hbm, ⟨55, _⟩ => ⟨S8x2048x8x1, .f32⟩
  | .hbm, ⟨56, _⟩ => ⟨S8x2048x8x64, .f32⟩
  | .hbm, ⟨57, _⟩ => ⟨S8x2048x8x64, .f32⟩
  | .hbm, ⟨58, _⟩ => ⟨S8x64, .f32⟩
  | .hbm, ⟨59, _⟩ => ⟨S1x1x8x64, .f32⟩
  | .hbm, ⟨60, _⟩ => ⟨S8x2048x8x64, .f32⟩
  | .hbm, ⟨61, _⟩ => ⟨S8x2048x8x64, .f32⟩
  | .hbm, ⟨62, _⟩ => ⟨S8x64, .f32⟩
  | .hbm, ⟨63, _⟩ => ⟨S1x1x8x64, .f32⟩
  | .hbm, ⟨64, _⟩ => ⟨S8x2048x8x64, .f32⟩
  | .hbm, ⟨65, _⟩ => ⟨S8x2048x8x64, .f32⟩
  | .hbm, ⟨66, _⟩ => ⟨S8x2048x8x64, .f32⟩
  | .hbm, ⟨67, _⟩ => ⟨S1x1x8x64, .f32⟩
  | .hbm, ⟨68, _⟩ => ⟨S8x2048x8x64, .f32⟩
  | .hbm, ⟨69, _⟩ => ⟨S8x2048x8x64, .f32⟩
  | .hbm, ⟨70, _⟩ => ⟨S_, .f32⟩
  | .hbm, ⟨71, _⟩ => ⟨S8x2048x8, .f32⟩
  | .hbm, ⟨72, _⟩ => ⟨S8x2048x8x1, .f32⟩
  | .hbm, ⟨73, _⟩ => ⟨S8x2048x8x64, .f32⟩
  | .hbm, ⟨74, _⟩ => ⟨S8x2048x8x64, .f32⟩
  | .hbm, ⟨75, _⟩ => ⟨S_, .f32⟩
  | .hbm, ⟨76, _⟩ => ⟨S8x2048x8x64, .f32⟩
  | .hbm, ⟨77, _⟩ => ⟨S8x2048x8x64, .f32⟩
  | .hbm, ⟨78, _⟩ => ⟨S8x2048x8x64, .f32⟩
  | .hbm, ⟨79, _⟩ => ⟨S1x1x8x64, .f32⟩
  | .hbm, ⟨80, _⟩ => ⟨S8x2048x8x64, .f32⟩
  | .hbm, ⟨81, _⟩ => ⟨S8x2048x8x64, .f32⟩
  | .hbm, ⟨82, _⟩ => ⟨S_, .f32⟩
  | .hbm, ⟨83, _⟩ => ⟨S8x2048x8, .f32⟩
  | .hbm, ⟨84, _⟩ => ⟨S8x2048x8x1, .f32⟩
  | .hbm, ⟨85, _⟩ => ⟨S8x2048x8x64, .f32⟩
  | .hbm, ⟨86, _⟩ => ⟨S8x2048x8x64, .f32⟩
  | .hbm, ⟨87, _⟩ => ⟨S8x2048x8x64, .f32⟩
  | .hbm, ⟨88, _⟩ => ⟨S8x2048x8x64, .f32⟩
  | .hbm, ⟨89, _⟩ => ⟨S8x2048x512, .f32⟩
  | .hbm, ⟨90, _⟩ => ⟨S8x2048x512, .f32⟩
  | .hbm, ⟨91, _⟩ => ⟨S8x2048x512, .f32⟩
  | .hbm, ⟨92, _⟩ => ⟨S8x2048x4x128, .f32⟩
  | .hbm, ⟨93, _⟩ => ⟨S8x2048x4x128, .f32⟩
  | .hbm, ⟨94, _⟩ => ⟨S8x2048x4x128, .f32⟩
  | .hbm, ⟨95, _⟩ => ⟨S8x2048x4x128, .f32⟩
  | .hbm, ⟨96, _⟩ => ⟨S_, .f32⟩
  | .hbm, ⟨97, _⟩ => ⟨S8x2048x4x128, .f32⟩
  | .hbm, ⟨98, _⟩ => ⟨S8x2048x4x128, .f32⟩
  | .hbm, ⟨99, _⟩ => ⟨S_, .f32⟩
  | .hbm, ⟨100, _⟩ => ⟨S8x2048x4x128, .f32⟩
  | .hbm, ⟨101, _⟩ => ⟨S8x2048x4x128, .f32⟩
  | .hbm, ⟨102, _⟩ => ⟨S8x2048x4x128, .f32⟩
  | .hbm, ⟨103, _⟩ => ⟨S8x2048x4x128, .f32⟩
  | .hbm, ⟨104, _⟩ => ⟨S_, .f32⟩
  | .hbm, ⟨105, _⟩ => ⟨S8x2048x4, .f32⟩
  | .hbm, ⟨106, _⟩ => ⟨S8x2048x4x1, .f32⟩
  | .hbm, ⟨107, _⟩ => ⟨S_, .f32⟩
  | .hbm, ⟨108, _⟩ => ⟨S8x2048x4x1, .f32⟩
  | .hbm, ⟨109, _⟩ => ⟨S8x2048x4x1, .f32⟩
  | .hbm, ⟨110, _⟩ => ⟨S_, .f32⟩
  | .hbm, ⟨111, _⟩ => ⟨S8x2048x4x1, .f32⟩
  | .hbm, ⟨112, _⟩ => ⟨S8x2048x4x1, .f32⟩
  | .hbm, ⟨113, _⟩ => ⟨S8x2048x4x1, .f32⟩
  | .hbm, ⟨114, _⟩ => ⟨S8x2048x4x128, .f32⟩
  | .hbm, ⟨115, _⟩ => ⟨S8x2048x4x128, .f32⟩
  | .hbm, ⟨116, _⟩ => ⟨S1x1x1x128, .f32⟩
  | .hbm, ⟨117, _⟩ => ⟨S8x2048x4x128, .f32⟩
  | .hbm, ⟨118, _⟩ => ⟨S8x2048x4x128, .f32⟩
  | .hbm, ⟨119, _⟩ => ⟨S8x2048x4x128, .f32⟩
  | .hbm, ⟨120, _⟩ => ⟨S8x2048x512, .f32⟩
  | .hbm, ⟨121, _⟩ => ⟨S8x1x1024, .f32⟩
  | .hbm, ⟨122, _⟩ => ⟨S8x2048x1024, .f32⟩
  | .hbm, ⟨123, _⟩ => ⟨S8x2048x1024, .f32⟩
  | .hbm, ⟨124, _⟩ => ⟨S8x2048x1024, .f32⟩
  | .hbm, ⟨125, _⟩ => ⟨S8x2048x1024, .f32⟩
  | .hbm, ⟨126, _⟩ => ⟨S8x2048x1024, .f32⟩
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_v19 : Ref sig .tc := ⟨.hbm, 37, rfl⟩
abbrev main_cst_0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_1 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_4 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_5 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_6 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_call0_v0 : Ref sig .tc := ⟨.hbm, 94, rfl⟩
abbrev main_call0_v1 : Ref sig .tc := ⟨.hbm, 95, rfl⟩
abbrev main_call0_cst : Ref sig .tc := ⟨.hbm, 96, rfl⟩
abbrev main_call0_v2 : Ref sig .tc := ⟨.hbm, 97, rfl⟩
abbrev main_call0_v3 : Ref sig .tc := ⟨.hbm, 98, rfl⟩
abbrev main_call0_cst_0 : Ref sig .tc := ⟨.hbm, 99, rfl⟩
abbrev main_call0_v4 : Ref sig .tc := ⟨.hbm, 100, rfl⟩
abbrev main_call0_v5 : Ref sig .tc := ⟨.hbm, 101, rfl⟩
abbrev main_v69 : Ref sig .tc := ⟨.hbm, 102, rfl⟩
abbrev main_v70 : Ref sig .tc := ⟨.hbm, 103, rfl⟩
abbrev main_cst_7 : Ref sig .tc := ⟨.hbm, 104, rfl⟩
abbrev main_v71 : Ref sig .tc := ⟨.hbm, 105, rfl⟩
abbrev main_v72 : Ref sig .tc := ⟨.hbm, 106, rfl⟩
abbrev main_cst_8 : Ref sig .tc := ⟨.hbm, 107, rfl⟩
abbrev main_v73 : Ref sig .tc := ⟨.hbm, 108, rfl⟩
abbrev main_v74 : Ref sig .tc := ⟨.hbm, 109, rfl⟩
abbrev main_cst_9 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩

abbrev nD : Nat := 1
abbrev τ : Topo := Topo.v7x

variable {F : FTy → Type} [FloatOps F]
-- ==== Window.lean ====
abbrev S8x8x2304x64 : Shape := ⟨4, ![8, 8, 2304, 64]⟩
abbrev S8x2x2304x64 : Shape := ⟨4, ![8, 2, 2304, 64]⟩
abbrev S8 : Shape := ⟨1, ![8]⟩
abbrev S2x4x1x1 : Shape := ⟨4, ![2, 4, 1, 1]⟩
abbrev S8x8x2048x64 : Shape := ⟨4, ![8, 8, 2048, 64]⟩
abbrev S1x4x128x64 : Shape := ⟨4, ![1, 4, 128, 64]⟩
abbrev S1x1x128x64 : Shape := ⟨4, ![1, 1, 128, 64]⟩
abbrev S1x1x256x64 : Shape := ⟨4, ![1, 1, 256, 64]⟩
abbrev S1x4x1x1 : Shape := ⟨4, ![1, 4, 1, 1]⟩
abbrev S4x128x64 : Shape := ⟨3, ![4, 128, 64]⟩
abbrev S512x64 : Shape := ⟨2, ![512, 64]⟩
abbrev S128x64 : Shape := ⟨2, ![128, 64]⟩
abbrev S256x64 : Shape := ⟨2, ![256, 64]⟩
abbrev S640x64 : Shape := ⟨2, ![640, 64]⟩
abbrev S512x640 : Shape := ⟨2, ![512, 640]⟩
abbrev S1x1x1x1 : Shape := ⟨4, ![1, 1, 1, 1]⟩
abbrev S1x1 : Shape := ⟨2, ![1, 1]⟩
abbrev S128x1 : Shape := ⟨2, ![128, 1]⟩
abbrev S512x1 : Shape := ⟨2, ![512, 1]⟩
abbrev S512 : Shape := ⟨1, ![512]⟩

abbrev nBuf : Space → Nat
  | .hbm => 6
  | .vmem => 22
  | .smem => 0
  | _ => 0

abbrev bufTy : (tb : Table) → Fin (tcTables nBuf tb) → BufTy
  | .hbm, ⟨0, _⟩ => ⟨S8x8x2304x64, .f32⟩
  | .hbm, ⟨1, _⟩ => ⟨S8x2x2304x64, .f32⟩
  | .hbm, ⟨2, _⟩ => ⟨S8x2x2304x64, .f32⟩
  | .hbm, ⟨3, _⟩ => ⟨S8, .f32⟩
  | .hbm, ⟨4, _⟩ => ⟨S2x4x1x1, .f32⟩
  | .hbm, ⟨5, _⟩ => ⟨S8x8x2048x64, .f32⟩
  | .local _ .vmem, ⟨0, _⟩ => ⟨S1x4x128x64, .f32⟩
  | .local _ .vmem, ⟨1, _⟩ => ⟨S1x4x128x64, .f32⟩
  | .local _ .vmem, ⟨2, _⟩ => ⟨S1x1x128x64, .f32⟩
  | .local _ .vmem, ⟨3, _⟩ => ⟨S1x1x128x64, .f32⟩
  | .local _ .vmem, ⟨4, _⟩ => ⟨S1x1x128x64, .f32⟩
  | .local _ .vmem, ⟨5, _⟩ => ⟨S1x1x128x64, .f32⟩
  | .local _ .vmem, ⟨6, _⟩ => ⟨S1x1x128x64, .f32⟩
  | .local _ .vmem, ⟨7, _⟩ => ⟨S1x1x128x64, .f32⟩
  | .local _ .vmem, ⟨8, _⟩ => ⟨S1x1x256x64, .f32⟩
  | .local _ .vmem, ⟨9, _⟩ => ⟨S1x1x256x64, .f32⟩
  | .local _ .vmem, ⟨10, _⟩ => ⟨S1x1x128x64, .f32⟩
  | .local _ .vmem, ⟨11, _⟩ => ⟨S1x1x128x64, .f32⟩
  | .local _ .vmem, ⟨12, _⟩ => ⟨S1x1x128x64, .f32⟩
  | .local _ .vmem, ⟨13, _⟩ => ⟨S1x1x128x64, .f32⟩
  | .local _ .vmem, ⟨14, _⟩ => ⟨S1x1x128x64, .f32⟩
  | .local _ .vmem, ⟨15, _⟩ => ⟨S1x1x128x64, .f32⟩
  | .local _ .vmem, ⟨16, _⟩ => ⟨S1x1x256x64, .f32⟩
  | .local _ .vmem, ⟨17, _⟩ => ⟨S1x1x256x64, .f32⟩
  | .local _ .vmem, ⟨18, _⟩ => ⟨S1x4x1x1, .f32⟩
  | .local _ .vmem, ⟨19, _⟩ => ⟨S1x4x1x1, .f32⟩
  | .local _ .vmem, ⟨20, _⟩ => ⟨S1x4x128x64, .f32⟩
  | .local _ .vmem, ⟨21, _⟩ => ⟨S1x4x128x64, .f32⟩
  | _, _ => ⟨S8x8x2304x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![8, 2, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![arg0.toNat, arg1.toNat, v0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c2_i32 : BitVec 32 := 2#32
  let v2 : BitVec 32 := Scalar.addi v1 c2_i32
  let c0_i32_0 : BitVec 32 := 0#32
  let c0_i32_1 : BitVec 32 := 0#32
  ![arg0.toNat, arg1.toNat, v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![arg0.toNat, arg1.toNat, v0.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c2_i32 : BitVec 32 := 2#32
  let v2 : BitVec 32 := Scalar.addi v1 c2_i32
  let c0_i32 : BitVec 32 := 0#32
  let c0_i32_0 : BitVec 32 := 0#32
  ![arg0.toNat, arg1.toNat, v2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c2_i32 : BitVec 32 := 2#32
  let v2 : BitVec 32 := Scalar.addi v1 c2_i32
  let c0_i32_0 : BitVec 32 := 0#32
  let c0_i32_1 : BitVec 32 := 0#32
  ![arg0.toNat, arg1.toNat, v2.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![arg0.toNat, arg1.toNat, v0.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c2_i32 : BitVec 32 := 2#32
  let v2 : BitVec 32 := Scalar.addi v1 c2_i32
  let c0_i32 : BitVec 32 := 0#32
  let c0_i32_0 : BitVec 32 := 0#32
  ![arg0.toNat, arg1.toNat, v2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x4x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x4x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x4x128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== WindowIdeal.lean ====
variable {F : FTy → Type} [FloatOps F] [Named F]
def κ : String → Option EReal := fun
  | "mask" => some ⊥
  | _ => none
-- ==== WindowReferenceIdeal.lean ====
abbrev S8x8x2304x64 : Shape := ⟨4, ![8, 8, 2304, 64]⟩
abbrev S8x2x2304x64 : Shape := ⟨4, ![8, 2, 2304, 64]⟩
abbrev S8 : Shape := ⟨1, ![8]⟩
abbrev S8x2304x8x64 : Shape := ⟨4, ![8, 2304, 8, 64]⟩
abbrev S8x2304x2x64 : Shape := ⟨4, ![8, 2304, 2, 64]⟩
abbrev S8x2048x8x64 : Shape := ⟨4, ![8, 2048, 8, 64]⟩
abbrev S8x2048x2x64 : Shape := ⟨4, ![8, 2048, 2, 64]⟩
abbrev S8x256x2x64 : Shape := ⟨4, ![8, 256, 2, 64]⟩
abbrev S8x16x128x2x4x64 : Shape := ⟨6, ![8, 16, 128, 2, 4, 64]⟩
abbrev S8x16x128x2x64 : Shape := ⟨5, ![8, 16, 128, 2, 64]⟩
abbrev S8x1x128x2x64 : Shape := ⟨5, ![8, 1, 128, 2, 64]⟩
abbrev S_ : Shape := ⟨0, ![]⟩
abbrev S8x15x128x2x64 : Shape := ⟨5, ![8, 15, 128, 2, 64]⟩
abbrev S8x16x384x2x64 : Shape := ⟨5, ![8, 16, 384, 2, 64]⟩
abbrev S8x16x2x384x128x4 : Shape := ⟨6, ![8, 16, 2, 384, 128, 4]⟩
abbrev S8x16x2x4x128x384 : Shape := ⟨6, ![8, 16, 2, 4, 128, 384]⟩
abbrev S16 : Shape := ⟨1, ![16]⟩
abbrev S16x1x1 : Shape := ⟨3, ![16, 1, 1]⟩
abbrev S128 : Shape := ⟨1, ![128]⟩
abbrev S1x128x1 : Shape := ⟨3, ![1, 128, 1]⟩
abbrev S16x128x1 : Shape := ⟨3, ![16, 128, 1]⟩
abbrev S384 : Shape := ⟨1, ![384]⟩
abbrev S1x1x384 : Shape := ⟨3, ![1, 1, 384]⟩
abbrev S16x1x384 : Shape := ⟨3, ![16, 1, 384]⟩
abbrev S16x128x384 : Shape := ⟨3, ![16, 128, 384]⟩
abbrev S1x16x1x1x128x384 : Shape := ⟨6, ![1, 16, 1, 1, 128, 384]⟩
abbrev S8x2x256x16x128x4 : Shape := ⟨6, ![8, 2, 256, 16, 128, 4]⟩
abbrev S8x16x2x4x128x256 : Shape := ⟨6, ![8, 16, 2, 4, 128, 256]⟩
abbrev S1x1x2x4x1x1 : Shape := ⟨6, ![1, 1, 2, 4, 1, 1]⟩
abbrev S8x16x2x4x128x1 : Shape := ⟨6, ![8, 16, 2, 4, 128, 1]⟩
abbrev S8x16x2x4x128x641 : Shape := ⟨6, ![8, 16, 2, 4, 128, 641]⟩
abbrev S8x16x2x4x128 : Shape := ⟨5, ![8, 16, 2, 4, 128]⟩
abbrev S8x16x2x64x4x128 : Shape := ⟨6, ![8, 16, 2, 64, 4, 128]⟩
abbrev S8x2x64x16x4x128 : Shape := ⟨6, ![8, 2, 64, 16, 4, 128]⟩
abbrev S8x8x2048x64 : Shape := ⟨4, ![8, 8, 2048, 64]⟩

abbrev nBuf : Space → Nat
  | .hbm => 111
  | .vmem => 0
  | .smem => 0
  | _ => 0

abbrev bufTy : (tb : Table) → Fin (tcTables nBuf tb) → BufTy
  | .hbm, ⟨0, _⟩ => ⟨S8x8x2304x64, .f32⟩
  | .hbm, ⟨1, _⟩ => ⟨S8x2x2304x64, .f32⟩
  | .hbm, ⟨2, _⟩ => ⟨S8x2x2304x64, .f32⟩
  | .hbm, ⟨3, _⟩ => ⟨S8, .f32⟩
  | .hbm, ⟨4, _⟩ => ⟨S8x2304x8x64, .f32⟩
  | .hbm, ⟨5, _⟩ => ⟨S8x2304x2x64, .f32⟩
  | .hbm, ⟨6, _⟩ => ⟨S8x2304x2x64, .f32⟩
  | .hbm, ⟨7, _⟩ => ⟨S8x2048x8x64, .f32⟩
  | .hbm, ⟨8, _⟩ => ⟨S8x2048x2x64, .f32⟩
  | .hbm, ⟨9, _⟩ => ⟨S8x2048x2x64, .f32⟩
  | .hbm, ⟨10, _⟩ => ⟨S8x256x2x64, .f32⟩
  | .hbm, ⟨11, _⟩ => ⟨S8x256x2x64, .f32⟩
  | .hbm, ⟨12, _⟩ => ⟨S8x16x128x2x4x64, .f32⟩
  | .hbm, ⟨13, _⟩ => ⟨S8x16x128x2x64, .f32⟩
  | .hbm, ⟨14, _⟩ => ⟨S8x1x128x2x64, .f32⟩
  | .hbm, ⟨15, _⟩ => ⟨S_, .f32⟩
  | .hbm, ⟨16, _⟩ => ⟨S8x1x128x2x64, .f32⟩
  | .hbm, ⟨17, _⟩ => ⟨S8x15x128x2x64, .f32⟩
  | .hbm, ⟨18, _⟩ => ⟨S8x16x128x2x64, .f32⟩
  | .hbm, ⟨19, _⟩ => ⟨S8x15x128x2x64, .f32⟩
  | .hbm, ⟨20, _⟩ => ⟨S8x16x128x2x64, .f32⟩
  | .hbm, ⟨21, _⟩ => ⟨S8x16x384x2x64, .f32⟩
  | .hbm, ⟨22, _⟩ => ⟨S8x16x128x2x64, .f32⟩
  | .hbm, ⟨23, _⟩ => ⟨S8x1x128x2x64, .f32⟩
  | .hbm, ⟨24, _⟩ => ⟨S_, .f32⟩
  | .hbm, ⟨25, _⟩ => ⟨S8x1x128x2x64, .f32⟩
  | .hbm, ⟨26, _⟩ => ⟨S8x15x128x2x64, .f32⟩
  | .hbm, ⟨27, _⟩ => ⟨S8x16x128x2x64, .f32⟩
  | .hbm, ⟨28, _⟩ => ⟨S8x15x128x2x64, .f32⟩
  | .hbm, ⟨29, _⟩ => ⟨S8x16x128x2x64, .f32⟩
  | .hbm, ⟨30, _⟩ => ⟨S8x16x384x2x64, .f32⟩
  | .hbm, ⟨31, _⟩ => ⟨S8x16x2x384x128x4, .f32⟩
  | .hbm, ⟨32, _⟩ => ⟨S8x16x2x4x128x384, .f32⟩
  | .hbm, ⟨33, _⟩ => ⟨S_, .f32⟩
  | .hbm, ⟨34, _⟩ => ⟨S8x16x2x4x128x384, .f32⟩
  | .hbm, ⟨35, _⟩ => ⟨S8x16x2x4x128x384, .f32⟩
  | .hbm, ⟨36, _⟩ => ⟨S16, .i32⟩
  | .hbm, ⟨37, _⟩ => ⟨S16x1x1, .i32⟩
  | .hbm, ⟨38, _⟩ => ⟨S_, .i32⟩
  | .hbm, ⟨39, _⟩ => ⟨S16x1x1, .i32⟩
  | .hbm, ⟨40, _⟩ => ⟨S16x1x1, .i32⟩
  | .hbm, ⟨41, _⟩ => ⟨S128, .i32⟩
  | .hbm, ⟨42, _⟩ => ⟨S1x128x1, .i32⟩
  | .hbm, ⟨43, _⟩ => ⟨S16x128x1, .i32⟩
  | .hbm, ⟨44, _⟩ => ⟨S16x128x1, .i32⟩
  | .hbm, ⟨45, _⟩ => ⟨S16x128x1, .i32⟩
  | .hbm, ⟨46, _⟩ => ⟨S_, .i32⟩
  | .hbm, ⟨47, _⟩ => ⟨S16x1x1, .i32⟩
  | .hbm, ⟨48, _⟩ => ⟨S16x1x1, .i32⟩
  | .hbm, ⟨49, _⟩ => ⟨S_, .i32⟩
  | .hbm, ⟨50, _⟩ => ⟨S16x1x1, .i32⟩
  | .hbm, ⟨51, _⟩ => ⟨S16x1x1, .i32⟩
  | .hbm, ⟨52, _⟩ => ⟨S384, .i32⟩
  | .hbm, ⟨53, _⟩ => ⟨S1x1x384, .i32⟩
  | .hbm, ⟨54, _⟩ => ⟨S16x1x384, .i32⟩
  | .hbm, ⟨55, _⟩ => ⟨S16x1x384, .i32⟩
  | .hbm, ⟨56, _⟩ => ⟨S16x1x384, .i32⟩
  | .hbm, ⟨57, _⟩ => ⟨S16x128x384, .i32⟩
  | .hbm, ⟨58, _⟩ => ⟨S16x128x384, .i32⟩
  | .hbm, ⟨59, _⟩ => ⟨S16x128x384, .i32⟩
  | .hbm, ⟨60, _⟩ => ⟨S16x128x384, .i32⟩
  | .hbm, ⟨61, _⟩ => ⟨S_, .i32⟩
  | .hbm, ⟨62, _⟩ => ⟨S16x128x384, .i32⟩
  | .hbm, ⟨63, _⟩ => ⟨S16x128x384, .i1⟩
  | .hbm, ⟨64, _⟩ => ⟨S_, .i32⟩
  | .hbm, ⟨65, _⟩ => ⟨S16x1x384, .i32⟩
  | .hbm, ⟨66, _⟩ => ⟨S16x1x384, .i1⟩
  | .hbm, ⟨67, _⟩ => ⟨S16x128x384, .i1⟩
  | .hbm, ⟨68, _⟩ => ⟨S16x128x384, .i1⟩
  | .hbm, ⟨69, _⟩ => ⟨S_, .i32⟩
  | .hbm, ⟨70, _⟩ => ⟨S16x1x384, .i32⟩
  | .hbm, ⟨71, _⟩ => ⟨S16x1x384, .i1⟩
  | .hbm, ⟨72, _⟩ => ⟨S16x128x384, .i1⟩
  | .hbm, ⟨73, _⟩ => ⟨S16x128x384, .i1⟩
  | .hbm, ⟨74, _⟩ => ⟨S1x16x1x1x128x384, .i1⟩
  | .hbm, ⟨75, _⟩ => ⟨S_, .f32⟩
  | .hbm, ⟨76, _⟩ => ⟨S_, .f32⟩
  | .hbm, ⟨77, _⟩ => ⟨S8x16x2x4x128x384, .i1⟩
  | .hbm, ⟨78, _⟩ => ⟨S8x16x2x4x128x384, .f32⟩
  | .hbm, ⟨79, _⟩ => ⟨S8x16x2x4x128x384, .f32⟩
  | .hbm, ⟨80, _⟩ => ⟨S8x2x256x16x128x4, .f32⟩
  | .hbm, ⟨81, _⟩ => ⟨S8x16x2x4x128x256, .f32⟩
  | .hbm, ⟨82, _⟩ => ⟨S_, .f32⟩
  | .hbm, ⟨83, _⟩ => ⟨S8x16x2x4x128x256, .f32⟩
  | .hbm, ⟨84, _⟩ => ⟨S8x16x2x4x128x256, .f32⟩
  | .hbm, ⟨85, _⟩ => ⟨S1x1x2x4x1x1, .f32⟩
  | .hbm, ⟨86, _⟩ => ⟨S8x16x2x4x128x1, .f32⟩
  | .hbm, ⟨87, _⟩ => ⟨S8x16x2x4x128x641, .f32⟩
  | .hbm, ⟨88, _⟩ => ⟨S_, .f32⟩
  | .hbm, ⟨89, _⟩ => ⟨S8x16x2x4x128, .f32⟩
  | .hbm, ⟨90, _⟩ => ⟨S_, .f32⟩
  | .hbm, ⟨91, _⟩ => ⟨S8x16x2x4x128, .f32⟩
  | .hbm, ⟨92, _⟩ => ⟨S8x16x2x4x128, .f32⟩
  | .hbm, ⟨93, _⟩ => ⟨S8x16x2x4x128x1, .f32⟩
  | .hbm, ⟨94, _⟩ => ⟨S8x16x2x4x128x641, .f32⟩
  | .hbm, ⟨95, _⟩ => ⟨S8x16x2x4x128x641, .f32⟩
  | .hbm, ⟨96, _⟩ => ⟨S8x16x2x4x128x641, .f32⟩
  | .hbm, ⟨97, _⟩ => ⟨S_, .f32⟩
  | .hbm, ⟨98, _⟩ => ⟨S8x16x2x4x128, .f32⟩
  | .hbm, ⟨99, _⟩ => ⟨S8x16x2x4x128x1, .f32⟩
  | .hbm, ⟨100, _⟩ => ⟨S8x16x2x4x128x641, .f32⟩
  | .hbm, ⟨101, _⟩ => ⟨S8x16x2x4x128x641, .f32⟩
  | .hbm, ⟨102, _⟩ => ⟨S8x16x2x4x128x384, .f32⟩
  | .hbm, ⟨103, _⟩ => ⟨S8x16x2x4x128x256, .f32⟩
  | .hbm, ⟨104, _⟩ => ⟨S8x16x2x64x4x128, .f32⟩
  | .hbm, ⟨105, _⟩ => ⟨S8x16x128x2x4x64, .f32⟩
  | .hbm, ⟨106, _⟩ => ⟨S8x2x64x16x4x128, .f32⟩
  | .hbm, ⟨107, _⟩ => ⟨S8x16x128x2x4x64, .f32⟩
  | .hbm, ⟨108, _⟩ => ⟨S8x16x128x2x4x64, .f32⟩
  | .hbm, ⟨109, _⟩ => ⟨S8x2048x8x64, .f32⟩
  | .hbm, ⟨110, _⟩ => ⟨S8x8x2048x64, .f32⟩
  | _, _ => ⟨S8x8x2304x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c_2 : Ref sig .tc := ⟨.hbm, 46, rfl⟩
abbrev main_v38 : Ref sig .tc := ⟨.hbm, 47, rfl⟩
abbrev main_v39 : Ref sig .tc := ⟨.hbm, 48, rfl⟩
abbrev main_c_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_c_4 : Ref sig .tc := ⟨.hbm, 61, rfl⟩
abbrev main_v51 : Ref sig .tc := ⟨.hbm, 62, rfl⟩
abbrev main_v52 : Ref sig .tc := ⟨.hbm, 63, rfl⟩
abbrev main_c_5 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_c_6 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_7 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_8 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_9 : Ref sig .tc := ⟨.hbm, 88, rfl⟩
abbrev main_v70 : Ref sig .tc := ⟨.hbm, 89, rfl⟩
abbrev main_cst_10 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_11 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩

abbrev nD : Nat := 1
abbrev τ : Topo := Topo.v7x

variable {F : FTy → Type} [FloatOps F]
-- ==== Prep.lean ====
abbrev S8x2304x1536 : Shape := ⟨3, ![8, 2304, 1536]⟩
abbrev S2304 : Shape := ⟨1, ![2304]⟩
abbrev S64 : Shape := ⟨1, ![64]⟩
abbrev S256 : Shape := ⟨1, ![256]⟩
abbrev S256x768 : Shape := ⟨2, ![256, 768]⟩
abbrev S256x512 : Shape := ⟨2, ![256, 512]⟩
abbrev S32 : Shape := ⟨1, ![32]⟩
abbrev S16 : Shape := ⟨1, ![16]⟩
abbrev S_ : Shape := ⟨0, ![]⟩
abbrev S2304x1 : Shape := ⟨2, ![2304, 1]⟩
abbrev S1x16 : Shape := ⟨2, ![1, 16]⟩
abbrev S2304x16 : Shape := ⟨2, ![2304, 16]⟩
abbrev S2304x64 : Shape := ⟨2, ![2304, 64]⟩
abbrev S1x2304x1x64 : Shape := ⟨4, ![1, 2304, 1, 64]⟩
abbrev S1x2304x8x64 : Shape := ⟨4, ![1, 2304, 8, 64]⟩
abbrev S2304x512 : Shape := ⟨2, ![2304, 512]⟩
abbrev S8 : Shape := ⟨1, ![8]⟩
abbrev S1x8 : Shape := ⟨2, ![1, 8]⟩
abbrev S2304x8 : Shape := ⟨2, ![2304, 8]⟩
abbrev S2304x32 : Shape := ⟨2, ![2304, 32]⟩
abbrev S1x2304x1x32 : Shape := ⟨4, ![1, 2304, 1, 32]⟩
abbrev S1x2304x8x32 : Shape := ⟨4, ![1, 2304, 8, 32]⟩
abbrev S2304x256 : Shape := ⟨2, ![2304, 256]⟩
abbrev S256x8x96 : Shape := ⟨3, ![256, 8, 96]⟩
abbrev S256x8x64 : Shape := ⟨3, ![256, 8, 64]⟩
abbrev S256x8x32 : Shape := ⟨3, ![256, 8, 32]⟩
abbrev S256x256 : Shape := ⟨2, ![256, 256]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S1x256 : Shape := ⟨2, ![1, 256]⟩
abbrev S1x32 : Shape := ⟨2, ![1, 32]⟩
abbrev S8x32 : Shape := ⟨2, ![8, 32]⟩
abbrev S8x2304x512 : Shape := ⟨3, ![8, 2304, 512]⟩
abbrev S8x2304x128 : Shape := ⟨3, ![8, 2304, 128]⟩
abbrev S8x2304x256 : Shape := ⟨3, ![8, 2304, 256]⟩
abbrev S1x256x1536 : Shape := ⟨3, ![1, 256, 1536]⟩
abbrev S1x256x512 : Shape := ⟨3, ![1, 256, 512]⟩
abbrev S1x256x128 : Shape := ⟨3, ![1, 256, 128]⟩
abbrev S1x256x256 : Shape := ⟨3, ![1, 256, 256]⟩
abbrev S256x1536 : Shape := ⟨2, ![256, 1536]⟩
abbrev S256x128 : Shape := ⟨2, ![256, 128]⟩
abbrev S512x512 : Shape := ⟨2, ![512, 512]⟩
abbrev S128x128 : Shape := ⟨2, ![128, 128]⟩
abbrev S256x1 : Shape := ⟨2, ![256, 1]⟩

abbrev nBuf : Space → Nat
  | .hbm => 141
  | .vmem => 35
  | .smem => 0
  | _ => 0

abbrev hbmTy0_0 (i : Nat) : BufTy := match i % 128 with
  | 0 => ⟨S8x2304x1536, .f32⟩
  | 1 => ⟨S2304, .i32⟩
  | 2 => ⟨S2304, .i32⟩
  | 3 => ⟨S64, .f32⟩
  | 4 => ⟨S64, .f32⟩
  | 5 => ⟨S256, .f32⟩
  | 6 => ⟨S256, .f32⟩
  | 7 => ⟨S256x768, .f32⟩
  | 8 => ⟨S256x512, .f32⟩
  | 9 => ⟨S256x512, .f32⟩
  | 10 => ⟨S64, .f32⟩
  | 11 => ⟨S32, .f32⟩
  | 12 => ⟨S64, .f32⟩
  | 13 => ⟨S32, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S2304, .f32⟩
  | 23 => ⟨S2304x1, .f32⟩
  | 24 => ⟨S1x16, .f32⟩
  | 25 => ⟨S2304x16, .f32⟩
  | 26 => ⟨S2304x16, .f32⟩
  | 27 => ⟨S2304x16, .f32⟩
  | 28 => ⟨S2304, .f32⟩
  | 29 => ⟨S2304x1, .f32⟩
  | 30 => ⟨S1x16, .f32⟩
  | 31 => ⟨S2304x16, .f32⟩
  | 32 => ⟨S2304x16, .f32⟩
  | 33 => ⟨S2304x16, .f32⟩
  | 34 => ⟨S2304x16, .f32⟩
  | 35 => ⟨S2304x16, .f32⟩
  | 36 => ⟨S2304x16, .f32⟩
  | 37 => ⟨S2304x16, .f32⟩
  | 38 => ⟨S2304x64, .f32⟩
  | 39 => ⟨S2304x16, .f32⟩
  | 40 => ⟨S2304x16, .f32⟩
  | 41 => ⟨S2304x16, .f32⟩
  | 42 => ⟨S2304x16, .f32⟩
  | 43 => ⟨S2304x16, .f32⟩
  | 44 => ⟨S2304x16, .f32⟩
  | 45 => ⟨S2304x64, .f32⟩
  | 46 => ⟨S1x2304x1x64, .f32⟩
  | 47 => ⟨S1x2304x8x64, .f32⟩
  | 48 => ⟨S2304x512, .f32⟩
  | 49 => ⟨S1x2304x1x64, .f32⟩
  | 50 => ⟨S1x2304x8x64, .f32⟩
  | 51 => ⟨S2304x512, .f32⟩
  | 52 => ⟨S8, .f32⟩
  | 53 => ⟨S8, .f32⟩
  | 54 => ⟨S_, .f32⟩
  | 55 => ⟨S8, .f32⟩
  | 56 => ⟨S8, .f32⟩
  | 57 => ⟨S_, .f32⟩
  | 58 => ⟨S8, .f32⟩
  | 59 => ⟨S8, .f32⟩
  | 60 => ⟨S2304, .f32⟩
  | 61 => ⟨S2304x1, .f32⟩
  | 62 => ⟨S1x8, .f32⟩
  | 63 => ⟨S2304x8, .f32⟩
  | 64 => ⟨S2304x8, .f32⟩
  | 65 => ⟨S2304x8, .f32⟩
  | 66 => ⟨S2304, .f32⟩
  | 67 => ⟨S2304x1, .f32⟩
  | 68 => ⟨S1x8, .f32⟩
  | 69 => ⟨S2304x8, .f32⟩
  | 70 => ⟨S2304x8, .f32⟩
  | 71 => ⟨S2304x8, .f32⟩
  | 72 => ⟨S2304x8, .f32⟩
  | 73 => ⟨S2304x8, .f32⟩
  | 74 => ⟨S2304x8, .f32⟩
  | 75 => ⟨S2304x8, .f32⟩
  | 76 => ⟨S2304x32, .f32⟩
  | 77 => ⟨S2304x8, .f32⟩
  | 78 => ⟨S2304x8, .f32⟩
  | 79 => ⟨S2304x8, .f32⟩
  | 80 => ⟨S2304x8, .f32⟩
  | 81 => ⟨S2304x8, .f32⟩
  | 82 => ⟨S2304x8, .f32⟩
  | 83 => ⟨S2304x32, .f32⟩
  | 84 => ⟨S1x2304x1x32, .f32⟩
  | 85 => ⟨S1x2304x8x32, .f32⟩
  | 86 => ⟨S2304x256, .f32⟩
  | 87 => ⟨S1x2304x1x32, .f32⟩
  | 88 => ⟨S1x2304x8x32, .f32⟩
  | 89 => ⟨S2304x256, .f32⟩
  | 90 => ⟨S256x8x96, .f32⟩
  | 91 => ⟨S256x8x64, .f32⟩
  | 92 => ⟨S256x512, .f32⟩
  | 93 => ⟨S256x8x32, .f32⟩
  | 94 => ⟨S256x256, .f32⟩
  | 95 => ⟨S256x768, .f32⟩
  | 96 => ⟨S1x64, .f32⟩
  | 97 => ⟨S8x64, .f32⟩
  | 98 => ⟨S512, .f32⟩
  | 99 => ⟨S1x512, .f32⟩
  | 100 => ⟨S1x64, .f32⟩
  | 101 => ⟨S2x64, .f32⟩
  | 102 => ⟨S128, .f32⟩
  | 103 => ⟨S1x128, .f32⟩
  | 104 => ⟨S1x256, .f32⟩
  | 105 => ⟨S1x256, .f32⟩
  | 106 => ⟨S256, .f32⟩
  | 107 => ⟨S1x256, .f32⟩
  | 108 => ⟨S1x256, .f32⟩
  | 109 => ⟨S1x256, .f32⟩
  | 110 => ⟨S256, .f32⟩
  | 111 => ⟨S1x256, .f32⟩
  | 112 => ⟨S1x64, .f32⟩
  | 113 => ⟨S8x64, .f32⟩
  | 114 => ⟨S512, .f32⟩
  | 115 => ⟨S1x512, .f32⟩
  | 116 => ⟨S1x32, .f32⟩
  | 117 => ⟨S8x32, .f32⟩
  | 118 => ⟨S256, .f32⟩
  | 119 => ⟨S1x256, .f32⟩
  | 120 => ⟨S1x64, .f32⟩
  | 121 => ⟨S8x64, .f32⟩
  | 122 => ⟨S512, .f32⟩
  | 123 => ⟨S1x512, .f32⟩
  | 124 => ⟨S1x32, .f32⟩
  | 125 => ⟨S1x32, .f32⟩
  | 126 => ⟨S32, .f32⟩
  | 127 => ⟨S1x32, .f32⟩
  | _ => ⟨S8x2304x1536, .f32⟩

abbrev hbmTy0_1 (i : Nat) : BufTy := match i % 128 with
  | 0 => ⟨S_, .i32⟩
  | 1 => ⟨S_, .f32⟩
  | 2 => ⟨S1x128, .f32⟩
  | 3 => ⟨S256x768, .bf16⟩
  | 4 => ⟨S256x512, .bf16⟩
  | 5 => ⟨S256x512, .bf16⟩
  | 6 => ⟨S8x2304x512, .f32⟩
  | 7 => ⟨S8x2304x128, .f32⟩
  | 8 => ⟨S8x2304x512, .f32⟩
  | 9 => ⟨S8x2304x256, .f32⟩
  | 10 => ⟨S8x2304x512, .f32⟩
  | 11 => ⟨S8x2304x512, .f32⟩
  | 12 => ⟨S8x2304x128, .f32⟩
  | _ => ⟨S8x2304x1536, .f32⟩

abbrev hbmTy (i : Nat) : BufTy := match i / 128 with
  | 0 => hbmTy0_0 i
  | 1 => hbmTy0_1 i
  | _ => ⟨S8x2304x1536, .f32⟩

abbrev bufTy : (tb : Table) → Fin (tcTables nBuf tb) → BufTy
  | .hbm, ⟨i, _⟩ => hbmTy i
  | .local _ .vmem, ⟨0, _⟩ => ⟨S1x256x1536, .f32⟩
  | .local _ .vmem, ⟨1, _⟩ => ⟨S1x256x1536, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S1x512, .f32⟩
  | .local _ .vmem, ⟨11, _⟩ => ⟨S1x128, .f32⟩
  | .local _ .vmem, ⟨12, _⟩ => ⟨S1x256, .f32⟩
  | .local _ .vmem, ⟨13, _⟩ => ⟨S1x256, .f32⟩
  | .local _ .vmem, ⟨14, _⟩ => ⟨S1x512, .f32⟩
  | .local _ .vmem, ⟨15, _⟩ => ⟨S1x256, .f32⟩
  | .local _ .vmem, ⟨16, _⟩ => ⟨S1x512, .f32⟩
  | .local _ .vmem, ⟨17, _⟩ => ⟨S1x128, .f32⟩
  | .local _ .vmem, ⟨18, _⟩ => ⟨S256x768, .bf16⟩
  | .local _ .vmem, ⟨19, _⟩ => ⟨S256x512, .bf16⟩
  | .local _ .vmem, ⟨20, _⟩ => ⟨S256x512, .bf16⟩
  | .local _ .vmem, ⟨21, _⟩ => ⟨S1x256x512, .f32⟩
  | .local _ .vmem, ⟨22, _⟩ => ⟨S1x256x512, .f32⟩
  | .local _ .vmem, ⟨23, _⟩ => ⟨S1x256x128, .f32⟩
  | .local _ .vmem, ⟨24, _⟩ => ⟨S1x256x128, .f32⟩
  | .local _ .vmem, ⟨25, _⟩ => ⟨S1x256x512, .f32⟩
  | .local _ .vmem, ⟨26, _⟩ => ⟨S1x256x512, .f32⟩
  | .local _ .vmem, ⟨27, _⟩ => ⟨S1x256x256, .f32⟩
  | .local _ .vmem, ⟨28, _⟩ => ⟨S1x256x256, .f32⟩
  | .local _ .vmem, ⟨29, _⟩ => ⟨S1x256x512, .f32⟩
  | .local _ .vmem, ⟨30, _⟩ => ⟨S1x256x512, .f32⟩
  | .local _ .vmem, ⟨31, _⟩ => ⟨S1x256x512, .f32⟩
  | .local _ .vmem, ⟨32, _⟩ => ⟨S1x256x512, .f32⟩
  | .local _ .vmem, ⟨33, _⟩ => ⟨S1x256x128, .f32⟩
  | .local _ .vmem, ⟨34, _⟩ => ⟨S1x256x128, .f32⟩
  | _, _ => ⟨S8x2304x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_1 : Ref sig .tc := ⟨.hbm, 54, rfl⟩
abbrev main_v38 : Ref sig .tc := ⟨.hbm, 55, rfl⟩
abbrev main_v39 : Ref sig .tc := ⟨.hbm, 56, rfl⟩
abbrev main_cst_2 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_c : Ref sig .tc := ⟨.hbm, 128, rfl⟩
abbrev main_call0_v0 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114_0 : Ref sig .tc := ⟨.hbm, 134, rfl⟩
abbrev main_v114_1 : Ref sig .tc := ⟨.hbm, 135, rfl⟩
abbrev main_v114_2 : Ref sig .tc := ⟨.hbm, 136, rfl⟩
abbrev main_v114_3 : Ref sig .tc := ⟨.hbm, 137, rfl⟩
abbrev main_v114_4 : Ref sig .tc := ⟨.hbm, 138, rfl⟩
abbrev main_v114_5 : Ref sig .tc := ⟨.hbm, 139, rfl⟩
abbrev main_v114_6 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x768 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== PrepReferenceIdeal.lean ====
abbrev S8x2304x1536 : Shape := ⟨3, ![8, 2304, 1536]⟩
abbrev S2304 : Shape := ⟨1, ![2304]⟩
abbrev S64 : Shape := ⟨1, ![64]⟩
abbrev S256 : Shape := ⟨1, ![256]⟩
abbrev S256x768 : Shape := ⟨2, ![256, 768]⟩
abbrev S256x512 : Shape := ⟨2, ![256, 512]⟩
abbrev S32 : Shape := ⟨1, ![32]⟩
abbrev S8x2304x256 : Shape := ⟨3, ![8, 2304, 256]⟩
abbrev S_ : Shape := ⟨0, ![]⟩
abbrev S8x2304 : Shape := ⟨2, ![8, 2304]⟩
abbrev S8x2304x1 : Shape := ⟨3, ![8, 2304, 1]⟩
abbrev S1x1x256 : Shape := ⟨3, ![1, 1, 256]⟩
abbrev S8x2304x768 : Shape := ⟨3, ![8, 2304, 768]⟩
abbrev S8x2304x8x96 : Shape := ⟨4, ![8, 2304, 8, 96]⟩
abbrev S8x2304x8x64 : Shape := ⟨4, ![8, 2304, 8, 64]⟩
abbrev S8x2304x8 : Shape := ⟨3, ![8, 2304, 8]⟩
abbrev S8x2304x8x1 : Shape := ⟨4, ![8, 2304, 8, 1]⟩
abbrev S1x1x1x64 : Shape := ⟨4, ![1, 1, 1, 64]⟩
abbrev S8x2304x512 : Shape := ⟨3, ![8, 2304, 512]⟩

abbrev nBuf : Space → Nat
  | .hbm => 88
  | .vmem => 0
  | .smem => 0
  | _ => 0

abbrev bufTy : (tb : Table) → Fin (tcTables nBuf tb) → BufTy
  | .hbm, ⟨0, _⟩ => ⟨S8x2304x1536, .f32⟩
  | .hbm, ⟨1, _⟩ => ⟨S2304, .i32⟩
  | .hbm, ⟨2, _⟩ => ⟨S2304, .i32⟩
  | .hbm, ⟨3, _⟩ => ⟨S64, .f32⟩
  | .hbm, ⟨4, _⟩ => ⟨S64, .f32⟩
  | .hbm, ⟨5, _⟩ => ⟨S256, .f32⟩
  | .hbm, ⟨6, _⟩ => ⟨S256, .f32⟩
  | .hbm, ⟨7, _⟩ => ⟨S256x768, .f32⟩
  | .hbm, ⟨8, _⟩ => ⟨S256x512, .f32⟩
  | .hbm, ⟨9, _⟩ => ⟨S256x512, .f32⟩
  | .hbm, ⟨10, _⟩ => ⟨S64, .f32⟩
  | .hbm, ⟨11, _⟩ => ⟨S32, .f32⟩
  | .hbm, ⟨12, _⟩ => ⟨S64, .f32⟩
  | .hbm, ⟨13, _⟩ => ⟨S32, .f32⟩
  | .hbm, ⟨14, _⟩ => ⟨S8x2304x256, .f32⟩
  | .hbm, ⟨15, _⟩ => ⟨S8x2304x256, .f32⟩
  | .hbm, ⟨16, _⟩ => ⟨S8x2304x256, .f32⟩
  | .hbm, ⟨17, _⟩ => ⟨S_, .f32⟩
  | .hbm, ⟨18, _⟩ => ⟨S8x2304, .f32⟩
  | .hbm, ⟨19, _⟩ => ⟨S8x2304x1, .f32⟩
  | .hbm, ⟨20, _⟩ => ⟨S_, .f32⟩
  | .hbm, ⟨21, _⟩ => ⟨S8x2304x1, .f32⟩
  | .hbm, ⟨22, _⟩ => ⟨S8x2304x1, .f32⟩
  | .hbm, ⟨23, _⟩ => ⟨S_, .f32⟩
  | .hbm, ⟨24, _⟩ => ⟨S8x2304x1, .f32⟩
  | .hbm, ⟨25, _⟩ => ⟨S8x2304x1, .f32⟩
  | .hbm, ⟨26, _⟩ => ⟨S8x2304x1, .f32⟩
  | .hbm, ⟨27, _⟩ => ⟨S8x2304x256, .f32⟩
  | .hbm, ⟨28, _⟩ => ⟨S8x2304x256, .f32⟩
  | .hbm, ⟨29, _⟩ => ⟨S1x1x256, .f32⟩
  | .hbm, ⟨30, _⟩ => ⟨S8x2304x256, .f32⟩
  | .hbm, ⟨31, _⟩ => ⟨S8x2304x256, .f32⟩
  | .hbm, ⟨32, _⟩ => ⟨S8x2304x768, .f32⟩
  | .hbm, ⟨33, _⟩ => ⟨S8x2304x8x96, .f32⟩
  | .hbm, ⟨34, _⟩ => ⟨S8x2304x8x64, .f32⟩
  | .hbm, ⟨35, _⟩ => ⟨S8x2304x8x64, .f32⟩
  | .hbm, ⟨36, _⟩ => ⟨S_, .f32⟩
  | .hbm, ⟨37, _⟩ => ⟨S8x2304x8, .f32⟩
  | .hbm, ⟨38, _⟩ => ⟨S8x2304x8x1, .f32⟩
  | .hbm, ⟨39, _⟩ => ⟨S_, .f32⟩
  | .hbm, ⟨40, _⟩ => ⟨S8x2304x8x1, .f32⟩
  | .hbm, ⟨41, _⟩ => ⟨S8x2304x8x1, .f32⟩
  | .hbm, ⟨42, _⟩ => ⟨S_, .f32⟩
  | .hbm, ⟨43, _⟩ => ⟨S8x2304x8x1, .f32⟩
  | .hbm, ⟨44, _⟩ => ⟨S8x2304x8x1, .f32⟩
  | .hbm, ⟨45, _⟩ => ⟨S8x2304x8x1, .f32⟩
  | .hbm, ⟨46, _⟩ => ⟨S8x2304x8x64, .f32⟩
  | .hbm, ⟨47, _⟩ => ⟨S8x2304x8x64, .f32⟩
  | .hbm, ⟨48, _⟩ => ⟨S1x1x1x64, .f32⟩
  | .hbm, ⟨49, _⟩ => ⟨S8x2304x8x64, .f32⟩
  | .hbm, ⟨50, _⟩ => ⟨S8x2304x8x64, .f32⟩
  | .hbm, ⟨51, _⟩ => ⟨S8x2304x256, .f32⟩
  | .hbm, ⟨52, _⟩ => ⟨S_, .f32⟩
  | .hbm, ⟨53, _⟩ => ⟨S8x2304, .f32⟩
  | .hbm, ⟨54, _⟩ => ⟨S8x2304x1, .f32⟩
  | .hbm, ⟨55, _⟩ => ⟨S_, .f32⟩
  | .hbm, ⟨56, _⟩ => ⟨S8x2304x1, .f32⟩
  | .hbm, ⟨57, _⟩ => ⟨S8x2304x1, .f32⟩
  | .hbm, ⟨58, _⟩ => ⟨S_, .f32⟩
  | .hbm, ⟨59, _⟩ => ⟨S8x2304x1, .f32⟩
  | .hbm, ⟨60, _⟩ => ⟨S8x2304x1, .f32⟩
  | .hbm, ⟨61, _⟩ => ⟨S8x2304x1, .f32⟩
  | .hbm, ⟨62, _⟩ => ⟨S8x2304x256, .f32⟩
  | .hbm, ⟨63, _⟩ => ⟨S8x2304x256, .f32⟩
  | .hbm, ⟨64, _⟩ => ⟨S1x1x256, .f32⟩
  | .hbm, ⟨65, _⟩ => ⟨S8x2304x256, .f32⟩
  | .hbm, ⟨66, _⟩ => ⟨S8x2304x256, .f32⟩
  | .hbm, ⟨67, _⟩ => ⟨S8x2304x512, .f32⟩
  | .hbm, ⟨68, _⟩ => ⟨S8x2304x8x64, .f32⟩
  | .hbm, ⟨69, _⟩ => ⟨S8x2304x8x64, .f32⟩
  | .hbm, ⟨70, _⟩ => ⟨S_, .f32⟩
  | .hbm, ⟨71, _⟩ => ⟨S8x2304x8, .f32⟩
  | .hbm, ⟨72, _⟩ => ⟨S8x2304x8x1, .f32⟩
  | .hbm, ⟨73, _⟩ => ⟨S_, .f32⟩
  | .hbm, ⟨74, _⟩ => ⟨S8x2304x8x1, .f32⟩
  | .hbm, ⟨75, _⟩ => ⟨S8x2304x8x1, .f32⟩
  | .hbm, ⟨76, _⟩ => ⟨S_, .f32⟩
  | .hbm, ⟨77, _⟩ => ⟨S8x2304x8x1, .f32⟩
  | .hbm, ⟨78, _⟩ => ⟨S8x2304x8x1, .f32⟩
  | .hbm, ⟨79, _⟩ => ⟨S8x2304x8x1, .f32⟩
  | .hbm, ⟨80, _⟩ => ⟨S8x2304x8x64, .f32⟩
  | .hbm, ⟨81, _⟩ => ⟨S8x2304x8x64, .f32⟩
  | .hbm, ⟨82, _⟩ => ⟨S1x1x1x64, .f32⟩
  | .hbm, ⟨83, _⟩ => ⟨S8x2304x8x64, .f32⟩
  | .hbm, ⟨84, _⟩ => ⟨S8x2304x8x64, .f32⟩
  | .hbm, ⟨85, _⟩ => ⟨S8x2304x512, .f32⟩
  | .hbm, ⟨86, _⟩ => ⟨S8x2304x512, .f32⟩
  | .hbm, ⟨87, _⟩ => ⟨S8x2304x512, .f32⟩
  | _, _ => ⟨S8x2304x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩

abbrev nD : Nat := 1
abbrev τ : Topo := Topo.v7x

variable {F : FTy → Type} [FloatOps F]
-- ==== Proof.Softmax.lean ====
/-
  Extended-real arithmetic of a softmax: with real scores, dividing the weighted sum of exponentials by their sum is the same as
  weighting with the divided exponentials.
-/
module

public import Idealize.ShloMosaic.Lib.Pointwise.Tactic
public import Idealize.ShloMosaic.Lib.ValueIdx

@[expose] public section

noncomputable section

namespace Cert.Proof.Softmax

open Idealize.ShloMosaic

/-- Multiplication by a nonnegative real distributes over a finite sum of extended reals. -/
theorem sum_mul_coe {ι : Type*} (s : Finset ι) (f : ι → EReal) {c : ℝ} (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- A finite sum of reals, taken in the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of real products is real. -/
theorem sum_mul_real {n : ℕ} (f g : Fin n → EReal) (hf : ∀ k, ∃ r : ℝ, f k = r) (hg : ∀ k, ∃ r : ℝ, g k = r) :
    ∃ r : ℝ, ∑ k, f k * g k = r := by
  choose a ha using hf
  choose b hb using hg
  refine ⟨∑ k, a k * b k, ?_⟩
  rw [coe_sum]
  exact Finset.sum_congr rfl fun k _ => by rw [ha, hb, EReal.coe_mul]

/-- The greatest of finitely many (at least one) reals is real. -/
theorem fold_max_real {n : ℕ} (r : Fin (n + 1) → ℝ) :
    ∃ μ : ℝ, Finset.univ.fold max (⊥ : EReal) (fun k => (r k : EReal)) = μ := by
  have h1 : Finset.univ.fold max (⊥ : EReal) (fun k => (r k : EReal)) < ⊤ :=
    (Finset.fold_max_lt _).2 ⟨bot_lt_top, fun k _ => EReal.coe_lt_top _⟩
  have h2 : (⊥ : EReal) < Finset.univ.fold max (⊥ : EReal) (fun k => (r k : EReal)) :=
    (Finset.lt_fold_max _).2 (Or.inr ⟨0, Finset.mem_univ _, EReal.bot_lt_coe _⟩)
  exact ⟨_, (EReal.coe_toReal h1.ne h2.ne').symm⟩

/-- One output of attention over real scores `s` and arbitrary values `v`: the quotient of the sums is the sum of the quotients. -/
theorem attend_eq {n : ℕ} (s v : Fin (n + 1) → EReal) (hs : ∀ k, ∃ r : ℝ, s k = r) :
    Ideal.div (∑ k, Ideal.exp (s k - Finset.univ.fold max ⊥ s) * v k) (∑ k, Ideal.exp (s k - Finset.univ.fold max ⊥ s))
      = ∑ k, v k * Ideal.div (Ideal.exp (s k - Finset.univ.fold max ⊥ s)) (∑ j, Ideal.exp (s j - Finset.univ.fold max ⊥ s)) := by
  choose r hr using hs
  obtain rfl : s = fun k => (r k : EReal) := funext hr
  obtain ⟨μ, hμ⟩ := fold_max_real r
  rw [hμ]
  have he : ∀ k, Ideal.exp ((r k : EReal) - (μ : EReal)) = (Real.exp (r k - μ) : EReal) := fun k => by
    rw [← EReal.coe_sub]; rfl
  simp only [he]
  rw [← coe_sum]
  have hd : 0 < ∑ k, Real.exp (r k - μ) := Finset.sum_pos (fun k _ => Real.exp_pos _) ⟨0, Finset.mem_univ _⟩
  generalize (∑ k, Real.exp (r k - μ)) = d at hd
  have hdiv : ∀ x : EReal, Ideal.div x (d : EReal) = x * ((d⁻¹ : ℝ) : EReal) := fun x => by
    unfold Ideal.div
    rw [if_neg (by exact_mod_cast hd.ne'), EReal.coe_inv]
  simp only [hdiv]
  rw [sum_mul_coe _ _ (inv_nonneg.2 hd.le)]
  exact Finset.sum_congr rfl fun k _ => by rw [mul_comm _ (v k), mul_assoc]

/-- A score computed from scaled queries in two parts is the scaled score. -/
theorem score_eq {a b : ℕ} (q k : Fin a → EReal) (q' k' : Fin b → EReal) {c : ℝ} (hc : 0 ≤ c) :
    ∑ d, q d * (c : EReal) * k d + ∑ e, q' e * (c : EReal) * k' e = (∑ d, q d * k d + ∑ e, q' e * k' e) * (c : EReal) := by
  rw [EReal.right_distrib_of_nonneg_of_ne_top (EReal.coe_nonneg.2 hc) (EReal.coe_ne_top c), sum_mul_coe _ _ hc, sum_mul_coe _ _ hc]
  exact congrArg₂ _ (Finset.sum_congr rfl fun d _ => mul_right_comm _ _ _) (Finset.sum_congr rfl fun d _ => mul_right_comm _ _ _)

end Cert.Proof.Softmax

end
-- ==== Proof.AttnBlock.lean ====
/-
  What one grid point of the attention kernel computes: a block of 256 query rows against all 2304 keys, for the two heads of the
  block, side by side.
-/
module

public import proofs.«01_k».proof.Defs
public import proofs.«01_k».proof.Proof.Gen.KernelIdeal.Value
public import proofs.«01_k».proof.Proof.Softmax
public import Idealize.ShloMosaic.Lib.Pointwise

@[expose] public section

noncomputable section

namespace Cert.Proof.AttnBlock

open Idealize.ShloMosaic Cert.KernelIdeal Cert.KernelIdeal.Gen

/-- The scores' scale, as printed. -/
def scale : EReal := Ideal.ofBits FTy.f32 0x3DD105EC#32

/-- The printed constant below every score is −∞. -/
theorem negInf : Ideal.ofBits FTy.f32 0xFF800000#32 = (⊥ : EReal) := by
  simp [Ideal.ofBits, Ideal.ieee]

/-- Attention of one query against 2304 keys as the kernel arranges it: the queries are scaled, the division comes last. -/
def attend (q : Fin 64 → EReal) (k : Fin 2304 → Fin 64 → EReal) (q' : Fin 32 → EReal) (k' : Fin 2304 → Fin 32 → EReal)
    (v : Fin 2304 → EReal) : EReal :=
  let s : Fin 2304 → EReal := fun j => ∑ d, q d * scale * k j d + ∑ e, q' e * scale * k' j e
  Ideal.div (∑ j, Ideal.exp (s j - Finset.univ.fold max ⊥ s) * v j) (∑ j, Ideal.exp (s j - Finset.univ.fold max ⊥ s))

/-- One head's 256 × 64 outputs. -/
def headOut (q : Vec Ideal S1x1x256x64 .f32) (k : Vec Ideal S1x1x2304x64 .f32) (q' : Vec Ideal S1x1x256x32 .f32)
    (k' : Vec Ideal S1x1x2304x32 .f32) (v : Vec Ideal S1x1x2304x64 .f32) : FVec Ideal S256x64 .f32 :=
  k0_pay6 (k0_pay3 q k q' k') (k0_pay4 q k q' k') (k0_pay5 v) (constant S256x64 .f32 0x00000000#32)

/-- One head's output at a row and a column. -/
theorem headOut_apply (q : Vec Ideal S1x1x256x64 .f32) (k : Vec Ideal S1x1x2304x64 .f32) (q' : Vec Ideal S1x1x256x32 .f32)
    (k' : Vec Ideal S1x1x2304x32 .f32) (v : Vec Ideal S1x1x2304x64 .f32) (r : Fin 256) (n : Fin 64) :
    headOut q k q' k' v (ix2 r n)
      = attend (fun d => q (ix4 0 0 r d)) (fun j d => k (ix4 0 0 j d)) (fun e => q' (ix4 0 0 r e)) (fun j e => k' (ix4 0 0 j e))
          (fun j => v (ix4 0 0 j n)) := by
  unfold headOut attend
  unfold_payloads
  pointwise [negInf]
  rfl

/-- The stored block: the two heads side by side. -/
def pairOut (a b : FVec Ideal S256x64 .f32) : FVec Ideal S1x256x128 .f32 :=
  shapeCast S1x256x128 (concatenate S256x128 1 [⟨S256x64, a⟩, ⟨S256x64, b⟩] concatenates_S256x64_S256x64_S256x128_d1)
    shapeCasts_S256x128_S1x256x128

/-- The stored block at a row and a column: the first head's 64 columns, then the second's. -/
theorem pairOut_apply (a b : FVec Ideal S256x64 .f32) (r : Fin 256) (h : Fin 2) (n : Fin 64) :
    pairOut a b (ix3 0 r ⟨h.val * 64 + n.val, by omega⟩) = if h = 0 then a (ix2 r n) else b (ix2 r n) := by
  unfold pairOut
  match h with
  | 0 => pointwise
  | 1 => pointwise

/-- What the body leaves in the output's buffer, from the blocks it loads. -/
theorem out_eq (x0 : Vec Ideal S1x2x256x64 .f32) (x1 : Vec Ideal S1x2x2304x64 .f32) (x2 : Vec Ideal S1x2x256x32 .f32)
    (x3 : Vec Ideal S1x1x2304x32 .f32) (x4 : Vec Ideal S1x2x2304x64 .f32) (x5 : Vec Ideal S2x1x1 .f32) :
    out0_6 x0 x1 x2 x3 x4 x5
      = pairOut (headOut (View.ld x0 r0_0) (View.ld x1 r0_1) (View.ld x2 r0_2) (View.ld x3 r0_3) (View.ld x4 r0_1))
          (headOut (View.ld x0 r0_4) (View.ld x1 r0_5) (View.ld x2 r0_6) (View.ld x3 r0_3) (View.ld x4 r0_5)) := by
  have hz : (![0, 0, 0] : Fin S1x256x128.rank → Nat) = fun _ => 0 := funext fun a => by fin_cases a <;> rfl
  unfold out0_6
  rw [View.canon_unit_zero hz]
  rfl

/-- A coordinate offset by zero at stride one. -/
theorem at_zero (n : Nat) : 0 + 1 * n = n := by omega

/-- A load through a rectangle reads the block where the rectangle puts the coordinate. -/
theorem ld_at {s : Shape} (X : Vec Ideal s .f32) (r : Rect s) (y : r.shape.Idx) (z : s.Idx) (h : ∀ a, (r.emb y a).val = (z a).val) :
    View.ld X r y = X z := congrArg X (funext fun a => Fin.ext (h a))

/-- What the body leaves in the output's buffer at row `r` and column `n` of head `h`: attention of that head's row. -/
theorem out_apply (x0 : Vec Ideal S1x2x256x64 .f32) (x1 : Vec Ideal S1x2x2304x64 .f32) (x2 : Vec Ideal S1x2x256x32 .f32)
    (x3 : Vec Ideal S1x1x2304x32 .f32) (x4 : Vec Ideal S1x2x2304x64 .f32) (x5 : Vec Ideal S2x1x1 .f32)
    (r : Fin 256) (h : Fin 2) (n : Fin 64) :
    out0_6 x0 x1 x2 x3 x4 x5 (ix3 0 r ⟨h.val * 64 + n.val, by omega⟩)
      = attend (fun d => x0 (ix4 0 h r d)) (fun j d => x1 (ix4 0 h j d)) (fun e => x2 (ix4 0 h r e)) (fun j e => x3 (ix4 0 0 j e))
          (fun j => x4 (ix4 0 h j n)) := by
  rw [out_eq, pairOut_apply, headOut_apply, headOut_apply]
  match h with
  | 0 =>
    rw [if_pos rfl]
    congr 1 <;> (funext; refine ld_at _ _ _ _ fun a => ?_; fin_cases a <;> first | rfl | exact at_zero _)
  | 1 =>
    rw [if_neg (by decide)]
    congr 1 <;> (funext; refine ld_at _ _ _ _ fun a => ?_; fin_cases a <;> first | rfl | exact at_zero _)

end Cert.Proof.AttnBlock

end
-- ==== Proof.AttnArray.lean ====
/-
  The attention kernel's result array as one function of its argument arrays, and the run that leaves it there.
-/
module

public import proofs.«01_k».proof.Proof.AttnBlock

@[expose] public section

noncomputable section

namespace Cert.Proof.AttnArray

open Idealize.ShloMosaic Idealize.ShloMosaic.TcCoe Idealize.SL.Sem Cert.KernelIdeal Cert.KernelIdeal.Gen Cert.KernelIdeal.Value
open Cert.Proof.AttnBlock

/-- Attention of batch element `b`, head `h`, query row `256 + r`, at the value column `n`. -/
def outAt (q : Vec Ideal S8x8x2304x64 .f32) (q' : Vec Ideal S8x8x2304x32 .f32) (k : Vec Ideal S8x8x2304x64 .f32)
    (k' : Vec Ideal S8x1x2304x32 .f32) (v : Vec Ideal S8x8x2304x64 .f32) (b h : Fin 8) (r : Fin 2048) (n : Fin 64) : EReal :=
  attend (fun d => q (ix4 b h ⟨256 + r.val, by omega⟩ d)) (fun j d => k (ix4 b h j d))
    (fun e => q' (ix4 b h ⟨256 + r.val, by omega⟩ e)) (fun j e => k' (ix4 b 0 j e)) (fun j => v (ix4 b h j n))

/-- The result array: the heads' outputs side by side. -/
def out (q : Vec Ideal S8x8x2304x64 .f32) (q' : Vec Ideal S8x8x2304x32 .f32) (k : Vec Ideal S8x8x2304x64 .f32)
    (k' : Vec Ideal S8x1x2304x32 .f32) (v : Vec Ideal S8x8x2304x64 .f32) : Vec Ideal S8x2048x512 .f32 := fun i =>
  outAt q q' k k' v (i 0) ⟨(i 2).val / 64, by have : (i 2).val < 512 := (i 2).isLt; omega⟩ (i 1) ⟨(i 2).val % 64, by omega⟩

variable (m : (ℓ : Loc nD τ sig) → Buf (Elt Ideal) ℓ) (ρ : Dev nD → PrngReg)

/-! ## The windows' block indices at a grid point -/

theorem idx0 : ∀ t : Fin cfg0.N, win0_0.index t (0 : Fin 4) = t.val / 32 ∧ win0_0.index t (1 : Fin 4) = t.val / 8 % 4
    ∧ win0_0.index t (2 : Fin 4) = t.val % 8 + 1 ∧ win0_0.index t (3 : Fin 4) = 0 := (by decide +kernel : ∀ t : Fin grid0.N, _)
theorem idx1 : ∀ t : Fin cfg0.N, win0_1.index t (0 : Fin 4) = t.val / 32 ∧ win0_1.index t (1 : Fin 4) = t.val / 8 % 4
    ∧ win0_1.index t (2 : Fin 4) = 0 ∧ win0_1.index t (3 : Fin 4) = 0 := (by decide +kernel : ∀ t : Fin grid0.N, _)
theorem idx2 : ∀ t : Fin cfg0.N, win0_2.index t (0 : Fin 4) = t.val / 32 ∧ win0_2.index t (1 : Fin 4) = t.val / 8 % 4
    ∧ win0_2.index t (2 : Fin 4) = t.val % 8 + 1 ∧ win0_2.index t (3 : Fin 4) = 0 := (by decide +kernel : ∀ t : Fin grid0.N, _)
theorem idx3 : ∀ t : Fin cfg0.N, win0_3.index t (0 : Fin 4) = t.val / 32 ∧ win0_3.index t (1 : Fin 4) = 0
    ∧ win0_3.index t (2 : Fin 4) = 0 ∧ win0_3.index t (3 : Fin 4) = 0 := (by decide +kernel : ∀ t : Fin grid0.N, _)
theorem idx4 : ∀ t : Fin cfg0.N, win0_4.index t (0 : Fin 4) = t.val / 32 ∧ win0_4.index t (1 : Fin 4) = t.val / 8 % 4
    ∧ win0_4.index t (2 : Fin 4) = 0 ∧ win0_4.index t (3 : Fin 4) = 0 := (by decide +kernel : ∀ t : Fin grid0.N, _)
theorem idx6 : ∀ t : Fin cfg0.N, win0_6.index t (0 : Fin 3) = t.val / 32 ∧ win0_6.index t (1 : Fin 3) = t.val % 8
    ∧ win0_6.index t (2 : Fin 3) = t.val / 8 % 4 := (by decide +kernel : ∀ t : Fin grid0.N, _)

/-- The batch element of a grid point. -/
def batch (t : Fin cfg0.N) : Fin 8 := ⟨t.val / 32, by have : t.val < 256 := t.isLt; omega⟩
/-- A head of a grid point's pair of heads. -/
def head (t : Fin cfg0.N) (h : Fin 2) : Fin 8 := ⟨t.val / 8 % 4 * 2 + h.val, by omega⟩
/-- A query row of a grid point's tile. -/
def row (t : Fin cfg0.N) (r : Fin 256) : Fin 2048 := ⟨t.val % 8 * 256 + r.val, by omega⟩

/-! ## The input windows' blocks, read off the argument arrays -/

theorem blk0 (c : Dev nD) (t : Fin cfg0.N) (h : Fin 2) (r : Fin 256) (d : Fin 64) :
    iblk m c 0 t (ix4 0 h r d) = m ((c : Thread nD τ).loc main_arg0) (ix4 (batch t) (head t h) ⟨256 + (row t r).val, by omega⟩ d) := by
  obtain ⟨e0, e1, e2, e3⟩ := idx0 t
  rw [← V_main_arg0 m c]
  refine congrArg (V m c main_arg0) (funext fun a => Fin.ext ?_)
  match a with
  | ⟨0, _⟩ => show win0_0.index t (0 : Fin 4) * 1 + 1 * 0 = t.val / 32; omega
  | ⟨1, _⟩ => show win0_0.index t (1 : Fin 4) * 2 + 1 * h.val = t.val / 8 % 4 * 2 + h.val; omega
  | ⟨2, _⟩ => show win0_0.index t (2 : Fin 4) * 256 + 1 * r.val = 256 + (t.val % 8 * 256 + r.val); omega
  | ⟨3, _⟩ => show win0_0.index t (3 : Fin 4) * 64 + 1 * d.val = d.val; omega

theorem blk1 (c : Dev nD) (t : Fin cfg0.N) (h : Fin 2) (j : Fin 2304) (d : Fin 64) :
    iblk m c 1 t (ix4 0 h j d) = m ((c : Thread nD τ).loc main_arg2) (ix4 (batch t) (head t h) j d) := by
  obtain ⟨e0, e1, e2, e3⟩ := idx1 t
  rw [← V_main_arg2 m c]
  refine congrArg (V m c main_arg2) (funext fun a => Fin.ext ?_)
  match a with
  | ⟨0, _⟩ => show win0_1.index t (0 : Fin 4) * 1 + 1 * 0 = t.val / 32; omega
  | ⟨1, _⟩ => show win0_1.index t (1 : Fin 4) * 2 + 1 * h.val = t.val / 8 % 4 * 2 + h.val; omega
  | ⟨2, _⟩ => show win0_1.index t (2 : Fin 4) * 2304 + 1 * j.val = j.val; omega
  | ⟨3, _⟩ => show win0_1.index t (3 : Fin 4) * 64 + 1 * d.val = d.val; omega

theorem blk2 (c : Dev nD) (t : Fin cfg0.N) (h : Fin 2) (r : Fin 256) (e : Fin 32) :
    iblk m c 2 t (ix4 0 h r e) = m ((c : Thread nD τ).loc main_arg1) (ix4 (batch t) (head t h) ⟨256 + (row t r).val, by omega⟩ e) := by
  obtain ⟨e0, e1, e2, e3⟩ := idx2 t
  rw [← V_main_arg1 m c]
  refine congrArg (V m c main_arg1) (funext fun a => Fin.ext ?_)
  match a with
  | ⟨0, _⟩ => show win0_2.index t (0 : Fin 4) * 1 + 1 * 0 = t.val / 32; omega
  | ⟨1, _⟩ => show win0_2.index t (1 : Fin 4) * 2 + 1 * h.val = t.val / 8 % 4 * 2 + h.val; omega
  | ⟨2, _⟩ => show win0_2.index t (2 : Fin 4) * 256 + 1 * r.val = 256 + (t.val % 8 * 256 + r.val); omega
  | ⟨3, _⟩ => show win0_2.index t (3 : Fin 4) * 32 + 1 * e.val = e.val; omega

theorem blk3 (c : Dev nD) (t : Fin cfg0.N) (j : Fin 2304) (e : Fin 32) :
    iblk m c 3 t (ix4 0 0 j e) = m ((c : Thread nD τ).loc main_arg3) (ix4 (batch t) 0 j e) := by
  obtain ⟨e0, e1, e2, e3⟩ := idx3 t
  rw [← V_main_arg3 m c]
  refine congrArg (V m c main_arg3) (funext fun a => Fin.ext ?_)
  match a with
  | ⟨0, _⟩ => show win0_3.index t (0 : Fin 4) * 1 + 1 * 0 = t.val / 32; omega
  | ⟨1, _⟩ => show win0_3.index t (1 : Fin 4) * 1 + 1 * 0 = 0; omega
  | ⟨2, _⟩ => show win0_3.index t (2 : Fin 4) * 2304 + 1 * j.val = j.val; omega
  | ⟨3, _⟩ => show win0_3.index t (3 : Fin 4) * 32 + 1 * e.val = e.val; omega

theorem blk4 (c : Dev nD) (t : Fin cfg0.N) (h : Fin 2) (j : Fin 2304) (d : Fin 64) :
    iblk m c 4 t (ix4 0 h j d) = m ((c : Thread nD τ).loc main_arg4) (ix4 (batch t) (head t h) j d) := by
  obtain ⟨e0, e1, e2, e3⟩ := idx4 t
  rw [← V_main_arg4 m c]
  refine congrArg (V m c main_arg4) (funext fun a => Fin.ext ?_)
  match a with
  | ⟨0, _⟩ => show win0_4.index t (0 : Fin 4) * 1 + 1 * 0 = t.val / 32; omega
  | ⟨1, _⟩ => show win0_4.index t (1 : Fin 4) * 2 + 1 * h.val = t.val / 8 % 4 * 2 + h.val; omega
  | ⟨2, _⟩ => show win0_4.index t (2 : Fin 4) * 2304 + 1 * j.val = j.val; omega
  | ⟨3, _⟩ => show win0_4.index t (3 : Fin 4) * 64 + 1 * d.val = d.val; omega

/-! ## The result array -/

/-- The result array of the launch's arguments. -/
def result (c : Dev nD) : Vec Ideal S8x2048x512 .f32 :=
  out (m ((c : Thread nD τ).loc main_arg0)) (m ((c : Thread nD τ).loc main_arg1)) (m ((c : Thread nD τ).loc main_arg2))
    (m ((c : Thread nD τ).loc main_arg3)) (m ((c : Thread nD τ).loc main_arg4))

/-- Where an element of the output's block sits in the array. -/
theorem emb6 (t : Fin cfg0.N) (r : Fin 256) (h : Fin 2) (n : Fin 64) :
    ((cfg0.win 6).blk t).view.emb (ix3 0 r ⟨h.val * 64 + n.val, by omega⟩)
      = ix3 (batch t) (row t r) ⟨(head t h).val * 64 + n.val, by omega⟩ := by
  obtain ⟨e0, e1, e2⟩ := idx6 t
  refine funext fun a => Fin.ext ?_
  match a with
  | ⟨0, _⟩ => show win0_6.index t (0 : Fin 3) * 1 + 1 * 0 = t.val / 32; omega
  | ⟨1, _⟩ => show win0_6.index t (1 : Fin 3) * 256 + 1 * r.val = t.val % 8 * 256 + r.val; omega
  | ⟨2, _⟩ =>
    show win0_6.index t (2 : Fin 3) * 128 + 1 * (h.val * 64 + n.val) = (t.val / 8 % 4 * 2 + h.val) * 64 + n.val
    omega

/-- The result array, at a batch element, a row, and a head's column. -/
theorem result_apply (c : Dev nD) (b h : Fin 8) (r : Fin 2048) (n : Fin 64) :
    result m c (ix3 b r ⟨h.val * 64 + n.val, by omega⟩)
      = outAt (m ((c : Thread nD τ).loc main_arg0)) (m ((c : Thread nD τ).loc main_arg1)) (m ((c : Thread nD τ).loc main_arg2))
          (m ((c : Thread nD τ).loc main_arg3)) (m ((c : Thread nD τ).loc main_arg4)) b h r n := by
  have e1 : (h.val * 64 + n.val) / 64 = h.val := by omega
  have e2 : (h.val * 64 + n.val) % 64 = n.val := by omega
  show outAt _ _ _ _ _ b ⟨(h.val * 64 + n.val) / 64, _⟩ r ⟨(h.val * 64 + n.val) % 64, _⟩ = _
  simp only [e1, e2]

/-- An index of the output's block: a row, a head of the pair and a column of the head. -/
theorem block_ix (y : S1x256x128.Idx) : ∃ (r : Fin 256) (h : Fin 2) (n : Fin 64), y = ix3 0 r ⟨h.val * 64 + n.val, by omega⟩ := by
  have h0 : (y 0).val < 1 := (y 0).isLt
  have h2 : (y 2).val < 128 := (y 2).isLt
  refine ⟨y 1, ⟨(y 2).val / 64, by omega⟩, ⟨(y 2).val % 64, by omega⟩, funext fun a => Fin.ext ?_⟩
  match a with
  | ⟨0, _⟩ => show (y 0).val = 0; omega
  | ⟨1, _⟩ => rfl
  | ⟨2, _⟩ => show (y 2).val = (y 2).val / 64 * 64 + (y 2).val % 64; omega

/-- What a grid point writes back is its block of the result array. -/
theorem flushed6_eq (c : Dev nD) (t : Fin cfg0.N) :
    (dats m 0 c).flushed 6 t = ((cfg0.win 6).blk t).view.read (Elt Ideal) (result m c) := by
  rw [flushed6]
  funext y
  obtain ⟨r, h, n, rfl⟩ := block_ix y
  show out0_6 (iblk m c 0 t) (iblk m c 1 t) (iblk m c 2 t) (iblk m c 3 t) (iblk m c 4 t) (iblk m c 5 t) (ix3 0 r ⟨h.val * 64 + n.val, by omega⟩)
    = result m c (((cfg0.win 6).blk t).view.emb (ix3 0 r ⟨h.val * 64 + n.val, by omega⟩))
  rw [emb6, result_apply, out_apply]
  unfold outAt
  simp only [blk0, blk1, blk2, blk3, blk4]

/-- Every index of the result array is in some grid point's block. -/
theorem covered6 (i : S8x2048x512.Idx) :
    ∃ t : Fin cfg0.N, (cfg0.win 6).flush t = true ∧ i ∈ ((cfg0.win 6).blk t).view.set := by
  have h0 : (i 0).val < 8 := (i 0).isLt
  have h1 : (i 1).val < 2048 := (i 1).isLt
  have h2 : (i 2).val < 512 := (i 2).isLt
  refine ⟨(⟨(i 0).val * 32 + (i 2).val / 128 * 8 + (i 1).val / 256, by show _ < 256; omega⟩ : Fin cfg0.N), flush0_6 _, ?_⟩
  have h := ((cfg0.win 6).blk (⟨(i 0).val * 32 + (i 2).val / 128 * 8 + (i 1).val / 256, by show _ < 256; omega⟩ : Fin cfg0.N)).view.emb_mem_set
    (ix3 0 ⟨(i 1).val % 256, by omega⟩
      ⟨(⟨(i 2).val / 64 % 2, by omega⟩ : Fin 2).val * 64 + (⟨(i 2).val % 64, by omega⟩ : Fin 64).val, by simp only; omega⟩)
  rw [emb6] at h
  refine (congrArg (· ∈ _) (funext fun a => Fin.ext ?_)).mpr h
  match a with
  | ⟨0, _⟩ => show (i 0).val = ((i 0).val * 32 + (i 2).val / 128 * 8 + (i 1).val / 256) / 32; omega
  | ⟨1, _⟩ =>
    show (i 1).val = ((i 0).val * 32 + (i 2).val / 128 * 8 + (i 1).val / 256) % 8 * 256 + (i 1).val % 256; omega
  | ⟨2, _⟩ =>
    show (i 2).val = (((i 0).val * 32 + (i 2).val / 128 * 8 + (i 1).val / 256) / 8 % 4 * 2 + (i 2).val / 64 % 2) * 64 + (i 2).val % 64
    omega

/-- The run: the result array is `result` of the arguments, which end unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨(h c).1.trans ((dats m 0 c).arrAt_eq_of_cover 6 (result m c) (fun t _ => flushed6_eq m c t) covered6), (h c).2⟩)
    (run_blocks m ρ)

end Cert.Proof.AttnArray

end
-- ==== Proof.AttnReference.lean ====
/-
  What the reference attention computes, at one element of its result.
-/
module

public import proofs.«01_k».proof.Defs
public import proofs.«01_k».proof.Proof.Gen.ReferenceIdeal.Run
public import proofs.«01_k».proof.Proof.Gen.ReferenceIdeal.Read
public import Idealize.ShloMosaic.Lib.Pointwise

@[expose] public section

noncomputable section

namespace Cert.Proof.AttnReference

open Idealize.ShloMosaic Cert.ReferenceIdeal Cert.ReferenceIdeal.Read

/-- The printed constant below every score is −∞. -/
theorem negInf : Ideal.ofBits FTy.f32 0xFF800000#32 = (⊥ : EReal) := by
  simp [Ideal.ofBits, Ideal.ieee]

/-- The reference's score of key `j` for one query: the scaled sum of the two products. -/
def score (q : Fin 64 → EReal) (k : Fin 2304 → Fin 64 → EReal) (q' : Fin 32 → EReal) (k' : Fin 2304 → Fin 32 → EReal)
    (j : Fin 2304) : EReal :=
  (∑ d, q d * k j d + ∑ e, q' e * k' j e) * Ideal.ofBits FTy.f32 0x3DD105EC#32

/-- Attention of one query over given scores, as the reference arranges it: the values are weighted with the softmax. -/
def attend (s v : Fin 2304 → EReal) : EReal :=
  ∑ j, v j * Ideal.div (Ideal.exp (s j - Finset.univ.fold max ⊥ s)) (∑ i, Ideal.exp (s i - Finset.univ.fold max ⊥ s))

variable (x0 : (⟨S8x8x2304x64, .f32⟩ : BufTy).Contents (Elt Ideal)) (x1 : (⟨S8x8x2304x32, .f32⟩ : BufTy).Contents (Elt Ideal))
  (x2 : (⟨S8x8x2304x64, .f32⟩ : BufTy).Contents (Elt Ideal)) (x3 : (⟨S8x1x2304x32, .f32⟩ : BufTy).Contents (Elt Ideal))
  (x4 : (⟨S8x8x2304x64, .f32⟩ : BufTy).Contents (Elt Ideal))

/-- The scores of the query row `256 + r` of head `h` of batch element `b`. -/
def scores (b h : Fin 8) (r : Fin 2048) : Fin 2304 → EReal :=
  score (fun d => x0 (ix4 b h ⟨256 + r.val, by omega⟩ d)) (fun j d => x2 (ix4 b h j d))
    (fun e => x1 (ix4 b h ⟨256 + r.val, by omega⟩ e)) (fun j e => x3 (ix4 b 0 j e))

/-- The one-head key array read at an element of its reshaped form. -/
theorem key_apply (b : Fin 8) (j : Fin 2304) (e : Fin 32) : val_main_v3 (F := Ideal) x3 (ix3 b j e) = x3 (ix4 b 0 j e) := by
  unfold val_main_v3
  pointwise

/-- The scaled scores. -/
theorem v7_apply (b h : Fin 8) (r : Fin 2048) (j : Fin 2304) :
    val_main_v7 (F := Ideal) x0 x1 x2 x3 (ix4 b h r j) = scores x0 x1 x2 x3 b h r j := by
  rw [val_main_v7_apply, val_main_v5_apply, val_main_v2_apply, val_main_v4_apply, val_main_v6_apply, val_main_cst_apply]
  refine congrArg (· * _) (congrArg₂ (· + ·) (Finset.sum_congr rfl fun d _ => ?_) (Finset.sum_congr rfl fun e _ => ?_))
  · rw [val_main_v0_apply]
    exact congrArg₂ (· * ·) (congrArg x0 (funext fun a => by fin_cases a <;> rfl)) (congrArg x2 (funext fun a => by fin_cases a <;> rfl))
  · rw [val_main_v1_apply]
    exact congrArg₂ (· * ·) (congrArg x1 (funext fun a => by fin_cases a <;> rfl))
      ((congrArg (val_main_v3 (F := Ideal) x3) (funext fun a => by fin_cases a <;> rfl)).trans (key_apply x3 b j e))

/-- The greatest score of a row. -/
theorem v8_apply (b h : Fin 8) (r : Fin 2048) :
    val_main_v8 (F := Ideal) x0 x1 x2 x3 (ix3 b h r) = Finset.univ.fold max ⊥ (scores x0 x1 x2 x3 b h r) := by
  have e : ∀ j, val_main_v7 (F := Ideal) x0 x1 x2 x3 (ix4 b h r j) = scores x0 x1 x2 x3 b h r j := v7_apply x0 x1 x2 x3 b h r
  unfold val_main_v8
  rw [Host.reduce_eq_fold_single _ _ _ _ (by decide : S8x8x2048x2304.Reduces [3] S8x8x2048)]
  generalize val_main_v7 (F := Ideal) x0 x1 x2 x3 = y at e
  rw [← funext e, ← negInf]
  refine congrArg (Finset.univ.fold max _) (funext fun j => congrArg y (funext fun a => Fin.ext ?_))
  fin_cases a <;> rfl

/-- The exponentials of the scores less their greatest. -/
theorem v14_apply (b h : Fin 8) (r : Fin 2048) (j : Fin 2304) :
    val_main_v14 (F := Ideal) x0 x1 x2 x3 (ix4 b h r j)
      = Ideal.exp (scores x0 x1 x2 x3 b h r j - Finset.univ.fold max ⊥ (scores x0 x1 x2 x3 b h r)) := by
  have e : idx_main_v11 (idx_main_v12 (ix4 b h r j)) = ix3 b h r := funext fun a => by fin_cases a <;> rfl
  rw [val_main_v14_apply, val_main_v13_apply, v7_apply, val_main_v12_apply, val_main_v11_apply, e, val_main_v10_apply, v8_apply,
    val_main_v9_apply, val_main_cst_1_apply]
  show Ideal.exp (_ - max (Ideal.ofBits FTy.f32 0xFF800000#32) _) = _
  rw [negInf, max_eq_right bot_le]

/-- The softmax's divisor. -/
theorem v15_apply (b h : Fin 8) (r : Fin 2048) :
    val_main_v15 (F := Ideal) x0 x1 x2 x3 (ix3 b h r)
      = ∑ i, Ideal.exp (scores x0 x1 x2 x3 b h r i - Finset.univ.fold max ⊥ (scores x0 x1 x2 x3 b h r)) := by
  rw [val_main_v15_apply]
  have z : ∀ i, val_main_cst_2 (F := Ideal) i = (0 : EReal) := fun i => Ideal.ofBits_zero_f32
  rw [z, zero_add]
  refine Finset.sum_congr rfl fun i _ => ?_
  have e : idx_main_v15 (ix3 b h r) i = ix4 b h r i := funext fun a => by fin_cases a <;> rfl
  rw [e, v14_apply]

/-- The reference's result at a batch element, a row, and a head's column. -/
theorem result_apply (b h : Fin 8) (r : Fin 2048) (n : Fin 64) :
    val_main_v21 (F := Ideal) x0 x1 x2 x3 x4 (ix3 b r ⟨h.val * 64 + n.val, by omega⟩)
      = attend (scores x0 x1 x2 x3 b h r) (fun j => x4 (ix4 b h j n)) := by
  have e : idx_main_v20 (idx_main_v21 (ix3 b r ⟨h.val * 64 + n.val, by omega⟩)) = ix4 b h n r := by
    refine funext fun a => Fin.ext ?_
    have hb := b.isLt; have hh := h.isLt; have hr := r.isLt; have hn := n.isLt
    match a with
    | ⟨0, _⟩ => show ((b.val * 2048 + r.val) * 512 + (h.val * 64 + n.val)) / 1048576 = b.val; omega
    | ⟨1, _⟩ => show ((b.val * 2048 + r.val) * 512 + (h.val * 64 + n.val)) / 64 % 8 = h.val; omega
    | ⟨2, _⟩ => show ((b.val * 2048 + r.val) * 512 + (h.val * 64 + n.val)) % 64 = n.val; omega
    | ⟨3, _⟩ => show ((b.val * 2048 + r.val) * 512 + (h.val * 64 + n.val)) / 512 % 2048 = r.val; omega
  rw [val_main_v21_apply, val_main_v20_apply, e, val_main_v19_apply]
  refine Finset.sum_congr rfl fun j _ => ?_
  have e1 : lidx_main_v19 (ix4 b h n r) j = ix4 b h j n := funext fun a => by fin_cases a <;> rfl
  have e2 : ridx_main_v19 (ix4 b h n r) j = ix4 b h r j := funext fun a => by fin_cases a <;> rfl
  have e3 : idx_main_v16 (idx_main_v17 (ix4 b h r j)) = ix3 b h r := funext fun a => by fin_cases a <;> rfl
  rw [e1, e2, val_main_v18_apply, val_main_v17_apply, val_main_v16_apply, e3, v14_apply, v15_apply]
  rfl

end Cert.Proof.AttnReference

end
-- ==== Proof.FiniteScores.lean ====
/-
  What the attention's precondition says: every entry of the queries and of the keys is a real number.
-/
module

public import proofs.«01_k».proof.Proof.Gen.Pre_finite_scores
public import Idealize.ShloMosaic.Lib.ReduceAll
public import Idealize.ShloMosaic.Lib.Pointwise

@[expose] public section

noncomputable section

namespace Cert.Proof.FiniteScores

open Idealize.ShloMosaic Cert.Pre_finite_scores

/-- A value whose absolute value is below +∞ is real. -/
theorem real_of_abs_lt (x : Ideal .f32)
    (h : FloatOps.cmpf .olt (FloatOps.hostAbsf x) (FloatOps.ofBits (F := Ideal) .f32 0x7F800000#32) = 1#1) : ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  rw [max_lt_iff] at hlt
  have hb : (x : EReal) ≠ ⊥ := fun e => by rw [e] at hlt; simp at hlt
  exact ⟨_, (EReal.coe_toReal hlt.1.ne hb).symm⟩

/-- Under the precondition every entry of the first four arguments is real. -/
theorem real_of_pre [Facts] (x0 : FVec Ideal S8x8x2304x64 .f32) (x1 : FVec Ideal S8x8x2304x32 .f32) (x2 : FVec Ideal S8x8x2304x64 .f32)
    (x3 : FVec Ideal S8x1x2304x32 .f32) (x4 : FVec Ideal S8x8x2304x64 .f32) (h : fn x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ ∀ i, ∃ r : ℝ, x3 i = (r : EReal) := by
  have e := congrFun h ix0
  simp only [fn, fn_part1, andi, IntOp.andi_eq_one] at e
  obtain ⟨⟨⟨h0, h1⟩, h2⟩, h3⟩ := e
  have : Subsingleton S_.Idx := ⟨fun a b => funext fun k => k.elim0⟩
  exact ⟨fun i => real_of_abs_lt _ (Host.reduce_andi_all _ _ _ _ _ h0 i), fun i => real_of_abs_lt _ (Host.reduce_andi_all _ _ _ _ _ h1 i),
    fun i => real_of_abs_lt _ (Host.reduce_andi_all _ _ _ _ _ h2 i), fun i => real_of_abs_lt _ (Host.reduce_andi_all _ _ _ _ _ h3 i)⟩

end Cert.Proof.FiniteScores

end
-- ==== Proof.AttnEquation.lean ====
/-
  The attention kernel and the reference compute the same result array from queries and keys whose entries are real, whatever the
  values are; and the runs of both, ending with that array.
-/
module

public import proofs.«01_k».proof.Proof.AttnArray
public import proofs.«01_k».proof.Proof.AttnReference
public import proofs.«01_k».proof.Proof.FiniteScores

@[expose] public section

noncomputable section

namespace Cert.Proof.AttnEquation

open Idealize.ShloMosaic Idealize.ShloMosaic.TcCoe Idealize.SL.Sem Cert.Proof

/-- The printed scale is a nonnegative real. -/
theorem scale_real : ∃ c : ℝ, 0 ≤ c ∧ AttnBlock.scale = (c : EReal) := by
  unfold AttnBlock.scale
  simp only [Ideal.ofBits, Ideal.ieee]
  rw [if_neg (by decide), if_neg (by decide), if_neg (by decide)]
  exact ⟨_, by positivity, rfl⟩

/-- For one query with real entries against keys with real entries: dividing after the product with the values, from scaled
    queries, is weighting the values with the softmax of the scaled scores. -/
theorem attend_eq (q : Fin 64 → EReal) (k : Fin 2304 → Fin 64 → EReal) (q' : Fin 32 → EReal) (k' : Fin 2304 → Fin 32 → EReal)
    (v : Fin 2304 → EReal) (hq : ∀ d, ∃ r : ℝ, q d = r) (hk : ∀ j d, ∃ r : ℝ, k j d = r) (hq' : ∀ e, ∃ r : ℝ, q' e = r)
    (hk' : ∀ j e, ∃ r : ℝ, k' j e = r) :
    AttnBlock.attend q k q' k' v = AttnReference.attend (AttnReference.score q k q' k') v := by
  obtain ⟨c, hc, hs⟩ := scale_real
  have e : AttnReference.score q k q' k' = fun j => ∑ d, q d * AttnBlock.scale * k j d + ∑ e, q' e * AttnBlock.scale * k' j e := by
    funext j
    rw [hs, Softmax.score_eq _ _ _ _ hc, ← hs]
    rfl
  have hr : ∀ j, ∃ r : ℝ, AttnReference.score q k q' k' j = r := fun j => by
    obtain ⟨a, ha⟩ := Softmax.sum_mul_real q (k j) hq (hk j)
    obtain ⟨b, hb⟩ := Softmax.sum_mul_real q' (k' j) hq' (hk' j)
    refine ⟨(a + b) * c, ?_⟩
    show (∑ d, q d * k j d + ∑ e, q' e * k' j e) * AttnBlock.scale = _
    rw [ha, hb, hs, EReal.coe_mul, EReal.coe_add]
  unfold AttnBlock.attend AttnReference.attend
  rw [e] at hr ⊢
  exact Softmax.attend_eq _ v hr

/-- An index of the result: a batch element, a head, a row, and a column of the head. -/
theorem result_ix (i : Cert.KernelIdeal.S8x2048x512.Idx) :
    ∃ (b h : Fin 8) (r : Fin 2048) (n : Fin 64), i = ix3 b r ⟨h.val * 64 + n.val, by omega⟩ := by
  have h2 : (i 2).val < 512 := (i 2).isLt
  refine ⟨i 0, ⟨(i 2).val / 64, by omega⟩, i 1, ⟨(i 2).val % 64, by omega⟩, funext fun a => Fin.ext ?_⟩
  match a with
  | ⟨0, _⟩ => rfl
  | ⟨1, _⟩ => rfl
  | ⟨2, _⟩ => show (i 2).val = (i 2).val / 64 * 64 + (i 2).val % 64; omega

variable (m : (ℓ : Loc Cert.KernelIdeal.nD Cert.KernelIdeal.τ Cert.KernelIdeal.sig) → Buf (Elt Ideal) ℓ)

/-- The kernel's result array is the reference's, of the launch's arguments, under the precondition. -/
theorem result_eq (h : Cert.Pre_KernelIdeal_finite_scores (hPre_finite_scores := Cert.Pre_finite_scores.Gen.facts) m)
    (c : Dev Cert.KernelIdeal.nD) :
    AttnArray.result m c = Cert.ReferenceIdeal.Read.val_main_v21 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)) := by
  obtain ⟨h0, h1, h2, h3⟩ := @FiniteScores.real_of_pre Cert.Pre_finite_scores.Gen.facts _ _ _ _ _ (h c)
  funext i
  obtain ⟨b, g, r, n, rfl⟩ := result_ix i
  rw [AttnArray.result_apply, AttnReference.result_apply]
  exact attend_eq _ _ _ _ _ (fun d => h0 _) (fun j d => h2 _) (fun e => h1 _) (fun j e => h3 _)

end Cert.Proof.AttnEquation

end
-- ==== Proof.FfnBlock.lean ====
/-
  What one grid point of the feed-forward kernel stores, as a chain of eleven equal steps: each takes 256 columns of the hidden
  layer through the two products, the convolution and the gate, and adds their share of the output to the running sum.
-/
module

public import proofs.«01_k».proof.Defs
public import proofs.«01_k».proof.Proof.Gen.FfnIdeal.Value
public import Idealize.ShloMosaic.Lib.Pipeline.ValueKit.Acc

@[expose] public section

noncomputable section

namespace Cert.Proof.FfnBlock

open Idealize.ShloMosaic Cert.FfnIdeal Cert.FfnIdeal.Gen

variable {F : FTy → Type} [FloatOps F]

/-- The gated hidden columns of one step: both halves' products, convolved along the rows, the second half gating the first. -/
def act (h : FVec F S272x1024 .bf16) (wv wg : Vec F S1024x256 .bf16) (cv cg : Vec F S3x256 .f32) (bv bg : Vec F S1x256 .f32) :
    FVec F S256x256 .bf16 :=
  k0_pay26 (k0_pay19 h wv) (k0_pay20 h wg) cv 1#32 bv cg bg

/-- One step: the running sum plus the gated columns' product with their 256 rows of the last weights. -/
def step (h : FVec F S272x1024 .bf16) (wv wg : Vec F S1024x256 .bf16) (cv cg : Vec F S3x256 .f32) (bv bg : Vec F S1x256 .f32)
    (wd : Vec F S256x1024 .bf16) (a : FVec F S256x1024 .f32) : FVec F S256x1024 .f32 :=
  k0_pay30 (act h wv wg cv cg bv bg) a wd

variable (h : FVec F S272x1024 .bf16) (up : Fin 22 → Vec F S1024x256 .bf16) (cw : Fin 22 → Vec F S3x256 .f32)
  (cb : Fin 22 → Vec F S1x256 .f32) (dn : Fin 11 → Vec F S256x1024 .bf16)

/-- Step `k` with the weights cut into blocks of 256 columns: block `k` of the first half and block `11 + k`, of the second. -/
def stepAt (k : ℕ) (hk : k < 11) (a : FVec F S256x1024 .f32) : FVec F S256x1024 .f32 :=
  step h (up ⟨k, by omega⟩) (up ⟨11 + k, by omega⟩) (cw ⟨k, by omega⟩) (cw ⟨11 + k, by omega⟩) (cb ⟨k, by omega⟩) (cb ⟨11 + k, by omega⟩)
    (dn ⟨k, hk⟩) a

/-- The running sum after `k` steps. -/
def sum : (k : ℕ) → k ≤ 11 → FVec F S256x1024 .f32
  | 0, _ => k0_pay5
  | k + 1, hk => stepAt h up cw cb dn k hk (sum k (Nat.le_of_succ_le hk))

/-- The whole-buffer rectangle of the running sum. -/
abbrev whole : Rect S256x1024 := Rect.unit (s := S256x1024) ![0, 0] S256x1024.size inb_S256x1024_S256x1024_0_0

/-- The stores to the running sum's buffer, last first: zero, then each step's result from the sum read back. -/
def pieces {sig : RefSig} {κ : Kind} {sp : Space} (v : View sig κ sp S256x1024 .f32) :
    (k : ℕ) → k ≤ 11 → List (View.Piece (Elt F) S256x1024 .f32)
  | 0, _ => [⟨whole, k0_pay5⟩]
  | k + 1, hk => ⟨whole, stepAt h up cw cb dn k hk (v.readCov (pieces v k (Nat.le_of_succ_le hk)) whole.toLoadRect)⟩
      :: pieces v k (Nat.le_of_succ_le hk)

/-- Reading the buffer after `k` steps gives the running sum. -/
theorem read_pieces {sig : RefSig} {κ : Kind} {sp : Space} (v : View sig κ sp S256x1024 .f32) :
    (k : ℕ) → (hk : k ≤ 11) → v.readCov (pieces h up cw cb dn v k hk) whole.toLoadRect = sum h up cw cb dn k hk
  | 0, _ => View.readCov_cons_unit_lit' v _ _ _ _ (by decide) (by decide)
  | k + 1, hk => by
    rw [pieces, View.readCov_cons_unit_lit' v _ _ _ _ (by decide) (by decide), read_pieces v k]
    rfl

/-- The modulated rows: the eight before the block, the block's and the eight after it, with the row just before the block zero
    where it is its sequence's first and the row just after it zero where it is the last. -/
def rows (first last last' : BitVec 1) (x : Vec F S1x256x1024 .f32) (xp xn : Vec F S1x8x1024 .f32) (sh sc : Vec F S1x1x1x1024 .f32) :
    FVec F S272x1024 .bf16 :=
  k0_pay4 (k0_pay3 x xp xn sh sc) (iota .tc S272x1 32 [0] iota_S272x1_d0_w32) first last last'

/-- The stored block. -/
def stored (x : Vec F S1x256x1024 .f32) (g : Vec F S1x1x1x1024 .f32) (a : FVec F S256x1024 .f32) : FVec F S1x256x1024 .f32 :=
  k0_pay1 (k0_pay67 (k0_pay2 x) g a)

theorem inb_cols (R : ℕ) (j : Fin 22) : ∀ a : Fin 2, (![0, 256 * j.val] : Fin 2 → ℕ) a + (![R, 256] : Fin 2 → ℕ) a ≤ (![R, 5632] : Fin 2 → ℕ) a :=
  fun a => match a with
    | ⟨0, _⟩ => by show 0 + R ≤ R; omega
    | ⟨1, _⟩ => by show 256 * j.val + 256 ≤ 5632; omega

theorem inb_rows (j : Fin 11) : ∀ a : Fin 2, (![256 * j.val, 0] : Fin 2 → ℕ) a + (![256, 1024] : Fin 2 → ℕ) a ≤ (![2816, 1024] : Fin 2 → ℕ) a :=
  fun a => match a with
    | ⟨0, _⟩ => by show 256 * j.val + 256 ≤ 2816; omega
    | ⟨1, _⟩ => by show 0 + 1024 ≤ 1024; omega

/-- The rectangles of 256 columns, and of 256 rows. -/
abbrev rectUp (j : Fin 22) : Rect S1024x5632 := Rect.unit ![0, 256 * j.val] S1024x256.size (inb_cols 1024 j)
abbrev rectCw (j : Fin 22) : Rect S3x5632 := Rect.unit ![0, 256 * j.val] S3x256.size (inb_cols 3 j)
abbrev rectCb (j : Fin 22) : Rect S1x5632 := Rect.unit ![0, 256 * j.val] S1x256.size (inb_cols 1 j)
abbrev rectDn (j : Fin 11) : Rect S2816x1024 := Rect.unit ![256 * j.val, 0] S256x1024.size (inb_rows j)

end Cert.Proof.FfnBlock

end
-- ==== Proof.FfnRun.lean ====
/-
  The feed-forward kernel's stored block is the chain of eleven steps over its input blocks.
-/
module

public import proofs.«01_k».proof.Proof.FfnBlock

@[expose] public section

noncomputable section

namespace Cert.Proof.FfnRun

open Idealize.ShloMosaic Cert.FfnIdeal Cert.FfnIdeal.Gen FfnBlock

variable {F : FTy → Type} [FloatOps F]

/-- The hidden rows at a grid point: the first of the sequence's eight blocks has no row before it, the last none after. -/
def rowsAt (i : grid0.Coords) (x : Vec F S1x256x1024 .f32) (xp xn : Vec F S1x8x1024 .f32) (sh sc : Vec F S1x1x1x1024 .f32) :
    FVec F S272x1024 .bf16 :=
  rows (Scalar.ori (Scalar.cmpi .eq (BitVec.ofNat 32 (i 1).val) 0#32) (Scalar.cmpi .eq (BitVec.ofNat 32 (i 1).val) 0#32))
    (Scalar.cmpi .eq (BitVec.ofNat 32 (i 1).val) 4294967295#32) (Scalar.cmpi .eq (BitVec.ofNat 32 (i 1).val) 7#32) x xp xn sh sc

/-- What a grid point leaves in the output's block. -/
theorem out_eq (c : Dev nD) (i : grid0.Coords) (arg2 : Memref sig .tc .vmem S1x8x1024 .f32) (harg2 : arg2.IsWhole) (arg3 : Memref sig .tc .vmem S1x256x1024 .f32) (harg3 : arg3.IsWhole) (arg4 : Memref sig .tc .vmem S1x8x1024 .f32) (harg4 : arg4.IsWhole) (arg5 : Memref sig .tc .vmem S1x1x1x1024 .f32) (harg5 : arg5.IsWhole) (arg6 : Memref sig .tc .vmem S1x1x1x1024 .f32) (harg6 : arg6.IsWhole) (arg7 : Memref sig .tc .vmem S1x1x1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x256x1024 .f32) (harg12 : arg12.IsWhole) (arg13 : Memref sig .tc .vmem S256x1024 .f32) (harg13 : arg13.IsWhole)
    (x0 : Vec F S1x8x1024 .f32) (x1 : Vec F S1x256x1024 .f32) (x2 : Vec F S1x8x1024 .f32) (x3 : Vec F S1x1x1x1024 .f32) (x4 : Vec F S1x1x1x1024 .f32) (x5 : Vec F S1x1x1x1024 .f32) (x6 : Vec F S1024x5632 .bf16) (x7 : Vec F S3x5632 .f32) (x8 : Vec F S1x5632 .f32) (x9 : Vec F S2816x1024 .bf16) :
    out0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9
      = stored x1 x5 (sum (rowsAt i x1 x0 x2 x3 x4) (fun j => View.ld x6 (rectUp j)) (fun j => View.ld x7 (rectCw j))
          (fun j => View.ld x8 (rectCb j)) (fun j => View.ld x9 (rectDn j)) 11 le_rfl) := by
  unfold out0_A_10
  rw [View.read_writes_junk_eq_canon]
  unfold kernelRun0_A
  dsimp only
  rw [View.canon_cons_unit_lit' _ _ _ (by decide)]
  have e : k0_pay1 _ = stored
      (arg3.view.readAt (Elt F) (Rect.unit (s := S1x256x1024) ![0, 0, 0] S1x256x1024.size inb_S1x256x1024_S1x256x1024_0_0_0).toLoadRect (harg3.unread x1))
      (arg7.view.readAt (Elt F) (Rect.unit (s := S1x1x1x1024) ![0, 0, 0, 0] S1x1x1x1024.size inb_S1x1x1x1024_S1x1x1x1024_0_0_0_0).toLoadRect (harg7.unread x5))
      (arg13.view.readCov (pieces
        (rowsAt i
          (arg3.view.readAt (Elt F) (Rect.unit (s := S1x256x1024) ![0, 0, 0] S1x256x1024.size inb_S1x256x1024_S1x256x1024_0_0_0).toLoadRect (harg3.unread x1))
          (arg2.view.readAt (Elt F) (Rect.unit (s := S1x8x1024) ![0, 0, 0] S1x8x1024.size inb_S1x8x1024_S1x8x1024_0_0_0).toLoadRect (harg2.unread x0))
          (arg4.view.readAt (Elt F) (Rect.unit (s := S1x8x1024) ![0, 0, 0] S1x8x1024.size inb_S1x8x1024_S1x8x1024_0_0_0).toLoadRect (harg4.unread x2))
          (arg5.view.readAt (Elt F) (Rect.unit (s := S1x1x1x1024) ![0, 0, 0, 0] S1x1x1x1024.size inb_S1x1x1x1024_S1x1x1x1024_0_0_0_0).toLoadRect (harg5.unread x3))
          (arg6.view.readAt (Elt F) (Rect.unit (s := S1x1x1x1024) ![0, 0, 0, 0] S1x1x1x1024.size inb_S1x1x1x1024_S1x1x1x1024_0_0_0_0).toLoadRect (harg6.unread x4)))
        (fun j => arg8.view.readAt (Elt F) (rectUp j).toLoadRect (harg8.unread x6))
        (fun j => arg9.view.readAt (Elt F) (rectCw j).toLoadRect (harg9.unread x7))
        (fun j => arg10.view.readAt (Elt F) (rectCb j).toLoadRect (harg10.unread x8))
        (fun j => arg11.view.readAt (Elt F) (rectDn j).toLoadRect (harg11.unread x9)) arg13.view 11 le_rfl) whole.toLoadRect) := rfl
  refine e.trans ?_
  rw [read_pieces]
  simp only [View.readAt_eq_ld, harg2.read_unread, harg3.read_unread, harg4.read_unread, harg5.read_unread, harg6.read_unread,
    harg7.read_unread, harg8.read_unread, harg9.read_unread, harg10.read_unread, harg11.read_unread]
  rw [View.ld_unit_lit', View.ld_unit_lit', View.ld_unit_lit', View.ld_unit_lit', View.ld_unit_lit', View.ld_unit_lit'] <;> decide

end Cert.Proof.FfnRun

end
-- ==== Proof.FfnRow.lean ====
/-
  One element of the feed-forward layer's result over the extended reals: from three neighbouring rows, modulated, through the first
  product, a convolution of three taps along the rows, the gate, and the second product.
-/
module

public import proofs.«01_k».proof.Defs
public import Idealize.ShloMosaic.PureOps.Ideal

@[expose] public section

noncomputable section

namespace Cert.Proof.FfnRow

open Idealize.ShloMosaic

/-- A row divided by its root mean square, then scaled and shifted. -/
def modulate (x sh sc : Fin 1024 → EReal) (d : Fin 1024) : EReal :=
  x d * Ideal.rsqrt (Ideal.div (∑ e, x e * x e) (Ideal.ofBits FTy.f32 0x44800000#32) + Ideal.ofBits FTy.f32 0x358637BD#32) * (1 + sc d)
    + sh d

/-- One hidden column: the three rows' products with the column's weights, weighted with the three taps, and the bias. -/
def column (h0 h1 h2 w : Fin 1024 → EReal) (t0 t1 t2 b : EReal) : EReal :=
  (∑ d, h0 d * w d) * t0 + (∑ d, h1 d * w d) * t1 + (∑ d, h2 d * w d) * t2 + b

/-- A hidden value gated by another. -/
def gated (val gat : EReal) : EReal := gat * Ideal.logistic gat * val

/-- The gated hidden value `f`: column `f` gated by column `2816 + f`. -/
def hidden (h0 h1 h2 : Fin 1024 → EReal) (up : Fin 1024 → Fin 5632 → EReal) (cw : Fin 3 → Fin 5632 → EReal) (cb : Fin 5632 → EReal)
    (f : Fin 2816) : EReal :=
  let col (n : Fin 5632) : EReal := column h0 h1 h2 (fun d => up d n) (cw 0 n) (cw 1 n) (cw 2 n) (cb n)
  gated (col ⟨f.val, by omega⟩) (col ⟨2816 + f.val, by omega⟩)

/-- The result: the input plus the gate times the gated hidden row's product with the last weights. -/
def result (h0 h1 h2 : Fin 1024 → EReal) (up : Fin 1024 → Fin 5632 → EReal) (cw : Fin 3 → Fin 5632 → EReal) (cb : Fin 5632 → EReal)
    (dn : Fin 2816 → EReal) (x g : EReal) : EReal :=
  x + g * ∑ f, hidden h0 h1 h2 up cw cb f * dn f

end Cert.Proof.FfnRow

end
-- ==== Proof.FfnColumns.lean ====
/-
  The feed-forward kernel's block at an element, over the extended reals.
-/
module

public import proofs.«01_k».proof.Proof.FfnBlock
public import proofs.«01_k».proof.Proof.FfnRow
public import Idealize.ShloMosaic.Lib.Pointwise

@[expose] public section

noncomputable section

namespace Cert.Proof.FfnColumns

open Idealize.ShloMosaic Cert.FfnIdeal Cert.FfnIdeal.Gen FfnBlock

/-- One step's result: the sum so far plus 256 gated hidden values' share. -/
theorem step_apply (h : FVec Ideal S272x1024 .bf16) (wv wg : Vec Ideal S1024x256 .bf16) (cv cg : Vec Ideal S3x256 .f32)
    (bv bg : Vec Ideal S1x256 .f32) (wd : Vec Ideal S256x1024 .bf16) (a : FVec Ideal S256x1024 .f32) (r : Fin 256) (j : Fin 1024) :
    step h wv wg cv cg bv bg wd a (ix2 r j)
      = a (ix2 r j) + ∑ x : Fin 256, act h wv wg cv cg bv bg (ix2 r x) * wd (ix2 x j) := by
  unfold step
  generalize act h wv wg cv cg bv bg = y
  unfold_payloads
  pointwise

/-- One gated hidden value: of the rows before, at and after row `r`, which stand at rows `7 + r`, `8 + r` and `9 + r`. -/
theorem act_apply (h : FVec Ideal S272x1024 .bf16) (wv wg : Vec Ideal S1024x256 .bf16) (cv cg : Vec Ideal S3x256 .f32)
    (bv bg : Vec Ideal S1x256 .f32) (r : Fin 256) (x : Fin 256) :
    act h wv wg cv cg bv bg (ix2 r x)
      = FfnRow.gated
          (FfnRow.column (fun d => h (ix2 ⟨7 + r.val, by omega⟩ d)) (fun d => h (ix2 ⟨8 + r.val, by omega⟩ d))
            (fun d => h (ix2 ⟨9 + r.val, by omega⟩ d)) (fun d => wv (ix2 d x)) (cv (ix2 0 x)) (cv (ix2 1 x)) (cv (ix2 2 x)) (bv (ix2 0 x)))
          (FfnRow.column (fun d => h (ix2 ⟨7 + r.val, by omega⟩ d)) (fun d => h (ix2 ⟨8 + r.val, by omega⟩ d))
            (fun d => h (ix2 ⟨9 + r.val, by omega⟩ d)) (fun d => wg (ix2 d x)) (cg (ix2 0 x)) (cg (ix2 1 x)) (cg (ix2 2 x)) (bg (ix2 0 x))) := by
  have e0 : (8 + r.val + 272 - 1) % 272 = 7 + r.val := by omega
  have e2 : (8 + r.val + 272 - 271) % 272 = 9 + r.val := by omega
  unfold act FfnRow.gated FfnRow.column
  unfold_payloads
  pointwise
  simp only [e0, e2]

/-- The stored block at an element. -/
theorem stored_apply (x : Vec Ideal S1x256x1024 .f32) (g : Vec Ideal S1x1x1x1024 .f32) (a : FVec Ideal S256x1024 .f32) (r : Fin 256) (j : Fin 1024) :
    stored x g a (ix3 0 r j) = x (ix3 0 r j) + g (ix4 0 0 0 j) * a (ix2 r j) := by
  unfold stored
  unfold_payloads
  pointwise

/-! ## The rows -/

/-- Row `p` of the rows before the block, the block's and the rows after it, one under the other. -/
def under (x : Vec Ideal S1x256x1024 .f32) (xp xn : Vec Ideal S1x8x1024 .f32) (p : Fin 272) (d : Fin 1024) : EReal :=
  if h : p.val < 8 then xp (ix3 0 ⟨p.val, h⟩ d)
  else if h' : p.val - 8 < 256 then x (ix3 0 ⟨p.val - 8, h'⟩ d) else xn (ix3 0 ⟨p.val - 8 - 256, by omega⟩ d)

/-- A modulated row, zero where it is outside the sequence. -/
theorem rows_apply (first last last' : BitVec 1) (x : Vec Ideal S1x256x1024 .f32) (xp xn : Vec Ideal S1x8x1024 .f32)
    (sh sc : Vec Ideal S1x1x1x1024 .f32) (p : Fin 272) (d : Fin 1024) :
    rows first last last' x xp xn sh sc (ix2 p d)
      = Scalar.select (IntOp.ori (IntOp.andi (IntOp.cmpi CmpIPredicate.eq (BitVec.ofNat 32 p.val) 7#32) first)
            (IntOp.andi (IntOp.cmpi CmpIPredicate.eq (BitVec.ofNat 32 p.val) 264#32) (Scalar.ori last last')))
          0 (FfnRow.modulate (under x xp xn p) (fun d => sh (ix4 0 0 0 d)) (fun d => sc (ix4 0 0 0 d)) d) := by
  unfold rows FfnRow.modulate under
  unfold_payloads
  pointwise

/-- A word below 2³² is another exactly where their numbers are. -/
theorem eq_bit (p q : ℕ) (hp : p < 2 ^ 32) (hq : q < 2 ^ 32) :
    IntOp.cmpi CmpIPredicate.eq (BitVec.ofNat 32 p) (BitVec.ofNat 32 q) = if p = q then 1#1 else 0#1 := by
  have e : (BitVec.ofNat 32 p == BitVec.ofNat 32 q) = decide (p = q) := by
    by_cases h : p = q
    · subst h; simp
    · have : BitVec.ofNat 32 p ≠ BitVec.ofNat 32 q := fun k => h (by
        have := congrArg BitVec.toNat k
        rwa [BitVec.toNat_ofNat, BitVec.toNat_ofNat, Nat.mod_eq_of_lt hp, Nat.mod_eq_of_lt hq] at this)
      simp [h, this]
  show BitVec.ofBool (BitVec.ofNat 32 p == BitVec.ofNat 32 q) = _
  rw [e]
  by_cases h : p = q <;> simp [h]

/-- The bit that masks row `p`. -/
theorem mask_bit (a b c : BitVec 1) (p : ℕ) (hp : p < 272) :
    IntOp.ori (IntOp.andi (IntOp.cmpi CmpIPredicate.eq (BitVec.ofNat 32 p) 7#32) a)
        (IntOp.andi (IntOp.cmpi CmpIPredicate.eq (BitVec.ofNat 32 p) 264#32) (Scalar.ori b c))
      = if p = 7 then a else if p = 264 then b ||| c else 0#1 := by
  rw [eq_bit p 7 (by omega) (by omega), eq_bit p 264 (by omega) (by omega)]
  unfold IntOp.ori IntOp.andi Scalar.ori IntOp.ori
  by_cases h : p = 7
  · subst h
    revert a
    simp
    decide
  · by_cases h' : p = 264
    · subst h'
      simp
      generalize b ||| c = e
      revert e
      decide
    · simp [h, h']

variable (first last last' : BitVec 1) (x : Vec Ideal S1x256x1024 .f32) (xp xn : Vec Ideal S1x8x1024 .f32)
    (sh sc : Vec Ideal S1x1x1x1024 .f32) (r : Fin 256)

/-- A row of the block itself, which no mask meets. -/
theorem rows_mid :
    (fun d => rows first last last' x xp xn sh sc (ix2 ⟨8 + r.val, by omega⟩ d))
      = FfnRow.modulate (fun d => x (ix3 0 r d)) (fun d => sh (ix4 0 0 0 d)) (fun d => sc (ix4 0 0 0 d)) := by
  funext d
  rw [rows_apply, mask_bit _ _ _ _ (by omega), if_neg (by show ¬ 8 + r.val = 7; omega), if_neg (by show ¬ 8 + r.val = 264; omega)]
  have e : under x xp xn ⟨8 + r.val, by omega⟩ = fun d => x (ix3 0 r d) := by
    funext d
    unfold under
    rw [dif_neg (by show ¬ 8 + r.val < 8; omega), dif_pos (by show 8 + r.val - 8 < 256; omega)]
    exact congrArg (fun k => x (ix3 0 k d)) (Fin.ext (by show 8 + r.val - 8 = r.val; omega))
  rw [e]
  rfl

/-- The row before row `r`, zero where the block is its sequence's first and `r` its first row. -/
theorem rows_before (y : Fin 1024 → EReal) (hy : ∀ d, y d = if h : r.val = 0 then xp (ix3 0 7 d) else x (ix3 0 ⟨r.val - 1, by omega⟩ d)) :
    (fun d => rows first last last' x xp xn sh sc (ix2 ⟨7 + r.val, by omega⟩ d))
      = if r.val = 0 ∧ first = 1 then fun _ => 0
        else FfnRow.modulate y (fun d => sh (ix4 0 0 0 d)) (fun d => sc (ix4 0 0 0 d)) := by
  funext d
  have e : under x xp xn ⟨7 + r.val, by omega⟩ = y := by
    funext d
    rw [hy]
    unfold under
    by_cases h : r.val = 0
    · rw [dif_pos (by show 7 + r.val < 8; omega), dif_pos h]
      exact congrArg (fun k => xp (ix3 0 k d)) (Fin.ext (by show 7 + r.val = 7; omega))
    · rw [dif_neg (by show ¬ 7 + r.val < 8; omega), dif_pos (by show 7 + r.val - 8 < 256; omega), dif_neg h]
      exact congrArg (fun k => x (ix3 0 k d)) (Fin.ext (by show 7 + r.val - 8 = r.val - 1; omega))
  rw [rows_apply, mask_bit _ _ _ _ (by omega), e]
  by_cases h : r.val = 0
  · rw [if_pos (by show 7 + r.val = 7; omega)]
    unfold Scalar.select
    by_cases h1 : first = 1
    · rw [if_pos h1, if_pos ⟨h, h1⟩]
    · rw [if_neg h1, if_neg fun k => h1 k.2]
  · rw [if_neg (by show ¬ 7 + r.val = 7; omega), if_neg (by show ¬ 7 + r.val = 264; omega), if_neg fun k => h k.1]
    rfl

/-- The row after row `r`, zero where the block is its sequence's last and `r` its last row. -/
theorem rows_after (y : Fin 1024 → EReal) (hy : ∀ d, y d = if h : r.val = 255 then xn (ix3 0 0 d) else x (ix3 0 ⟨r.val + 1, by omega⟩ d)) :
    (fun d => rows first last last' x xp xn sh sc (ix2 ⟨9 + r.val, by omega⟩ d))
      = if r.val = 255 ∧ last ||| last' = 1 then fun _ => 0
        else FfnRow.modulate y (fun d => sh (ix4 0 0 0 d)) (fun d => sc (ix4 0 0 0 d)) := by
  funext d
  have e : under x xp xn ⟨9 + r.val, by omega⟩ = y := by
    funext d
    rw [hy]
    unfold under
    rw [dif_neg (by show ¬ 9 + r.val < 8; omega)]
    by_cases h : r.val = 255
    · rw [dif_neg (by show ¬ 9 + r.val - 8 < 256; omega), dif_pos h]
      exact congrArg (fun k => xn (ix3 0 k d)) (Fin.ext (by show 9 + r.val - 8 - 256 = 0; omega))
    · rw [dif_pos (by show 9 + r.val - 8 < 256; omega), dif_neg h]
      exact congrArg (fun k => x (ix3 0 k d)) (Fin.ext (by show 9 + r.val - 8 = r.val + 1; omega))
  rw [rows_apply, mask_bit _ _ _ _ (by omega), e, if_neg (by show ¬ 9 + r.val = 7; omega)]
  by_cases h : r.val = 255
  · rw [if_pos (by show 9 + r.val = 264; omega)]
    unfold Scalar.select
    by_cases h1 : last ||| last' = 1
    · rw [if_pos h1, if_pos ⟨h, h1⟩]
    · rw [if_neg h1, if_neg fun k => h1 k.2]
  · rw [if_neg (by show ¬ 9 + r.val = 264; omega), if_neg fun k => h k.1]
    rfl

/-! ## The sum of the steps -/

theorem ld_up (w : Vec Ideal S1024x5632 .bf16) (j : Fin 22) (d : Fin 1024) (y : Fin 256) :
    View.ld w (rectUp j) (ix2 d y) = w (ix2 d ⟨256 * j.val + y.val, by omega⟩) :=
  congrArg w (funext fun a => Fin.ext (match a with
    | ⟨0, _⟩ => by show 0 + 1 * d.val = d.val; omega
    | ⟨1, _⟩ => by show 256 * j.val + 1 * y.val = 256 * j.val + y.val; omega))
theorem ld_cw (w : Vec Ideal S3x5632 .f32) (j : Fin 22) (d : Fin 3) (y : Fin 256) :
    View.ld w (rectCw j) (ix2 d y) = w (ix2 d ⟨256 * j.val + y.val, by omega⟩) :=
  congrArg w (funext fun a => Fin.ext (match a with
    | ⟨0, _⟩ => by show 0 + 1 * d.val = d.val; omega
    | ⟨1, _⟩ => by show 256 * j.val + 1 * y.val = 256 * j.val + y.val; omega))
theorem ld_cb (w : Vec Ideal S1x5632 .f32) (j : Fin 22) (y : Fin 256) :
    View.ld w (rectCb j) (ix2 0 y) = w (ix2 0 ⟨256 * j.val + y.val, by omega⟩) :=
  congrArg w (funext fun a => Fin.ext (match a with
    | ⟨0, _⟩ => by show 0 + 1 * 0 = 0; omega
    | ⟨1, _⟩ => by show 256 * j.val + 1 * y.val = 256 * j.val + y.val; omega))
theorem ld_dn (w : Vec Ideal S2816x1024 .bf16) (j : Fin 11) (y : Fin 256) (d : Fin 1024) :
    View.ld w (rectDn j) (ix2 y d) = w (ix2 ⟨256 * j.val + y.val, by omega⟩ d) :=
  congrArg w (funext fun a => Fin.ext (match a with
    | ⟨0, _⟩ => by show 256 * j.val + 1 * y.val = 256 * j.val + y.val; omega
    | ⟨1, _⟩ => by show 0 + 1 * d.val = d.val; omega))

variable (h : FVec Ideal S272x1024 .bf16) (up : Fin 22 → Vec Ideal S1024x256 .bf16) (cw : Fin 22 → Vec Ideal S3x256 .f32)
  (cb : Fin 22 → Vec Ideal S1x256 .f32) (dn : Fin 11 → Vec Ideal S256x1024 .bf16)
  (wu : Vec Ideal S1024x5632 .bf16) (w : Vec Ideal S3x5632 .f32) (b : Vec Ideal S1x5632 .f32)
  (wd : Vec Ideal S2816x1024 .bf16) (j : Fin 1024)
  (hup : ∀ (j : Fin 22) (d : Fin 1024) (y : Fin 256), up j (ix2 d y) = wu (ix2 d ⟨256 * j.val + y.val, by omega⟩))
  (hcw : ∀ (j : Fin 22) (t : Fin 3) (y : Fin 256), cw j (ix2 t y) = w (ix2 t ⟨256 * j.val + y.val, by omega⟩))
  (hcb : ∀ (j : Fin 22) (y : Fin 256), cb j (ix2 0 y) = b (ix2 0 ⟨256 * j.val + y.val, by omega⟩))
  (hdn : ∀ (j : Fin 11) (y : Fin 256) (d : Fin 1024), dn j (ix2 y d) = wd (ix2 ⟨256 * j.val + y.val, by omega⟩ d))

/-- The gated hidden value `f` of row `r`. -/
def value (f : Fin 2816) : EReal :=
  FfnRow.hidden (fun d => h (ix2 ⟨7 + r.val, by omega⟩ d)) (fun d => h (ix2 ⟨8 + r.val, by omega⟩ d)) (fun d => h (ix2 ⟨9 + r.val, by omega⟩ d))
    (fun d n => wu (ix2 d n)) (fun t n => w (ix2 t n)) (fun n => b (ix2 0 n)) f

include hup hcw hcb hdn in
/-- What step `k` adds, from the weights' blocks. -/
theorem stepAt_apply (k : ℕ) (hk : k < 11) (a : FVec Ideal S256x1024 .f32) :
    stepAt h up cw cb dn k hk a (ix2 r j)
      = a (ix2 r j) + ∑ y : Fin 256, value r h wu w b ⟨256 * k + y.val, by omega⟩ * wd (ix2 ⟨256 * k + y.val, by omega⟩ j) := by
  unfold stepAt
  rw [step_apply]
  refine congrArg (a (ix2 r j) + ·) (Finset.sum_congr rfl fun y _ => ?_)
  rw [act_apply, hdn]
  simp only [hup, hcw, hcb]
  have e : ∀ p, (⟨256 * (11 + k) + y.val, p⟩ : Fin 5632) = ⟨2816 + (256 * k + y.val), by omega⟩ := fun p => Fin.ext (by simp only; omega)
  simp only [e]
  rfl

include hup hcw hcb hdn in
/-- The sum after `k` steps is the first `256 k` gated hidden values' product with the last weights. -/
theorem sum_apply (k : ℕ) (hk : k ≤ 11) :
    sum h up cw cb dn k hk (ix2 r j)
      = ∑ f : Fin (256 * k), value r h wu w b ⟨f.val, by omega⟩ * wd (ix2 ⟨f.val, by omega⟩ j) := by
  induction k with
  | zero =>
    show k0_pay5 (F := Ideal) (ix2 r j) = ∑ f : Fin 0, _
    rw [Fin.sum_univ_zero]
    unfold_payloads
    pointwise
  | succ k ih =>
    rw [sum, stepAt_apply r h up cw cb dn wu w b wd j hup hcw hcb hdn, ih (by omega)]
    exact (Fin.sum_univ_add (a := 256 * k) (b := 256)
      (fun f => value r h wu w b ⟨f.val, by omega⟩ * wd (ix2 ⟨f.val, by omega⟩ j))).symm

/-- The stored block at row `r` and column `j`, of weights read in blocks. -/
theorem block_apply (x : Vec Ideal S1x256x1024 .f32) (g : Vec Ideal S1x1x1x1024 .f32) :
    stored x g (sum h (fun j => View.ld wu (rectUp j)) (fun j => View.ld w (rectCw j)) (fun j => View.ld b (rectCb j))
        (fun j => View.ld wd (rectDn j)) 11 le_rfl) (ix3 0 r j)
      = FfnRow.result (fun d => h (ix2 ⟨7 + r.val, by omega⟩ d)) (fun d => h (ix2 ⟨8 + r.val, by omega⟩ d))
          (fun d => h (ix2 ⟨9 + r.val, by omega⟩ d)) (fun d n => wu (ix2 d n)) (fun t n => w (ix2 t n)) (fun n => b (ix2 0 n))
          (fun f => wd (ix2 f j)) (x (ix3 0 r j)) (g (ix4 0 0 0 j)) := by
  rw [stored_apply, sum_apply r h _ _ _ _ wu w b wd j (fun j d y => ld_up wu j d y) (fun j t y => ld_cw w j t y)
    (fun j y => ld_cb b j y) (fun j y d => ld_dn wd j y d)]
  rfl

end Cert.Proof.FfnColumns

end
-- ==== Proof.FfnArray.lean ====
/-
  The feed-forward kernel's result array as one function of its argument arrays, and the run that leaves it there.
-/
module

public import proofs.«01_k».proof.Proof.FfnRun
public import proofs.«01_k».proof.Proof.FfnColumns

@[expose] public section

noncomputable section

namespace Cert.Proof.FfnArray

open Idealize.ShloMosaic Idealize.ShloMosaic.TcCoe Idealize.SL.Sem Cert.FfnIdeal Cert.FfnIdeal.Gen Cert.FfnIdeal.Value

/-- Row `t` of batch element `b`, modulated with the second of the element's two shifts and scales. -/
def modulated (x : Vec Ideal S8x2048x1024 .f32) (sh sc : Vec Ideal S8x2x1024 .f32) (b : Fin 8) (t : Fin 2048) : Fin 1024 → EReal :=
  FfnRow.modulate (fun d => x (ix3 b t d)) (fun d => sh (ix3 b 1 d)) (fun d => sc (ix3 b 1 d))

/-- The row before row `t`, zero before the first. -/
def before (y : Fin 2048 → Fin 1024 → EReal) (t : Fin 2048) : Fin 1024 → EReal :=
  if t.val = 0 then fun _ => 0 else y ⟨t.val - 1, by omega⟩

/-- The row after row `t`, zero after the last. -/
def after (y : Fin 2048 → Fin 1024 → EReal) (t : Fin 2048) : Fin 1024 → EReal :=
  if h : t.val = 2047 then fun _ => 0 else y ⟨t.val + 1, by omega⟩

/-- The feed-forward layer's result of batch element `b`, row `t`, column `j`. -/
def outAt (x : Vec Ideal S8x2048x1024 .f32) (sh sc g : Vec Ideal S8x2x1024 .f32) (wu : Vec Ideal S1024x5632 .f32) (w : Vec Ideal S3x5632 .f32)
    (cb : Vec Ideal S5632 .f32) (wd : Vec Ideal S2816x1024 .f32) (b : Fin 8) (t : Fin 2048) (j : Fin 1024) : EReal :=
  FfnRow.result (before (modulated x sh sc b) t) (modulated x sh sc b t) (after (modulated x sh sc b) t)
    (fun d n => wu (ix2 d n)) (fun k n => w (ix2 k n)) (fun n => cb (ix1 n)) (fun f => wd (ix2 f j)) (x (ix3 b t j)) (g (ix3 b 1 j))

variable (m : (ℓ : Loc nD τ sig) → Buf (Elt Ideal) ℓ) (ρ : Dev nD → PrngReg)

/-! ## The arrays the host hands over -/

/-- The shifts, the scales and the gates as the region finds them. -/
theorem V_shift (c : Dev nD) (b : Fin 8) (k : Fin 2) (d : Fin 1024) :
    V m c main_v0 (ix4 b k 0 d) = m ((c : Thread nD τ).loc main_arg1) (ix3 b k d) := by
  have e : (V m c main_v0 : Vec Ideal S8x2x1x1024 .f32)
      = shapeCast S8x2x1x1024 (m ((c : Thread nD τ).loc main_arg1) : Vec Ideal S8x2x1024 .f32) shapeCasts_S8x2x1024_S8x2x1x1024 := by
    unfold V
    simp only [hostOps0]
    after_results_simp <;> rfl
  rw [e]
  generalize (m ((c : Thread nD τ).loc main_arg1) : Vec Ideal S8x2x1024 .f32) = x
  pointwise

theorem V_scale (c : Dev nD) (b : Fin 8) (k : Fin 2) (d : Fin 1024) :
    V m c main_v1 (ix4 b k 0 d) = m ((c : Thread nD τ).loc main_arg2) (ix3 b k d) := by
  have e : (V m c main_v1 : Vec Ideal S8x2x1x1024 .f32)
      = shapeCast S8x2x1x1024 (m ((c : Thread nD τ).loc main_arg2) : Vec Ideal S8x2x1024 .f32) shapeCasts_S8x2x1024_S8x2x1x1024 := by
    unfold V
    simp only [hostOps0]
    after_results_simp <;> rfl
  rw [e]
  generalize (m ((c : Thread nD τ).loc main_arg2) : Vec Ideal S8x2x1024 .f32) = x
  pointwise

theorem V_gate (c : Dev nD) (b : Fin 8) (k : Fin 2) (d : Fin 1024) :
    V m c main_v2 (ix4 b k 0 d) = m ((c : Thread nD τ).loc main_arg3) (ix3 b k d) := by
  have e : (V m c main_v2 : Vec Ideal S8x2x1x1024 .f32)
      = shapeCast S8x2x1x1024 (m ((c : Thread nD τ).loc main_arg3) : Vec Ideal S8x2x1024 .f32) shapeCasts_S8x2x1024_S8x2x1x1024 := by
    unfold V
    simp only [hostOps0]
    after_results_simp <;> rfl
  rw [e]
  generalize (m ((c : Thread nD τ).loc main_arg3) : Vec Ideal S8x2x1024 .f32) = x
  pointwise

/-- The first weights, the bias and the last weights as the region finds them. -/
theorem V_up (c : Dev nD) : (V m c main_v3 : Vec Ideal S1024x5632 .bf16) = (m ((c : Thread nD τ).loc main_arg4) : Vec Ideal S1024x5632 .f32) := by
  unfold V
  simp only [hostOps0]
  after_results_simp <;> rfl

theorem V_bias (c : Dev nD) (n : Fin 5632) : V m c main_v4 (ix2 0 n) = m ((c : Thread nD τ).loc main_arg6) (ix1 n) := by
  have e : (V m c main_v4 : Vec Ideal S1x5632 .f32)
      = shapeCast S1x5632 (m ((c : Thread nD τ).loc main_arg6) : Vec Ideal S5632 .f32) shapeCasts_S5632_S1x5632 := by
    unfold V
    simp only [hostOps0]
    after_results_simp <;> rfl
  rw [e]
  refine shapeCast_apply _ shapeCasts_S5632_S1x5632 (ix2 0 n) (ix1 n) ?_
  rw [Shape.rowMajor_val_one, Shape.rowMajor_val_two]
  show n.val = 0 * 5632 + n.val
  omega

theorem V_down (c : Dev nD) : (V m c main_v5 : Vec Ideal S2816x1024 .bf16) = (m ((c : Thread nD τ).loc main_arg7) : Vec Ideal S2816x1024 .f32) := by
  unfold V
  simp only [hostOps0]
  after_results_simp <;> rfl

/-! ## The windows' block indices at a grid point -/

theorem idx0 : ∀ t : Fin cfg0.N, win0_0.index t (0 : Fin 3) = t.val / 8 ∧ win0_0.index t (1 : Fin 3) = t.val % 8 * 32 - 1
    ∧ win0_0.index t (2 : Fin 3) = 0 := (by decide +kernel : ∀ t : Fin grid0.N, _)
theorem idx1 : ∀ t : Fin cfg0.N, win0_1.index t (0 : Fin 3) = t.val / 8 ∧ win0_1.index t (1 : Fin 3) = t.val % 8
    ∧ win0_1.index t (2 : Fin 3) = 0 := (by decide +kernel : ∀ t : Fin grid0.N, _)
theorem idx2 : ∀ t : Fin cfg0.N, win0_2.index t (0 : Fin 3) = t.val / 8 ∧ win0_2.index t (1 : Fin 3) = min ((t.val % 8 + 1) * 32) 255
    ∧ win0_2.index t (2 : Fin 3) = 0 := (by decide +kernel : ∀ t : Fin grid0.N, _)
theorem idx3 : ∀ t : Fin cfg0.N, win0_3.index t (0 : Fin 4) = t.val / 8 ∧ win0_3.index t (1 : Fin 4) = 1
    ∧ win0_3.index t (2 : Fin 4) = 0 ∧ win0_3.index t (3 : Fin 4) = 0 := (by decide +kernel : ∀ t : Fin grid0.N, _)
theorem idx4 : ∀ t : Fin cfg0.N, win0_4.index t (0 : Fin 4) = t.val / 8 ∧ win0_4.index t (1 : Fin 4) = 1
    ∧ win0_4.index t (2 : Fin 4) = 0 ∧ win0_4.index t (3 : Fin 4) = 0 := (by decide +kernel : ∀ t : Fin grid0.N, _)
theorem idx5 : ∀ t : Fin cfg0.N, win0_5.index t (0 : Fin 4) = t.val / 8 ∧ win0_5.index t (1 : Fin 4) = 1
    ∧ win0_5.index t (2 : Fin 4) = 0 ∧ win0_5.index t (3 : Fin 4) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx10 : ∀ t : Fin cfg0.N, win0_10.index t (0 : Fin 3) = t.val / 8 ∧ win0_10.index t (1 : Fin 3) = t.val % 8
    ∧ win0_10.index t (2 : Fin 3) = 0 := (by decide +kernel : ∀ t : Fin grid0.N, _)

/-- The first of a sequence's blocks is marked, and so is the last. -/
theorem edges : ∀ t : Fin cfg0.N,
    (Scalar.ori (Scalar.cmpi .eq (BitVec.ofNat 32 (grid0.coords t 1).val) 0#32) (Scalar.cmpi .eq (BitVec.ofNat 32 (grid0.coords t 1).val) 0#32) = 1
        ↔ t.val % 8 = 0)
      ∧ (Scalar.cmpi .eq (BitVec.ofNat 32 (grid0.coords t 1).val) 4294967295#32
            ||| Scalar.cmpi .eq (BitVec.ofNat 32 (grid0.coords t 1).val) 7#32 = 1
        ↔ t.val % 8 = 7) := (by decide +kernel : ∀ t : Fin grid0.N, _)

/-- The batch element of a grid point. -/
def batch (t : Fin cfg0.N) : Fin 8 := ⟨t.val / 8, by have : t.val < 64 := t.isLt; omega⟩
/-- A row of a grid point's block. -/
def row (t : Fin cfg0.N) (r : Fin 256) : Fin 2048 := ⟨t.val % 8 * 256 + r.val, by omega⟩

/-! ## The input windows' blocks, read off the argument arrays -/

theorem blk0 (c : Dev nD) (t : Fin cfg0.N) (h : t.val % 8 ≠ 0) (d : Fin 1024) :
    iblk m c 0 t (ix3 0 7 d) = m ((c : Thread nD τ).loc main_arg0) (ix3 (batch t) ⟨t.val % 8 * 256 - 1, by omega⟩ d) := by
  obtain ⟨e0, e1, e2⟩ := idx0 t
  rw [← V_main_arg0 m c]
  refine congrArg (V m c main_arg0) (funext fun a => Fin.ext ?_)
  match a with
  | ⟨0, _⟩ => show win0_0.index t (0 : Fin 3) * 1 + 1 * 0 = t.val / 8; omega
  | ⟨1, _⟩ => show win0_0.index t (1 : Fin 3) * 8 + 1 * 7 = t.val % 8 * 256 - 1; omega
  | ⟨2, _⟩ => show win0_0.index t (2 : Fin 3) * 1024 + 1 * d.val = d.val; omega

theorem blk1 (c : Dev nD) (t : Fin cfg0.N) (r : Fin 256) (d : Fin 1024) :
    iblk m c 1 t (ix3 0 r d) = m ((c : Thread nD τ).loc main_arg0) (ix3 (batch t) (row t r) d) := by
  obtain ⟨e0, e1, e2⟩ := idx1 t
  rw [← V_main_arg0 m c]
  refine congrArg (V m c main_arg0) (funext fun a => Fin.ext ?_)
  match a with
  | ⟨0, _⟩ => show win0_1.index t (0 : Fin 3) * 1 + 1 * 0 = t.val / 8; omega
  | ⟨1, _⟩ => show win0_1.index t (1 : Fin 3) * 256 + 1 * r.val = t.val % 8 * 256 + r.val; omega
  | ⟨2, _⟩ => show win0_1.index t (2 : Fin 3) * 1024 + 1 * d.val = d.val; omega

theorem blk2 (c : Dev nD) (t : Fin cfg0.N) (h : t.val % 8 ≠ 7) (d : Fin 1024) :
    iblk m c 2 t (ix3 0 0 d) = m ((c : Thread nD τ).loc main_arg0) (ix3 (batch t) ⟨t.val % 8 * 256 + 256, by omega⟩ d) := by
  obtain ⟨e0, e1, e2⟩ := idx2 t
  rw [← V_main_arg0 m c]
  refine congrArg (V m c main_arg0) (funext fun a => Fin.ext ?_)
  match a with
  | ⟨0, _⟩ => show win0_2.index t (0 : Fin 3) * 1 + 1 * 0 = t.val / 8; omega
  | ⟨1, _⟩ => show win0_2.index t (1 : Fin 3) * 8 + 1 * 0 = t.val % 8 * 256 + 256; omega
  | ⟨2, _⟩ => show win0_2.index t (2 : Fin 3) * 1024 + 1 * d.val = d.val; omega

theorem blk3 (c : Dev nD) (t : Fin cfg0.N) (d : Fin 1024) :
    iblk m c 3 t (ix4 0 0 0 d) = m ((c : Thread nD τ).loc main_arg1) (ix3 (batch t) 1 d) := by
  obtain ⟨e0, e1, e2, e3⟩ := idx3 t
  rw [← V_shift m c]
  refine congrArg (V m c main_v0) (funext fun a => Fin.ext ?_)
  match a with
  | ⟨0, _⟩ => show win0_3.index t (0 : Fin 4) * 1 + 1 * 0 = t.val / 8; omega
  | ⟨1, _⟩ => show win0_3.index t (1 : Fin 4) * 1 + 1 * 0 = 1; omega
  | ⟨2, _⟩ => show win0_3.index t (2 : Fin 4) * 1 + 1 * 0 = 0; omega
  | ⟨3, _⟩ => show win0_3.index t (3 : Fin 4) * 1024 + 1 * d.val = d.val; omega

theorem blk4 (c : Dev nD) (t : Fin cfg0.N) (d : Fin 1024) :
    iblk m c 4 t (ix4 0 0 0 d) = m ((c : Thread nD τ).loc main_arg2) (ix3 (batch t) 1 d) := by
  obtain ⟨e0, e1, e2, e3⟩ := idx4 t
  rw [← V_scale m c]
  refine congrArg (V m c main_v1) (funext fun a => Fin.ext ?_)
  match a with
  | ⟨0, _⟩ => show win0_4.index t (0 : Fin 4) * 1 + 1 * 0 = t.val / 8; omega
  | ⟨1, _⟩ => show win0_4.index t (1 : Fin 4) * 1 + 1 * 0 = 1; omega
  | ⟨2, _⟩ => show win0_4.index t (2 : Fin 4) * 1 + 1 * 0 = 0; omega
  | ⟨3, _⟩ => show win0_4.index t (3 : Fin 4) * 1024 + 1 * d.val = d.val; omega

theorem blk5 (c : Dev nD) (t : Fin cfg0.N) (d : Fin 1024) :
    iblk m c 5 t (ix4 0 0 0 d) = m ((c : Thread nD τ).loc main_arg3) (ix3 (batch t) 1 d) := by
  obtain ⟨e0, e1, e2, e3⟩ := idx5 t
  rw [← V_gate m c]
  refine congrArg (V m c main_v2) (funext fun a => Fin.ext ?_)
  match a with
  | ⟨0, _⟩ => show win0_5.index t (0 : Fin 4) * 1 + 1 * 0 = t.val / 8; omega
  | ⟨1, _⟩ => show win0_5.index t (1 : Fin 4) * 1 + 1 * 0 = 1; omega
  | ⟨2, _⟩ => show win0_5.index t (2 : Fin 4) * 1 + 1 * 0 = 0; omega
  | ⟨3, _⟩ => show win0_5.index t (3 : Fin 4) * 1024 + 1 * d.val = d.val; omega

theorem blk6 (c : Dev nD) (t : Fin cfg0.N) (d : Fin 1024) (n : Fin 5632) :
    iblk m c 6 t (ix2 d n) = m ((c : Thread nD τ).loc main_arg4) (ix2 d n) := by
  obtain ⟨e0, e1⟩ := idx6 t
  refine Eq.trans ?_ (congrFun (V_up m c) (ix2 d n))
  refine congrArg (V m c main_v3) (funext fun a => Fin.ext ?_)
  match a with
  | ⟨0, _⟩ => show win0_6.index t (0 : Fin 2) * 1024 + 1 * d.val = d.val; omega
  | ⟨1, _⟩ => show win0_6.index t (1 : Fin 2) * 5632 + 1 * n.val = n.val; omega

theorem blk7 (c : Dev nD) (t : Fin cfg0.N) (k : Fin 3) (n : Fin 5632) :
    iblk m c 7 t (ix2 k n) = m ((c : Thread nD τ).loc main_arg5) (ix2 k n) := by
  obtain ⟨e0, e1⟩ := idx7 t
  rw [← V_main_arg5 m c]
  refine congrArg (V m c main_arg5) (funext fun a => Fin.ext ?_)
  match a with
  | ⟨0, _⟩ => show win0_7.index t (0 : Fin 2) * 3 + 1 * k.val = k.val; omega
  | ⟨1, _⟩ => show win0_7.index t (1 : Fin 2) * 5632 + 1 * n.val = n.val; omega

theorem blk8 (c : Dev nD) (t : Fin cfg0.N) (n : Fin 5632) :
    iblk m c 8 t (ix2 0 n) = m ((c : Thread nD τ).loc main_arg6) (ix1 n) := by
  obtain ⟨e0, e1⟩ := idx8 t
  rw [← V_bias m c]
  refine congrArg (V m c main_v4) (funext fun a => Fin.ext ?_)
  match a with
  | ⟨0, _⟩ => show win0_8.index t (0 : Fin 2) * 1 + 1 * 0 = 0; omega
  | ⟨1, _⟩ => show win0_8.index t (1 : Fin 2) * 5632 + 1 * n.val = n.val; omega

theorem blk9 (c : Dev nD) (t : Fin cfg0.N) (f : Fin 2816) (j : Fin 1024) :
    iblk m c 9 t (ix2 f j) = m ((c : Thread nD τ).loc main_arg7) (ix2 f j) := by
  obtain ⟨e0, e1⟩ := idx9 t
  refine Eq.trans ?_ (congrFun (V_down m c) (ix2 f j))
  refine congrArg (V m c main_v5) (funext fun a => Fin.ext ?_)
  match a with
  | ⟨0, _⟩ => show win0_9.index t (0 : Fin 2) * 2816 + 1 * f.val = f.val; omega
  | ⟨1, _⟩ => show win0_9.index t (1 : Fin 2) * 1024 + 1 * j.val = j.val; omega

/-! ## The rows of a block -/

/-- The modulated rows of the launch's batch element `b`. -/
abbrev rowsOf (c : Dev nD) (b : Fin 8) : Fin 2048 → Fin 1024 → EReal :=
  modulated (m ((c : Thread nD τ).loc main_arg0)) (m ((c : Thread nD τ).loc main_arg1)) (m ((c : Thread nD τ).loc main_arg2)) b

/-- The modulated rows around a grid point's block. -/
abbrev rowsAt (c : Dev nD) (t : Fin cfg0.N) : FVec Ideal S272x1024 .bf16 :=
  FfnRun.rowsAt (grid0.coords t) (iblk m c 1 t) (iblk m c 0 t) (iblk m c 2 t) (iblk m c 3 t) (iblk m c 4 t)

theorem rows_mid (c : Dev nD) (t : Fin cfg0.N) (r : Fin 256) :
    (fun d => rowsAt m c t (ix2 ⟨8 + r.val, by omega⟩ d)) = rowsOf m c (batch t) (row t r) := by
  refine (FfnColumns.rows_mid _ _ _ (iblk m c 1 t) (iblk m c 0 t) (iblk m c 2 t) (iblk m c 3 t) (iblk m c 4 t) r).trans ?_
  simp only [blk1, blk3, blk4]
  rfl

theorem rows_before (c : Dev nD) (t : Fin cfg0.N) (r : Fin 256) :
    (fun d => rowsAt m c t (ix2 ⟨7 + r.val, by omega⟩ d)) = before (rowsOf m c (batch t)) (row t r) := by
  refine (FfnColumns.rows_before _ _ _ (iblk m c 1 t) (iblk m c 0 t) (iblk m c 2 t) (iblk m c 3 t) (iblk m c 4 t) r _ (fun d => rfl)).trans ?_
  unfold before
  by_cases h : t.val % 8 * 256 + r.val = 0
  · rw [if_pos ⟨by omega, (edges t).1.mpr (by omega)⟩, if_pos (show (row t r).val = 0 from h)]
  · rw [if_neg fun k => h (by have := (edges t).1.mp k.2; omega), if_neg (show ¬ (row t r).val = 0 from h)]
    unfold rowsOf modulated
    refine congrArg₂ (fun y z => FfnRow.modulate y z _) (funext fun d => ?_) (funext fun d => ?_) |>.trans
      (congrArg (FfnRow.modulate _ _) (funext fun d => ?_))
    · by_cases h0 : r.val = 0
      · rw [dif_pos h0, blk0 m c t (by omega)]
        exact congrArg (fun k => m ((c : Thread nD τ).loc main_arg0) (ix3 (batch t) k d))
          (Fin.ext (by show t.val % 8 * 256 - 1 = t.val % 8 * 256 + r.val - 1; omega))
      · rw [dif_neg h0, blk1]
        exact congrArg (fun k => m ((c : Thread nD τ).loc main_arg0) (ix3 (batch t) k d))
          (Fin.ext (by show t.val % 8 * 256 + (r.val - 1) = t.val % 8 * 256 + r.val - 1; omega))
    · exact blk3 m c t d
    · exact blk4 m c t d

theorem rows_after (c : Dev nD) (t : Fin cfg0.N) (r : Fin 256) :
    (fun d => rowsAt m c t (ix2 ⟨9 + r.val, by omega⟩ d)) = after (rowsOf m c (batch t)) (row t r) := by
  refine (FfnColumns.rows_after _ _ _ (iblk m c 1 t) (iblk m c 0 t) (iblk m c 2 t) (iblk m c 3 t) (iblk m c 4 t) r _ (fun d => rfl)).trans ?_
  unfold after
  by_cases h : t.val % 8 * 256 + r.val = 2047
  · rw [if_pos ⟨by omega, (edges t).2.mpr (by omega)⟩, dif_pos (show (row t r).val = 2047 from h)]
  · rw [if_neg fun k => h (by have := (edges t).2.mp k.2; omega), dif_neg (show ¬ (row t r).val = 2047 from h)]
    unfold rowsOf modulated
    refine congrArg₂ (fun y z => FfnRow.modulate y z _) (funext fun d => ?_) (funext fun d => ?_) |>.trans
      (congrArg (FfnRow.modulate _ _) (funext fun d => ?_))
    · by_cases h0 : r.val = 255
      · rw [dif_pos h0, blk2 m c t (by omega)]
        exact congrArg (fun k => m ((c : Thread nD τ).loc main_arg0) (ix3 (batch t) k d))
          (Fin.ext (by show t.val % 8 * 256 + 256 = t.val % 8 * 256 + r.val + 1; omega))
      · rw [dif_neg h0, blk1]
        exact congrArg (fun k => m ((c : Thread nD τ).loc main_arg0) (ix3 (batch t) k d))
          (Fin.ext (by show t.val % 8 * 256 + (r.val + 1) = t.val % 8 * 256 + r.val + 1; omega))
    · exact blk3 m c t d
    · exact blk4 m c t d

/-! ## The result array -/

/-- The result array of the launch's arguments. -/
def result (c : Dev nD) : Vec Ideal S8x2048x1024 .f32 := fun i =>
  outAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1) (i 2)

/-- Where an element of the output's block sits in the array. -/
theorem emb10 (t : Fin cfg0.N) (r : Fin 256) (j : Fin 1024) :
    ((cfg0.win 10).blk t).view.emb (ix3 0 r j) = ix3 (batch t) (row t r) j := by
  obtain ⟨e0, e1, e2⟩ := idx10 t
  refine funext fun a => Fin.ext ?_
  match a with
  | ⟨0, _⟩ => show win0_10.index t (0 : Fin 3) * 1 + 1 * 0 = t.val / 8; omega
  | ⟨1, _⟩ => show win0_10.index t (1 : Fin 3) * 256 + 1 * r.val = t.val % 8 * 256 + r.val; omega
  | ⟨2, _⟩ => show win0_10.index t (2 : Fin 3) * 1024 + 1 * j.val = j.val; omega

/-- An index of the output's block: a row and a column. -/
theorem block_ix (y : S1x256x1024.Idx) : ∃ (r : Fin 256) (j : Fin 1024), y = ix3 0 r j := by
  have h0 : (y 0).val < 1 := (y 0).isLt
  refine ⟨y 1, y 2, funext fun a => Fin.ext ?_⟩
  match a with
  | ⟨0, _⟩ => show (y 0).val = 0; omega
  | ⟨1, _⟩ => rfl
  | ⟨2, _⟩ => rfl

/-- What a grid point writes back is its block of the result array. -/
theorem flushed10_eq (c : Dev nD) (t : Fin cfg0.N) :
    (dats m 0 c).flushed 10 t = ((cfg0.win 10).blk t).view.read (Elt Ideal) (result m c) := by
  rw [flushed10_A, FfnRun.out_eq]
  funext y
  obtain ⟨r, j, rfl⟩ := block_ix y
  refine (FfnColumns.block_apply r (rowsAt m c t) (iblk m c 6 t) (iblk m c 7 t) (iblk m c 8 t) (iblk m c 9 t) j
    (iblk m c 1 t) (iblk m c 5 t)).trans ?_
  show _ = result m c (((cfg0.win 10).blk t).view.emb (ix3 0 r j))
  rw [emb10, rows_mid, rows_before, rows_after]
  simp only [blk1, blk5, blk6, blk7, blk8, blk9]
  rfl

/-- Every index of the result array is in some grid point's block. -/
theorem covered10 (i : S8x2048x1024.Idx) :
    ∃ t : Fin cfg0.N, (cfg0.win 10).flush t = true ∧ i ∈ ((cfg0.win 10).blk t).view.set := by
  have h0 : (i 0).val < 8 := (i 0).isLt
  have h1 : (i 1).val < 2048 := (i 1).isLt
  refine ⟨(⟨(i 0).val * 8 + (i 1).val / 256, by show _ < 64; omega⟩ : Fin cfg0.N), flush0_10 _, ?_⟩
  have h := ((cfg0.win 10).blk (⟨(i 0).val * 8 + (i 1).val / 256, by show _ < 64; omega⟩ : Fin cfg0.N)).view.emb_mem_set
    (ix3 (0 : Fin 1) (⟨(i 1).val % 256, by omega⟩ : Fin 256) (⟨(i 2).val, (i 2).isLt⟩ : Fin 1024))
  rw [emb10] at h
  refine (congrArg (· ∈ _) (funext fun a => Fin.ext ?_)).mpr h
  match a with
  | ⟨0, _⟩ => show (i 0).val = ((i 0).val * 8 + (i 1).val / 256) / 8; omega
  | ⟨1, _⟩ => show (i 1).val = ((i 0).val * 8 + (i 1).val / 256) % 8 * 256 + (i 1).val % 256; omega
  | ⟨2, _⟩ => rfl

/-- The run: the result array is `result` of the arguments, which end unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c =>
    ⟨(h c).1.trans ((dats m 0 c).arrAt_eq_of_cover 10 (result m c) (fun t _ => flushed10_eq m c t) covered10), (h c).2⟩)
    (run_blocks m ρ)

end Cert.Proof.FfnArray

end
-- ==== Proof.FfnReference.lean ====
/-
  What the reference of the feed-forward layer computes, at one element of its result.
-/
module

public import proofs.«01_k».proof.Proof.FfnArray
public import proofs.«01_k».proof.Proof.Gen.FfnReferenceIdeal.Run
public import proofs.«01_k».proof.Proof.Gen.FfnReferenceIdeal.Read
public import Idealize.ShloMosaic.Lib.KernelVsHost
public import Idealize.ShloMosaic.Lib.IdealHost

@[expose] public section

noncomputable section

namespace Cert.Proof.FfnReference

open Idealize.ShloMosaic Cert.FfnReferenceIdeal Cert.FfnReferenceIdeal.Read FfnArray

/-- The printed one is 1. -/
theorem one_bits : Ideal.ofBits FTy.f32 0x3F800000#32 = (1 : EReal) := Ideal.ofBits_one_f32

variable (x0 : (⟨S8x2048x1024, .f32⟩ : BufTy).Contents (Elt Ideal)) (x1 x2 x3 : (⟨S8x2x1024, .f32⟩ : BufTy).Contents (Elt Ideal))
  (x4 : (⟨S1024x5632, .f32⟩ : BufTy).Contents (Elt Ideal)) (x5 : (⟨S3x5632, .f32⟩ : BufTy).Contents (Elt Ideal))
  (x6 : (⟨S5632, .f32⟩ : BufTy).Contents (Elt Ideal)) (x7 : (⟨S2816x1024, .f32⟩ : BufTy).Contents (Elt Ideal))

/-- A row's mean square. -/
theorem v7_apply (b : Fin 8) (t : Fin 2048) :
    val_main_v7 (F := Ideal) x0 (ix3 b t 0)
      = Ideal.div (∑ e, x0 (ix3 b t e) * x0 (ix3 b t e)) (Ideal.ofBits FTy.f32 0x44800000#32) := by
  have e : idx_main_v5 (ix3 b t 0) = ix2 b t := funext fun a => by fin_cases a <;> rfl
  have z : ∀ i, val_main_cst (F := Ideal) i = (0 : EReal) := fun i => Ideal.ofBits_zero_f32
  rw [val_main_v7_apply, val_main_v5_apply, e, val_main_v4_apply, z, zero_add, val_main_v6_apply, val_main_cst_0_apply]
  refine congrArg (fun s => Ideal.div s _) (Finset.sum_congr rfl fun k _ => ?_)
  rw [val_main_v3_apply, show idx_main_v4 (ix2 b t) k = ix3 b t k from funext fun a => by fin_cases a <;> rfl]
  rfl

/-- A modulated row. -/
theorem v18_apply (b : Fin 8) (t : Fin 2048) (d : Fin 1024) :
    val_main_v18 (F := Ideal) x0 x1 x2 (ix3 b t d) = modulated x0 x1 x2 b t d := by
  have e11 : idx_main_v11 (ix3 b t d) = ix3 b t 0 := funext fun a => by fin_cases a <;> rfl
  have e15 : idx_main_v1 (idx_main_v15 (ix3 b t d)) = ix3 b 1 d := funext fun a => by fin_cases a <;> rfl
  have e17 : idx_main_v0 (idx_main_v17 (ix3 b t d)) = ix3 b 1 d := funext fun a => by fin_cases a <;> rfl
  rw [val_main_v18_apply, val_main_v16_apply, val_main_v12_apply, val_main_v11_apply, e11, val_main_v10_apply, val_main_v9_apply,
    v7_apply, val_main_v8_apply, val_main_cst_1_apply, val_main_v15_apply, val_main_v14_apply, val_main_v13_apply,
    val_main_cst_2_apply, val_main_v1_apply, e15, val_main_v17_apply, val_main_v0_apply, e17]
  show _ * (Ideal.ofBits FTy.f32 0x3F800000#32 + _) + _ = _
  rw [one_bits]
  rfl

/-- The first product of a row. -/
theorem v19_apply (b : Fin 8) (t : Fin 2048) (n : Fin 5632) :
    val_main_v19 (F := Ideal) x0 x1 x2 x4 (ix3 b t n) = ∑ d, modulated x0 x1 x2 b t d * x4 (ix2 d n) := by
  rw [val_main_v19_apply]
  refine Finset.sum_congr rfl fun d _ => ?_
  rw [show lidx_main_v19 (ix3 b t n) d = ix3 b t d from funext fun a => by fin_cases a <;> rfl, v18_apply,
    show ridx_main_v19 (ix3 b t n) d = ix2 d n from funext fun a => by fin_cases a <;> rfl]

/-- The padding value is zero. -/
theorem padding (i : S_.Idx) : val_main_call0_v0 (F := Ideal) i = (0 : EReal) := by
  show (((0#32 : BitVec 32).toInt : ℝ) : EReal) = 0
  simp

/-- The product of a row with column `n` of the first weights. -/
def product (y : Fin 1024 → EReal) (n : Fin 5632) : EReal := ∑ d, y d * x4 (ix2 d n)

theorem product_zero (n : Fin 5632) : product x4 (fun _ => 0) n = 0 := by
  unfold product
  simp

/-- The padded products at the row before, the row itself and the row after. -/
theorem v20_before (b : Fin 8) (t : Fin 2048) (n : Fin 5632) :
    val_main_v20 (F := Ideal) x0 x1 x2 x4 (ix3 b ⟨t.val, by omega⟩ n) = product x4 (before (modulated x0 x1 x2 b) t) n := by
  unfold val_main_v20 before
  by_cases h : t.val = 0
  · rw [if_pos h, product_zero, pad_apply_of_not_inside _ _ _ _ _ _ _ _ (1 : Fin 3) (by show ¬ (1 ≤ t.val ∧ _ ∧ _); omega), padding]
  · rw [if_neg h, pad_apply_of_inside _ _ _ _ _ _ _ _ (ix3 b ⟨t.val - 1, by omega⟩ n) (fun a => match a with
      | ⟨0, _⟩ => by show b.val = 0 + b.val * (0 + 1); omega
      | ⟨1, _⟩ => by show t.val = 1 + (t.val - 1) * (0 + 1); omega
      | ⟨2, _⟩ => by show n.val = 0 + n.val * (0 + 1); omega), v19_apply]
    rfl

theorem v20_mid (b : Fin 8) (t : Fin 2048) (n : Fin 5632) :
    val_main_v20 (F := Ideal) x0 x1 x2 x4 (ix3 b ⟨1 + t.val, by omega⟩ n) = product x4 (modulated x0 x1 x2 b t) n := by
  unfold val_main_v20
  rw [pad_apply_of_inside _ _ _ _ _ _ _ _ (ix3 b t n) (fun a => match a with
      | ⟨0, _⟩ => by show b.val = 0 + b.val * (0 + 1); omega
      | ⟨1, _⟩ => by show 1 + t.val = 1 + t.val * (0 + 1); omega
      | ⟨2, _⟩ => by show n.val = 0 + n.val * (0 + 1); omega), v19_apply]
  rfl

theorem v20_after (b : Fin 8) (t : Fin 2048) (n : Fin 5632) :
    val_main_v20 (F := Ideal) x0 x1 x2 x4 (ix3 b ⟨2 + t.val, by omega⟩ n) = product x4 (after (modulated x0 x1 x2 b) t) n := by
  unfold val_main_v20 after
  by_cases h : t.val = 2047
  · rw [dif_pos h, product_zero, pad_apply_of_not_inside _ _ _ _ _ _ _ _ (1 : Fin 3)
      (by show ¬ (1 ≤ 2 + t.val ∧ (2 + t.val - 1) % (0 + 1) = 0 ∧ (2 + t.val - 1) / (0 + 1) < 2048); omega), padding]
  · rw [dif_neg h, pad_apply_of_inside _ _ _ _ _ _ _ _ (ix3 b ⟨t.val + 1, by omega⟩ n) (fun a => match a with
      | ⟨0, _⟩ => by show b.val = 0 + b.val * (0 + 1); omega
      | ⟨1, _⟩ => by show 2 + t.val = 1 + (t.val + 1) * (0 + 1); omega
      | ⟨2, _⟩ => by show n.val = 0 + n.val * (0 + 1); omega), v19_apply]
    rfl

/-- The taps and the bias, spread over the rows. -/
theorem tap0 (b : Fin 8) (t : Fin 2048) (n : Fin 5632) : val_main_v25 (F := Ideal) x5 (ix3 b t n) = x5 (ix2 0 n) := by
  rw [val_main_v25_apply, val_main_v24_apply, val_main_v23_apply, val_main_v22_apply]
  exact congrArg x5 (funext fun a => Fin.ext (match a with | ⟨0, _⟩ => rfl | ⟨1, _⟩ => Nat.mod_eq_of_lt n.isLt))
theorem tap1 (b : Fin 8) (t : Fin 2048) (n : Fin 5632) : val_main_v31 (F := Ideal) x5 (ix3 b t n) = x5 (ix2 1 n) := by
  rw [val_main_v31_apply, val_main_v30_apply, val_main_v29_apply, val_main_v28_apply]
  exact congrArg x5 (funext fun a => Fin.ext (match a with | ⟨0, _⟩ => rfl | ⟨1, _⟩ => Nat.mod_eq_of_lt n.isLt))
theorem tap2 (b : Fin 8) (t : Fin 2048) (n : Fin 5632) : val_main_v38 (F := Ideal) x5 (ix3 b t n) = x5 (ix2 2 n) := by
  rw [val_main_v38_apply, val_main_v37_apply, val_main_v36_apply, val_main_v35_apply]
  exact congrArg x5 (funext fun a => Fin.ext (match a with | ⟨0, _⟩ => rfl | ⟨1, _⟩ => Nat.mod_eq_of_lt n.isLt))
theorem bias (b : Fin 8) (t : Fin 2048) (n : Fin 5632) : val_main_v42 (F := Ideal) x6 (ix3 b t n) = x6 (ix1 n) := by
  rw [val_main_v42_apply, val_main_v41_apply]
  exact congrArg x6 (funext fun a => by fin_cases a; rfl)

/-- A hidden column. -/
theorem v43_apply (b : Fin 8) (t : Fin 2048) (n : Fin 5632) :
    val_main_v43 (F := Ideal) x0 x1 x2 x4 x5 x6 (ix3 b t n)
      = FfnRow.column (before (modulated x0 x1 x2 b) t) (modulated x0 x1 x2 b t) (after (modulated x0 x1 x2 b) t)
          (fun d => x4 (ix2 d n)) (x5 (ix2 0 n)) (x5 (ix2 1 n)) (x5 (ix2 2 n)) (x6 (ix1 n)) := by
  have e21 : idx_main_v21 (ix3 b t n) = ix3 b ⟨t.val, by omega⟩ n := funext fun a => by fin_cases a <;> rfl
  have e27 : idx_main_v27 (ix3 b t n) = ix3 b ⟨1 + t.val, by omega⟩ n := funext fun a => by fin_cases a <;> rfl
  have e34 : idx_main_v34 (ix3 b t n) = ix3 b ⟨2 + t.val, by omega⟩ n := funext fun a => by fin_cases a <;> rfl
  rw [val_main_v43_apply, val_main_v40_apply, val_main_v33_apply, val_main_v26_apply, val_main_v32_apply, val_main_v39_apply,
    val_main_v21_apply, val_main_v27_apply, val_main_v34_apply, e21, e27, e34, v20_before, v20_mid, v20_after, tap0, tap1, tap2, bias]
  rfl

/-- A gated hidden value. -/
theorem v47_apply (b : Fin 8) (t : Fin 2048) (f : Fin 2816) :
    val_main_v47 (F := Ideal) x0 x1 x2 x4 x5 x6 (ix3 b t f)
      = FfnRow.hidden (before (modulated x0 x1 x2 b) t) (modulated x0 x1 x2 b t) (after (modulated x0 x1 x2 b) t)
          (fun d n => x4 (ix2 d n)) (fun k n => x5 (ix2 k n)) (fun n => x6 (ix1 n)) f := by
  have e44 : idx_main_v44 (ix3 b t f) = ix3 b t ⟨f.val, by omega⟩ := funext fun a => by fin_cases a <;> rfl
  have e45 : idx_main_v45 (ix3 b t f) = ix3 b t ⟨2816 + f.val, by omega⟩ := funext fun a => by fin_cases a <;> rfl
  have e := v43_apply x0 x1 x2 x4 x5 x6 b t
  rw [val_main_v47_apply, val_main_v46_apply, val_main_call1_v5_apply, val_main_call1_v3_apply, val_main_call1_v1_apply,
    val_main_call1_v0_apply, val_main_call1_v4_apply, val_main_call1_cst_0_apply, val_main_call1_v2_apply, val_main_call1_cst_apply,
    val_main_v44_apply, val_main_v45_apply, e44, e45, e, e]
  show _ * Ideal.div (Ideal.ofBits FTy.f32 0x3F800000#32) (Ideal.ofBits FTy.f32 0x3F800000#32 + Ideal.exp (-_)) * _ = _
  rw [one_bits]
  rfl

/-- The reference's result at a batch element, a row and a column. -/
theorem result_apply (b : Fin 8) (t : Fin 2048) (j : Fin 1024) :
    val_main_v51 (F := Ideal) x0 x1 x2 x3 x4 x5 x6 x7 (ix3 b t j) = outAt x0 x1 x2 x3 x4 x5 x6 x7 b t j := by
  have e49 : idx_main_v2 (idx_main_v49 (ix3 b t j)) = ix3 b 1 j := funext fun a => by fin_cases a <;> rfl
  rw [val_main_v51_apply, val_main_v50_apply, val_main_v49_apply, val_main_v2_apply, e49, val_main_v48_apply]
  unfold outAt FfnRow.result
  refine congrArg (fun s => x0 (ix3 b t j) + x3 (ix3 b 1 j) * s) (Finset.sum_congr rfl fun f _ => ?_)
  rw [show lidx_main_v48 (ix3 b t j) f = ix3 b t f from funext fun a => by fin_cases a <;> rfl, v47_apply,
    show ridx_main_v48 (ix3 b t j) f = ix2 f j from funext fun a => by fin_cases a <;> rfl]

end Cert.Proof.FfnReference

end
-- ==== Proof.FfnEquation.lean ====
/-
  The equality of the feed-forward kernel's result with its reference's.
-/
module

public import proofs.«01_k».proof.Proof.FfnReference

@[expose] public section

noncomputable section

namespace Cert.Proof.FfnEquation

open Idealize.ShloMosaic Idealize.ShloMosaic.TcCoe

variable (m : (ℓ : Loc Cert.FfnIdeal.nD Cert.FfnIdeal.τ Cert.FfnIdeal.sig) → Buf (Elt Ideal) ℓ)

/-- An index of the result: a batch element, a row and a column. -/
theorem result_ix (i : Cert.FfnIdeal.S8x2048x1024.Idx) : i = ix3 (i 0) (i 1) (i 2) :=
  funext fun a => match a with
    | ⟨0, _⟩ => rfl
    | ⟨1, _⟩ => rfl
    | ⟨2, _⟩ => rfl

/-- The kernel's result array is the reference's, of the launch's arguments. -/
theorem result_eq (c : Dev Cert.FfnIdeal.nD) :
    FfnArray.result m c = Cert.FfnReferenceIdeal.Read.val_main_v51 (F := Ideal)
      (m ((c : Thread Cert.FfnIdeal.nD Cert.FfnIdeal.τ).loc Cert.FfnIdeal.main_arg0))
      (m ((c : Thread Cert.FfnIdeal.nD Cert.FfnIdeal.τ).loc Cert.FfnIdeal.main_arg1))
      (m ((c : Thread Cert.FfnIdeal.nD Cert.FfnIdeal.τ).loc Cert.FfnIdeal.main_arg2))
      (m ((c : Thread Cert.FfnIdeal.nD Cert.FfnIdeal.τ).loc Cert.FfnIdeal.main_arg3))
      (m ((c : Thread Cert.FfnIdeal.nD Cert.FfnIdeal.τ).loc Cert.FfnIdeal.main_arg4))
      (m ((c : Thread Cert.FfnIdeal.nD Cert.FfnIdeal.τ).loc Cert.FfnIdeal.main_arg5))
      (m ((c : Thread Cert.FfnIdeal.nD Cert.FfnIdeal.τ).loc Cert.FfnIdeal.main_arg6))
      (m ((c : Thread Cert.FfnIdeal.nD Cert.FfnIdeal.τ).loc Cert.FfnIdeal.main_arg7)) := by
  funext i
  rw [result_ix i]
  exact (FfnReference.result_apply _ _ _ _ _ _ _ _ (i 0) (i 1) (i 2)).symm

end Cert.Proof.FfnEquation

end
-- ==== Proof.FfnCtxRun.lean ====
/-
  The first block's feed-forward kernel, over the context and the latent tokens together, stores the same chain of eleven steps over its input blocks.
-/
module

public import proofs.«01_k».proof.Proof.FfnBlock
public import proofs.«01_k».proof.Proof.Gen.FfnCtxIdeal.Value

@[expose] public section

noncomputable section

namespace Cert.Proof.FfnCtxRun

open Idealize.ShloMosaic Cert.FfnCtxIdeal Cert.FfnCtxIdeal.Gen FfnBlock

variable {F : FTy → Type} [FloatOps F]

/-- The hidden rows at a grid point: the context is the first of the nine blocks and the latent tokens are the other eight, so no row
    comes before the first two blocks, and none after the first and the last. -/
def rowsAt (i : grid0.Coords) (x : Vec F S1x256x1024 .f32) (xp xn : Vec F S1x8x1024 .f32) (sh sc : Vec F S1x1x1x1024 .f32) :
    FVec F S272x1024 .bf16 :=
  rows (Scalar.ori (Scalar.cmpi .eq (BitVec.ofNat 32 (i 1).val) 0#32) (Scalar.cmpi .eq (BitVec.ofNat 32 (i 1).val) 1#32))
    (Scalar.cmpi .eq (BitVec.ofNat 32 (i 1).val) 0#32) (Scalar.cmpi .eq (BitVec.ofNat 32 (i 1).val) 8#32) x xp xn sh sc

/-- What a grid point leaves in the output's block. -/
theorem out_eq (c : Dev nD) (i : grid0.Coords) (arg2 : Memref sig .tc .vmem S1x8x1024 .f32) (harg2 : arg2.IsWhole) (arg3 : Memref sig .tc .vmem S1x256x1024 .f32) (harg3 : arg3.IsWhole) (arg4 : Memref sig .tc .vmem S1x8x1024 .f32) (harg4 : arg4.IsWhole) (arg5 : Memref sig .tc .vmem S1x1x1x1024 .f32) (harg5 : arg5.IsWhole) (arg6 : Memref sig .tc .vmem S1x1x1x1024 .f32) (harg6 : arg6.IsWhole) (arg7 : Memref sig .tc .vmem S1x1x1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x256x1024 .f32) (harg12 : arg12.IsWhole) (arg13 : Memref sig .tc .vmem S256x1024 .f32) (harg13 : arg13.IsWhole)
    (x0 : Vec F S1x8x1024 .f32) (x1 : Vec F S1x256x1024 .f32) (x2 : Vec F S1x8x1024 .f32) (x3 : Vec F S1x1x1x1024 .f32) (x4 : Vec F S1x1x1x1024 .f32) (x5 : Vec F S1x1x1x1024 .f32) (x6 : Vec F S1024x5632 .bf16) (x7 : Vec F S3x5632 .f32) (x8 : Vec F S1x5632 .f32) (x9 : Vec F S2816x1024 .bf16) :
    out0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9
      = stored x1 x5 (sum (rowsAt i x1 x0 x2 x3 x4) (fun j => View.ld x6 (rectUp j)) (fun j => View.ld x7 (rectCw j))
          (fun j => View.ld x8 (rectCb j)) (fun j => View.ld x9 (rectDn j)) 11 le_rfl) := by
  unfold out0_A_10
  rw [View.read_writes_junk_eq_canon]
  unfold kernelRun0_A
  dsimp only
  rw [View.canon_cons_unit_lit' _ _ _ (by decide)]
  have e : k0_pay1 _ = stored
      (arg3.view.readAt (Elt F) (Rect.unit (s := S1x256x1024) ![0, 0, 0] S1x256x1024.size inb_S1x256x1024_S1x256x1024_0_0_0).toLoadRect (harg3.unread x1))
      (arg7.view.readAt (Elt F) (Rect.unit (s := S1x1x1x1024) ![0, 0, 0, 0] S1x1x1x1024.size inb_S1x1x1x1024_S1x1x1x1024_0_0_0_0).toLoadRect (harg7.unread x5))
      (arg13.view.readCov (pieces
        (rowsAt i
          (arg3.view.readAt (Elt F) (Rect.unit (s := S1x256x1024) ![0, 0, 0] S1x256x1024.size inb_S1x256x1024_S1x256x1024_0_0_0).toLoadRect (harg3.unread x1))
          (arg2.view.readAt (Elt F) (Rect.unit (s := S1x8x1024) ![0, 0, 0] S1x8x1024.size inb_S1x8x1024_S1x8x1024_0_0_0).toLoadRect (harg2.unread x0))
          (arg4.view.readAt (Elt F) (Rect.unit (s := S1x8x1024) ![0, 0, 0] S1x8x1024.size inb_S1x8x1024_S1x8x1024_0_0_0).toLoadRect (harg4.unread x2))
          (arg5.view.readAt (Elt F) (Rect.unit (s := S1x1x1x1024) ![0, 0, 0, 0] S1x1x1x1024.size inb_S1x1x1x1024_S1x1x1x1024_0_0_0_0).toLoadRect (harg5.unread x3))
          (arg6.view.readAt (Elt F) (Rect.unit (s := S1x1x1x1024) ![0, 0, 0, 0] S1x1x1x1024.size inb_S1x1x1x1024_S1x1x1x1024_0_0_0_0).toLoadRect (harg6.unread x4)))
        (fun j => arg8.view.readAt (Elt F) (rectUp j).toLoadRect (harg8.unread x6))
        (fun j => arg9.view.readAt (Elt F) (rectCw j).toLoadRect (harg9.unread x7))
        (fun j => arg10.view.readAt (Elt F) (rectCb j).toLoadRect (harg10.unread x8))
        (fun j => arg11.view.readAt (Elt F) (rectDn j).toLoadRect (harg11.unread x9)) arg13.view 11 le_rfl) whole.toLoadRect) := rfl
  refine e.trans ?_
  rw [read_pieces]
  simp only [View.readAt_eq_ld, harg2.read_unread, harg3.read_unread, harg4.read_unread, harg5.read_unread, harg6.read_unread,
    harg7.read_unread, harg8.read_unread, harg9.read_unread, harg10.read_unread, harg11.read_unread]
  rw [View.ld_unit_lit', View.ld_unit_lit', View.ld_unit_lit', View.ld_unit_lit', View.ld_unit_lit', View.ld_unit_lit'] <;> decide

end Cert.Proof.FfnCtxRun

end
-- ==== Proof.FfnCtxArray.lean ====
/-
  The first block's feed-forward kernel: its result array as one function of its argument arrays, and the run that leaves it there.
-/
module

public import proofs.«01_k».proof.Proof.FfnCtxRun
public import proofs.«01_k».proof.Proof.FfnColumns

@[expose] public section

noncomputable section

namespace Cert.Proof.FfnCtxArray

open Idealize.ShloMosaic Idealize.ShloMosaic.TcCoe Idealize.SL.Sem Cert.FfnCtxIdeal Cert.FfnCtxIdeal.Gen Cert.FfnCtxIdeal.Value

/-- Which of the two shifts, scales and gates a row takes: the first, for the 256 rows of the context, or the second. -/
def seg (t : Fin 2304) : Fin 2 := if t.val < 256 then 0 else 1

/-- Row `t` of batch element `b`, modulated. -/
def modulated (x : Vec Ideal S8x2304x1024 .f32) (sh sc : Vec Ideal S8x2x1024 .f32) (b : Fin 8) (t : Fin 2304) : Fin 1024 → EReal :=
  FfnRow.modulate (fun d => x (ix3 b t d)) (fun d => sh (ix3 b (seg t) d)) (fun d => sc (ix3 b (seg t) d))

/-- The row before row `t`, zero before the first of the context and the first of the latent tokens. -/
def before (y : Fin 2304 → Fin 1024 → EReal) (t : Fin 2304) : Fin 1024 → EReal :=
  if t.val = 0 ∨ t.val = 256 then fun _ => 0 else y ⟨t.val - 1, by omega⟩

/-- The row after row `t`, zero after the last of the context and the last of the latent tokens. -/
def after (y : Fin 2304 → Fin 1024 → EReal) (t : Fin 2304) : Fin 1024 → EReal :=
  if h : t.val = 255 ∨ t.val = 2303 then fun _ => 0 else y ⟨t.val + 1, by omega⟩

/-- The feed-forward layer's result of batch element `b`, row `t`, column `j`. -/
def outAt (x : Vec Ideal S8x2304x1024 .f32) (sh sc g : Vec Ideal S8x2x1024 .f32) (wu : Vec Ideal S1024x5632 .f32) (w : Vec Ideal S3x5632 .f32)
    (cb : Vec Ideal S5632 .f32) (wd : Vec Ideal S2816x1024 .f32) (b : Fin 8) (t : Fin 2304) (j : Fin 1024) : EReal :=
  FfnRow.result (before (modulated x sh sc b) t) (modulated x sh sc b t) (after (modulated x sh sc b) t)
    (fun d n => wu (ix2 d n)) (fun k n => w (ix2 k n)) (fun n => cb (ix1 n)) (fun f => wd (ix2 f j)) (x (ix3 b t j)) (g (ix3 b (seg t) j))

variable (m : (ℓ : Loc nD τ sig) → Buf (Elt Ideal) ℓ) (ρ : Dev nD → PrngReg)

/-! ## The arrays the host hands over -/

/-- The shifts, the scales and the gates as the region finds them. -/
theorem V_shift (c : Dev nD) (b : Fin 8) (k : Fin 2) (d : Fin 1024) :
    V m c main_v0 (ix4 b k 0 d) = m ((c : Thread nD τ).loc main_arg1) (ix3 b k d) := by
  have e : (V m c main_v0 : Vec Ideal S8x2x1x1024 .f32)
      = shapeCast S8x2x1x1024 (m ((c : Thread nD τ).loc main_arg1) : Vec Ideal S8x2x1024 .f32) shapeCasts_S8x2x1024_S8x2x1x1024 := by
    unfold V
    simp only [hostOps0]
    after_results_simp <;> rfl
  rw [e]
  generalize (m ((c : Thread nD τ).loc main_arg1) : Vec Ideal S8x2x1024 .f32) = x
  pointwise

theorem V_scale (c : Dev nD) (b : Fin 8) (k : Fin 2) (d : Fin 1024) :
    V m c main_v1 (ix4 b k 0 d) = m ((c : Thread nD τ).loc main_arg2) (ix3 b k d) := by
  have e : (V m c main_v1 : Vec Ideal S8x2x1x1024 .f32)
      = shapeCast S8x2x1x1024 (m ((c : Thread nD τ).loc main_arg2) : Vec Ideal S8x2x1024 .f32) shapeCasts_S8x2x1024_S8x2x1x1024 := by
    unfold V
    simp only [hostOps0]
    after_results_simp <;> rfl
  rw [e]
  generalize (m ((c : Thread nD τ).loc main_arg2) : Vec Ideal S8x2x1024 .f32) = x
  pointwise

theorem V_gate (c : Dev nD) (b : Fin 8) (k : Fin 2) (d : Fin 1024) :
    V m c main_v2 (ix4 b k 0 d) = m ((c : Thread nD τ).loc main_arg3) (ix3 b k d) := by
  have e : (V m c main_v2 : Vec Ideal S8x2x1x1024 .f32)
      = shapeCast S8x2x1x1024 (m ((c : Thread nD τ).loc main_arg3) : Vec Ideal S8x2x1024 .f32) shapeCasts_S8x2x1024_S8x2x1x1024 := by
    unfold V
    simp only [hostOps0]
    after_results_simp <;> rfl
  rw [e]
  generalize (m ((c : Thread nD τ).loc main_arg3) : Vec Ideal S8x2x1024 .f32) = x
  pointwise

/-- The first weights, the bias and the last weights as the region finds them. -/
theorem V_up (c : Dev nD) : (V m c main_v3 : Vec Ideal S1024x5632 .bf16) = (m ((c : Thread nD τ).loc main_arg4) : Vec Ideal S1024x5632 .f32) := by
  unfold V
  simp only [hostOps0]
  after_results_simp <;> rfl

theorem V_bias (c : Dev nD) (n : Fin 5632) : V m c main_v4 (ix2 0 n) = m ((c : Thread nD τ).loc main_arg6) (ix1 n) := by
  have e : (V m c main_v4 : Vec Ideal S1x5632 .f32)
      = shapeCast S1x5632 (m ((c : Thread nD τ).loc main_arg6) : Vec Ideal S5632 .f32) shapeCasts_S5632_S1x5632 := by
    unfold V
    simp only [hostOps0]
    after_results_simp <;> rfl
  rw [e]
  refine shapeCast_apply _ shapeCasts_S5632_S1x5632 (ix2 0 n) (ix1 n) ?_
  rw [Shape.rowMajor_val_one, Shape.rowMajor_val_two]
  show n.val = 0 * 5632 + n.val
  omega

theorem V_down (c : Dev nD) : (V m c main_v5 : Vec Ideal S2816x1024 .bf16) = (m ((c : Thread nD τ).loc main_arg7) : Vec Ideal S2816x1024 .f32) := by
  unfold V
  simp only [hostOps0]
  after_results_simp <;> rfl

/-! ## The windows' block indices at a grid point -/

theorem idx0 : ∀ t : Fin cfg0.N, win0_0.index t (0 : Fin 3) = t.val / 9 ∧ win0_0.index t (1 : Fin 3) = t.val % 9 * 32 - 1
    ∧ win0_0.index t (2 : Fin 3) = 0 := (by decide +kernel : ∀ t : Fin grid0.N, _)
theorem idx1 : ∀ t : Fin cfg0.N, win0_1.index t (0 : Fin 3) = t.val / 9 ∧ win0_1.index t (1 : Fin 3) = t.val % 9
    ∧ win0_1.index t (2 : Fin 3) = 0 := (by decide +kernel : ∀ t : Fin grid0.N, _)
theorem idx2 : ∀ t : Fin cfg0.N, win0_2.index t (0 : Fin 3) = t.val / 9 ∧ win0_2.index t (1 : Fin 3) = min ((t.val % 9 + 1) * 32) 287
    ∧ win0_2.index t (2 : Fin 3) = 0 := (by decide +kernel : ∀ t : Fin grid0.N, _)
theorem idx3 : ∀ t : Fin cfg0.N, win0_3.index t (0 : Fin 4) = t.val / 9 ∧ win0_3.index t (1 : Fin 4) = min (t.val % 9) 1
    ∧ win0_3.index t (2 : Fin 4) = 0 ∧ win0_3.index t (3 : Fin 4) = 0 := (by decide +kernel : ∀ t : Fin grid0.N, _)
theorem idx4 : ∀ t : Fin cfg0.N, win0_4.index t (0 : Fin 4) = t.val / 9 ∧ win0_4.index t (1 : Fin 4) = min (t.val % 9) 1
    ∧ win0_4.index t (2 : Fin 4) = 0 ∧ win0_4.index t (3 : Fin 4) = 0 := (by decide +kernel : ∀ t : Fin grid0.N, _)
theorem idx5 : ∀ t : Fin cfg0.N, win0_5.index t (0 : Fin 4) = t.val / 9 ∧ win0_5.index t (1 : Fin 4) = min (t.val % 9) 1
    ∧ win0_5.index t (2 : Fin 4) = 0 ∧ win0_5.index t (3 : Fin 4) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx10 : ∀ t : Fin cfg0.N, win0_10.index t (0 : Fin 3) = t.val / 9 ∧ win0_10.index t (1 : Fin 3) = t.val % 9
    ∧ win0_10.index t (2 : Fin 3) = 0 := (by decide +kernel : ∀ t : Fin grid0.N, _)

/-- The first block of either sequence is marked, and so is the last. -/
theorem edges : ∀ t : Fin cfg0.N,
    (Scalar.ori (Scalar.cmpi .eq (BitVec.ofNat 32 (grid0.coords t 1).val) 0#32) (Scalar.cmpi .eq (BitVec.ofNat 32 (grid0.coords t 1).val) 1#32) = 1
        ↔ t.val % 9 = 0 ∨ t.val % 9 = 1)
      ∧ (Scalar.cmpi .eq (BitVec.ofNat 32 (grid0.coords t 1).val) 0#32
            ||| Scalar.cmpi .eq (BitVec.ofNat 32 (grid0.coords t 1).val) 8#32 = 1
        ↔ t.val % 9 = 0 ∨ t.val % 9 = 8) := (by decide +kernel : ∀ t : Fin grid0.N, _)

/-- The batch element of a grid point. -/
def batch (t : Fin cfg0.N) : Fin 8 := ⟨t.val / 9, by have : t.val < 72 := t.isLt; omega⟩
/-- Which of the two modulations a grid point's rows take. -/
def part (t : Fin cfg0.N) : Fin 2 := ⟨min (t.val % 9) 1, by omega⟩
/-- A row of a grid point's block. -/
def row (t : Fin cfg0.N) (r : Fin 256) : Fin 2304 := ⟨t.val % 9 * 256 + r.val, by omega⟩

theorem seg_row (t : Fin cfg0.N) (r : Fin 256) : seg (row t r) = part t := by
  unfold seg
  by_cases h : t.val % 9 * 256 + r.val < 256
  · rw [if_pos (show (row t r).val < 256 from h)]
    exact Fin.ext (by show 0 = min (t.val % 9) 1; omega)
  · rw [if_neg (show ¬ (row t r).val < 256 from h)]
    exact Fin.ext (by show 1 = min (t.val % 9) 1; omega)

/-! ## The input windows' blocks, read off the argument arrays -/

theorem blk0 (c : Dev nD) (t : Fin cfg0.N) (h : t.val % 9 ≠ 0) (d : Fin 1024) :
    iblk m c 0 t (ix3 0 7 d) = m ((c : Thread nD τ).loc main_arg0) (ix3 (batch t) ⟨t.val % 9 * 256 - 1, by omega⟩ d) := by
  obtain ⟨e0, e1, e2⟩ := idx0 t
  rw [← V_main_arg0 m c]
  refine congrArg (V m c main_arg0) (funext fun a => Fin.ext ?_)
  match a with
  | ⟨0, _⟩ => show win0_0.index t (0 : Fin 3) * 1 + 1 * 0 = t.val / 9; omega
  | ⟨1, _⟩ => show win0_0.index t (1 : Fin 3) * 8 + 1 * 7 = t.val % 9 * 256 - 1; omega
  | ⟨2, _⟩ => show win0_0.index t (2 : Fin 3) * 1024 + 1 * d.val = d.val; omega

theorem blk1 (c : Dev nD) (t : Fin cfg0.N) (r : Fin 256) (d : Fin 1024) :
    iblk m c 1 t (ix3 0 r d) = m ((c : Thread nD τ).loc main_arg0) (ix3 (batch t) (row t r) d) := by
  obtain ⟨e0, e1, e2⟩ := idx1 t
  rw [← V_main_arg0 m c]
  refine congrArg (V m c main_arg0) (funext fun a => Fin.ext ?_)
  match a with
  | ⟨0, _⟩ => show win0_1.index t (0 : Fin 3) * 1 + 1 * 0 = t.val / 9; omega
  | ⟨1, _⟩ => show win0_1.index t (1 : Fin 3) * 256 + 1 * r.val = t.val % 9 * 256 + r.val; omega
  | ⟨2, _⟩ => show win0_1.index t (2 : Fin 3) * 1024 + 1 * d.val = d.val; omega

theorem blk2 (c : Dev nD) (t : Fin cfg0.N) (h : t.val % 9 ≠ 8) (d : Fin 1024) :
    iblk m c 2 t (ix3 0 0 d) = m ((c : Thread nD τ).loc main_arg0) (ix3 (batch t) ⟨t.val % 9 * 256 + 256, by omega⟩ d) := by
  obtain ⟨e0, e1, e2⟩ := idx2 t
  rw [← V_main_arg0 m c]
  refine congrArg (V m c main_arg0) (funext fun a => Fin.ext ?_)
  match a with
  | ⟨0, _⟩ => show win0_2.index t (0 : Fin 3) * 1 + 1 * 0 = t.val / 9; omega
  | ⟨1, _⟩ => show win0_2.index t (1 : Fin 3) * 8 + 1 * 0 = t.val % 9 * 256 + 256; omega
  | ⟨2, _⟩ => show win0_2.index t (2 : Fin 3) * 1024 + 1 * d.val = d.val; omega

theorem blk3 (c : Dev nD) (t : Fin cfg0.N) (d : Fin 1024) :
    iblk m c 3 t (ix4 0 0 0 d) = m ((c : Thread nD τ).loc main_arg1) (ix3 (batch t) (part t) d) := by
  obtain ⟨e0, e1, e2, e3⟩ := idx3 t
  rw [← V_shift m c]
  refine congrArg (V m c main_v0) (funext fun a => Fin.ext ?_)
  match a with
  | ⟨0, _⟩ => show win0_3.index t (0 : Fin 4) * 1 + 1 * 0 = t.val / 9; omega
  | ⟨1, _⟩ => show win0_3.index t (1 : Fin 4) * 1 + 1 * 0 = min (t.val % 9) 1; omega
  | ⟨2, _⟩ => show win0_3.index t (2 : Fin 4) * 1 + 1 * 0 = 0; omega
  | ⟨3, _⟩ => show win0_3.index t (3 : Fin 4) * 1024 + 1 * d.val = d.val; omega

theorem blk4 (c : Dev nD) (t : Fin cfg0.N) (d : Fin 1024) :
    iblk m c 4 t (ix4 0 0 0 d) = m ((c : Thread nD τ).loc main_arg2) (ix3 (batch t) (part t) d) := by
  obtain ⟨e0, e1, e2, e3⟩ := idx4 t
  rw [← V_scale m c]
  refine congrArg (V m c main_v1) (funext fun a => Fin.ext ?_)
  match a with
  | ⟨0, _⟩ => show win0_4.index t (0 : Fin 4) * 1 + 1 * 0 = t.val / 9; omega
  | ⟨1, _⟩ => show win0_4.index t (1 : Fin 4) * 1 + 1 * 0 = min (t.val % 9) 1; omega
  | ⟨2, _⟩ => show win0_4.index t (2 : Fin 4) * 1 + 1 * 0 = 0; omega
  | ⟨3, _⟩ => show win0_4.index t (3 : Fin 4) * 1024 + 1 * d.val = d.val; omega

theorem blk5 (c : Dev nD) (t : Fin cfg0.N) (d : Fin 1024) :
    iblk m c 5 t (ix4 0 0 0 d) = m ((c : Thread nD τ).loc main_arg3) (ix3 (batch t) (part t) d) := by
  obtain ⟨e0, e1, e2, e3⟩ := idx5 t
  rw [← V_gate m c]
  refine congrArg (V m c main_v2) (funext fun a => Fin.ext ?_)
  match a with
  | ⟨0, _⟩ => show win0_5.index t (0 : Fin 4) * 1 + 1 * 0 = t.val / 9; omega
  | ⟨1, _⟩ => show win0_5.index t (1 : Fin 4) * 1 + 1 * 0 = min (t.val % 9) 1; omega
  | ⟨2, _⟩ => show win0_5.index t (2 : Fin 4) * 1 + 1 * 0 = 0; omega
  | ⟨3, _⟩ => show win0_5.index t (3 : Fin 4) * 1024 + 1 * d.val = d.val; omega

theorem blk6 (c : Dev nD) (t : Fin cfg0.N) (d : Fin 1024) (n : Fin 5632) :
    iblk m c 6 t (ix2 d n) = m ((c : Thread nD τ).loc main_arg4) (ix2 d n) := by
  obtain ⟨e0, e1⟩ := idx6 t
  refine Eq.trans ?_ (congrFun (V_up m c) (ix2 d n))
  refine congrArg (V m c main_v3) (funext fun a => Fin.ext ?_)
  match a with
  | ⟨0, _⟩ => show win0_6.index t (0 : Fin 2) * 1024 + 1 * d.val = d.val; omega
  | ⟨1, _⟩ => show win0_6.index t (1 : Fin 2) * 5632 + 1 * n.val = n.val; omega

theorem blk7 (c : Dev nD) (t : Fin cfg0.N) (k : Fin 3) (n : Fin 5632) :
    iblk m c 7 t (ix2 k n) = m ((c : Thread nD τ).loc main_arg5) (ix2 k n) := by
  obtain ⟨e0, e1⟩ := idx7 t
  rw [← V_main_arg5 m c]
  refine congrArg (V m c main_arg5) (funext fun a => Fin.ext ?_)
  match a with
  | ⟨0, _⟩ => show win0_7.index t (0 : Fin 2) * 3 + 1 * k.val = k.val; omega
  | ⟨1, _⟩ => show win0_7.index t (1 : Fin 2) * 5632 + 1 * n.val = n.val; omega

theorem blk8 (c : Dev nD) (t : Fin cfg0.N) (n : Fin 5632) :
    iblk m c 8 t (ix2 0 n) = m ((c : Thread nD τ).loc main_arg6) (ix1 n) := by
  obtain ⟨e0, e1⟩ := idx8 t
  rw [← V_bias m c]
  refine congrArg (V m c main_v4) (funext fun a => Fin.ext ?_)
  match a with
  | ⟨0, _⟩ => show win0_8.index t (0 : Fin 2) * 1 + 1 * 0 = 0; omega
  | ⟨1, _⟩ => show win0_8.index t (1 : Fin 2) * 5632 + 1 * n.val = n.val; omega

theorem blk9 (c : Dev nD) (t : Fin cfg0.N) (f : Fin 2816) (j : Fin 1024) :
    iblk m c 9 t (ix2 f j) = m ((c : Thread nD τ).loc main_arg7) (ix2 f j) := by
  obtain ⟨e0, e1⟩ := idx9 t
  refine Eq.trans ?_ (congrFun (V_down m c) (ix2 f j))
  refine congrArg (V m c main_v5) (funext fun a => Fin.ext ?_)
  match a with
  | ⟨0, _⟩ => show win0_9.index t (0 : Fin 2) * 2816 + 1 * f.val = f.val; omega
  | ⟨1, _⟩ => show win0_9.index t (1 : Fin 2) * 1024 + 1 * j.val = j.val; omega

/-! ## The rows of a block -/

/-- The modulated rows of the launch's batch element `b`. -/
abbrev rowsOf (c : Dev nD) (b : Fin 8) : Fin 2304 → Fin 1024 → EReal :=
  modulated (m ((c : Thread nD τ).loc main_arg0)) (m ((c : Thread nD τ).loc main_arg1)) (m ((c : Thread nD τ).loc main_arg2)) b

/-- The modulated rows around a grid point's block. -/
abbrev rowsAt (c : Dev nD) (t : Fin cfg0.N) : FVec Ideal S272x1024 .bf16 :=
  FfnCtxRun.rowsAt (grid0.coords t) (iblk m c 1 t) (iblk m c 0 t) (iblk m c 2 t) (iblk m c 3 t) (iblk m c 4 t)

theorem rows_mid (c : Dev nD) (t : Fin cfg0.N) (r : Fin 256) :
    (fun d => rowsAt m c t (ix2 ⟨8 + r.val, by omega⟩ d)) = rowsOf m c (batch t) (row t r) := by
  refine (FfnColumns.rows_mid _ _ _ (iblk m c 1 t) (iblk m c 0 t) (iblk m c 2 t) (iblk m c 3 t) (iblk m c 4 t) r).trans ?_
  simp only [blk1, blk3, blk4]
  unfold rowsOf modulated
  rw [seg_row]

theorem rows_before (c : Dev nD) (t : Fin cfg0.N) (r : Fin 256) :
    (fun d => rowsAt m c t (ix2 ⟨7 + r.val, by omega⟩ d)) = before (rowsOf m c (batch t)) (row t r) := by
  refine (FfnColumns.rows_before _ _ _ (iblk m c 1 t) (iblk m c 0 t) (iblk m c 2 t) (iblk m c 3 t) (iblk m c 4 t) r _ (fun d => rfl)).trans ?_
  unfold before
  by_cases h : t.val % 9 * 256 + r.val = 0 ∨ t.val % 9 * 256 + r.val = 256
  · rw [if_pos ⟨by omega, (edges t).1.mpr (by omega)⟩, if_pos (show (row t r).val = 0 ∨ (row t r).val = 256 from h)]
  · rw [if_neg fun k => h (by have := (edges t).1.mp k.2; omega), if_neg (show ¬ ((row t r).val = 0 ∨ (row t r).val = 256) from h)]
    have e : seg ⟨(row t r).val - 1, by omega⟩ = part t := by
      rw [← seg_row t r]
      unfold seg
      refine if_congr ?_ rfl rfl
      show t.val % 9 * 256 + r.val - 1 < 256 ↔ t.val % 9 * 256 + r.val < 256
      omega
    unfold rowsOf modulated
    rw [e]
    refine congrArg₂ (fun y z => FfnRow.modulate y z _) (funext fun d => ?_) (funext fun d => ?_) |>.trans
      (congrArg (FfnRow.modulate _ _) (funext fun d => ?_))
    · by_cases h0 : r.val = 0
      · rw [dif_pos h0, blk0 m c t (by omega)]
        exact congrArg (fun k => m ((c : Thread nD τ).loc main_arg0) (ix3 (batch t) k d))
          (Fin.ext (by show t.val % 9 * 256 - 1 = t.val % 9 * 256 + r.val - 1; omega))
      · rw [dif_neg h0, blk1]
        exact congrArg (fun k => m ((c : Thread nD τ).loc main_arg0) (ix3 (batch t) k d))
          (Fin.ext (by show t.val % 9 * 256 + (r.val - 1) = t.val % 9 * 256 + r.val - 1; omega))
    · exact blk3 m c t d
    · exact blk4 m c t d

theorem rows_after (c : Dev nD) (t : Fin cfg0.N) (r : Fin 256) :
    (fun d => rowsAt m c t (ix2 ⟨9 + r.val, by omega⟩ d)) = after (rowsOf m c (batch t)) (row t r) := by
  refine (FfnColumns.rows_after _ _ _ (iblk m c 1 t) (iblk m c 0 t) (iblk m c 2 t) (iblk m c 3 t) (iblk m c 4 t) r _ (fun d => rfl)).trans ?_
  unfold after
  by_cases h : t.val % 9 * 256 + r.val = 255 ∨ t.val % 9 * 256 + r.val = 2303
  · rw [if_pos ⟨by omega, (edges t).2.mpr (by omega)⟩, dif_pos (show (row t r).val = 255 ∨ (row t r).val = 2303 from h)]
  · rw [if_neg fun k => h (by have := (edges t).2.mp k.2; omega), dif_neg (show ¬ ((row t r).val = 255 ∨ (row t r).val = 2303) from h)]
    have e : ∀ k, seg ⟨(row t r).val + 1, k⟩ = part t := fun k => by
      rw [← seg_row t r]
      unfold seg
      refine if_congr ?_ rfl rfl
      show t.val % 9 * 256 + r.val + 1 < 256 ↔ t.val % 9 * 256 + r.val < 256
      omega
    unfold rowsOf modulated
    rw [e]
    refine congrArg₂ (fun y z => FfnRow.modulate y z _) (funext fun d => ?_) (funext fun d => ?_) |>.trans
      (congrArg (FfnRow.modulate _ _) (funext fun d => ?_))
    · by_cases h0 : r.val = 255
      · rw [dif_pos h0, blk2 m c t (by omega)]
        exact congrArg (fun k => m ((c : Thread nD τ).loc main_arg0) (ix3 (batch t) k d))
          (Fin.ext (by show t.val % 9 * 256 + 256 = t.val % 9 * 256 + r.val + 1; omega))
      · rw [dif_neg h0, blk1]
        exact congrArg (fun k => m ((c : Thread nD τ).loc main_arg0) (ix3 (batch t) k d))
          (Fin.ext (by show t.val % 9 * 256 + (r.val + 1) = t.val % 9 * 256 + r.val + 1; omega))
    · exact blk3 m c t d
    · exact blk4 m c t d

/-! ## The result array -/

/-- The result array of the launch's arguments. -/
def result (c : Dev nD) : Vec Ideal S8x2304x1024 .f32 := fun i =>
  outAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1) (i 2)

/-- Where an element of the output's block sits in the array. -/
theorem emb10 (t : Fin cfg0.N) (r : Fin 256) (j : Fin 1024) :
    ((cfg0.win 10).blk t).view.emb (ix3 0 r j) = ix3 (batch t) (row t r) j := by
  obtain ⟨e0, e1, e2⟩ := idx10 t
  refine funext fun a => Fin.ext ?_
  match a with
  | ⟨0, _⟩ => show win0_10.index t (0 : Fin 3) * 1 + 1 * 0 = t.val / 9; omega
  | ⟨1, _⟩ => show win0_10.index t (1 : Fin 3) * 256 + 1 * r.val = t.val % 9 * 256 + r.val; omega
  | ⟨2, _⟩ => show win0_10.index t (2 : Fin 3) * 1024 + 1 * j.val = j.val; omega

/-- An index of the output's block: a row and a column. -/
theorem block_ix (y : S1x256x1024.Idx) : ∃ (r : Fin 256) (j : Fin 1024), y = ix3 0 r j := by
  have h0 : (y 0).val < 1 := (y 0).isLt
  refine ⟨y 1, y 2, funext fun a => Fin.ext ?_⟩
  match a with
  | ⟨0, _⟩ => show (y 0).val = 0; omega
  | ⟨1, _⟩ => rfl
  | ⟨2, _⟩ => rfl

/-- What a grid point writes back is its block of the result array. -/
theorem flushed10_eq (c : Dev nD) (t : Fin cfg0.N) :
    (dats m 0 c).flushed 10 t = ((cfg0.win 10).blk t).view.read (Elt Ideal) (result m c) := by
  rw [flushed10_A, FfnCtxRun.out_eq]
  funext y
  obtain ⟨r, j, rfl⟩ := block_ix y
  refine (FfnColumns.block_apply r (rowsAt m c t) (iblk m c 6 t) (iblk m c 7 t) (iblk m c 8 t) (iblk m c 9 t) j
    (iblk m c 1 t) (iblk m c 5 t)).trans ?_
  show _ = result m c (((cfg0.win 10).blk t).view.emb (ix3 0 r j))
  rw [emb10, rows_mid, rows_before, rows_after]
  simp only [blk1, blk5, blk6, blk7, blk8, blk9]
  show _ = outAt _ _ _ _ _ _ _ _ (batch t) (row t r) j
  unfold outAt
  rw [seg_row]

/-- Every index of the result array is in some grid point's block. -/
theorem covered10 (i : S8x2304x1024.Idx) :
    ∃ t : Fin cfg0.N, (cfg0.win 10).flush t = true ∧ i ∈ ((cfg0.win 10).blk t).view.set := by
  have h0 : (i 0).val < 8 := (i 0).isLt
  have h1 : (i 1).val < 2304 := (i 1).isLt
  refine ⟨(⟨(i 0).val * 9 + (i 1).val / 256, by show _ < 72; omega⟩ : Fin cfg0.N), flush0_10 _, ?_⟩
  have h := ((cfg0.win 10).blk (⟨(i 0).val * 9 + (i 1).val / 256, by show _ < 72; omega⟩ : Fin cfg0.N)).view.emb_mem_set
    (ix3 (0 : Fin 1) (⟨(i 1).val % 256, by omega⟩ : Fin 256) (⟨(i 2).val, (i 2).isLt⟩ : Fin 1024))
  rw [emb10] at h
  refine (congrArg (· ∈ _) (funext fun a => Fin.ext ?_)).mpr h
  match a with
  | ⟨0, _⟩ => show (i 0).val = ((i 0).val * 9 + (i 1).val / 256) / 9; omega
  | ⟨1, _⟩ => show (i 1).val = ((i 0).val * 9 + (i 1).val / 256) % 9 * 256 + (i 1).val % 256; omega
  | ⟨2, _⟩ => rfl

/-- The run: the result array is `result` of the arguments, which end unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c =>
    ⟨(h c).1.trans ((dats m 0 c).arrAt_eq_of_cover 10 (result m c) (fun t _ => flushed10_eq m c t) covered10), (h c).2⟩)
    (run_blocks m ρ)

end Cert.Proof.FfnCtxArray

end
-- ==== Proof.FfnCtxReference.lean ====
/-
  What the reference of the feed-forward layer computes, at one element of its result.
-/
module

public import proofs.«01_k».proof.Proof.FfnCtxArray
public import proofs.«01_k».proof.Proof.FfnReference
public import proofs.«01_k».proof.Proof.Gen.FfnCtxReferenceIdeal.Run
public import proofs.«01_k».proof.Proof.Gen.FfnCtxReferenceIdeal.Read
public import Idealize.ShloMosaic.Lib.KernelVsHost
public import Idealize.ShloMosaic.Lib.IdealHost

@[expose] public section

noncomputable section

namespace Cert.Proof.FfnCtxReference

open Idealize.ShloMosaic Cert.FfnCtxReferenceIdeal Cert.FfnCtxReferenceIdeal.Read FfnCtxArray
open FfnReference (one_bits product product_zero)

variable (x0 : (⟨S8x2304x1024, .f32⟩ : BufTy).Contents (Elt Ideal)) (x1 x2 x3 : (⟨S8x2x1024, .f32⟩ : BufTy).Contents (Elt Ideal))
  (x4 : (⟨S1024x5632, .f32⟩ : BufTy).Contents (Elt Ideal)) (x5 : (⟨S3x5632, .f32⟩ : BufTy).Contents (Elt Ideal))
  (x6 : (⟨S5632, .f32⟩ : BufTy).Contents (Elt Ideal)) (x7 : (⟨S2816x1024, .f32⟩ : BufTy).Contents (Elt Ideal))

/-! ## The context's rows -/

/-- The place of a context row in the whole array. -/
def up (t : Fin 256) : Fin 2304 := ⟨t.val, by omega⟩

theorem seg_up (t : Fin 256) : seg (up t) = 0 := if_pos t.isLt

theorem row_apply (b : Fin 8) (t : Fin 256) (d : Fin 1024) : val_main_v0 (F := Ideal) x0 (ix3 b t d) = x0 (ix3 b (up t) d) := by
  rw [val_main_v0_apply]
  exact congrArg x0 (funext fun a => by fin_cases a <;> rfl)

/-- A row's mean square. -/
theorem v8_apply (b : Fin 8) (t : Fin 256) :
    val_main_v8 (F := Ideal) x0 (ix3 b t 0)
      = Ideal.div (∑ e, x0 (ix3 b (up t) e) * x0 (ix3 b (up t) e)) (Ideal.ofBits FTy.f32 0x44800000#32) := by
  have e : idx_main_v6 (ix3 b t 0) = ix2 b t := funext fun a => by fin_cases a <;> rfl
  have z : ∀ i, val_main_cst (F := Ideal) i = (0 : EReal) := fun i => Ideal.ofBits_zero_f32
  rw [val_main_v8_apply, val_main_v6_apply, e, val_main_v5_apply, z, zero_add, val_main_v7_apply, val_main_cst_0_apply]
  refine congrArg (fun s => Ideal.div s _) (Finset.sum_congr rfl fun k _ => ?_)
  rw [val_main_v4_apply, show idx_main_v5 (ix2 b t) k = ix3 b t k from funext fun a => by fin_cases a <;> rfl, row_apply]
  rfl

/-- A modulated row. -/
theorem v19_apply (b : Fin 8) (t : Fin 256) (d : Fin 1024) :
    val_main_v19 (F := Ideal) x0 x1 x2 (ix3 b t d) = modulated x0 x1 x2 b (up t) d := by
  have e12 : idx_main_v12 (ix3 b t d) = ix3 b t 0 := funext fun a => by fin_cases a <;> rfl
  have e16 : idx_main_v2 (idx_main_v16 (ix3 b t d)) = ix3 b 0 d := funext fun a => by fin_cases a <;> rfl
  have e18 : idx_main_v1 (idx_main_v18 (ix3 b t d)) = ix3 b 0 d := funext fun a => by fin_cases a <;> rfl
  rw [val_main_v19_apply, val_main_v17_apply, val_main_v13_apply, val_main_v12_apply, e12, val_main_v11_apply, val_main_v10_apply,
    v8_apply, row_apply, val_main_v9_apply, val_main_cst_1_apply, val_main_v16_apply, val_main_v15_apply, val_main_v14_apply,
    val_main_cst_2_apply, val_main_v2_apply, e16, val_main_v18_apply, val_main_v1_apply, e18]
  show _ * (Ideal.ofBits FTy.f32 0x3F800000#32 + _) + _ = _
  rw [one_bits]
  unfold modulated
  rw [seg_up]
  rfl

/-- The first product of a row. -/
theorem v20_apply (b : Fin 8) (t : Fin 256) (n : Fin 5632) :
    val_main_v20 (F := Ideal) x0 x1 x2 x4 (ix3 b t n) = ∑ d, modulated x0 x1 x2 b (up t) d * x4 (ix2 d n) := by
  rw [val_main_v20_apply]
  refine Finset.sum_congr rfl fun d _ => ?_
  rw [show lidx_main_v20 (ix3 b t n) d = ix3 b t d from funext fun a => by fin_cases a <;> rfl, v19_apply,
    show ridx_main_v20 (ix3 b t n) d = ix2 d n from funext fun a => by fin_cases a <;> rfl]

/-- The padding value is zero. -/
theorem padding (i : S_.Idx) : val_main_call0_v0 (F := Ideal) i = (0 : EReal) := by
  show (((0#32 : BitVec 32).toInt : ℝ) : EReal) = 0
  simp

/-- The padded products at the row before, the row itself and the row after. -/
theorem v21_before (b : Fin 8) (t : Fin 256) (n : Fin 5632) :
    val_main_v21 (F := Ideal) x0 x1 x2 x4 (ix3 b ⟨t.val, by omega⟩ n) = product x4 (before (modulated x0 x1 x2 b) (up t)) n := by
  unfold val_main_v21 before
  by_cases h : t.val = 0
  · rw [if_pos (show (up t).val = 0 ∨ (up t).val = 256 from Or.inl h), product_zero, pad_apply_of_not_inside _ _ _ _ _ _ _ _ (1 : Fin 3) (by show ¬ (1 ≤ t.val ∧ _ ∧ _); omega), padding]
  · rw [if_neg (show ¬ ((up t).val = 0 ∨ (up t).val = 256) by show ¬ (t.val = 0 ∨ t.val = 256); omega), pad_apply_of_inside _ _ _ _ _ _ _ _ (ix3 b ⟨t.val - 1, by omega⟩ n) (fun a => match a with
      | ⟨0, _⟩ => by show b.val = 0 + b.val * (0 + 1); omega
      | ⟨1, _⟩ => by show t.val = 1 + (t.val - 1) * (0 + 1); omega
      | ⟨2, _⟩ => by show n.val = 0 + n.val * (0 + 1); omega), v20_apply]
    rfl

theorem v21_mid (b : Fin 8) (t : Fin 256) (n : Fin 5632) :
    val_main_v21 (F := Ideal) x0 x1 x2 x4 (ix3 b ⟨1 + t.val, by omega⟩ n) = product x4 (modulated x0 x1 x2 b (up t)) n := by
  unfold val_main_v21
  rw [pad_apply_of_inside _ _ _ _ _ _ _ _ (ix3 b t n) (fun a => match a with
      | ⟨0, _⟩ => by show b.val = 0 + b.val * (0 + 1); omega
      | ⟨1, _⟩ => by show 1 + t.val = 1 + t.val * (0 + 1); omega
      | ⟨2, _⟩ => by show n.val = 0 + n.val * (0 + 1); omega), v20_apply]
  rfl

theorem v21_after (b : Fin 8) (t : Fin 256) (n : Fin 5632) :
    val_main_v21 (F := Ideal) x0 x1 x2 x4 (ix3 b ⟨2 + t.val, by omega⟩ n) = product x4 (after (modulated x0 x1 x2 b) (up t)) n := by
  unfold val_main_v21 after
  by_cases h : t.val = 255
  · rw [dif_pos (show (up t).val = 255 ∨ (up t).val = 2303 from Or.inl h), product_zero, pad_apply_of_not_inside _ _ _ _ _ _ _ _ (1 : Fin 3)
      (by show ¬ (1 ≤ 2 + t.val ∧ (2 + t.val - 1) % (0 + 1) = 0 ∧ (2 + t.val - 1) / (0 + 1) < 256); omega), padding]
  · rw [dif_neg (show ¬ ((up t).val = 255 ∨ (up t).val = 2303) by show ¬ (t.val = 255 ∨ t.val = 2303); omega), pad_apply_of_inside _ _ _ _ _ _ _ _ (ix3 b ⟨t.val + 1, by omega⟩ n) (fun a => match a with
      | ⟨0, _⟩ => by show b.val = 0 + b.val * (0 + 1); omega
      | ⟨1, _⟩ => by show 2 + t.val = 1 + (t.val + 1) * (0 + 1); omega
      | ⟨2, _⟩ => by show n.val = 0 + n.val * (0 + 1); omega), v20_apply]
    rfl

/-- The taps and the bias, spread over the rows. -/
theorem tap0 (b : Fin 8) (t : Fin 256) (n : Fin 5632) : val_main_v26 (F := Ideal) x5 (ix3 b t n) = x5 (ix2 0 n) := by
  rw [val_main_v26_apply, val_main_v25_apply, val_main_v24_apply, val_main_v23_apply]
  exact congrArg x5 (funext fun a => Fin.ext (match a with | ⟨0, _⟩ => rfl | ⟨1, _⟩ => Nat.mod_eq_of_lt n.isLt))
theorem tap1 (b : Fin 8) (t : Fin 256) (n : Fin 5632) : val_main_v32 (F := Ideal) x5 (ix3 b t n) = x5 (ix2 1 n) := by
  rw [val_main_v32_apply, val_main_v31_apply, val_main_v30_apply, val_main_v29_apply]
  exact congrArg x5 (funext fun a => Fin.ext (match a with | ⟨0, _⟩ => rfl | ⟨1, _⟩ => Nat.mod_eq_of_lt n.isLt))
theorem tap2 (b : Fin 8) (t : Fin 256) (n : Fin 5632) : val_main_v39 (F := Ideal) x5 (ix3 b t n) = x5 (ix2 2 n) := by
  rw [val_main_v39_apply, val_main_v38_apply, val_main_v37_apply, val_main_v36_apply]
  exact congrArg x5 (funext fun a => Fin.ext (match a with | ⟨0, _⟩ => rfl | ⟨1, _⟩ => Nat.mod_eq_of_lt n.isLt))
theorem bias (b : Fin 8) (t : Fin 256) (n : Fin 5632) : val_main_v43 (F := Ideal) x6 (ix3 b t n) = x6 (ix1 n) := by
  rw [val_main_v43_apply, val_main_v42_apply]
  exact congrArg x6 (funext fun a => by fin_cases a; rfl)

/-- A hidden column. -/
theorem v44_apply (b : Fin 8) (t : Fin 256) (n : Fin 5632) :
    val_main_v44 (F := Ideal) x0 x1 x2 x4 x5 x6 (ix3 b t n)
      = FfnRow.column (before (modulated x0 x1 x2 b) (up t)) (modulated x0 x1 x2 b (up t)) (after (modulated x0 x1 x2 b) (up t))
          (fun d => x4 (ix2 d n)) (x5 (ix2 0 n)) (x5 (ix2 1 n)) (x5 (ix2 2 n)) (x6 (ix1 n)) := by
  have e22 : idx_main_v22 (ix3 b t n) = ix3 b ⟨t.val, by omega⟩ n := funext fun a => by fin_cases a <;> rfl
  have e28 : idx_main_v28 (ix3 b t n) = ix3 b ⟨1 + t.val, by omega⟩ n := funext fun a => by fin_cases a <;> rfl
  have e35 : idx_main_v35 (ix3 b t n) = ix3 b ⟨2 + t.val, by omega⟩ n := funext fun a => by fin_cases a <;> rfl
  rw [val_main_v44_apply, val_main_v41_apply, val_main_v34_apply, val_main_v27_apply, val_main_v33_apply, val_main_v40_apply,
    val_main_v22_apply, val_main_v28_apply, val_main_v35_apply, e22, e28, e35, v21_before, v21_mid, v21_after, tap0, tap1, tap2, bias]
  rfl

/-- A gated hidden value. -/
theorem v48_apply (b : Fin 8) (t : Fin 256) (f : Fin 2816) :
    val_main_v48 (F := Ideal) x0 x1 x2 x4 x5 x6 (ix3 b t f)
      = FfnRow.hidden (before (modulated x0 x1 x2 b) (up t)) (modulated x0 x1 x2 b (up t)) (after (modulated x0 x1 x2 b) (up t))
          (fun d n => x4 (ix2 d n)) (fun k n => x5 (ix2 k n)) (fun n => x6 (ix1 n)) f := by
  have e45 : idx_main_v45 (ix3 b t f) = ix3 b t ⟨f.val, by omega⟩ := funext fun a => by fin_cases a <;> rfl
  have e46 : idx_main_v46 (ix3 b t f) = ix3 b t ⟨2816 + f.val, by omega⟩ := funext fun a => by fin_cases a <;> rfl
  have e := v44_apply x0 x1 x2 x4 x5 x6 b t
  rw [val_main_v48_apply, val_main_v47_apply, val_main_call1_v5_apply, val_main_call1_v3_apply, val_main_call1_v1_apply,
    val_main_call1_v0_apply, val_main_call1_v4_apply, val_main_call1_cst_0_apply, val_main_call1_v2_apply, val_main_call1_cst_apply,
    val_main_v45_apply, val_main_v46_apply, e45, e46, e, e]
  show _ * Ideal.div (Ideal.ofBits FTy.f32 0x3F800000#32) (Ideal.ofBits FTy.f32 0x3F800000#32 + Ideal.exp (-_)) * _ = _
  rw [one_bits]
  rfl

/-- The context's result at a batch element, a row and a column. -/
theorem context_apply (b : Fin 8) (t : Fin 256) (j : Fin 1024) :
    val_main_v52 (F := Ideal) x0 x1 x2 x3 x4 x5 x6 x7 (ix3 b t j) = outAt x0 x1 x2 x3 x4 x5 x6 x7 b (up t) j := by
  have e50 : idx_main_v3 (idx_main_v50 (ix3 b t j)) = ix3 b 0 j := funext fun a => by fin_cases a <;> rfl
  rw [val_main_v52_apply, val_main_v51_apply, val_main_v50_apply, val_main_v3_apply, e50, val_main_v49_apply, row_apply]
  unfold outAt FfnRow.result
  rw [seg_up]
  refine congrArg (fun s => x0 (ix3 b (up t) j) + x3 (ix3 b 0 j) * s) (Finset.sum_congr rfl fun f _ => ?_)
  rw [show lidx_main_v49 (ix3 b t j) f = ix3 b t f from funext fun a => by fin_cases a <;> rfl, v48_apply,
    show ridx_main_v49 (ix3 b t j) f = ix2 f j from funext fun a => by fin_cases a <;> rfl]

/-! ## The latent tokens' rows -/

/-- The place of a latent token's row in the whole array. -/
def low (t : Fin 2048) : Fin 2304 := ⟨256 + t.val, by omega⟩

theorem seg_low (t : Fin 2048) : seg (low t) = 1 := if_neg (by show ¬ 256 + t.val < 256; omega)

theorem low_apply (b : Fin 8) (t : Fin 2048) (d : Fin 1024) : val_main_v53 (F := Ideal) x0 (ix3 b t d) = x0 (ix3 b (low t) d) := by
  rw [val_main_v53_apply]
  exact congrArg x0 (funext fun a => by fin_cases a <;> rfl)

/-- The latent half is what the last block's reference does with its rows. -/
theorem latent_eq : val_main_v105 (F := Ideal) x0 x1 x2 x3 x4 x5 x6 x7
    = Cert.FfnReferenceIdeal.Read.val_main_v51 (F := Ideal) (val_main_v53 x0) x1 x2 x3 x4 x5 x6 x7 := rfl

theorem modulated_low (b : Fin 8) (t : Fin 2048) : FfnArray.modulated (val_main_v53 (F := Ideal) x0) x1 x2 b t = modulated x0 x1 x2 b (low t) := by
  unfold FfnArray.modulated modulated
  rw [seg_low]
  simp only [low_apply]

theorem before_low (b : Fin 8) (t : Fin 2048) :
    FfnArray.before (FfnArray.modulated (val_main_v53 (F := Ideal) x0) x1 x2 b) t = before (modulated x0 x1 x2 b) (low t) := by
  unfold FfnArray.before before
  by_cases h : t.val = 0
  · rw [if_pos h, if_pos (show (low t).val = 0 ∨ (low t).val = 256 from Or.inr (show 256 + t.val = 256 by omega))]
  · rw [if_neg h, if_neg (show ¬ ((low t).val = 0 ∨ (low t).val = 256) by show ¬ (256 + t.val = 0 ∨ 256 + t.val = 256); omega), modulated_low]
    exact congrArg (modulated x0 x1 x2 b) (Fin.ext (show 256 + (t.val - 1) = 256 + t.val - 1 by omega))

theorem after_low (b : Fin 8) (t : Fin 2048) :
    FfnArray.after (FfnArray.modulated (val_main_v53 (F := Ideal) x0) x1 x2 b) t = after (modulated x0 x1 x2 b) (low t) := by
  unfold FfnArray.after after
  by_cases h : t.val = 2047
  · rw [dif_pos h, dif_pos (show (low t).val = 255 ∨ (low t).val = 2303 from Or.inr (show 256 + t.val = 2303 by omega))]
  · rw [dif_neg h, dif_neg (show ¬ ((low t).val = 255 ∨ (low t).val = 2303) by show ¬ (256 + t.val = 255 ∨ 256 + t.val = 2303); omega), modulated_low]
    rfl

/-- The latent tokens' result at a batch element, a row and a column. -/
theorem latent_apply (b : Fin 8) (t : Fin 2048) (j : Fin 1024) :
    val_main_v105 (F := Ideal) x0 x1 x2 x3 x4 x5 x6 x7 (ix3 b t j) = outAt x0 x1 x2 x3 x4 x5 x6 x7 b (low t) j := by
  rw [latent_eq, FfnReference.result_apply]
  unfold FfnArray.outAt outAt
  rw [modulated_low, before_low, after_low, low_apply, seg_low]

/-- The reference's result at a batch element, a row and a column. -/
theorem result_apply (b : Fin 8) (t : Fin 2304) (j : Fin 1024) :
    val_main_v106 (F := Ideal) x0 x1 x2 x3 x4 x5 x6 x7 (ix3 b t j) = outAt x0 x1 x2 x3 x4 x5 x6 x7 b t j := by
  unfold val_main_v106
  by_cases h : t.val < 256
  · rw [concatenate_pair_apply_left (s₁ := S8x256x1024) (s₂ := S8x2048x1024) (t := S8x2304x1024) (1 : Fin 3) _ _ _ _ rfl (ix3 b (⟨t.val, h⟩ : Fin 256) j)
      (fun a => by fin_cases a <;> rfl), context_apply]
    rfl
  · rw [concatenate_pair_apply_right (s₁ := S8x256x1024) (s₂ := S8x2048x1024) (t := S8x2304x1024) (1 : Fin 3) _ _ _ (ix3 b t j) rfl rfl
      (ix3 b (⟨t.val - 256, by omega⟩ : Fin 2048) j) (fun a ha => match a, ha with
        | ⟨0, _⟩, _ => rfl
        | ⟨1, _⟩, ha => absurd rfl ha
        | ⟨2, _⟩, _ => rfl) (by show t.val - 256 + 256 = t.val; omega), latent_apply]
    exact congrArg (fun k => outAt x0 x1 x2 x3 x4 x5 x6 x7 b k j) (Fin.ext (by show 256 + (t.val - 256) = t.val; omega))

end Cert.Proof.FfnCtxReference

end
-- ==== Proof.FfnCtxEquation.lean ====
/-
  The equality of the first block's feed-forward kernel's result with its reference's.
-/
module

public import proofs.«01_k».proof.Proof.FfnCtxReference

@[expose] public section

noncomputable section

namespace Cert.Proof.FfnCtxEquation

open Idealize.ShloMosaic Idealize.ShloMosaic.TcCoe

variable (m : (ℓ : Loc Cert.FfnCtxIdeal.nD Cert.FfnCtxIdeal.τ Cert.FfnCtxIdeal.sig) → Buf (Elt Ideal) ℓ)

/-- An index of the result: a batch element, a row and a column. -/
theorem result_ix (i : Cert.FfnCtxIdeal.S8x2304x1024.Idx) : i = ix3 (i 0) (i 1) (i 2) :=
  funext fun a => match a with
    | ⟨0, _⟩ => rfl
    | ⟨1, _⟩ => rfl
    | ⟨2, _⟩ => rfl

/-- The kernel's result array is the reference's, of the launch's arguments. -/
theorem result_eq (c : Dev Cert.FfnCtxIdeal.nD) :
    FfnCtxArray.result m c = Cert.FfnCtxReferenceIdeal.Read.val_main_v106 (F := Ideal)
      (m ((c : Thread Cert.FfnCtxIdeal.nD Cert.FfnCtxIdeal.τ).loc Cert.FfnCtxIdeal.main_arg0))
      (m ((c : Thread Cert.FfnCtxIdeal.nD Cert.FfnCtxIdeal.τ).loc Cert.FfnCtxIdeal.main_arg1))
      (m ((c : Thread Cert.FfnCtxIdeal.nD Cert.FfnCtxIdeal.τ).loc Cert.FfnCtxIdeal.main_arg2))
      (m ((c : Thread Cert.FfnCtxIdeal.nD Cert.FfnCtxIdeal.τ).loc Cert.FfnCtxIdeal.main_arg3))
      (m ((c : Thread Cert.FfnCtxIdeal.nD Cert.FfnCtxIdeal.τ).loc Cert.FfnCtxIdeal.main_arg4))
      (m ((c : Thread Cert.FfnCtxIdeal.nD Cert.FfnCtxIdeal.τ).loc Cert.FfnCtxIdeal.main_arg5))
      (m ((c : Thread Cert.FfnCtxIdeal.nD Cert.FfnCtxIdeal.τ).loc Cert.FfnCtxIdeal.main_arg6))
      (m ((c : Thread Cert.FfnCtxIdeal.nD Cert.FfnCtxIdeal.τ).loc Cert.FfnCtxIdeal.main_arg7)) := by
  funext i
  rw [result_ix i]
  exact (FfnCtxReference.result_apply _ _ _ _ _ _ _ _ (i 0) (i 1) (i 2)).symm

end Cert.Proof.FfnCtxEquation

end
-- ==== Proof.ModRows.lean ====
/-
  The rows that the modulated projection's kernel keeps for the products: normalised, scaled and shifted, the context's with the first
  scale and shift and the latent tokens' with the second.
-/
module

public import proofs.«01_k».proof.Proof.FfnCtxArray
public import proofs.«01_k».proof.Proof.Gen.ModIdeal.Value
public import Idealize.ShloMosaic.Lib.Pipeline.ValueKit.Acc
public import Idealize.ShloMosaic.Lib.Pointwise

@[expose] public section

noncomputable section

namespace Cert.Proof.ModRows

open Idealize.ShloMosaic Cert.ModIdeal Cert.ModIdeal.Gen

variable {F : FTy → Type} [FloatOps F]

/-- The rectangles of the two rows of a shift or a scale. -/
abbrev first : Rect S1x2x1024 := Rect.unit (s := S1x2x1024) ![0, 0, 0] S1x1x1024.size inb_S1x2x1024_S1x1x1024_0_0_0
abbrev second : Rect S1x2x1024 := Rect.unit (s := S1x2x1024) ![0, 1, 0] S1x1x1024.size inb_S1x2x1024_S1x1x1024_0_1_0

/-- The rows of the `i`-th block of 768, from the two shifts and the two scales. -/
def hidden (i : BitVec 32) (x : Vec F S1x768x1024 .f32) (sh0 sh1 sc0 sc1 : Vec F S1x1x1024 .f32) : FVec F S768x1024 .bf16 :=
  k0_pay1 (k0_pay4 i sh0 sh1) (k0_pay5 i sc0 sc1) (k0_pay6 x)

/-- The bit that says whether row `r` of block `i` is the context's. -/
def bit (i : BitVec 32) (r : ℕ) : BitVec 1 :=
  IntOp.cmpi CmpIPredicate.slt (IntOp.addi (Scalar.muli i 768#32) (BitVec.ofNat 32 r)) 256#32

theorem bit_eq : ∀ (i : Fin 3) (r : Fin 768), bit (BitVec.ofNat 32 i.val) r.val = if i.val * 768 + r.val < 256 then 1#1 else 0#1 := by
  decide +kernel

/-- A row at an element. -/
theorem hidden_apply (i : BitVec 32) (x : Vec Ideal S1x768x1024 .f32) (sh0 sh1 sc0 sc1 : Vec Ideal S1x1x1024 .f32) (r : Fin 768) (d : Fin 1024) :
    hidden i x sh0 sh1 sc0 sc1 (ix2 r d)
      = FfnRow.modulate (fun e => x (ix3 0 r e)) (fun e => Scalar.select (bit i r.val) (sh0 (ix3 0 0 e)) (sh1 (ix3 0 0 e)))
          (fun e => Scalar.select (bit i r.val) (sc0 (ix3 0 0 e)) (sc1 (ix3 0 0 e))) d := by
  unfold hidden FfnRow.modulate bit
  unfold_payloads
  pointwise

theorem ld_first (x : Vec Ideal S1x2x1024 .f32) (d : Fin 1024) : View.ld x first (ix3 0 0 d) = x (ix3 0 0 d) :=
  congrArg x (funext fun a => Fin.ext (match a with
    | ⟨0, _⟩ => rfl
    | ⟨1, _⟩ => rfl
    | ⟨2, _⟩ => by show 0 + 1 * d.val = d.val; omega))
theorem ld_second (x : Vec Ideal S1x2x1024 .f32) (d : Fin 1024) : View.ld x second (ix3 0 0 d) = x (ix3 0 1 d) :=
  congrArg x (funext fun a => Fin.ext (match a with
    | ⟨0, _⟩ => rfl
    | ⟨1, _⟩ => rfl
    | ⟨2, _⟩ => by show 0 + 1 * d.val = d.val; omega))

/-- The rows of the `i`-th block of 768 rows of an array: `b` is the batch element and `t` is the row's place in it. -/
theorem hidden_rows (x : Vec Ideal S8x2304x1024 .f32) (sh sc : Vec Ideal S8x2x1024 .f32) (b : Fin 8) (t : Fin 2304) (i : Fin 3) (r : Fin 768)
    (ht : t.val = i.val * 768 + r.val) (y : Vec Ideal S1x768x1024 .f32) (s c : Vec Ideal S1x2x1024 .f32)
    (hy : ∀ d, y (ix3 0 r d) = x (ix3 b t d)) (hs : ∀ k d, s (ix3 0 k d) = sh (ix3 b k d)) (hc : ∀ k d, c (ix3 0 k d) = sc (ix3 b k d))
    (d : Fin 1024) :
    hidden (BitVec.ofNat 32 i.val) y (View.ld s first) (View.ld s second) (View.ld c first) (View.ld c second) (ix2 r d)
      = FfnCtxArray.modulated x sh sc b t d := by
  rw [hidden_apply]
  simp only [hy, bit_eq]
  unfold FfnCtxArray.modulated FfnCtxArray.seg Scalar.select
  by_cases h : i.val * 768 + r.val < 256
  · rw [if_pos (show t.val < 256 by omega), if_pos h]
    exact congrArg₂ (fun p q => FfnRow.modulate (fun e => x (ix3 b t e)) p q d)
      (funext fun e => (if_pos rfl).trans ((ld_first s e).trans (hs 0 e))) (funext fun e => (if_pos rfl).trans ((ld_first c e).trans (hc 0 e)))
  · rw [if_neg (show ¬ t.val < 256 by omega), if_neg h]
    exact congrArg₂ (fun p q => FfnRow.modulate (fun e => x (ix3 b t e)) p q d)
      (funext fun e => (if_neg (by decide)).trans ((ld_second s e).trans (hs 1 e)))
      (funext fun e => (if_neg (by decide)).trans ((ld_second c e).trans (hc 1 e)))

end Cert.Proof.ModRows

end
-- ==== Proof.ModRun.lean ====
/-
  The modulated projection's kernel keeps its rows at the first column block and multiplies them with the weights' columns at each.
-/
module

public import proofs.«01_k».proof.Proof.ModRows

@[expose] public section

noncomputable section

namespace Cert.Proof.ModRun

open Idealize.ShloMosaic Cert.ModIdeal Cert.ModIdeal.Gen ModRows

variable {F : FTy → Type} [FloatOps F]

/-- The rows a grid point keeps. -/
def rowsAt (i : grid0.Coords) (x : Vec F S1x768x1024 .f32) (sh sc : Vec F S1x2x1024 .f32) : FVec F S768x1024 .bf16 :=
  hidden (BitVec.ofNat 32 (i 1).val) x (View.ld sh first) (View.ld sh second) (View.ld sc first) (View.ld sc second)

variable (c : Dev nD) (i : grid0.Coords) (arg3 : Memref sig .tc .vmem S1x768x1024 .f32) (harg3 : arg3.IsWhole) (arg4 : Memref sig .tc .vmem S1x2x1024 .f32) (harg4 : arg4.IsWhole) (arg5 : Memref sig .tc .vmem S1x2x1024 .f32) (harg5 : arg5.IsWhole) (arg6 : Memref sig .tc .vmem S1024x1024 .bf16) (harg6 : arg6.IsWhole) (arg7 : Memref sig .tc .vmem S1x768x1024 .f32) (harg7 : arg7.IsWhole) (arg8 : Memref sig .tc .vmem S768x1024 .bf16) (harg8 : arg8.IsWhole)
    (x0 : Vec F S1x768x1024 .f32) (x1 : Vec F S1x2x1024 .f32) (x2 : Vec F S1x2x1024 .f32) (x3 : Vec F S1024x1024 .bf16)

/-- The rows computed from what the input buffers' rectangles read. -/
abbrev readRows : FVec F S768x1024 .bf16 :=
  hidden (BitVec.ofNat 32 (i 1).val)
    (arg3.view.readAt (Elt F) (Rect.unit (s := S1x768x1024) ![0, 0, 0] S1x768x1024.size inb_S1x768x1024_S1x768x1024_0_0_0).toLoadRect (harg3.unread x0))
    (arg4.view.readAt (Elt F) first.toLoadRect (harg4.unread x1)) (arg4.view.readAt (Elt F) second.toLoadRect (harg4.unread x1))
    (arg5.view.readAt (Elt F) first.toLoadRect (harg5.unread x2)) (arg5.view.readAt (Elt F) second.toLoadRect (harg5.unread x2))

theorem readRows_eq : readRows i arg3 harg3 arg4 harg4 arg5 harg5 x0 x1 x2 = rowsAt i x0 x1 x2 := by
  unfold readRows rowsAt
  simp only [View.readAt_eq_ld, harg3.read_unread, harg4.read_unread, harg5.read_unread]
  rw [View.ld_unit_lit' _ x0 (by decide)]

/-- The whole-buffer rectangle of the kept rows. -/
abbrev whole : Rect S768x1024 := Rect.unit (s := S768x1024) ![0, 0] S768x1024.size inb_S768x1024_S768x1024_0_0

/-- What a first column block's point leaves in the kept rows' buffer. -/
theorem kept_first (hc0 : cond0_0 i) :
    sout0_A_0 c i arg3 harg3 arg4 harg4 arg5 harg5 arg6 harg6 arg7 harg7 arg8 harg8 hc0 x0 x1 x2 x3 = rowsAt i x0 x1 x2 := by
  unfold sout0_A_0
  rw [View.read_writes_junk_eq_canon, ← readRows_eq i arg3 harg3 arg4 harg4 arg5 harg5 x0 x1 x2]
  unfold kernelRun0_A
  dsimp only
  exact View.canon_cons_unit_lit' (S := S768x1024) (off := ![0, 0]) inb_S768x1024_S768x1024_0_0 _ _ (by decide)

/-- What it leaves in the output's block. -/
theorem out_first (hc0 : cond0_0 i) :
    out0_A_4 c i arg3 harg3 arg4 harg4 arg5 harg5 arg6 harg6 arg7 harg7 arg8 harg8 hc0 x0 x1 x2 x3 = k0_pay2 (rowsAt i x0 x1 x2) x3 := by
  unfold out0_A_4
  rw [View.read_writes_junk_eq_canon]
  unfold kernelRun0_A
  dsimp only
  rw [View.canon_cons_unit_lit' _ _ _ (by decide)]
  have e : k0_pay2 _ _ = k0_pay2
      (arg8.view.readCov (⟨whole, readRows i arg3 harg3 arg4 harg4 arg5 harg5 x0 x1 x2⟩ :: []) whole.toLoadRect)
      (arg6.view.readAt (Elt F) (Rect.unit (s := S1024x1024) ![0, 0] S1024x1024.size inb_S1024x1024_S1024x1024_0_0).toLoadRect (harg6.unread x3)) := rfl
  refine e.trans ?_
  rw [View.readCov_cons_unit_lit' arg8.view _ _ _ _ (by decide) (by decide), readRows_eq, View.readAt_eq_ld, harg6.read_unread,
    View.ld_unit_lit' _ x3 (by decide)]

/-- What another column block's point leaves there, of the rows that were kept. -/
theorem out_next (hc0 : ¬cond0_0 i) (xs0 : Vec F S768x1024 .bf16) :
    out0_B_4 c i arg3 harg3 arg4 harg4 arg5 harg5 arg6 harg6 arg7 harg7 arg8 harg8 hc0 x0 x1 x2 x3 xs0 = k0_pay2 xs0 x3 := by
  unfold out0_B_4
  rw [View.read_writes_junk_eq_canon]
  unfold kernelRun0_B
  dsimp only
  rw [View.canon_cons_unit_lit' _ _ _ (by decide)]
  simp only [View.readAt_eq_ld, harg6.read_unread, harg8.read_unread]
  rw [View.ld_unit_lit', View.ld_unit_lit'] <;> decide

end Cert.Proof.ModRun

end
-- ==== Proof.ModArray.lean ====
/-
  The modulated projection's kernel of the later blocks: its result array as one function of its argument arrays, and the run that
  leaves it there.
-/
module

public import proofs.«01_k».proof.Proof.ModRun
public import Idealize.ShloMosaic.Lib.KernelVsHost

@[expose] public section

noncomputable section

namespace Cert.Proof.ModArray

open Idealize.ShloMosaic Idealize.ShloMosaic.TcCoe Idealize.SL.Sem Cert.ModIdeal Cert.ModIdeal.Gen Cert.ModIdeal.Value
open FfnCtxArray (modulated)

/-- The weights with columns of zeros after the last. -/
def padded (w : Vec Ideal S1024x3984 .f32) (d : Fin 1024) (n : Fin 4096) : EReal :=
  if h : n.val < 3984 then w (ix2 d ⟨n.val, h⟩) else 0

/-- The projection of batch element `b`, row `t`, column `n`. -/
def outAt (x : Vec Ideal S8x2304x1024 .f32) (sh sc : Vec Ideal S8x2x1024 .f32) (w : Vec Ideal S1024x3984 .f32) (b : Fin 8) (t : Fin 2304)
    (n : Fin 4096) : EReal :=
  ∑ d, modulated x sh sc b t d * padded w d n

/-- A stored element: the kept row's product with the weights' column. -/
theorem block_apply (h : Vec Ideal S768x1024 .bf16) (w : Vec Ideal S1024x1024 .bf16) (r : Fin 768) (j : Fin 1024) :
    k0_pay2 h w (ix3 0 r j) = ∑ d : Fin 1024, h (ix2 r d) * w (ix2 d j) := by
  unfold_payloads
  pointwise

variable (m : (ℓ : Loc nD τ sig) → Buf (Elt Ideal) ℓ) (ρ : Dev nD → PrngReg)

/-! ## The padded weights as the region finds them -/

theorem V_weights (c : Dev nD) (d : Fin 1024) (n : Fin 4096) :
    V m c main_v1 (ix2 d n) = padded (m ((c : Thread nD τ).loc main_arg3)) d n := by
  have e : (V m c main_v1 : Vec Ideal S1024x4096 .bf16)
      = pad S1024x4096 ![0, 0] ![0, 112] ![0, 0] (m ((c : Thread nD τ).loc main_arg3) : Vec Ideal S1024x3984 .f32)
          (sitofp (F := Ideal) .bf16 (constantI S_ 32 0#32)) pads_S1024x3984_S1024x4096_000_01120 h_S_ := by
    unfold V
    simp only [hostOps0, hostOps0_1, List.flatten_cons, List.flatten_nil, List.append_nil, List.cons_append, List.nil_append]
    after_results_simp <;> rfl
  rw [e]
  unfold padded
  by_cases h : n.val < 3984
  · rw [dif_pos h, pad_apply_of_inside _ _ _ _ _ _ _ _ (ix2 d ⟨n.val, h⟩) (fun a => match a with
      | ⟨0, _⟩ => by show d.val = 0 + d.val * (0 + 1); omega
      | ⟨1, _⟩ => by show n.val = 0 + n.val * (0 + 1); omega)]
  · rw [dif_neg h, pad_apply_of_not_inside _ _ _ _ _ _ _ _ (1 : Fin 2)
      (by show ¬ (0 ≤ n.val ∧ (n.val - 0) % (0 + 1) = 0 ∧ (n.val - 0) / (0 + 1) < 3984); omega)]
    show (((0#32 : BitVec 32).toInt : ℝ) : EReal) = 0
    simp

/-! ## The windows' block indices at a grid point -/

theorem idx0 : ∀ t : Fin cfg0.N, win0_0.index t (0 : Fin 3) = t.val / 12 ∧ win0_0.index t (1 : Fin 3) = t.val / 4 % 3
    ∧ win0_0.index t (2 : Fin 3) = 0 := (by decide +kernel : ∀ t : Fin grid0.N, _)
theorem idx1 : ∀ t : Fin cfg0.N, win0_1.index t (0 : Fin 3) = t.val / 12 ∧ win0_1.index t (1 : Fin 3) = 0
    ∧ win0_1.index t (2 : Fin 3) = 0 := (by decide +kernel : ∀ t : Fin grid0.N, _)
theorem idx2 : ∀ t : Fin cfg0.N, win0_2.index t (0 : Fin 3) = t.val / 12 ∧ win0_2.index t (1 : Fin 3) = 0
    ∧ win0_2.index t (2 : Fin 3) = 0 := (by decide +kernel : ∀ t : Fin grid0.N, _)
theorem idx3 : ∀ t : Fin cfg0.N, win0_3.index t (0 : Fin 2) = 0 ∧ win0_3.index t (1 : Fin 2) = t.val % 4 :=
  (by decide +kernel : ∀ t : Fin grid0.N, _)
theorem idx4 : ∀ t : Fin cfg0.N, win0_4.index t (0 : Fin 3) = t.val / 12 ∧ win0_4.index t (1 : Fin 3) = t.val / 4 % 3
    ∧ win0_4.index t (2 : Fin 3) = t.val % 4 := (by decide +kernel : ∀ t : Fin grid0.N, _)

/-- The row block's number is the grid's second coordinate. -/
theorem coord : ∀ t : Fin cfg0.N, (grid0.coords t 1).val = t.val / 4 % 3 := (by decide +kernel : ∀ t : Fin grid0.N, _)

/-- The batch element of a grid point. -/
def batch (t : Fin cfg0.N) : Fin 8 := ⟨t.val / 12, by have : t.val < 96 := t.isLt; omega⟩
/-- Which block of 768 rows a grid point computes. -/
def block (t : Fin cfg0.N) : Fin 3 := ⟨t.val / 4 % 3, by omega⟩
/-- A row of a grid point's block. -/
def row (t : Fin cfg0.N) (r : Fin 768) : Fin 2304 := ⟨t.val / 4 % 3 * 768 + r.val, by omega⟩
/-- A column of a grid point's block. -/
def col (t : Fin cfg0.N) (j : Fin 1024) : Fin 4096 := ⟨t.val % 4 * 1024 + j.val, by omega⟩

/-! ## The input windows' blocks, read off the argument arrays -/

theorem blk0 (c : Dev nD) (t : Fin cfg0.N) (r : Fin 768) (d : Fin 1024) :
    iblk m c 0 t (ix3 0 r d) = m ((c : Thread nD τ).loc main_arg0) (ix3 (batch t) (row t r) d) := by
  obtain ⟨e0, e1, e2⟩ := idx0 t
  rw [← V_main_arg0 m c]
  refine congrArg (V m c main_arg0) (funext fun a => Fin.ext ?_)
  match a with
  | ⟨0, _⟩ => show win0_0.index t (0 : Fin 3) * 1 + 1 * 0 = t.val / 12; omega
  | ⟨1, _⟩ => show win0_0.index t (1 : Fin 3) * 768 + 1 * r.val = t.val / 4 % 3 * 768 + r.val; omega
  | ⟨2, _⟩ => show win0_0.index t (2 : Fin 3) * 1024 + 1 * d.val = d.val; omega

theorem blk1 (c : Dev nD) (t : Fin cfg0.N) (k : Fin 2) (d : Fin 1024) :
    iblk m c 1 t (ix3 0 k d) = m ((c : Thread nD τ).loc main_arg1) (ix3 (batch t) k d) := by
  obtain ⟨e0, e1, e2⟩ := idx1 t
  rw [← V_main_arg1 m c]
  refine congrArg (V m c main_arg1) (funext fun a => Fin.ext ?_)
  match a with
  | ⟨0, _⟩ => show win0_1.index t (0 : Fin 3) * 1 + 1 * 0 = t.val / 12; omega
  | ⟨1, _⟩ => show win0_1.index t (1 : Fin 3) * 2 + 1 * k.val = k.val; omega
  | ⟨2, _⟩ => show win0_1.index t (2 : Fin 3) * 1024 + 1 * d.val = d.val; omega

theorem blk2 (c : Dev nD) (t : Fin cfg0.N) (k : Fin 2) (d : Fin 1024) :
    iblk m c 2 t (ix3 0 k d) = m ((c : Thread nD τ).loc main_arg2) (ix3 (batch t) k d) := by
  obtain ⟨e0, e1, e2⟩ := idx2 t
  rw [← V_main_arg2 m c]
  refine congrArg (V m c main_arg2) (funext fun a => Fin.ext ?_)
  match a with
  | ⟨0, _⟩ => show win0_2.index t (0 : Fin 3) * 1 + 1 * 0 = t.val / 12; omega
  | ⟨1, _⟩ => show win0_2.index t (1 : Fin 3) * 2 + 1 * k.val = k.val; omega
  | ⟨2, _⟩ => show win0_2.index t (2 : Fin 3) * 1024 + 1 * d.val = d.val; omega

theorem blk3 (c : Dev nD) (t : Fin cfg0.N) (d : Fin 1024) (j : Fin 1024) :
    iblk m c 3 t (ix2 d j) = padded (m ((c : Thread nD τ).loc main_arg3)) d (col t j) := by
  obtain ⟨e0, e1⟩ := idx3 t
  rw [← V_weights m c]
  refine congrArg (V m c main_v1) (funext fun a => Fin.ext ?_)
  match a with
  | ⟨0, _⟩ => show win0_3.index t (0 : Fin 2) * 1024 + 1 * d.val = d.val; omega
  | ⟨1, _⟩ => show win0_3.index t (1 : Fin 2) * 1024 + 1 * j.val = t.val % 4 * 1024 + j.val; omega

/-! ## The kept rows -/

/-- The modulated rows of the launch's batch element `b`. -/
abbrev rowsOf (c : Dev nD) (b : Fin 8) : Fin 2304 → Fin 1024 → EReal :=
  modulated (m ((c : Thread nD τ).loc main_arg0)) (m ((c : Thread nD τ).loc main_arg1)) (m ((c : Thread nD τ).loc main_arg2)) b

/-- The rows a point computes are its block's. -/
theorem rowsAt_apply (c : Dev nD) (t : Fin cfg0.N) (r : Fin 768) (d : Fin 1024) :
    ModRun.rowsAt (grid0.coords t) (iblk m c 0 t) (iblk m c 1 t) (iblk m c 2 t) (ix2 r d) = rowsOf m c (batch t) (row t r) d := by
  unfold ModRun.rowsAt
  rw [coord t]
  exact ModRows.hidden_rows _ _ _ (batch t) (row t r) (block t) r rfl (iblk m c 0 t) (iblk m c 1 t) (iblk m c 2 t)
    (fun d => blk0 m c t r d) (fun k d => blk1 m c t k d) (fun k d => blk2 m c t k d) d

/-- After every point the kept rows are its block's: a block's first point computes them, and the others find them there. -/
theorem kept (c : Dev nD) (n : ℕ) (hn : n < cfg0.N) (r : Fin 768) (d : Fin 1024) :
    (outsAt0 m c n hn).2 (ix2 r d) = rowsOf m c (batch ⟨n, hn⟩) (row ⟨n, hn⟩ r) d := by
  induction n with
  | zero =>
    rw [outsAt0_A m c ⟨0, hn⟩ rfl]
    dsimp only
    rw [ModRun.kept_first, rowsAt_apply]
  | succ n ih =>
    by_cases h : (n + 1) % 4 = 0
    · rw [outsAt0_A m c ⟨n + 1, hn⟩ h]
      dsimp only
      rw [ModRun.kept_first, rowsAt_apply]
    · rw [outsAt0_B m c ⟨n + 1, hn⟩ h]
      refine (ih (Nat.lt_of_succ_lt hn)).trans ?_
      have eb : batch ⟨n, Nat.lt_of_succ_lt hn⟩ = batch ⟨n + 1, hn⟩ := Fin.ext (by show n / 12 = (n + 1) / 12; omega)
      have er : row ⟨n, Nat.lt_of_succ_lt hn⟩ r = row ⟨n + 1, hn⟩ r :=
        Fin.ext (by show n / 4 % 3 * 768 + r.val = (n + 1) / 4 % 3 * 768 + r.val; omega)
      rw [eb, er]

/-! ## The result array -/

/-- The result array of the launch's arguments. -/
def result (c : Dev nD) : Vec Ideal S8x2304x4096 .f32 := fun i =>
  outAt (m ((c : Thread nD τ).loc main_arg0)) (m ((c : Thread nD τ).loc main_arg1)) (m ((c : Thread nD τ).loc main_arg2))
    (m ((c : Thread nD τ).loc main_arg3)) (i 0) (i 1) (i 2)

/-- Where an element of the output's block sits in the array. -/
theorem emb4 (t : Fin cfg0.N) (r : Fin 768) (j : Fin 1024) :
    ((cfg0.win 4).blk t).view.emb (ix3 0 r j) = ix3 (batch t) (row t r) (col t j) := by
  obtain ⟨e0, e1, e2⟩ := idx4 t
  refine funext fun a => Fin.ext ?_
  match a with
  | ⟨0, _⟩ => show win0_4.index t (0 : Fin 3) * 1 + 1 * 0 = t.val / 12; omega
  | ⟨1, _⟩ => show win0_4.index t (1 : Fin 3) * 768 + 1 * r.val = t.val / 4 % 3 * 768 + r.val; omega
  | ⟨2, _⟩ => show win0_4.index t (2 : Fin 3) * 1024 + 1 * j.val = t.val % 4 * 1024 + j.val; omega

/-- An index of the output's block: a row and a column. -/
theorem block_ix (y : S1x768x1024.Idx) : ∃ (r : Fin 768) (j : Fin 1024), y = ix3 0 r j := by
  have h0 : (y 0).val < 1 := (y 0).isLt
  refine ⟨y 1, y 2, funext fun a => Fin.ext ?_⟩
  match a with
  | ⟨0, _⟩ => show (y 0).val = 0; omega
  | ⟨1, _⟩ => rfl
  | ⟨2, _⟩ => rfl

/-- The kept rows' product with a point's columns is its block of the result array. -/
theorem product_eq (c : Dev nD) (t : Fin cfg0.N) (h : Vec Ideal S768x1024 .bf16)
    (hh : ∀ r d, h (ix2 r d) = rowsOf m c (batch t) (row t r) d) :
    k0_pay2 h (iblk m c 3 t) = ((cfg0.win 4).blk t).view.read (Elt Ideal) (result m c) := by
  funext y
  obtain ⟨r, j, rfl⟩ := block_ix y
  refine (block_apply h (iblk m c 3 t) r j).trans ?_
  show _ = result m c (((cfg0.win 4).blk t).view.emb (ix3 0 r j))
  rw [emb4]
  exact Finset.sum_congr rfl fun d _ => congrArg₂ (· * ·) (hh r d) (blk3 m c t d j)

/-- What a grid point writes back is its block of the result array. -/
theorem flushed4_eq (c : Dev nD) (t : Fin cfg0.N) :
    (dats m 0 c).flushed 4 t = ((cfg0.win 4).blk t).view.read (Elt Ideal) (result m c) := by
  by_cases h0 : t.val % 4 = 0
  · rw [flushed4_A m c t h0, ModRun.out_first]
    exact product_eq m c t _ fun r d => rowsAt_apply m c t r d
  · rw [flushed4_B m c t h0, ModRun.out_next]
    refine product_eq m c t _ fun r d => (kept m c (t.val - 1) _ r d).trans ?_
    have ht : t.val - 1 < cfg0.N := Nat.lt_of_le_of_lt (Nat.sub_le _ _) t.isLt
    have eb : batch ⟨t.val - 1, ht⟩ = batch t := Fin.ext (by show (t.val - 1) / 12 = t.val / 12; omega)
    have er : row ⟨t.val - 1, ht⟩ r = row t r :=
      Fin.ext (by show (t.val - 1) / 4 % 3 * 768 + r.val = t.val / 4 % 3 * 768 + r.val; omega)
    rw [eb, er]

/-- Every index of the result array is in some grid point's block. -/
theorem covered4 (i : S8x2304x4096.Idx) :
    ∃ t : Fin cfg0.N, (cfg0.win 4).flush t = true ∧ i ∈ ((cfg0.win 4).blk t).view.set := by
  have h0 : (i 0).val < 8 := (i 0).isLt
  have h1 : (i 1).val < 2304 := (i 1).isLt
  have h2 : (i 2).val < 4096 := (i 2).isLt
  refine ⟨(⟨(i 0).val * 12 + (i 1).val / 768 * 4 + (i 2).val / 1024, by show _ < 96; omega⟩ : Fin cfg0.N), flush0_4 _, ?_⟩
  have h := ((cfg0.win 4).blk (⟨(i 0).val * 12 + (i 1).val / 768 * 4 + (i 2).val / 1024, by show _ < 96; omega⟩ : Fin cfg0.N)).view.emb_mem_set
    (ix3 (0 : Fin 1) (⟨(i 1).val % 768, by omega⟩ : Fin 768) (⟨(i 2).val % 1024, by omega⟩ : Fin 1024))
  rw [emb4] at h
  refine (congrArg (· ∈ _) (funext fun a => Fin.ext ?_)).mpr h
  match a with
  | ⟨0, _⟩ => show (i 0).val = ((i 0).val * 12 + (i 1).val / 768 * 4 + (i 2).val / 1024) / 12; omega
  | ⟨1, _⟩ => show (i 1).val = ((i 0).val * 12 + (i 1).val / 768 * 4 + (i 2).val / 1024) / 4 % 3 * 768 + (i 1).val % 768; omega
  | ⟨2, _⟩ => show (i 2).val = ((i 0).val * 12 + (i 1).val / 768 * 4 + (i 2).val / 1024) % 4 * 1024 + (i 2).val % 1024; omega

/-- The run: the result array is `result` of the arguments, which end unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨(h c).1.trans ((dats m 0 c).arrAt_eq_of_cover 4 (result m c) (fun t _ => flushed4_eq m c t) covered4), (h c).2⟩)
    (run_blocks m ρ)

end Cert.Proof.ModArray

end
-- ==== Proof.ModReference.lean ====
/-
  What the reference of the modulated projection of the later blocks computes, at one element of its result.
-/
module

public import proofs.«01_k».proof.Proof.ModArray
public import proofs.«01_k».proof.Proof.FfnCtxReference
public import proofs.«01_k».proof.Proof.Gen.ModReferenceIdeal.Run
public import proofs.«01_k».proof.Proof.Gen.ModReferenceIdeal.Read

@[expose] public section

noncomputable section

namespace Cert.Proof.ModReference

open Idealize.ShloMosaic Cert.ModReferenceIdeal Cert.ModReferenceIdeal.Read ModArray
open FfnCtxArray (modulated)
open FfnCtxReference (up low)

variable (x0 : (⟨S8x2304x1024, .f32⟩ : BufTy).Contents (Elt Ideal)) (x1 x2 : (⟨S8x2x1024, .f32⟩ : BufTy).Contents (Elt Ideal))
  (x3 : (⟨S1024x3984, .f32⟩ : BufTy).Contents (Elt Ideal))

/-- The context's modulated rows are the ones the first block's feed-forward layer takes. -/
theorem context_rows (b : Fin 8) (t : Fin 256) (d : Fin 1024) :
    val_main_v18 (F := Ideal) x0 x1 x2 (ix3 b t d) = modulated x0 x1 x2 b (up t) d :=
  FfnCtxReference.v19_apply x0 x1 x2 b t d

/-- The latent tokens' modulated rows are the ones the last block's feed-forward layer takes. -/
theorem latent_rows (b : Fin 8) (t : Fin 2048) (d : Fin 1024) :
    val_main_v37 (F := Ideal) x0 x1 x2 (ix3 b t d) = modulated x0 x1 x2 b (low t) d :=
  (FfnReference.v18_apply (Cert.FfnCtxReferenceIdeal.Read.val_main_v53 (F := Ideal) x0) x1 x2 b t d).trans
    (congrFun (FfnCtxReference.modulated_low x0 x1 x2 b t) d)

/-- A row's product with a column of the weights. -/
def product (b : Fin 8) (t : Fin 2304) (n : Fin 3984) : EReal := ∑ d, modulated x0 x1 x2 b t d * x3 (ix2 d n)

theorem context_apply (b : Fin 8) (t : Fin 256) (n : Fin 3984) :
    val_main_v38 (F := Ideal) x0 x1 x2 x3 (ix3 b t n) = product x0 x1 x2 x3 b (up t) n := by
  rw [val_main_v38_apply]
  refine Finset.sum_congr rfl fun d _ => ?_
  rw [show lidx_main_v38 (ix3 b t n) d = ix3 b t d from funext fun a => by fin_cases a <;> rfl, context_rows,
    show ridx_main_v38 (ix3 b t n) d = ix2 d n from funext fun a => by fin_cases a <;> rfl]

theorem latent_apply (b : Fin 8) (t : Fin 2048) (n : Fin 3984) :
    val_main_v39 (F := Ideal) x0 x1 x2 x3 (ix3 b t n) = product x0 x1 x2 x3 b (low t) n := by
  rw [val_main_v39_apply]
  refine Finset.sum_congr rfl fun d _ => ?_
  rw [show lidx_main_v39 (ix3 b t n) d = ix3 b t d from funext fun a => by fin_cases a <;> rfl, latent_rows,
    show ridx_main_v39 (ix3 b t n) d = ix2 d n from funext fun a => by fin_cases a <;> rfl]

/-- The two halves one under the other. -/
theorem v40_apply (b : Fin 8) (t : Fin 2304) (n : Fin 3984) :
    val_main_v40 (F := Ideal) x0 x1 x2 x3 (ix3 b t n) = product x0 x1 x2 x3 b t n := by
  unfold val_main_v40
  by_cases h : t.val < 256
  · rw [concatenate_pair_apply_left (s₁ := S8x256x3984) (s₂ := S8x2048x3984) (t := S8x2304x3984) (1 : Fin 3) _ _ _ _ rfl (ix3 b (⟨t.val, h⟩ : Fin 256) n)
      (fun a => by fin_cases a <;> rfl), context_apply]
    rfl
  · rw [concatenate_pair_apply_right (s₁ := S8x256x3984) (s₂ := S8x2048x3984) (t := S8x2304x3984) (1 : Fin 3) _ _ _ (ix3 b t n) rfl rfl
      (ix3 b (⟨t.val - 256, by omega⟩ : Fin 2048) n) (fun a ha => match a, ha with
        | ⟨0, _⟩, _ => rfl
        | ⟨1, _⟩, ha => absurd rfl ha
        | ⟨2, _⟩, _ => rfl) (by show t.val - 256 + 256 = t.val; omega), latent_apply]
    exact congrArg (fun k => product x0 x1 x2 x3 b k n) (Fin.ext (by show 256 + (t.val - 256) = t.val; omega))

/-- The reference's result at a batch element, a row and a column: zero past the weights' last column. -/
theorem result_apply (b : Fin 8) (t : Fin 2304) (n : Fin 4096) :
    val_main_v41 (F := Ideal) x0 x1 x2 x3 (ix3 b t n) = outAt x0 x1 x2 x3 b t n := by
  unfold val_main_v41 outAt padded
  by_cases h : n.val < 3984
  · rw [pad_apply_of_inside _ _ _ _ _ _ _ _ (ix3 b t (⟨n.val, h⟩ : Fin 3984)) (fun a => match a with
      | ⟨0, _⟩ => by show b.val = 0 + b.val * (0 + 1); omega
      | ⟨1, _⟩ => by show t.val = 0 + t.val * (0 + 1); omega
      | ⟨2, _⟩ => by show n.val = 0 + n.val * (0 + 1); omega), v40_apply]
    simp only [dif_pos h]
    rfl
  · rw [pad_apply_of_not_inside _ _ _ _ _ _ _ _ (2 : Fin 3)
      (by show ¬ (0 ≤ n.val ∧ (n.val - 0) % (0 + 1) = 0 ∧ (n.val - 0) / (0 + 1) < 3984); omega)]
    simp only [dif_neg h, mul_zero, Finset.sum_const_zero]
    show (((0#32 : BitVec 32).toInt : ℝ) : EReal) = 0
    simp

end Cert.Proof.ModReference

end
-- ==== Proof.ModEquation.lean ====
/-
  The equality of the modulated projection's kernel's result with its reference's, in the later blocks.
-/
module

public import proofs.«01_k».proof.Proof.ModReference

@[expose] public section

noncomputable section

namespace Cert.Proof.ModEquation

open Idealize.ShloMosaic Idealize.ShloMosaic.TcCoe

variable (m : (ℓ : Loc Cert.ModIdeal.nD Cert.ModIdeal.τ Cert.ModIdeal.sig) → Buf (Elt Ideal) ℓ)

/-- An index of the result: a batch element, a row and a column. -/
theorem result_ix (i : Cert.ModIdeal.S8x2304x4096.Idx) : i = ix3 (i 0) (i 1) (i 2) :=
  funext fun a => match a with
    | ⟨0, _⟩ => rfl
    | ⟨1, _⟩ => rfl
    | ⟨2, _⟩ => rfl

/-- The kernel's result array is the reference's, of the launch's arguments. -/
theorem result_eq (c : Dev Cert.ModIdeal.nD) :
    ModArray.result m c = Cert.ModReferenceIdeal.Read.val_main_v41 (F := Ideal)
      (m ((c : Thread Cert.ModIdeal.nD Cert.ModIdeal.τ).loc Cert.ModIdeal.main_arg0))
      (m ((c : Thread Cert.ModIdeal.nD Cert.ModIdeal.τ).loc Cert.ModIdeal.main_arg1))
      (m ((c : Thread Cert.ModIdeal.nD Cert.ModIdeal.τ).loc Cert.ModIdeal.main_arg2))
      (m ((c : Thread Cert.ModIdeal.nD Cert.ModIdeal.τ).loc Cert.ModIdeal.main_arg3)) := by
  funext i
  rw [result_ix i]
  exact (ModReference.result_apply _ _ _ _ (i 0) (i 1) (i 2)).symm

end Cert.Proof.ModEquation

end
-- ==== Proof.ModAbRun.lean ====
/-
  The first block's modulated projection's kernel keeps its rows at the first column block and multiplies them with the weights' columns at each.
-/
module

public import proofs.«01_k».proof.Proof.ModRows
public import proofs.«01_k».proof.Proof.Gen.ModAbIdeal.Value

@[expose] public section

noncomputable section

namespace Cert.Proof.ModAbRun

open Idealize.ShloMosaic Cert.ModAbIdeal Cert.ModAbIdeal.Gen ModRows

variable {F : FTy → Type} [FloatOps F]

/-- The rows a grid point keeps. -/
def rowsAt (i : grid0.Coords) (x : Vec F S1x768x1024 .f32) (sh sc : Vec F S1x2x1024 .f32) : FVec F S768x1024 .bf16 :=
  hidden (BitVec.ofNat 32 (i 1).val) x (View.ld sh first) (View.ld sh second) (View.ld sc first) (View.ld sc second)

variable (c : Dev nD) (i : grid0.Coords) (arg3 : Memref sig .tc .vmem S1x768x1024 .f32) (harg3 : arg3.IsWhole) (arg4 : Memref sig .tc .vmem S1x2x1024 .f32) (harg4 : arg4.IsWhole) (arg5 : Memref sig .tc .vmem S1x2x1024 .f32) (harg5 : arg5.IsWhole) (arg6 : Memref sig .tc .vmem S1024x768 .bf16) (harg6 : arg6.IsWhole) (arg7 : Memref sig .tc .vmem S1x768x768 .f32) (harg7 : arg7.IsWhole) (arg8 : Memref sig .tc .vmem S768x1024 .bf16) (harg8 : arg8.IsWhole)
    (x0 : Vec F S1x768x1024 .f32) (x1 : Vec F S1x2x1024 .f32) (x2 : Vec F S1x2x1024 .f32) (x3 : Vec F S1024x768 .bf16)

/-- The rows computed from what the input buffers' rectangles read. -/
abbrev readRows : FVec F S768x1024 .bf16 :=
  hidden (BitVec.ofNat 32 (i 1).val)
    (arg3.view.readAt (Elt F) (Rect.unit (s := S1x768x1024) ![0, 0, 0] S1x768x1024.size inb_S1x768x1024_S1x768x1024_0_0_0).toLoadRect (harg3.unread x0))
    (arg4.view.readAt (Elt F) first.toLoadRect (harg4.unread x1)) (arg4.view.readAt (Elt F) second.toLoadRect (harg4.unread x1))
    (arg5.view.readAt (Elt F) first.toLoadRect (harg5.unread x2)) (arg5.view.readAt (Elt F) second.toLoadRect (harg5.unread x2))

theorem readRows_eq : readRows i arg3 harg3 arg4 harg4 arg5 harg5 x0 x1 x2 = rowsAt i x0 x1 x2 := by
  unfold readRows rowsAt
  simp only [View.readAt_eq_ld, harg3.read_unread, harg4.read_unread, harg5.read_unread]
  rw [View.ld_unit_lit' _ x0 (by decide)]

/-- The whole-buffer rectangle of the kept rows. -/
abbrev whole : Rect S768x1024 := Rect.unit (s := S768x1024) ![0, 0] S768x1024.size inb_S768x1024_S768x1024_0_0

/-- What a first column block's point leaves in the kept rows' buffer. -/
theorem kept_first (hc0 : cond0_0 i) :
    sout0_A_0 c i arg3 harg3 arg4 harg4 arg5 harg5 arg6 harg6 arg7 harg7 arg8 harg8 hc0 x0 x1 x2 x3 = rowsAt i x0 x1 x2 := by
  unfold sout0_A_0
  rw [View.read_writes_junk_eq_canon, ← readRows_eq i arg3 harg3 arg4 harg4 arg5 harg5 x0 x1 x2]
  unfold kernelRun0_A
  dsimp only
  exact View.canon_cons_unit_lit' (S := S768x1024) (off := ![0, 0]) inb_S768x1024_S768x1024_0_0 _ _ (by decide)

/-- What it leaves in the output's block. -/
theorem out_first (hc0 : cond0_0 i) :
    out0_A_4 c i arg3 harg3 arg4 harg4 arg5 harg5 arg6 harg6 arg7 harg7 arg8 harg8 hc0 x0 x1 x2 x3 = k0_pay2 (rowsAt i x0 x1 x2) x3 := by
  unfold out0_A_4
  rw [View.read_writes_junk_eq_canon]
  unfold kernelRun0_A
  dsimp only
  rw [View.canon_cons_unit_lit' _ _ _ (by decide)]
  have e : k0_pay2 _ _ = k0_pay2
      (arg8.view.readCov (⟨whole, readRows i arg3 harg3 arg4 harg4 arg5 harg5 x0 x1 x2⟩ :: []) whole.toLoadRect)
      (arg6.view.readAt (Elt F) (Rect.unit (s := S1024x768) ![0, 0] S1024x768.size inb_S1024x768_S1024x768_0_0).toLoadRect (harg6.unread x3)) := rfl
  refine e.trans ?_
  rw [View.readCov_cons_unit_lit' arg8.view _ _ _ _ (by decide) (by decide), readRows_eq, View.readAt_eq_ld, harg6.read_unread,
    View.ld_unit_lit' _ x3 (by decide)]

/-- What another column block's point leaves there, of the rows that were kept. -/
theorem out_next (hc0 : ¬cond0_0 i) (xs0 : Vec F S768x1024 .bf16) :
    out0_B_4 c i arg3 harg3 arg4 harg4 arg5 harg5 arg6 harg6 arg7 harg7 arg8 harg8 hc0 x0 x1 x2 x3 xs0 = k0_pay2 xs0 x3 := by
  unfold out0_B_4
  rw [View.read_writes_junk_eq_canon]
  unfold kernelRun0_B
  dsimp only
  rw [View.canon_cons_unit_lit' _ _ _ (by decide)]
  simp only [View.readAt_eq_ld, harg6.read_unread, harg8.read_unread]
  rw [View.ld_unit_lit', View.ld_unit_lit'] <;> decide

end Cert.Proof.ModAbRun

end
-- ==== Proof.ModAbArray.lean ====
/-
  The modulated projection's kernel of the first block: its result array as one function of its argument arrays, and the run that
  leaves it there.
-/
module

public import proofs.«01_k».proof.Proof.ModAbRun
public import Idealize.ShloMosaic.Lib.KernelVsHost

@[expose] public section

noncomputable section

namespace Cert.Proof.ModAbArray

open Idealize.ShloMosaic Idealize.ShloMosaic.TcCoe Idealize.SL.Sem Cert.ModAbIdeal Cert.ModAbIdeal.Gen Cert.ModAbIdeal.Value
open FfnCtxArray (modulated)

/-- The weights with columns of zeros after the last. -/
def padded (w : Vec Ideal S1024x1312 .f32) (d : Fin 1024) (n : Fin 1536) : EReal :=
  if h : n.val < 1312 then w (ix2 d ⟨n.val, h⟩) else 0

/-- The projection of batch element `b`, row `t`, column `n`. -/
def outAt (x : Vec Ideal S8x2304x1024 .f32) (sh sc : Vec Ideal S8x2x1024 .f32) (w : Vec Ideal S1024x1312 .f32) (b : Fin 8) (t : Fin 2304)
    (n : Fin 1536) : EReal :=
  ∑ d, modulated x sh sc b t d * padded w d n

/-- A stored element: the kept row's product with the weights' column. -/
theorem block_apply (h : Vec Ideal S768x1024 .bf16) (w : Vec Ideal S1024x768 .bf16) (r : Fin 768) (j : Fin 768) :
    k0_pay2 h w (ix3 0 r j) = ∑ d : Fin 1024, h (ix2 r d) * w (ix2 d j) := by
  unfold_payloads
  pointwise

variable (m : (ℓ : Loc nD τ sig) → Buf (Elt Ideal) ℓ) (ρ : Dev nD → PrngReg)

/-! ## The padded weights as the region finds them -/

theorem V_weights (c : Dev nD) (d : Fin 1024) (n : Fin 1536) :
    V m c main_v1 (ix2 d n) = padded (m ((c : Thread nD τ).loc main_arg3)) d n := by
  have e : (V m c main_v1 : Vec Ideal S1024x1536 .bf16)
      = pad S1024x1536 ![0, 0] ![0, 224] ![0, 0] (m ((c : Thread nD τ).loc main_arg3) : Vec Ideal S1024x1312 .f32)
          (sitofp (F := Ideal) .bf16 (constantI S_ 32 0#32)) pads_S1024x1312_S1024x1536_000_02240 h_S_ := by
    unfold V
    simp only [hostOps0, hostOps0_1, List.flatten_cons, List.flatten_nil, List.append_nil, List.cons_append, List.nil_append]
    after_results_simp <;> rfl
  rw [e]
  unfold padded
  by_cases h : n.val < 1312
  · rw [dif_pos h, pad_apply_of_inside _ _ _ _ _ _ _ _ (ix2 d ⟨n.val, h⟩) (fun a => match a with
      | ⟨0, _⟩ => by show d.val = 0 + d.val * (0 + 1); omega
      | ⟨1, _⟩ => by show n.val = 0 + n.val * (0 + 1); omega)]
  · rw [dif_neg h, pad_apply_of_not_inside _ _ _ _ _ _ _ _ (1 : Fin 2)
      (by show ¬ (0 ≤ n.val ∧ (n.val - 0) % (0 + 1) = 0 ∧ (n.val - 0) / (0 + 1) < 1312); omega)]
    show (((0#32 : BitVec 32).toInt : ℝ) : EReal) = 0
    simp

/-! ## The windows' block indices at a grid point -/

theorem idx0 : ∀ t : Fin cfg0.N, win0_0.index t (0 : Fin 3) = t.val / 6 ∧ win0_0.index t (1 : Fin 3) = t.val / 2 % 3
    ∧ win0_0.index t (2 : Fin 3) = 0 := (by decide +kernel : ∀ t : Fin grid0.N, _)
theorem idx1 : ∀ t : Fin cfg0.N, win0_1.index t (0 : Fin 3) = t.val / 6 ∧ win0_1.index t (1 : Fin 3) = 0
    ∧ win0_1.index t (2 : Fin 3) = 0 := (by decide +kernel : ∀ t : Fin grid0.N, _)
theorem idx2 : ∀ t : Fin cfg0.N, win0_2.index t (0 : Fin 3) = t.val / 6 ∧ win0_2.index t (1 : Fin 3) = 0
    ∧ win0_2.index t (2 : Fin 3) = 0 := (by decide +kernel : ∀ t : Fin grid0.N, _)
theorem idx3 : ∀ t : Fin cfg0.N, win0_3.index t (0 : Fin 2) = 0 ∧ win0_3.index t (1 : Fin 2) = t.val % 2 :=
  (by decide +kernel : ∀ t : Fin grid0.N, _)
theorem idx4 : ∀ t : Fin cfg0.N, win0_4.index t (0 : Fin 3) = t.val / 6 ∧ win0_4.index t (1 : Fin 3) = t.val / 2 % 3
    ∧ win0_4.index t (2 : Fin 3) = t.val % 2 := (by decide +kernel : ∀ t : Fin grid0.N, _)

/-- The row block's number is the grid's second coordinate. -/
theorem coord : ∀ t : Fin cfg0.N, (grid0.coords t 1).val = t.val / 2 % 3 := (by decide +kernel : ∀ t : Fin grid0.N, _)

/-- The batch element of a grid point. -/
def batch (t : Fin cfg0.N) : Fin 8 := ⟨t.val / 6, by have : t.val < 48 := t.isLt; omega⟩
/-- Which block of 768 rows a grid point computes. -/
def block (t : Fin cfg0.N) : Fin 3 := ⟨t.val / 2 % 3, by omega⟩
/-- A row of a grid point's block. -/
def row (t : Fin cfg0.N) (r : Fin 768) : Fin 2304 := ⟨t.val / 2 % 3 * 768 + r.val, by omega⟩
/-- A column of a grid point's block. -/
def col (t : Fin cfg0.N) (j : Fin 768) : Fin 1536 := ⟨t.val % 2 * 768 + j.val, by omega⟩

/-! ## The input windows' blocks, read off the argument arrays -/

theorem blk0 (c : Dev nD) (t : Fin cfg0.N) (r : Fin 768) (d : Fin 1024) :
    iblk m c 0 t (ix3 0 r d) = m ((c : Thread nD τ).loc main_arg0) (ix3 (batch t) (row t r) d) := by
  obtain ⟨e0, e1, e2⟩ := idx0 t
  rw [← V_main_arg0 m c]
  refine congrArg (V m c main_arg0) (funext fun a => Fin.ext ?_)
  match a with
  | ⟨0, _⟩ => show win0_0.index t (0 : Fin 3) * 1 + 1 * 0 = t.val / 6; omega
  | ⟨1, _⟩ => show win0_0.index t (1 : Fin 3) * 768 + 1 * r.val = t.val / 2 % 3 * 768 + r.val; omega
  | ⟨2, _⟩ => show win0_0.index t (2 : Fin 3) * 1024 + 1 * d.val = d.val; omega

theorem blk1 (c : Dev nD) (t : Fin cfg0.N) (k : Fin 2) (d : Fin 1024) :
    iblk m c 1 t (ix3 0 k d) = m ((c : Thread nD τ).loc main_arg1) (ix3 (batch t) k d) := by
  obtain ⟨e0, e1, e2⟩ := idx1 t
  rw [← V_main_arg1 m c]
  refine congrArg (V m c main_arg1) (funext fun a => Fin.ext ?_)
  match a with
  | ⟨0, _⟩ => show win0_1.index t (0 : Fin 3) * 1 + 1 * 0 = t.val / 6; omega
  | ⟨1, _⟩ => show win0_1.index t (1 : Fin 3) * 2 + 1 * k.val = k.val; omega
  | ⟨2, _⟩ => show win0_1.index t (2 : Fin 3) * 1024 + 1 * d.val = d.val; omega

theorem blk2 (c : Dev nD) (t : Fin cfg0.N) (k : Fin 2) (d : Fin 1024) :
    iblk m c 2 t (ix3 0 k d) = m ((c : Thread nD τ).loc main_arg2) (ix3 (batch t) k d) := by
  obtain ⟨e0, e1, e2⟩ := idx2 t
  rw [← V_main_arg2 m c]
  refine congrArg (V m c main_arg2) (funext fun a => Fin.ext ?_)
  match a with
  | ⟨0, _⟩ => show win0_2.index t (0 : Fin 3) * 1 + 1 * 0 = t.val / 6; omega
  | ⟨1, _⟩ => show win0_2.index t (1 : Fin 3) * 2 + 1 * k.val = k.val; omega
  | ⟨2, _⟩ => show win0_2.index t (2 : Fin 3) * 1024 + 1 * d.val = d.val; omega

theorem blk3 (c : Dev nD) (t : Fin cfg0.N) (d : Fin 1024) (j : Fin 768) :
    iblk m c 3 t (ix2 d j) = padded (m ((c : Thread nD τ).loc main_arg3)) d (col t j) := by
  obtain ⟨e0, e1⟩ := idx3 t
  rw [← V_weights m c]
  refine congrArg (V m c main_v1) (funext fun a => Fin.ext ?_)
  match a with
  | ⟨0, _⟩ => show win0_3.index t (0 : Fin 2) * 1024 + 1 * d.val = d.val; omega
  | ⟨1, _⟩ => show win0_3.index t (1 : Fin 2) * 768 + 1 * j.val = t.val % 2 * 768 + j.val; omega

/-! ## The kept rows -/

/-- The modulated rows of the launch's batch element `b`. -/
abbrev rowsOf (c : Dev nD) (b : Fin 8) : Fin 2304 → Fin 1024 → EReal :=
  modulated (m ((c : Thread nD τ).loc main_arg0)) (m ((c : Thread nD τ).loc main_arg1)) (m ((c : Thread nD τ).loc main_arg2)) b

/-- The rows a point computes are its block's. -/
theorem rowsAt_apply (c : Dev nD) (t : Fin cfg0.N) (r : Fin 768) (d : Fin 1024) :
    ModAbRun.rowsAt (grid0.coords t) (iblk m c 0 t) (iblk m c 1 t) (iblk m c 2 t) (ix2 r d) = rowsOf m c (batch t) (row t r) d := by
  unfold ModAbRun.rowsAt
  rw [coord t]
  exact ModRows.hidden_rows _ _ _ (batch t) (row t r) (block t) r rfl (iblk m c 0 t) (iblk m c 1 t) (iblk m c 2 t)
    (fun d => blk0 m c t r d) (fun k d => blk1 m c t k d) (fun k d => blk2 m c t k d) d

/-- After every point the kept rows are its block's: a block's first point computes them, and the others find them there. -/
theorem kept (c : Dev nD) (n : ℕ) (hn : n < cfg0.N) (r : Fin 768) (d : Fin 1024) :
    (outsAt0 m c n hn).2 (ix2 r d) = rowsOf m c (batch ⟨n, hn⟩) (row ⟨n, hn⟩ r) d := by
  induction n with
  | zero =>
    rw [outsAt0_A m c ⟨0, hn⟩ rfl]
    dsimp only
    rw [ModAbRun.kept_first, rowsAt_apply]
  | succ n ih =>
    by_cases h : (n + 1) % 2 = 0
    · rw [outsAt0_A m c ⟨n + 1, hn⟩ h]
      dsimp only
      rw [ModAbRun.kept_first, rowsAt_apply]
    · rw [outsAt0_B m c ⟨n + 1, hn⟩ h]
      refine (ih (Nat.lt_of_succ_lt hn)).trans ?_
      have eb : batch ⟨n, Nat.lt_of_succ_lt hn⟩ = batch ⟨n + 1, hn⟩ := Fin.ext (by show n / 6 = (n + 1) / 6; omega)
      have er : row ⟨n, Nat.lt_of_succ_lt hn⟩ r = row ⟨n + 1, hn⟩ r :=
        Fin.ext (by show n / 2 % 3 * 768 + r.val = (n + 1) / 2 % 3 * 768 + r.val; omega)
      rw [eb, er]

/-! ## The result array -/

/-- The result array of the launch's arguments. -/
def result (c : Dev nD) : Vec Ideal S8x2304x1536 .f32 := fun i =>
  outAt (m ((c : Thread nD τ).loc main_arg0)) (m ((c : Thread nD τ).loc main_arg1)) (m ((c : Thread nD τ).loc main_arg2))
    (m ((c : Thread nD τ).loc main_arg3)) (i 0) (i 1) (i 2)

/-- Where an element of the output's block sits in the array. -/
theorem emb4 (t : Fin cfg0.N) (r : Fin 768) (j : Fin 768) :
    ((cfg0.win 4).blk t).view.emb (ix3 0 r j) = ix3 (batch t) (row t r) (col t j) := by
  obtain ⟨e0, e1, e2⟩ := idx4 t
  refine funext fun a => Fin.ext ?_
  match a with
  | ⟨0, _⟩ => show win0_4.index t (0 : Fin 3) * 1 + 1 * 0 = t.val / 6; omega
  | ⟨1, _⟩ => show win0_4.index t (1 : Fin 3) * 768 + 1 * r.val = t.val / 2 % 3 * 768 + r.val; omega
  | ⟨2, _⟩ => show win0_4.index t (2 : Fin 3) * 768 + 1 * j.val = t.val % 2 * 768 + j.val; omega

/-- An index of the output's block: a row and a column. -/
theorem block_ix (y : S1x768x768.Idx) : ∃ (r : Fin 768) (j : Fin 768), y = ix3 0 r j := by
  have h0 : (y 0).val < 1 := (y 0).isLt
  refine ⟨y 1, y 2, funext fun a => Fin.ext ?_⟩
  match a with
  | ⟨0, _⟩ => show (y 0).val = 0; omega
  | ⟨1, _⟩ => rfl
  | ⟨2, _⟩ => rfl

/-- The kept rows' product with a point's columns is its block of the result array. -/
theorem product_eq (c : Dev nD) (t : Fin cfg0.N) (h : Vec Ideal S768x1024 .bf16)
    (hh : ∀ r d, h (ix2 r d) = rowsOf m c (batch t) (row t r) d) :
    k0_pay2 h (iblk m c 3 t) = ((cfg0.win 4).blk t).view.read (Elt Ideal) (result m c) := by
  funext y
  obtain ⟨r, j, rfl⟩ := block_ix y
  refine (block_apply h (iblk m c 3 t) r j).trans ?_
  show _ = result m c (((cfg0.win 4).blk t).view.emb (ix3 0 r j))
  rw [emb4]
  exact Finset.sum_congr rfl fun d _ => congrArg₂ (· * ·) (hh r d) (blk3 m c t d j)

/-- What a grid point writes back is its block of the result array. -/
theorem flushed4_eq (c : Dev nD) (t : Fin cfg0.N) :
    (dats m 0 c).flushed 4 t = ((cfg0.win 4).blk t).view.read (Elt Ideal) (result m c) := by
  by_cases h0 : t.val % 2 = 0
  · rw [flushed4_A m c t h0, ModAbRun.out_first]
    exact product_eq m c t _ fun r d => rowsAt_apply m c t r d
  · rw [flushed4_B m c t h0, ModAbRun.out_next]
    refine product_eq m c t _ fun r d => (kept m c (t.val - 1) _ r d).trans ?_
    have ht : t.val - 1 < cfg0.N := Nat.lt_of_le_of_lt (Nat.sub_le _ _) t.isLt
    have eb : batch ⟨t.val - 1, ht⟩ = batch t := Fin.ext (by show (t.val - 1) / 6 = t.val / 6; omega)
    have er : row ⟨t.val - 1, ht⟩ r = row t r :=
      Fin.ext (by show (t.val - 1) / 2 % 3 * 768 + r.val = t.val / 2 % 3 * 768 + r.val; omega)
    rw [eb, er]

/-- Every index of the result array is in some grid point's block. -/
theorem covered4 (i : S8x2304x1536.Idx) :
    ∃ t : Fin cfg0.N, (cfg0.win 4).flush t = true ∧ i ∈ ((cfg0.win 4).blk t).view.set := by
  have h0 : (i 0).val < 8 := (i 0).isLt
  have h1 : (i 1).val < 2304 := (i 1).isLt
  have h2 : (i 2).val < 1536 := (i 2).isLt
  refine ⟨(⟨(i 0).val * 6 + (i 1).val / 768 * 2 + (i 2).val / 768, by show _ < 48; omega⟩ : Fin cfg0.N), flush0_4 _, ?_⟩
  have h := ((cfg0.win 4).blk (⟨(i 0).val * 6 + (i 1).val / 768 * 2 + (i 2).val / 768, by show _ < 48; omega⟩ : Fin cfg0.N)).view.emb_mem_set
    (ix3 (0 : Fin 1) (⟨(i 1).val % 768, by omega⟩ : Fin 768) (⟨(i 2).val % 768, by omega⟩ : Fin 768))
  rw [emb4] at h
  refine (congrArg (· ∈ _) (funext fun a => Fin.ext ?_)).mpr h
  match a with
  | ⟨0, _⟩ => show (i 0).val = ((i 0).val * 6 + (i 1).val / 768 * 2 + (i 2).val / 768) / 6; omega
  | ⟨1, _⟩ => show (i 1).val = ((i 0).val * 6 + (i 1).val / 768 * 2 + (i 2).val / 768) / 2 % 3 * 768 + (i 1).val % 768; omega
  | ⟨2, _⟩ => show (i 2).val = ((i 0).val * 6 + (i 1).val / 768 * 2 + (i 2).val / 768) % 2 * 768 + (i 2).val % 768; omega

/-- The run: the result array is `result` of the arguments, which end unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨(h c).1.trans ((dats m 0 c).arrAt_eq_of_cover 4 (result m c) (fun t _ => flushed4_eq m c t) covered4), (h c).2⟩)
    (run_blocks m ρ)

end Cert.Proof.ModAbArray

end
-- ==== Proof.ModAbReference.lean ====
/-
  What the reference of the modulated projection of the first block computes, at one element of its result.
-/
module

public import proofs.«01_k».proof.Proof.ModAbArray
public import proofs.«01_k».proof.Proof.FfnCtxReference
public import proofs.«01_k».proof.Proof.Gen.ModAbReferenceIdeal.Run
public import proofs.«01_k».proof.Proof.Gen.ModAbReferenceIdeal.Read

@[expose] public section

noncomputable section

namespace Cert.Proof.ModAbReference

open Idealize.ShloMosaic Cert.ModAbReferenceIdeal Cert.ModAbReferenceIdeal.Read ModAbArray
open FfnCtxArray (modulated)
open FfnCtxReference (up low)

variable (x0 : (⟨S8x2304x1024, .f32⟩ : BufTy).Contents (Elt Ideal)) (x1 x2 : (⟨S8x2x1024, .f32⟩ : BufTy).Contents (Elt Ideal))
  (x3 : (⟨S1024x1312, .f32⟩ : BufTy).Contents (Elt Ideal))

/-- The context's modulated rows are the ones the first block's feed-forward layer takes. -/
theorem context_rows (b : Fin 8) (t : Fin 256) (d : Fin 1024) :
    val_main_v18 (F := Ideal) x0 x1 x2 (ix3 b t d) = modulated x0 x1 x2 b (up t) d :=
  FfnCtxReference.v19_apply x0 x1 x2 b t d

/-- The latent tokens' modulated rows are the ones the last block's feed-forward layer takes. -/
theorem latent_rows (b : Fin 8) (t : Fin 2048) (d : Fin 1024) :
    val_main_v37 (F := Ideal) x0 x1 x2 (ix3 b t d) = modulated x0 x1 x2 b (low t) d :=
  (FfnReference.v18_apply (Cert.FfnCtxReferenceIdeal.Read.val_main_v53 (F := Ideal) x0) x1 x2 b t d).trans
    (congrFun (FfnCtxReference.modulated_low x0 x1 x2 b t) d)

/-- A row's product with a column of the weights. -/
def product (b : Fin 8) (t : Fin 2304) (n : Fin 1312) : EReal := ∑ d, modulated x0 x1 x2 b t d * x3 (ix2 d n)

theorem context_apply (b : Fin 8) (t : Fin 256) (n : Fin 1312) :
    val_main_v38 (F := Ideal) x0 x1 x2 x3 (ix3 b t n) = product x0 x1 x2 x3 b (up t) n := by
  rw [val_main_v38_apply]
  refine Finset.sum_congr rfl fun d _ => ?_
  rw [show lidx_main_v38 (ix3 b t n) d = ix3 b t d from funext fun a => by fin_cases a <;> rfl, context_rows,
    show ridx_main_v38 (ix3 b t n) d = ix2 d n from funext fun a => by fin_cases a <;> rfl]

theorem latent_apply (b : Fin 8) (t : Fin 2048) (n : Fin 1312) :
    val_main_v39 (F := Ideal) x0 x1 x2 x3 (ix3 b t n) = product x0 x1 x2 x3 b (low t) n := by
  rw [val_main_v39_apply]
  refine Finset.sum_congr rfl fun d _ => ?_
  rw [show lidx_main_v39 (ix3 b t n) d = ix3 b t d from funext fun a => by fin_cases a <;> rfl, latent_rows,
    show ridx_main_v39 (ix3 b t n) d = ix2 d n from funext fun a => by fin_cases a <;> rfl]

/-- The two halves one under the other. -/
theorem v40_apply (b : Fin 8) (t : Fin 2304) (n : Fin 1312) :
    val_main_v40 (F := Ideal) x0 x1 x2 x3 (ix3 b t n) = product x0 x1 x2 x3 b t n := by
  unfold val_main_v40
  by_cases h : t.val < 256
  · rw [concatenate_pair_apply_left (s₁ := S8x256x1312) (s₂ := S8x2048x1312) (t := S8x2304x1312) (1 : Fin 3) _ _ _ _ rfl (ix3 b (⟨t.val, h⟩ : Fin 256) n)
      (fun a => by fin_cases a <;> rfl), context_apply]
    rfl
  · rw [concatenate_pair_apply_right (s₁ := S8x256x1312) (s₂ := S8x2048x1312) (t := S8x2304x1312) (1 : Fin 3) _ _ _ (ix3 b t n) rfl rfl
      (ix3 b (⟨t.val - 256, by omega⟩ : Fin 2048) n) (fun a ha => match a, ha with
        | ⟨0, _⟩, _ => rfl
        | ⟨1, _⟩, ha => absurd rfl ha
        | ⟨2, _⟩, _ => rfl) (by show t.val - 256 + 256 = t.val; omega), latent_apply]
    exact congrArg (fun k => product x0 x1 x2 x3 b k n) (Fin.ext (by show 256 + (t.val - 256) = t.val; omega))

/-- The reference's result at a batch element, a row and a column: zero past the weights' last column. -/
theorem result_apply (b : Fin 8) (t : Fin 2304) (n : Fin 1536) :
    val_main_v41 (F := Ideal) x0 x1 x2 x3 (ix3 b t n) = outAt x0 x1 x2 x3 b t n := by
  unfold val_main_v41 outAt padded
  by_cases h : n.val < 1312
  · rw [pad_apply_of_inside _ _ _ _ _ _ _ _ (ix3 b t (⟨n.val, h⟩ : Fin 1312)) (fun a => match a with
      | ⟨0, _⟩ => by show b.val = 0 + b.val * (0 + 1); omega
      | ⟨1, _⟩ => by show t.val = 0 + t.val * (0 + 1); omega
      | ⟨2, _⟩ => by show n.val = 0 + n.val * (0 + 1); omega), v40_apply]
    simp only [dif_pos h]
    rfl
  · rw [pad_apply_of_not_inside _ _ _ _ _ _ _ _ (2 : Fin 3)
      (by show ¬ (0 ≤ n.val ∧ (n.val - 0) % (0 + 1) = 0 ∧ (n.val - 0) / (0 + 1) < 1312); omega)]
    simp only [dif_neg h, mul_zero, Finset.sum_const_zero]
    show (((0#32 : BitVec 32).toInt : ℝ) : EReal) = 0
    simp

end Cert.Proof.ModAbReference

end
-- ==== Proof.ModAbEquation.lean ====
/-
  The equality of the modulated projection's kernel's result with its reference's, in the first block.
-/
module

public import proofs.«01_k».proof.Proof.ModAbReference

@[expose] public section

noncomputable section

namespace Cert.Proof.ModAbEquation

open Idealize.ShloMosaic Idealize.ShloMosaic.TcCoe

variable (m : (ℓ : Loc Cert.ModAbIdeal.nD Cert.ModAbIdeal.τ Cert.ModAbIdeal.sig) → Buf (Elt Ideal) ℓ)

/-- An index of the result: a batch element, a row and a column. -/
theorem result_ix (i : Cert.ModAbIdeal.S8x2304x1536.Idx) : i = ix3 (i 0) (i 1) (i 2) :=
  funext fun a => match a with
    | ⟨0, _⟩ => rfl
    | ⟨1, _⟩ => rfl
    | ⟨2, _⟩ => rfl

/-- The kernel's result array is the reference's, of the launch's arguments. -/
theorem result_eq (c : Dev Cert.ModAbIdeal.nD) :
    ModAbArray.result m c = Cert.ModAbReferenceIdeal.Read.val_main_v41 (F := Ideal)
      (m ((c : Thread Cert.ModAbIdeal.nD Cert.ModAbIdeal.τ).loc Cert.ModAbIdeal.main_arg0))
      (m ((c : Thread Cert.ModAbIdeal.nD Cert.ModAbIdeal.τ).loc Cert.ModAbIdeal.main_arg1))
      (m ((c : Thread Cert.ModAbIdeal.nD Cert.ModAbIdeal.τ).loc Cert.ModAbIdeal.main_arg2))
      (m ((c : Thread Cert.ModAbIdeal.nD Cert.ModAbIdeal.τ).loc Cert.ModAbIdeal.main_arg3)) := by
  funext i
  rw [result_ix i]
  exact (ModAbReference.result_apply _ _ _ _ (i 0) (i 1) (i 2)).symm

end Cert.Proof.ModAbEquation

end
-- ==== Proof.OutArray.lean ====
/-
  The kernel that takes the attention's heads to the stream: its result array as one function of its argument arrays, and the run that
  leaves it there.
-/
module

public import proofs.«01_k».proof.Defs
public import proofs.«01_k».proof.Proof.Gen.OutIdeal.Value
public import Idealize.ShloMosaic.Lib.Pipeline.ValueKit.Acc
public import Idealize.ShloMosaic.Lib.Pointwise

@[expose] public section

noncomputable section

namespace Cert.Proof.OutArray

open Idealize.ShloMosaic Idealize.ShloMosaic.TcCoe Idealize.SL.Sem Cert.OutIdeal Cert.OutIdeal.Gen Cert.OutIdeal.Value

/-- The product's element of batch element `b`, row `t`, column `j`. -/
def outAt (y : Vec Ideal S8x2304x1024 .f32) (w : Vec Ideal S1024x1024 .f32) (b : Fin 8) (t : Fin 2304) (j : Fin 1024) : EReal :=
  ∑ d, y (ix3 b t d) * w (ix2 d j)

/-- The batch element and the row of a row of all the batch elements' rows one under the other. -/
def batch (p : Fin 18432) : Fin 8 := ⟨p.val / 2304, by omega⟩
def place (p : Fin 18432) : Fin 2304 := ⟨p.val % 2304, by omega⟩

/-- A stored element. -/
theorem block_apply (x : Vec Ideal S1024x1024 .f32) (w : Vec Ideal S1024x1024 .bf16) (r j : Fin 1024) :
    out0_2 x w (ix2 r j) = ∑ d : Fin 1024, x (ix2 r d) * w (ix2 d j) := by
  unfold out0_2
  rw [View.canon_cons_unit_lit' _ _ _ (by decide), View.ld_unit_lit' _ x (by decide), View.ld_unit_lit' _ w (by decide)]
  unfold_payloads
  pointwise

variable (m : (ℓ : Loc nD τ sig) → Buf (Elt Ideal) ℓ) (ρ : Dev nD → PrngReg)

/-! ## The input arrays as the region finds them -/

theorem V_rows (c : Dev nD) (p : Fin 18432) (d : Fin 1024) :
    V m c main_v0 (ix2 p d) = m ((c : Thread nD τ).loc main_arg0) (ix3 (batch p) (place p) d) := by
  have e : (V m c main_v0 : Vec Ideal S18432x1024 .f32)
      = shapeCast S18432x1024 (m ((c : Thread nD τ).loc main_arg0) : Vec Ideal S8x2304x1024 .f32) shapeCasts_S8x2304x1024_S18432x1024 := by
    unfold V
    simp only [hostOps0]
    after_results_simp <;> rfl
  rw [e]
  refine shapeCast_apply _ shapeCasts_S8x2304x1024_S18432x1024 (ix2 p d) (ix3 (batch p) (place p) d) ?_
  rw [Shape.rowMajor_val_two, Shape.rowMajor_val_three]
  show (p.val / 2304 * 2304 + p.val % 2304) * 1024 + d.val = p.val * 1024 + d.val
  omega

theorem V_weights (c : Dev nD) : (V m c main_v1 : Vec Ideal S1024x1024 .bf16) = (m ((c : Thread nD τ).loc main_arg1) : Vec Ideal S1024x1024 .f32) := by
  unfold V
  simp only [hostOps0]
  after_results_simp <;> rfl

/-! ## The windows' block indices at a grid point -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

/-- A row of a grid point's block. -/
def row (t : Fin cfg0.N) (r : Fin 1024) : Fin 18432 := ⟨t.val * 1024 + r.val, by have : t.val < 18 := t.isLt; omega⟩

/-! ## The input windows' blocks, read off the argument arrays -/

theorem blk0 (c : Dev nD) (t : Fin cfg0.N) (r : Fin 1024) (d : Fin 1024) :
    iblk m c 0 t (ix2 r d) = m ((c : Thread nD τ).loc main_arg0) (ix3 (batch (row t r)) (place (row t r)) d) := by
  obtain ⟨e0, e1⟩ := idx0 t
  rw [← V_rows m c]
  refine congrArg (V m c main_v0) (funext fun a => Fin.ext ?_)
  match a with
  | ⟨0, _⟩ => show win0_0.index t (0 : Fin 2) * 1024 + 1 * r.val = t.val * 1024 + r.val; omega
  | ⟨1, _⟩ => show win0_0.index t (1 : Fin 2) * 1024 + 1 * d.val = d.val; omega

theorem blk1 (c : Dev nD) (t : Fin cfg0.N) (d : Fin 1024) (j : Fin 1024) :
    iblk m c 1 t (ix2 d j) = m ((c : Thread nD τ).loc main_arg1) (ix2 d j) := by
  obtain ⟨e0, e1⟩ := idx1 t
  refine Eq.trans ?_ (congrFun (V_weights m c) (ix2 d j))
  refine congrArg (V m c main_v1) (funext fun a => Fin.ext ?_)
  match a with
  | ⟨0, _⟩ => show win0_1.index t (0 : Fin 2) * 1024 + 1 * d.val = d.val; omega
  | ⟨1, _⟩ => show win0_1.index t (1 : Fin 2) * 1024 + 1 * j.val = j.val; omega

/-! ## The result array -/

/-- The result array of the launch's arguments. -/
def result (c : Dev nD) : Vec Ideal S18432x1024 .f32 := fun i =>
  outAt (m ((c : Thread nD τ).loc main_arg0)) (m ((c : Thread nD τ).loc main_arg1)) (batch (i 0)) (place (i 0)) (i 1)

/-- Where an element of the output's block sits in the array. -/
theorem emb2 (t : Fin cfg0.N) (r j : Fin 1024) : ((cfg0.win 2).blk t).view.emb (ix2 r j) = ix2 (row t r) j := by
  obtain ⟨e0, e1⟩ := idx2 t
  refine funext fun a => Fin.ext ?_
  match a with
  | ⟨0, _⟩ => show win0_2.index t (0 : Fin 2) * 1024 + 1 * r.val = t.val * 1024 + r.val; omega
  | ⟨1, _⟩ => show win0_2.index t (1 : Fin 2) * 1024 + 1 * j.val = j.val; omega

/-- An index of the output's block: a row and a column. -/
theorem block_ix (y : S1024x1024.Idx) : ∃ (r j : Fin 1024), y = ix2 r j :=
  ⟨y 0, y 1, funext fun a => match a with
    | ⟨0, _⟩ => rfl
    | ⟨1, _⟩ => rfl⟩

/-- What a grid point writes back is its block of the result array. -/
theorem flushed2_eq (c : Dev nD) (t : Fin cfg0.N) :
    (dats m 0 c).flushed 2 t = ((cfg0.win 2).blk t).view.read (Elt Ideal) (result m c) := by
  rw [flushed2]
  funext y
  obtain ⟨r, j, rfl⟩ := block_ix y
  refine (block_apply (iblk m c 0 t) (iblk m c 1 t) r j).trans ?_
  show _ = result m c (((cfg0.win 2).blk t).view.emb (ix2 r j))
  rw [emb2]
  exact Finset.sum_congr rfl fun d _ => congrArg₂ (fun p q : EReal => p * q) (blk0 m c t r d) (blk1 m c t d j)

/-- Every index of the result array is in some grid point's block. -/
theorem covered2 (i : S18432x1024.Idx) : ∃ t : Fin cfg0.N, (cfg0.win 2).flush t = true ∧ i ∈ ((cfg0.win 2).blk t).view.set := by
  have h0 : (i 0).val < 18432 := (i 0).isLt
  refine ⟨(⟨(i 0).val / 1024, by show _ < 18; omega⟩ : Fin cfg0.N), flush0_2 _, ?_⟩
  have h := ((cfg0.win 2).blk (⟨(i 0).val / 1024, by show _ < 18; omega⟩ : Fin cfg0.N)).view.emb_mem_set
    (ix2 (⟨(i 0).val % 1024, by omega⟩ : Fin 1024) (⟨(i 1).val, (i 1).isLt⟩ : Fin 1024))
  rw [emb2] at h
  refine (congrArg (· ∈ _) (funext fun a => Fin.ext ?_)).mpr h
  match a with
  | ⟨0, _⟩ => show (i 0).val = (i 0).val / 1024 * 1024 + (i 0).val % 1024; omega
  | ⟨1, _⟩ => rfl

/-- The run: the result array is `result` of the arguments, which end unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨(h c).1.trans ((dats m 0 c).arrAt_eq_of_cover 2 (result m c) (fun t _ => flushed2_eq m c t) covered2), (h c).2⟩)
    (run_blocks m ρ)

end Cert.Proof.OutArray

end
-- ==== Proof.OutEquation.lean ====
/-
  What the reference of the heads' last product computes, and its equality with the kernel's result.
-/
module

public import proofs.«01_k».proof.Proof.OutArray
public import proofs.«01_k».proof.Proof.Gen.OutReferenceIdeal.Run
public import proofs.«01_k».proof.Proof.Gen.OutReferenceIdeal.Read

@[expose] public section

noncomputable section

namespace Cert.Proof.OutEquation

open Idealize.ShloMosaic Idealize.ShloMosaic.TcCoe Cert.OutReferenceIdeal.Read OutArray

/-- The reference's result at a row and a column. -/
theorem reference_apply (x0 : (⟨Cert.OutReferenceIdeal.S8x2304x1024, .f32⟩ : BufTy).Contents (Elt Ideal))
    (x1 : (⟨Cert.OutReferenceIdeal.S1024x1024, .f32⟩ : BufTy).Contents (Elt Ideal)) (p : Fin 18432) (j : Fin 1024) :
    val_main_v1 (F := Ideal) x0 x1 (ix2 p j) = outAt x0 x1 (batch p) (place p) j := by
  have e : idx_main_v1 (ix2 p j) = ix3 (batch p) (place p) j := funext fun a => Fin.ext (match a with
    | ⟨0, _⟩ => by show (p.val * 1024 + j.val) / 2359296 = p.val / 2304; omega
    | ⟨1, _⟩ => by show (p.val * 1024 + j.val) / 1024 % 2304 = p.val % 2304; omega
    | ⟨2, _⟩ => by show (p.val * 1024 + j.val) % 1024 = j.val; omega)
  rw [val_main_v1_apply, e, val_main_v0_apply]
  refine Finset.sum_congr rfl fun d _ => ?_
  rw [show lidx_main_v0 (ix3 (batch p) (place p) j) d = ix3 (batch p) (place p) d from funext fun a => by fin_cases a <;> rfl,
    show ridx_main_v0 (ix3 (batch p) (place p) j) d = ix2 d j from funext fun a => by fin_cases a <;> rfl]

variable (m : (ℓ : Loc Cert.OutIdeal.nD Cert.OutIdeal.τ Cert.OutIdeal.sig) → Buf (Elt Ideal) ℓ)

/-- An index of the result: a row and a column. -/
theorem result_ix (i : Cert.OutIdeal.S18432x1024.Idx) : i = ix2 (i 0) (i 1) :=
  funext fun a => match a with
    | ⟨0, _⟩ => rfl
    | ⟨1, _⟩ => rfl

/-- The kernel's result array is the reference's, of the launch's arguments. -/
theorem result_eq (c : Dev Cert.OutIdeal.nD) :
    OutArray.result m c = val_main_v1 (F := Ideal)
      (m ((c : Thread Cert.OutIdeal.nD Cert.OutIdeal.τ).loc Cert.OutIdeal.main_arg0))
      (m ((c : Thread Cert.OutIdeal.nD Cert.OutIdeal.τ).loc Cert.OutIdeal.main_arg1)) := by
  funext i
  rw [result_ix i]
  exact (reference_apply _ _ (i 0) (i 1)).symm

end Cert.Proof.OutEquation

end
-- ==== Proof.CdOutRow.lean ====
/-
  One row of the second block's last projection over the extended reals: the two mixers' outputs, normalized head by head, and gated.
-/
module

public import proofs.«01_k».proof.Defs
public import Idealize.ShloMosaic.PureOps.Ideal
public import Idealize.ShloMosaic.Lib.Pointwise

@[expose] public section

noncomputable section

namespace Cert.Proof.CdOutRow

open Idealize.ShloMosaic

/-- The head of 64 columns a column is in, and a head's columns. -/
def head (j : Fin 512) : Fin 8 := ⟨j.val / 64, by omega⟩
def col (h : Fin 8) (e : Fin 64) : Fin 512 := ⟨64 * h.val + e.val, by omega⟩
/-- The head of 128 columns a column is in, and a head's columns. -/
def wide (j : Fin 512) : Fin 4 := ⟨j.val / 128, by omega⟩
def wcol (h : Fin 4) (e : Fin 128) : Fin 512 := ⟨128 * h.val + e.val, by omega⟩

/-- A head's sum. -/
def sum (a : Fin 512 → EReal) (h : Fin 8) : EReal := ∑ e, a (col h e)
def wsum (a : Fin 512 → EReal) (h : Fin 4) : EReal := ∑ e, a (wcol h e)

/-- The distance from the head's mean. -/
def dev (y : Fin 512 → EReal) (j : Fin 512) : EReal := y j - sum y (head j) * Ideal.ofBits FTy.f32 0x3C800000#32

/-- The head's mean of the squared distances. -/
def var (y : Fin 512 → EReal) (h : Fin 8) : EReal := sum (fun k => dev y k * dev y k) h * Ideal.ofBits FTy.f32 0x3C800000#32

/-- The first mixer's column: normalized over its head, with the bonus of the queries and keys, and gated. -/
def first (y r kf kb v g crk w b : Fin 512 → EReal) (j : Fin 512) : EReal :=
  (dev y j * Ideal.rsqrt (var y (head j) + Ideal.ofBits FTy.f32 0x3A27C5AC#32) * w j + b j
    + sum (fun k => r k * (kf k + kb k) * crk k) (head j) * v j) * g j

/-- The second mixer's column: divided by its head's root mean square, scaled and gated. -/
def second (o z n : Fin 512 → EReal) (j : Fin 512) : EReal :=
  o j * Ideal.rsqrt (wsum (fun k => o k * o k) (wide j) * Ideal.ofBits FTy.f32 0x3C000000#32 + Ideal.ofBits FTy.f32 0x358637BD#32) * n j
    * (z j * Ideal.logistic (z j))

/-- The two mixers' columns side by side. -/
def joined (p q : Fin 512 → EReal) (d : Fin 1024) : EReal :=
  if h : d.val < 512 then p ⟨d.val, h⟩ else q ⟨d.val - 512, by omega⟩

/-! ## Sums over a head through a product with ones -/

/-- Summing against the indicator of one segment out of `n` of length `s` sums the segment. -/
theorem sum_segment (n s : ℕ) (a : Fin (n * s) → EReal) (h : Fin n) :
    ∑ k, a k * (if k.val / s = h.val then 1 else 0) = ∑ e : Fin s, a (finProdFinEquiv (h, e)) := by
  rw [← finProdFinEquiv.sum_comp, Fintype.sum_prod_type]
  have hv (k : Fin n) (e : Fin s) : (finProdFinEquiv (k, e)).val / s = k.val := by
    have hs : 0 < s := e.pos
    show (e.val + s * k.val) / s = k.val
    rw [Nat.add_mul_div_left _ _ hs, Nat.div_eq_of_lt e.isLt, Nat.zero_add]
  rw [Finset.sum_eq_single h]
  · exact Finset.sum_congr rfl fun e _ => by rw [hv, if_pos rfl, mul_one]
  · intro k _ hk
    exact Finset.sum_eq_zero fun e _ => by rw [hv, if_neg (fun e => hk (Fin.ext e)), mul_zero]
  · exact fun hn => absurd (Finset.mem_univ h) hn

theorem sum_ones (a : Fin 512 → EReal) (j : Fin 512) : ∑ k : Fin 512, a k * (if k.val / 64 = j.val / 64 then 1 else 0) = sum a (head j) :=
  (sum_segment 8 64 a (head j)).trans (Finset.sum_congr rfl fun e _ => congrArg a (Fin.ext (by
    show e.val + 64 * (j.val / 64) = 64 * (j.val / 64) + e.val
    omega)))

theorem wsum_ones (a : Fin 512 → EReal) (j : Fin 512) : ∑ k : Fin 512, a k * (if k.val / 128 = j.val / 128 then 1 else 0) = wsum a (wide j) :=
  (sum_segment 4 128 a (wide j)).trans (Finset.sum_congr rfl fun e _ => congrArg a (Fin.ext (by
    show e.val + 128 * (j.val / 128) = 128 * (j.val / 128) + e.val
    omega)))

/-- What is left of a real number after taking it away adds nothing to the sum. -/
theorem split_sum (a o : Fin 512 → EReal) (ha : ∀ k, ∃ r : ℝ, a k = (r : EReal)) :
    ∑ k, a k * o k + ∑ k, (a k - a k) * o k = ∑ k, a k * o k := by
  rw [Finset.sum_eq_zero (f := fun k => (a k - a k) * o k) fun k _ => by
    obtain ⟨r, hr⟩ := ha k
    rw [hr, ← EReal.coe_sub, sub_self, EReal.coe_zero, zero_mul], add_zero]

/-! ## Real numbers stay real -/

/-- A value is a real number. -/
def Real (x : EReal) : Prop := ∃ r : ℝ, x = (r : EReal)

theorem Real.add {x y : EReal} : Real x → Real y → Real (x + y)
  | ⟨a, ha⟩, ⟨b, hb⟩ => ⟨a + b, by rw [ha, hb, EReal.coe_add]⟩

theorem Real.sub {x y : EReal} : Real x → Real y → Real (x - y)
  | ⟨a, ha⟩, ⟨b, hb⟩ => ⟨a - b, by rw [ha, hb, EReal.coe_sub]⟩

theorem Real.mul {x y : EReal} : Real x → Real y → Real (x * y)
  | ⟨a, ha⟩, ⟨b, hb⟩ => ⟨a * b, by rw [ha, hb, EReal.coe_mul]⟩

theorem Real.sum {ι : Type} (s : Finset ι) (f : ι → EReal) (h : ∀ i, Real (f i)) : Real (∑ i ∈ s, f i) := by
  classical
  induction s using Finset.induction_on with
  | empty => exact ⟨0, by simp⟩
  | insert a t ha ih => rw [Finset.sum_insert ha]; exact (h a).add ih

theorem sixtyfourth : Ideal.ofBits FTy.f32 0x3C800000#32 = ((1 / 64 : ℝ) : EReal) := by
  simp [Ideal.ofBits, Ideal.ieee]
  rw [← EReal.coe_mul]
  congr 1
  norm_num

theorem hundred_twentyeighth : Ideal.ofBits FTy.f32 0x3C000000#32 = ((1 / 128 : ℝ) : EReal) := by
  simp [Ideal.ofBits, Ideal.ieee]
  rw [← EReal.coe_mul]
  congr 1
  norm_num

theorem real_dev (y : Fin 512 → EReal) (hy : ∀ k, Real (y k)) (j : Fin 512) : Real (dev y j) :=
  (hy j).sub ((Real.sum _ _ fun _ => hy _).mul ⟨_, sixtyfourth⟩)

end Cert.Proof.CdOutRow

end
-- ==== Proof.CdOutBlock.lean ====
/-
  What one grid point of the second block's last projection stores, row by row.
-/
module

public import proofs.«01_k».proof.Proof.CdOutRow
public import proofs.«01_k».proof.Proof.Gen.CdOutIdeal.Value
public import Idealize.ShloMosaic.Lib.Pipeline.ValueKit.Acc
public import Idealize.ShloMosaic.Lib.Pointwise
public import Idealize.ShloMosaic.Lib.IdealHost
public import Idealize.ShloMosaic.Lib.KernelVsHost

@[expose] public section

noncomputable section

namespace Cert.Proof.CdOutBlock

open Idealize.ShloMosaic Cert.CdOutIdeal Cert.CdOutIdeal.Gen CdOutRow

/-! ## The matrices of ones -/

/-- The head of 64 columns a row number of the matrix of ones is in. -/
theorem rows64 (k j : Fin 512) : k0_pay2 (ix2 k j) = BitVec.ofNat 32 (k.val / 64) := by
  have h : ∀ k : Fin 512, k0_pay2 (ix2 k (0 : Fin 512)) = BitVec.ofNat 32 (k.val / 64) := by
    unfold k0_pay2
    decide +kernel
  exact h k

/-- The head of 64 columns a column number of the matrix of ones is in. -/
theorem cols64 (k j : Fin 512) : select (andi k0_pay4 (cmpi .ne k0_pay5 k0_pay6)) (subi k0_pay3 (broadcast S512x512 1#32)) k0_pay3 (ix2 k j)
    = BitVec.ofNat 32 (j.val / 64) := by
  have h : ∀ j : Fin 512, select (andi k0_pay4 (cmpi .ne k0_pay5 k0_pay6)) (subi k0_pay3 (broadcast S512x512 1#32)) k0_pay3
      (ix2 (0 : Fin 512) j) = BitVec.ofNat 32 (j.val / 64) := by
    unfold k0_pay4 k0_pay5 k0_pay6 k0_pay3
    decide +kernel
  exact h j

theorem rows128 (k j : Fin 512) : k0_pay8 (ix2 k j) = BitVec.ofNat 32 (k.val / 128) := by
  have h : ∀ k : Fin 512, k0_pay8 (ix2 k (0 : Fin 512)) = BitVec.ofNat 32 (k.val / 128) := by
    unfold k0_pay8
    decide +kernel
  exact h k

/-- The column numbers' comparison with zero and remainder that the second matrix of ones is selected with. -/
def uneven : IVec S512x512 1 :=
  andi (cmpi .ne k0_pay10 (broadcast S512x512 (Scalar.subi (Scalar.extui (Scalar.cmpi .sgt 128#32 0#32)) (Scalar.extui (Scalar.cmpi .slt 128#32 0#32)))))
    (cmpi .ne (remsi (iota .tc S512x512 32 [1] iota_S512x512_d1_w32) (broadcast S512x512 128#32)) (broadcast S512x512 0#32))

theorem cols128 (k j : Fin 512) : select uneven (subi k0_pay9 (broadcast S512x512 1#32)) k0_pay9 (ix2 k j) = BitVec.ofNat 32 (j.val / 128) := by
  have h : ∀ j : Fin 512, select uneven (subi k0_pay9 (broadcast S512x512 1#32)) k0_pay9 (ix2 (0 : Fin 512) j)
      = BitVec.ofNat 32 (j.val / 128) := by
    unfold uneven k0_pay9 k0_pay10
    decide +kernel
  exact h j

/-- One where two small numbers agree, zero elsewhere. -/
theorem one_where (a b : ℕ) (ha : a < 512) (hb : b < 512) :
    Scalar.select (IntOp.cmpi .eq (BitVec.ofNat 32 a) (BitVec.ofNat 32 b)) (Ideal.ofBits FTy.f32 0x3F800000#32) (Ideal.ofBits FTy.f32 0x00000000#32)
      = (if a = b then (1 : EReal) else 0) := by
  have h : BitVec.ofNat 32 a = BitVec.ofNat 32 b ↔ a = b := by
    constructor
    · intro e
      have := congrArg BitVec.toNat e
      simp only [BitVec.toNat_ofNat] at this
      omega
    · exact fun e => by rw [e]
  by_cases e : a = b
  · rw [Scalar.select, if_pos (show _ = (1 : BitVec 1) from IntOp.cmpi_eq.mpr (h.mpr e)), if_pos e, Ideal.ofBits_one_f32]
  · rw [Scalar.select, if_neg (fun k : _ = (1 : BitVec 1) => e (h.mp (IntOp.cmpi_eq.mp k))), if_neg e, Ideal.ofBits_zero_f32]

/-- The matrix of ones within the heads of 64 columns. -/
theorem ones64 (k j : Fin 512) : k0_pay7 (F := Ideal) k0_pay2 k0_pay3 k0_pay4 k0_pay5 k0_pay6 (ix2 k j)
    = (if k.val / 64 = j.val / 64 then (1 : EReal) else 0) := by
  have e : k0_pay7 (F := Ideal) k0_pay2 k0_pay3 k0_pay4 k0_pay5 k0_pay6 (ix2 k j)
      = Scalar.select (IntOp.cmpi .eq (k0_pay2 (ix2 k j))
          (select (andi k0_pay4 (cmpi .ne k0_pay5 k0_pay6)) (subi k0_pay3 (broadcast S512x512 1#32)) k0_pay3 (ix2 k j)))
          (Ideal.ofBits FTy.f32 0x3F800000#32) (Ideal.ofBits FTy.f32 0x00000000#32) := by
    unfold k0_pay7
    rfl
  rw [e, rows64, cols64]
  exact one_where _ _ (by omega) (by omega)

/-- The matrix of ones within the heads of 128 columns. -/
theorem ones128 (k j : Fin 512) :
    k0_pay11 (F := Ideal) (iota .tc S512x512 32 [1] iota_S512x512_d1_w32) k0_pay8 128#32 k0_pay9 k0_pay10 (Scalar.cmpi .sgt 128#32 0#32) (ix2 k j)
      = (if k.val / 128 = j.val / 128 then (1 : EReal) else 0) := by
  have e : k0_pay11 (F := Ideal) (iota .tc S512x512 32 [1] iota_S512x512_d1_w32) k0_pay8 128#32 k0_pay9 k0_pay10 (Scalar.cmpi .sgt 128#32 0#32) (ix2 k j)
      = Scalar.select (IntOp.cmpi .eq (k0_pay8 (ix2 k j)) (select uneven (subi k0_pay9 (broadcast S512x512 1#32)) k0_pay9 (ix2 k j)))
          (Ideal.ofBits FTy.f32 0x3F800000#32) (Ideal.ofBits FTy.f32 0x00000000#32) := by
    unfold k0_pay11
    rfl
  rw [e, rows128, cols128]
  exact one_where _ _ (by omega) (by omega)

/-! ## The first mixer's columns -/

/-- A row of a block. -/
abbrev row (x : Vec Ideal S1x256x512 .f32) (r : Fin 256) (j : Fin 512) : EReal := x (ix3 (0 : Fin 1) r j)
abbrev line (x : Vec Ideal S1x512 .f32) (j : Fin 512) : EReal := x (ix2 (0 : Fin 1) j)

variable (o : FVec Ideal S512x512 .bf16)

theorem dev_apply (ho : ∀ k j : Fin 512, o (ix2 k j) = (if k.val / 64 = j.val / 64 then (1 : EReal) else 0)) (x y : Vec Ideal S1x256x512 .f32)
    (r : Fin 256) (hx : ∀ k, Real (row x r k)) (hy : ∀ k, Real (row y r k)) (j : Fin 512) :
    k0_pay12 o x y (ix2 r j) = dev (fun k => row x r k + row y r k) j := by
  have e : k0_pay12 o x y (ix2 r j) = (row x r j + row y r j)
      - (∑ k : Fin 512, (row x r k + row y r k) * o (ix2 k j)
        + ∑ k : Fin 512, ((row x r k + row y r k) - (row x r k + row y r k)) * o (ix2 k j)) * Ideal.ofBits FTy.f32 0x3C800000#32 := by
    unfold k0_pay12
    pointwise
  rw [e, split_sum _ (fun k => o (ix2 k j)) fun k => (hx k).add (hy k)]
  simp only [ho, sum_ones (fun k => row x r k + row y r k) j]
  rfl

theorem square_apply (ho : ∀ k j : Fin 512, o (ix2 k j) = (if k.val / 64 = j.val / 64 then (1 : EReal) else 0)) (x y : Vec Ideal S1x256x512 .f32)
    (r : Fin 256) (hx : ∀ k, Real (row x r k)) (hy : ∀ k, Real (row y r k)) (j : Fin 512) :
    k0_pay13 o x y (ix2 r j) = sum (fun k => dev (fun k => row x r k + row y r k) k * dev (fun k => row x r k + row y r k) k) (head j) := by
  have e : k0_pay13 o x y (ix2 r j) = ∑ k : Fin 512, (k0_pay12 o x y (ix2 r k) * k0_pay12 o x y (ix2 r k)) * o (ix2 k j)
        + ∑ k : Fin 512, (k0_pay12 o x y (ix2 r k) * k0_pay12 o x y (ix2 r k) - k0_pay12 o x y (ix2 r k) * k0_pay12 o x y (ix2 r k)) * o (ix2 k j) := by
    unfold k0_pay13
    generalize k0_pay12 o x y = d
    pointwise
  have hr := fun k => real_dev _ (fun k => (hx k).add (hy k)) k
  simp only [e, dev_apply o ho x y r hx hy]
  rw [split_sum (fun k => dev (fun k => row x r k + row y r k) k * dev (fun k => row x r k + row y r k) k) (fun k => o (ix2 k j))
    fun k => (hr k).mul (hr k)]
  simp only [ho, sum_ones (fun k => dev (fun k => row x r k + row y r k) k * dev (fun k => row x r k + row y r k) k) j]

theorem normed_apply (ho : ∀ k j : Fin 512, o (ix2 k j) = (if k.val / 64 = j.val / 64 then (1 : EReal) else 0))
    (d s : FVec Ideal S256x512 .f32) (w b : Vec Ideal S1x512 .f32) (q kf kb : Vec Ideal S1x256x512 .f32) (crk : Vec Ideal S1x512 .f32)
    (v : Vec Ideal S1x256x512 .f32) (r : Fin 256) (hq : ∀ k, Real (row q r k)) (hf : ∀ k, Real (row kf r k)) (hb : ∀ k, Real (row kb r k))
    (hc : ∀ k, Real (line crk k)) (j : Fin 512) :
    k0_pay15 o d s k0_pay14 w b q kf kb crk v (ix2 r j)
      = d (ix2 r j) * Ideal.rsqrt (s (ix2 r j) * Ideal.ofBits FTy.f32 0x3C800000#32 + Ideal.ofBits FTy.f32 0x3A27C5AC#32) * line w j + line b j
        + sum (fun k => row q r k * (row kf r k + row kb r k) * line crk k) (head j) * row v r j := by
  have e : k0_pay15 o d s k0_pay14 w b q kf kb crk v (ix2 r j)
      = d (ix2 r j) * Ideal.rsqrt (s (ix2 r j) * Ideal.ofBits FTy.f32 0x3C800000#32 + Ideal.ofBits FTy.f32 0x3A27C5AC#32) * line w j + line b j
        + (∑ k : Fin 512, (row q r k * (row kf r k + row kb r k) * line crk k) * o (ix2 k j)
          + ∑ k : Fin 512, (row q r k * (row kf r k + row kb r k) * line crk k - row q r k * (row kf r k + row kb r k) * line crk k) * o (ix2 k j))
          * row v r j := by
    unfold k0_pay15 k0_pay14
    pointwise
  rw [e, split_sum _ (fun k => o (ix2 k j)) fun k => ((hq k).mul ((hf k).add (hb k))).mul (hc k)]
  simp only [ho, sum_ones (fun k => row q r k * (row kf r k + row kb r k) * line crk k) j]

/-! ## The two mixers' columns side by side -/

theorem left_apply (p q : FVec Ideal S256x512 .f32) (r : Fin 256) (d : Fin 1024) (h : d.val < 512) :
    (truncf .bf16 (concatenate S256x1024 1 [⟨S256x512, p⟩, ⟨S256x512, q⟩] concatenates_S256x512_S256x512_S256x1024_d1) bitsLt_bf16_f32
      : FVec Ideal S256x1024 .bf16) (ix2 r d) = p (ix2 r (⟨d.val, h⟩ : Fin 512)) :=
  concatenate_pair_apply_left (s₁ := S256x512) (s₂ := S256x512) (t := S256x1024) (1 : Fin 2) p q concatenates_S256x512_S256x512_S256x1024_d1 (ix2 r d) rfl (ix2 r (⟨d.val, h⟩ : Fin 512))
    (fun a => match a with
      | ⟨0, _⟩ => rfl
      | ⟨1, _⟩ => rfl)

theorem right_apply (p q : FVec Ideal S256x512 .f32) (r : Fin 256) (d : Fin 1024) (j : Fin 512) (h : j.val + 512 = d.val) :
    (truncf .bf16 (concatenate S256x1024 1 [⟨S256x512, p⟩, ⟨S256x512, q⟩] concatenates_S256x512_S256x512_S256x1024_d1) bitsLt_bf16_f32
      : FVec Ideal S256x1024 .bf16) (ix2 r d) = q (ix2 r j) :=
  concatenate_pair_apply_right (s₁ := S256x512) (s₂ := S256x512) (t := S256x1024) (1 : Fin 2) p q concatenates_S256x512_S256x512_S256x1024_d1 (ix2 r d) rfl rfl
    (ix2 r j) (fun a ha => match a, ha with
      | ⟨0, _⟩, _ => rfl
      | ⟨1, _⟩, ha => absurd rfl ha) h

theorem joined_apply (ho : ∀ k j : Fin 512, o (ix2 k j) = (if k.val / 128 = j.val / 128 then (1 : EReal) else 0))
    (p : FVec Ideal S256x512 .f32) (g x y z : Vec Ideal S1x256x512 .f32) (n : Vec Ideal S1x512 .f32) (r : Fin 256)
    (hx : ∀ k, Real (row x r k)) (hy : ∀ k, Real (row y r k)) (d : Fin 1024) :
    k0_pay16 o p g x y z n (ix2 r d)
      = joined (fun j => p (ix2 r j) * row g r j) (second (fun k => row x r k + row y r k) (row z r) (line n)) d := by
  unfold joined
  by_cases h : d.val < 512
  · rw [dif_pos h]
    have e : k0_pay16 o p g x y z n (ix2 r d) = p (ix2 r (⟨d.val, h⟩ : Fin 512)) * row g r ⟨d.val, h⟩ := by
      unfold k0_pay16
      refine (left_apply _ _ r d h).trans ?_
      pointwise
    exact e
  · rw [dif_neg h]
    obtain ⟨j, hj⟩ : ∃ j : Fin 512, j = ⟨d.val - 512, by omega⟩ := ⟨_, rfl⟩
    rw [← hj]
    have e : k0_pay16 o p g x y z n (ix2 r d) = (row x r j + row y r j)
        * Ideal.rsqrt ((∑ k : Fin 512, ((row x r k + row y r k) * (row x r k + row y r k)) * o (ix2 k j)
          + ∑ k : Fin 512, ((row x r k + row y r k) * (row x r k + row y r k) - (row x r k + row y r k) * (row x r k + row y r k)) * o (ix2 k j))
          * Ideal.ofBits FTy.f32 0x3C000000#32 + Ideal.ofBits FTy.f32 0x358637BD#32) * line n j * (row z r j * Ideal.logistic (row z r j)) := by
      unfold k0_pay16
      refine (right_apply _ _ r d j (by rw [hj]; show d.val - 512 + 512 = d.val; omega)).trans ?_
      pointwise
    rw [e, split_sum _ (fun k => o (ix2 k j)) fun k => ((hx k).add (hy k)).mul ((hx k).add (hy k))]
    simp only [ho, wsum_ones (fun k => (row x r k + row y r k) * (row x r k + row y r k)) j]
    rfl

/-! ## The stored block -/

theorem ld_rows (x : Vec Ideal S1x256x512 .f32) : View.ld x r0_0 = x := View.ld_unit_lit' _ x (by decide)
theorem ld_line (x : Vec Ideal S1x512 .f32) : View.ld x r0_1 = x := View.ld_unit_lit' _ x (by decide)

/-- The stored element of a row and a column. -/
theorem block_apply (x0 x1 x2 x3 x4 x5 x6 x7 x8 x9 : Vec Ideal S1x256x512 .f32) (x10 : Vec Ideal S1x256x1024 .f32) (x11 : Vec Ideal S1x1x1x1024 .f32)
    (x12 x13 x14 x15 : Vec Ideal S1x512 .f32) (x16 : Vec Ideal S1024x1024 .bf16) (r : Fin 256) (j : Fin 1024)
    (h0 : ∀ k, Real (row x0 r k)) (h1 : ∀ k, Real (row x1 r k)) (h2 : ∀ k, Real (row x2 r k)) (h3 : ∀ k, Real (row x3 r k))
    (h4 : ∀ k, Real (row x4 r k)) (h7 : ∀ k, Real (row x7 r k)) (h8 : ∀ k, Real (row x8 r k)) (h12 : ∀ k, Real (line x12 k)) :
    out0_17 x0 x1 x2 x3 x4 x5 x6 x7 x8 x9 x10 x11 x12 x13 x14 x15 x16 (ix3 (0 : Fin 1) r j)
      = x10 (ix3 (0 : Fin 1) r j) + x11 (ix4 (0 : Fin 1) (0 : Fin 1) (0 : Fin 1) j)
        * ∑ d : Fin 1024, joined (first (fun k => row x0 r k + row x1 r k) (row x2 r) (row x3 r) (row x4 r) (row x5 r) (row x6 r) (line x12) (line x13) (line x14))
            (second (fun k => row x7 r k + row x8 r k) (row x9 r) (line x15)) d * x16 (ix2 d j) := by
  unfold out0_17 k0_pay19
  rw [View.canon_cons_unit_lit' _ _ _ (by decide)]
  rw [ld_rows, ld_rows, ld_rows, ld_rows, ld_rows, ld_rows, ld_rows, ld_rows, ld_rows, ld_rows, ld_line, ld_line, ld_line, ld_line,
    View.ld_unit_lit' _ x10 (by decide), View.ld_unit_lit' _ x11 (by decide), View.ld_unit_lit' _ x16 (by decide)]
  have e (p : FVec Ideal S256x1024 .bf16) : k0_pay1 p (k0_pay17 x10) (k0_pay18 x11) x16 (ix3 (0 : Fin 1) r j)
      = x10 (ix3 (0 : Fin 1) r j) + x11 (ix4 (0 : Fin 1) (0 : Fin 1) (0 : Fin 1) j) * ∑ d : Fin 1024, p (ix2 r d) * x16 (ix2 d j) := by
    unfold k0_pay1 k0_pay17 k0_pay18
    pointwise
  rw [e]
  refine congrArg (fun s : EReal => x10 (ix3 (0 : Fin 1) r j) + x11 (ix4 (0 : Fin 1) (0 : Fin 1) (0 : Fin 1) j) * s) (Finset.sum_congr rfl fun d _ =>
    congrArg (fun p : EReal => p * x16 (ix2 d j)) ?_)
  rw [joined_apply _ ones128 _ _ _ _ _ _ r h7 h8]
  refine congrArg (fun f => joined f _ d) (funext fun k => ?_)
  rw [normed_apply _ ones64 _ _ _ _ _ _ _ _ _ r h2 h3 h4 h12, dev_apply _ ones64 _ _ r h0 h1, square_apply _ ones64 _ _ r h0 h1]
  rfl

end Cert.Proof.CdOutBlock

end
-- ==== Proof.CdOutArray.lean ====
/-
  The second block's last projection: its result array as one function of its argument arrays, and the run that leaves it there.
-/
module

public import proofs.«01_k».proof.Proof.CdOutBlock

@[expose] public section

noncomputable section

namespace Cert.Proof.CdOutArray

open Idealize.ShloMosaic Idealize.ShloMosaic.TcCoe Idealize.SL.Sem Cert.CdOutIdeal Cert.CdOutIdeal.Gen Cert.CdOutIdeal.Value CdOutRow

/-- An output row's place among all the rows: the projection reads the rows after the first 256. -/
def late (t : Fin 2048) : Fin 2304 := ⟨256 + t.val, by omega⟩
/-- A column's place in its head of 64 columns and in its head of 128. -/
def within (j : Fin 512) : Fin 64 := ⟨j.val % 64, by omega⟩
def wwithin (j : Fin 512) : Fin 128 := ⟨j.val % 128, by omega⟩

/-- A row of one batch element. -/
def rowOf (x : Vec Ideal S8x2304x512 .f32) (b : Fin 8) (t : Fin 2048) (k : Fin 512) : EReal := x (ix3 b (late t) k)

/-- The two mixers' columns of one row, out of the argument arrays. -/
def mixed (yf yb r kf kb v g of ob z : Vec Ideal S8x2304x512 .f32) (crk : Vec Ideal S8x64 .f32) (w s : Vec Ideal S512 .f32) (n : Vec Ideal S128 .f32)
    (b : Fin 8) (t : Fin 2048) : Fin 1024 → EReal :=
  joined (first (fun k => rowOf yf b t k + rowOf yb b t k) (rowOf r b t) (rowOf kf b t) (rowOf kb b t) (rowOf v b t) (rowOf g b t)
      (fun k => crk (ix2 (head k) (within k))) (fun k => w (ix1 k)) (fun k => s (ix1 k)))
    (second (fun k => rowOf of b t k + rowOf ob b t k) (rowOf z b t) (fun k => n (ix1 (wwithin k))))

/-- The stored element: the stream's row and the gated projection of the mixers' columns. -/
def outAt (x : Vec Ideal S8x2304x1024 .f32) (gate : Vec Ideal S8x2x1024 .f32) (wo : Vec Ideal S1024x1024 .f32) (a : Fin 8 → Fin 2048 → Fin 1024 → EReal)
    (b : Fin 8) (t : Fin 2048) (j : Fin 1024) : EReal :=
  x (ix3 b (late t) j) + gate (ix3 b (1 : Fin 2) j) * ∑ d : Fin 1024, a b t d * wo (ix2 d j)

variable (m : (ℓ : Loc nD τ sig) → Buf (Elt Ideal) ℓ) (ρ : Dev nD → PrngReg)

/-! ## The input arrays as the region finds them -/

theorem V_bonus (c : Dev nD) (k : Fin 512) : V m c main_v0 (ix2 (0 : Fin 1) k) = m ((c : Thread nD τ).loc main_arg12) (ix2 (head k) (within k)) := by
  have e : (V m c main_v0 : Vec Ideal S1x512 .f32) = shapeCast S1x512 (m ((c : Thread nD τ).loc main_arg12) : Vec Ideal S8x64 .f32) shapeCasts_S8x64_S1x512 := by
    unfold V
    simp only [hostOps0]
    after_results_simp <;> rfl
  rw [e]
  refine shapeCast_apply _ shapeCasts_S8x64_S1x512 (ix2 (0 : Fin 1) k) (ix2 (head k) (within k)) ?_
  rw [Shape.rowMajor_val_two, Shape.rowMajor_val_two]
  show k.val / 64 * 64 + k.val % 64 = 0 * 512 + k.val
  omega

/-- A vector of 512 numbers laid out as one row. -/
theorem laid (x : Vec Ideal S512 .f32) (k : Fin 512) : shapeCast S1x512 x shapeCasts_S512_S1x512 (ix2 (0 : Fin 1) k) = x (ix1 k) := by
  refine shapeCast_apply _ shapeCasts_S512_S1x512 (ix2 (0 : Fin 1) k) (ix1 k) ?_
  rw [Shape.rowMajor_val_two, Shape.rowMajor_val_one]
  show k.val = 0 * 512 + k.val
  omega

theorem V_weight (c : Dev nD) (k : Fin 512) : V m c main_v1 (ix2 (0 : Fin 1) k) = m ((c : Thread nD τ).loc main_arg13) (ix1 k) := by
  have e : (V m c main_v1 : Vec Ideal S1x512 .f32) = shapeCast S1x512 (m ((c : Thread nD τ).loc main_arg13) : Vec Ideal S512 .f32) shapeCasts_S512_S1x512 := by
    unfold V
    simp only [hostOps0]
    after_results_simp <;> rfl
  rw [e]
  exact laid _ k

theorem V_shift (c : Dev nD) (k : Fin 512) : V m c main_v2 (ix2 (0 : Fin 1) k) = m ((c : Thread nD τ).loc main_arg14) (ix1 k) := by
  have e : (V m c main_v2 : Vec Ideal S1x512 .f32) = shapeCast S1x512 (m ((c : Thread nD τ).loc main_arg14) : Vec Ideal S512 .f32) shapeCasts_S512_S1x512 := by
    unfold V
    simp only [hostOps0]
    after_results_simp <;> rfl
  rw [e]
  exact laid _ k

/-- The second mixer's gain, one copy per head. -/
theorem V_gain (c : Dev nD) (k : Fin 512) : V m c main_v6 (ix2 (0 : Fin 1) k) = m ((c : Thread nD τ).loc main_arg15) (ix1 (wwithin k)) := by
  have e : (V m c main_v6 : Vec Ideal S1x512 .f32) = shapeCast S1x512 (shapeCast S512 (broadcastInDim S4x128 ![0, 1] bcast_S1x128_S4x128_0_1
      (shapeCast S1x128 (m ((c : Thread nD τ).loc main_arg15) : Vec Ideal S128 .f32) shapeCasts_S128_S1x128)) shapeCasts_S4x128_S512) shapeCasts_S512_S1x512 := by
    unfold V
    simp only [hostOps0]
    after_results_simp <;> rfl
  rw [e]
  refine (laid _ k).trans ?_
  refine (shapeCast_apply _ shapeCasts_S4x128_S512 (ix1 k) (ix2 (wide k) (wwithin k)) ?_).trans ?_
  · rw [Shape.rowMajor_val_two, Shape.rowMajor_val_one]
    show k.val / 128 * 128 + k.val % 128 = k.val
    omega
  refine (broadcastInDim_apply _ bcast_S1x128_S4x128_0_1 _ (ix2 (wide k) (wwithin k)) (ix2 (0 : Fin 1) (wwithin k)) (fun a => match a with
    | ⟨0, _⟩ => rfl
    | ⟨1, _⟩ => rfl)).trans ?_
  refine shapeCast_apply _ shapeCasts_S128_S1x128 (ix2 (0 : Fin 1) (wwithin k)) (ix1 (wwithin k)) ?_
  rw [Shape.rowMajor_val_two, Shape.rowMajor_val_one]
  show k.val % 128 = 0 * 128 + k.val % 128
  omega

theorem V_gate (c : Dev nD) (b : Fin 8) (k : Fin 2) (d : Fin 1024) :
    V m c main_v7 (ix4 b k (0 : Fin 1) d) = m ((c : Thread nD τ).loc main_arg1) (ix3 b k d) := by
  have e : (V m c main_v7 : Vec Ideal S8x2x1x1024 .f32)
      = shapeCast S8x2x1x1024 (m ((c : Thread nD τ).loc main_arg1) : Vec Ideal S8x2x1024 .f32) shapeCasts_S8x2x1024_S8x2x1x1024 := by
    unfold V
    simp only [hostOps0]
    after_results_simp <;> rfl
  rw [e]
  refine shapeCast_apply _ shapeCasts_S8x2x1024_S8x2x1x1024 (ix4 b k (0 : Fin 1) d) (ix3 b k d) ?_
  rw [Shape.rowMajor_val_three, Shape.rowMajor_val_four]
  show (b.val * 2 + k.val) * 1024 + d.val = ((b.val * 2 + k.val) * 1 + 0) * 1024 + d.val
  omega

theorem V_project (c : Dev nD) : (V m c main_v8 : Vec Ideal S1024x1024 .bf16) = (m ((c : Thread nD τ).loc main_arg16) : Vec Ideal S1024x1024 .f32) := by
  unfold V
  simp only [hostOps0]
  after_results_simp <;> rfl

/-! ## The windows' block indices at a grid point -/

theorem idx_rows : ∀ t : Fin cfg0.N, win0_0.index t (0 : Fin 3) = t.val / 8 ∧ win0_0.index t (1 : Fin 3) = t.val % 8 + 1 ∧ win0_0.index t (2 : Fin 3) = 0 :=
  (by decide +kernel : ∀ t : Fin grid0.N, _)
theorem idx10 : ∀ t : Fin cfg0.N, win0_10.index t (0 : Fin 3) = t.val / 8 ∧ win0_10.index t (1 : Fin 3) = t.val % 8 + 1 ∧ win0_10.index t (2 : Fin 3) = 0 :=
  (by decide +kernel : ∀ t : Fin grid0.N, _)
theorem idx11 : ∀ t : Fin cfg0.N, win0_11.index t (0 : Fin 4) = t.val / 8 ∧ win0_11.index t (1 : Fin 4) = 1 ∧ win0_11.index t (2 : Fin 4) = 0
    ∧ win0_11.index t (3 : Fin 4) = 0 :=
  (by decide +kernel : ∀ t : Fin grid0.N, _)
theorem idx_line : ∀ t : Fin cfg0.N, win0_12.index t (0 : Fin 2) = 0 ∧ win0_12.index t (1 : Fin 2) = 0 := (by decide +kernel : ∀ t : Fin grid0.N, _)
theorem idx16 : ∀ t : Fin cfg0.N, win0_16.index t (0 : Fin 2) = 0 ∧ win0_16.index t (1 : Fin 2) = 0 := (by decide +kernel : ∀ t : Fin grid0.N, _)
theorem idx17 : ∀ t : Fin cfg0.N, win0_17.index t (0 : Fin 3) = t.val / 8 ∧ win0_17.index t (1 : Fin 3) = t.val % 8 ∧ win0_17.index t (2 : Fin 3) = 0 :=
  (by decide +kernel : ∀ t : Fin grid0.N, _)

/-- A grid point's batch element, and a row of its block. -/
def batch (t : Fin cfg0.N) : Fin 8 := ⟨t.val / 8, by have : t.val < 64 := t.isLt; omega⟩
def place (t : Fin cfg0.N) (r : Fin 256) : Fin 2048 := ⟨t.val % 8 * 256 + r.val, by omega⟩

/-! ## The input windows' blocks, read off the argument arrays -/

/-- Where an element of a block of 256 rows and 512 columns sits in its array. -/
theorem rows_at (t : Fin cfg0.N) (r : Fin 256) (k : Fin 512) (i : S8x2304x512.Idx) (h0 : (i 0).val = win0_0.index t (0 : Fin 3) * 1 + 1 * 0)
    (h1 : (i 1).val = win0_0.index t (1 : Fin 3) * 256 + 1 * r.val) (h2 : (i 2).val = win0_0.index t (2 : Fin 3) * 512 + 1 * k.val) :
    i = ix3 (batch t) (late (place t r)) k := by
  obtain ⟨e0, e1, e2⟩ := idx_rows t
  refine funext fun a => Fin.ext ?_
  match a with
  | ⟨0, _⟩ => show (i 0).val = t.val / 8; omega
  | ⟨1, _⟩ => show (i 1).val = 256 + (t.val % 8 * 256 + r.val); omega
  | ⟨2, _⟩ => show (i 2).val = k.val; omega

/-- Where an element of a block of one row of 512 columns sits in its array. -/
theorem line_at (t : Fin cfg0.N) (k : Fin 512) (i : S1x512.Idx) (h1 : (i 1).val = win0_12.index t (1 : Fin 2) * 512 + 1 * k.val) :
    i = ix2 (0 : Fin 1) k := by
  obtain ⟨e0, e1⟩ := idx_line t
  refine funext fun a => Fin.ext ?_
  match a with
  | ⟨0, _⟩ => show (i 0).val = 0; have : (i 0).val < 1 := (i 0).isLt; omega
  | ⟨1, _⟩ => show (i 1).val = k.val; omega

section
variable (c : Dev nD) (t : Fin cfg0.N) (r : Fin 256) (k : Fin 512)

theorem blk0 : iblk m c 0 t (ix3 (0 : Fin 1) r k) = rowOf (m ((c : Thread nD τ).loc main_arg2)) (batch t) (place t r) k :=
  (congrArg (V m c main_arg2) (rows_at t r k _ rfl rfl rfl)).trans (congrFun (V_main_arg2 m c) _)
theorem blk1 : iblk m c 1 t (ix3 (0 : Fin 1) r k) = rowOf (m ((c : Thread nD τ).loc main_arg3)) (batch t) (place t r) k :=
  (congrArg (V m c main_arg3) (rows_at t r k _ rfl rfl rfl)).trans (congrFun (V_main_arg3 m c) _)
theorem blk2 : iblk m c 2 t (ix3 (0 : Fin 1) r k) = rowOf (m ((c : Thread nD τ).loc main_arg4)) (batch t) (place t r) k :=
  (congrArg (V m c main_arg4) (rows_at t r k _ rfl rfl rfl)).trans (congrFun (V_main_arg4 m c) _)
theorem blk3 : iblk m c 3 t (ix3 (0 : Fin 1) r k) = rowOf (m ((c : Thread nD τ).loc main_arg5)) (batch t) (place t r) k :=
  (congrArg (V m c main_arg5) (rows_at t r k _ rfl rfl rfl)).trans (congrFun (V_main_arg5 m c) _)
theorem blk4 : iblk m c 4 t (ix3 (0 : Fin 1) r k) = rowOf (m ((c : Thread nD τ).loc main_arg6)) (batch t) (place t r) k :=
  (congrArg (V m c main_arg6) (rows_at t r k _ rfl rfl rfl)).trans (congrFun (V_main_arg6 m c) _)
theorem blk5 : iblk m c 5 t (ix3 (0 : Fin 1) r k) = rowOf (m ((c : Thread nD τ).loc main_arg7)) (batch t) (place t r) k :=
  (congrArg (V m c main_arg7) (rows_at t r k _ rfl rfl rfl)).trans (congrFun (V_main_arg7 m c) _)
theorem blk6 : iblk m c 6 t (ix3 (0 : Fin 1) r k) = rowOf (m ((c : Thread nD τ).loc main_arg8)) (batch t) (place t r) k :=
  (congrArg (V m c main_arg8) (rows_at t r k _ rfl rfl rfl)).trans (congrFun (V_main_arg8 m c) _)
theorem blk7 : iblk m c 7 t (ix3 (0 : Fin 1) r k) = rowOf (m ((c : Thread nD τ).loc main_arg9)) (batch t) (place t r) k :=
  (congrArg (V m c main_arg9) (rows_at t r k _ rfl rfl rfl)).trans (congrFun (V_main_arg9 m c) _)
theorem blk8 : iblk m c 8 t (ix3 (0 : Fin 1) r k) = rowOf (m ((c : Thread nD τ).loc main_arg10)) (batch t) (place t r) k :=
  (congrArg (V m c main_arg10) (rows_at t r k _ rfl rfl rfl)).trans (congrFun (V_main_arg10 m c) _)
theorem blk9 : iblk m c 9 t (ix3 (0 : Fin 1) r k) = rowOf (m ((c : Thread nD τ).loc main_arg11)) (batch t) (place t r) k :=
  (congrArg (V m c main_arg11) (rows_at t r k _ rfl rfl rfl)).trans (congrFun (V_main_arg11 m c) _)

theorem blk12 : iblk m c 12 t (ix2 (0 : Fin 1) k) = m ((c : Thread nD τ).loc main_arg12) (ix2 (head k) (within k)) :=
  (congrArg (V m c main_v0) (line_at t k _ rfl)).trans (V_bonus m c k)
theorem blk13 : iblk m c 13 t (ix2 (0 : Fin 1) k) = m ((c : Thread nD τ).loc main_arg13) (ix1 k) :=
  (congrArg (V m c main_v1) (line_at t k _ rfl)).trans (V_weight m c k)
theorem blk14 : iblk m c 14 t (ix2 (0 : Fin 1) k) = m ((c : Thread nD τ).loc main_arg14) (ix1 k) :=
  (congrArg (V m c main_v2) (line_at t k _ rfl)).trans (V_shift m c k)
theorem blk15 : iblk m c 15 t (ix2 (0 : Fin 1) k) = m ((c : Thread nD τ).loc main_arg15) (ix1 (wwithin k)) :=
  (congrArg (V m c main_v6) (line_at t k _ rfl)).trans (V_gain m c k)

end

theorem blk10 (c : Dev nD) (t : Fin cfg0.N) (r : Fin 256) (j : Fin 1024) :
    iblk m c 10 t (ix3 (0 : Fin 1) r j) = m ((c : Thread nD τ).loc main_arg0) (ix3 (batch t) (late (place t r)) j) := by
  obtain ⟨e0, e1, e2⟩ := idx10 t
  refine Eq.trans ?_ (congrFun (V_main_arg0 m c) (ix3 (batch t) (late (place t r)) j))
  refine congrArg (V m c main_arg0) (funext fun a => Fin.ext ?_)
  match a with
  | ⟨0, _⟩ => show win0_10.index t (0 : Fin 3) * 1 + 1 * 0 = t.val / 8; omega
  | ⟨1, _⟩ => show win0_10.index t (1 : Fin 3) * 256 + 1 * r.val = 256 + (t.val % 8 * 256 + r.val); omega
  | ⟨2, _⟩ => show win0_10.index t (2 : Fin 3) * 1024 + 1 * j.val = j.val; omega

theorem blk11 (c : Dev nD) (t : Fin cfg0.N) (j : Fin 1024) :
    iblk m c 11 t (ix4 (0 : Fin 1) (0 : Fin 1) (0 : Fin 1) j) = m ((c : Thread nD τ).loc main_arg1) (ix3 (batch t) (1 : Fin 2) j) := by
  obtain ⟨e0, e1, e2, e3⟩ := idx11 t
  rw [← V_gate m c]
  refine congrArg (V m c main_v7) (funext fun a => Fin.ext ?_)
  match a with
  | ⟨0, _⟩ => show win0_11.index t (0 : Fin 4) * 1 + 1 * 0 = t.val / 8; omega
  | ⟨1, _⟩ => show win0_11.index t (1 : Fin 4) * 1 + 1 * 0 = 1; omega
  | ⟨2, _⟩ => show win0_11.index t (2 : Fin 4) * 1 + 1 * 0 = 0; omega
  | ⟨3, _⟩ => show win0_11.index t (3 : Fin 4) * 1024 + 1 * j.val = j.val; omega

theorem blk16 (c : Dev nD) (t : Fin cfg0.N) (d : Fin 1024) (j : Fin 1024) :
    iblk m c 16 t (ix2 d j) = m ((c : Thread nD τ).loc main_arg16) (ix2 d j) := by
  obtain ⟨e0, e1⟩ := idx16 t
  refine Eq.trans ?_ (congrFun (V_project m c) (ix2 d j))
  refine congrArg (V m c main_v8) (funext fun a => Fin.ext ?_)
  match a with
  | ⟨0, _⟩ => show win0_16.index t (0 : Fin 2) * 1024 + 1 * d.val = d.val; omega
  | ⟨1, _⟩ => show win0_16.index t (1 : Fin 2) * 1024 + 1 * j.val = j.val; omega

/-! ## The result array -/

/-- The two mixers' columns of the launch's arguments. -/
def mix (c : Dev nD) : Fin 8 → Fin 2048 → Fin 1024 → EReal :=
  mixed (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15))

/-- The result array of the launch's arguments. -/
def result (c : Dev nD) : Vec Ideal S8x2048x1024 .f32 := fun i =>
  outAt (m ((c : Thread nD τ).loc main_arg0)) (m ((c : Thread nD τ).loc main_arg1)) (m ((c : Thread nD τ).loc main_arg16)) (mix m c) (i 0) (i 1) (i 2)

/-- The arguments whose sums over a head the kernel splits are real numbers. -/
def Finite (c : Dev nD) : Prop :=
  (∀ i, Real (m ((c : Thread nD τ).loc main_arg2) i)) ∧ (∀ i, Real (m ((c : Thread nD τ).loc main_arg3) i))
    ∧ (∀ i, Real (m ((c : Thread nD τ).loc main_arg4) i)) ∧ (∀ i, Real (m ((c : Thread nD τ).loc main_arg5) i))
    ∧ (∀ i, Real (m ((c : Thread nD τ).loc main_arg6) i)) ∧ (∀ i, Real (m ((c : Thread nD τ).loc main_arg7) i))
    ∧ (∀ i, Real (m ((c : Thread nD τ).loc main_arg9) i)) ∧ (∀ i, Real (m ((c : Thread nD τ).loc main_arg10) i))
    ∧ ∀ i, Real (m ((c : Thread nD τ).loc main_arg12) i)

/-- Where an element of the output's block sits in the array. -/
theorem emb17 (t : Fin cfg0.N) (r : Fin 256) (j : Fin 1024) :
    ((cfg0.win 17).blk t).view.emb (ix3 (0 : Fin 1) r j) = ix3 (batch t) (place t r) j := by
  obtain ⟨e0, e1, e2⟩ := idx17 t
  refine funext fun a => Fin.ext ?_
  match a with
  | ⟨0, _⟩ => show win0_17.index t (0 : Fin 3) * 1 + 1 * 0 = t.val / 8; omega
  | ⟨1, _⟩ => show win0_17.index t (1 : Fin 3) * 256 + 1 * r.val = t.val % 8 * 256 + r.val; omega
  | ⟨2, _⟩ => show win0_17.index t (2 : Fin 3) * 1024 + 1 * j.val = j.val; omega

/-- An index of the output's block: a row and a column. -/
theorem block_ix (y : S1x256x1024.Idx) : ∃ (r : Fin 256) (j : Fin 1024), y = ix3 (0 : Fin 1) r j :=
  ⟨y 1, y 2, funext fun a => match a with
    | ⟨0, _⟩ => Subsingleton.elim (α := Fin 1) _ _
    | ⟨1, _⟩ => rfl
    | ⟨2, _⟩ => rfl⟩

theorem of_eq {x y : EReal} (e : x = y) (h : Real y) : Real x := e ▸ h

/-- What a grid point writes back is its block of the result array. -/
theorem flushed17_eq (c : Dev nD) (hf : Finite m c) (t : Fin cfg0.N) :
    (dats m 0 c).flushed 17 t = ((cfg0.win 17).blk t).view.read (Elt Ideal) (result m c) := by
  obtain ⟨h2, h3, h4, h5, h6, _, h9, h10, h12⟩ := hf
  rw [flushed17]
  funext y
  obtain ⟨r, j, rfl⟩ := block_ix y
  refine (CdOutBlock.block_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t) (iblk m c 15 t)
    (iblk m c 16 t) r j
    (fun k => of_eq (blk0 m c t r k) (h2 _)) (fun k => of_eq (blk1 m c t r k) (h3 _)) (fun k => of_eq (blk2 m c t r k) (h4 _))
    (fun k => of_eq (blk3 m c t r k) (h5 _)) (fun k => of_eq (blk4 m c t r k) (h6 _)) (fun k => of_eq (blk7 m c t r k) (h9 _))
    (fun k => of_eq (blk8 m c t r k) (h10 _)) (fun k => of_eq (blk12 m c t k) (h12 _))).trans ?_
  show _ = result m c (((cfg0.win 17).blk t).view.emb (ix3 (0 : Fin 1) r j))
  rw [emb17]
  refine congrArg₂ (fun p q : EReal => p + q) (blk10 m c t r j) (congrArg₂ (fun p q : EReal => p * q) (blk11 m c t j)
    (Finset.sum_congr rfl fun d _ => congrArg₂ (fun p q : EReal => p * q) ?_ (blk16 m c t d j)))
  rw [show CdOutBlock.row (iblk m c 0 t) r = _ from funext (blk0 m c t r), show CdOutBlock.row (iblk m c 1 t) r = _ from funext (blk1 m c t r),
    show CdOutBlock.row (iblk m c 2 t) r = _ from funext (blk2 m c t r), show CdOutBlock.row (iblk m c 3 t) r = _ from funext (blk3 m c t r),
    show CdOutBlock.row (iblk m c 4 t) r = _ from funext (blk4 m c t r), show CdOutBlock.row (iblk m c 5 t) r = _ from funext (blk5 m c t r),
    show CdOutBlock.row (iblk m c 6 t) r = _ from funext (blk6 m c t r), show CdOutBlock.row (iblk m c 7 t) r = _ from funext (blk7 m c t r),
    show CdOutBlock.row (iblk m c 8 t) r = _ from funext (blk8 m c t r), show CdOutBlock.row (iblk m c 9 t) r = _ from funext (blk9 m c t r),
    show CdOutBlock.line (iblk m c 12 t) = _ from funext (blk12 m c t), show CdOutBlock.line (iblk m c 13 t) = _ from funext (blk13 m c t),
    show CdOutBlock.line (iblk m c 14 t) = _ from funext (blk14 m c t), show CdOutBlock.line (iblk m c 15 t) = _ from funext (blk15 m c t)]
  rfl

/-- Every index of the result array is in some grid point's block. -/
theorem covered17 (i : S8x2048x1024.Idx) : ∃ t : Fin cfg0.N, (cfg0.win 17).flush t = true ∧ i ∈ ((cfg0.win 17).blk t).view.set := by
  have h0 : (i 0).val < 8 := (i 0).isLt
  have h1 : (i 1).val < 2048 := (i 1).isLt
  obtain ⟨t, ht⟩ : ∃ t : Fin cfg0.N, t.val = (i 0).val * 8 + (i 1).val / 256 := ⟨⟨(i 0).val * 8 + (i 1).val / 256, by show _ < 64; omega⟩, rfl⟩
  refine ⟨t, flush0_17 t, ?_⟩
  have h := ((cfg0.win 17).blk t).view.emb_mem_set (ix3 (0 : Fin 1) (⟨(i 1).val % 256, by omega⟩ : Fin 256) (⟨(i 2).val, (i 2).isLt⟩ : Fin 1024))
  rw [emb17] at h
  refine (congrArg (· ∈ _) (funext fun a => Fin.ext ?_)).mpr h
  match a with
  | ⟨0, _⟩ => show (i 0).val = t.val / 8; omega
  | ⟨1, _⟩ => show (i 1).val = t.val % 8 * 256 + (i 1).val % 256; omega
  | ⟨2, _⟩ => rfl

/-- The run: the result array is `result` of the arguments, which end unchanged. -/
theorem run (hf : ∀ c, Finite m c) : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c =>
    ⟨(h c).1.trans ((dats m 0 c).arrAt_eq_of_cover 17 (result m c) (fun t _ => flushed17_eq m c (hf c) t) covered17), (h c).2⟩)
    (run_blocks m ρ)

end Cert.Proof.CdOutArray

end
-- ==== Proof.CdOutReference.lean ====
/-
  What the reference's last projection of the second block computes, at one element of its result.
-/
module

public import proofs.«01_k».proof.Proof.CdOutArray
public import proofs.«01_k».proof.Proof.Gen.CdOutReferenceIdeal.Run
public import proofs.«01_k».proof.Proof.Gen.CdOutReferenceIdeal.Read
public import Idealize.ShloMosaic.Lib.Pointwise
public import Idealize.ShloMosaic.Lib.KernelVsHost

@[expose] public section

noncomputable section

namespace Cert.Proof.CdOutReference

open Idealize.ShloMosaic Cert.CdOutReferenceIdeal Cert.CdOutReferenceIdeal.Gen Cert.CdOutReferenceIdeal.Read CdOutRow CdOutArray

/-! ## Heads and columns -/

theorem head_col (h : Fin 8) (e : Fin 64) : head (col h e) = h := Fin.ext (by show (64 * h.val + e.val) / 64 = h.val; omega)
theorem within_col (h : Fin 8) (e : Fin 64) : within (col h e) = e := Fin.ext (by show (64 * h.val + e.val) % 64 = e.val; omega)
theorem col_head (j : Fin 512) : col (head j) (within j) = j := Fin.ext (by show 64 * (j.val / 64) + j.val % 64 = j.val; omega)
theorem wide_wcol (h : Fin 4) (e : Fin 128) : wide (wcol h e) = h := Fin.ext (by show (128 * h.val + e.val) / 128 = h.val; omega)
theorem wcol_wide (j : Fin 512) : wcol (wide j) (wwithin j) = j := Fin.ext (by show 128 * (j.val / 128) + j.val % 128 = j.val; omega)

/-- Dividing by 64 or by 128 is multiplying with the inverse. -/
theorem div64 (x : EReal) : Ideal.div x (Ideal.ofBits FTy.f32 0x42800000#32) = x * Ideal.ofBits FTy.f32 0x3C800000#32 := by
  have e : Ideal.ofBits FTy.f32 0x42800000#32 = ((64 : ℝ) : EReal) := by
    simp [Ideal.ofBits, Ideal.ieee]
    rw [← EReal.coe_mul]
    congr 1
    norm_num
  rw [e, sixtyfourth, Ideal.div_coe (by norm_num)]

theorem div128 (x : EReal) : Ideal.div x (Ideal.ofBits FTy.f32 0x43000000#32) = x * Ideal.ofBits FTy.f32 0x3C000000#32 := by
  have e : Ideal.ofBits FTy.f32 0x43000000#32 = ((128 : ℝ) : EReal) := by
    simp [Ideal.ofBits, Ideal.ieee]
    rw [← EReal.coe_mul]
    congr 1
    norm_num
  rw [e, hundred_twentyeighth, Ideal.div_coe (by norm_num)]

/-- The bonus of both directions' keys together is the sum of the two bonuses, for real numbers. -/
theorem bonus_split (r kf kb crk : Fin 512 → EReal) (v : EReal) (hr : ∀ k, Real (r k)) (hf : ∀ k, Real (kf k)) (hb : ∀ k, Real (kb k))
    (hc : ∀ k, Real (crk k)) (hv : Real v) (h : Fin 8) :
    sum (fun k => r k * kf k * crk k) h * v + sum (fun k => r k * kb k * crk k) h * v = sum (fun k => r k * (kf k + kb k) * crk k) h * v := by
  have e : sum (fun k => r k * (kf k + kb k) * crk k) h = sum (fun k => r k * kf k * crk k) h + sum (fun k => r k * kb k * crk k) h := by
    unfold CdOutRow.sum
    rw [← Finset.sum_add_distrib]
    refine Finset.sum_congr rfl fun e _ => ?_
    obtain ⟨a, ha⟩ := hr (col h e)
    obtain ⟨b, hf'⟩ := hf (col h e)
    obtain ⟨c, hb'⟩ := hb (col h e)
    obtain ⟨d, hd⟩ := hc (col h e)
    simp only [ha, hf', hb', hd, ← EReal.coe_add, ← EReal.coe_mul]
    congr 1
    ring
  obtain ⟨s, hs⟩ : Real (sum (fun k => r k * kf k * crk k) h) := Real.sum _ _ fun e => ((hr _).mul (hf _)).mul (hc _)
  obtain ⟨u, hu⟩ : Real (sum (fun k => r k * kb k * crk k) h) := Real.sum _ _ fun e => ((hr _).mul (hb _)).mul (hc _)
  obtain ⟨w, hw⟩ := hv
  rw [e, hs, hu, hw]
  simp only [← EReal.coe_add, ← EReal.coe_mul]
  congr 1
  ring

/-! ## The arguments' rows, head by head -/

theorem late_apply (x : (⟨S8x2304x512, .f32⟩ : BufTy).Contents (Elt Ideal)) (b : Fin 8) (t : Fin 2048) (k : Fin 512) :
    val_main_v1 (F := Ideal) x (ix3 b t k) = rowOf x b t k := by
  rw [val_main_v1_apply]
  exact congrArg x (funext fun a => by fin_cases a <;> rfl)

/-- An argument in heads of 64 columns. -/
theorem head_apply (x : (⟨S8x2304x512, .f32⟩ : BufTy).Contents (Elt Ideal)) (b : Fin 8) (t : Fin 2048) (h : Fin 8) (e : Fin 64) :
    val_main_v11 (F := Ideal) x (ix4 b t h e) = rowOf x b t (col h e) := by
  rw [val_main_v11_apply, show idx_main_v11 (ix4 b t h e) = ix3 b t (col h e) from funext fun a => Fin.ext (match a with
    | ⟨0, _⟩ => by show (((b.val * 2048 + t.val) * 8 + h.val) * 64 + e.val) / 1048576 = b.val; omega
    | ⟨1, _⟩ => by show (((b.val * 2048 + t.val) * 8 + h.val) * 64 + e.val) / 512 % 2048 = t.val; omega
    | ⟨2, _⟩ => by show (((b.val * 2048 + t.val) * 8 + h.val) * 64 + e.val) % 512 = 64 * h.val + e.val; omega), late_apply]

variable (x2 x3 x4 x5 x6 x7 x8 x9 x10 x11 : (⟨S8x2304x512, .f32⟩ : BufTy).Contents (Elt Ideal)) (x12 : (⟨S8x64, .f32⟩ : BufTy).Contents (Elt Ideal))
  (x13 x14 : (⟨S512, .f32⟩ : BufTy).Contents (Elt Ideal)) (x15 : (⟨S128, .f32⟩ : BufTy).Contents (Elt Ideal))

section
variable (b : Fin 8) (t : Fin 2048)

/-- The first mixer's row: the sum of its two directions. -/
def both (k : Fin 512) : EReal := rowOf x2 b t k + rowOf x3 b t k

theorem v13_apply (h : Fin 8) (e : Fin 64) : val_main_v13 (F := Ideal) x2 x3 (ix4 b t h e) = both x2 x3 b t (col h e) := by
  rw [val_main_v13_apply, head_apply, show val_main_v12 (F := Ideal) x3 = val_main_v11 (F := Ideal) x3 from rfl, head_apply]
  rfl

/-! ## The first mixer -/

/-- A head's mean. -/
theorem v21_apply (h : Fin 8) : val_main_v21 (F := Ideal) x2 x3 (ix4 b t h (0 : Fin 1))
    = sum (both x2 x3 b t) h * Ideal.ofBits FTy.f32 0x3C800000#32 := by
  have z : ∀ i, val_main_cst (F := Ideal) i = (0 : EReal) := fun i => Ideal.ofBits_zero_f32
  rw [val_main_v21_apply, val_main_v19_apply, show idx_main_v19 (ix4 b t h (0 : Fin 1)) = ix3 b t h from funext fun a => by fin_cases a <;> rfl,
    val_main_v18_apply, z, zero_add, val_main_v20_apply, val_main_cst_0_apply]
  refine (div64 _).trans (congrArg (fun s : EReal => s * _) (Finset.sum_congr rfl fun e _ => ?_))
  rw [show idx_main_v18 (ix3 b t h) e = ix4 b t h e from funext fun a => by fin_cases a <;> rfl, v13_apply]

theorem v23_apply (h : Fin 8) (e : Fin 64) : val_main_v23 (F := Ideal) x2 x3 (ix4 b t h e) = dev (both x2 x3 b t) (col h e) := by
  rw [val_main_v23_apply, v13_apply, val_main_v22_apply,
    show idx_main_v22 (ix4 b t h e) = ix4 b t h (0 : Fin 1) from funext fun a => by fin_cases a <;> rfl, v21_apply]
  unfold dev
  rw [head_col]
  rfl

/-- A head's mean of the squared distances. -/
theorem v28_apply (h : Fin 8) : val_main_v28 (F := Ideal) x2 x3 (ix4 b t h (0 : Fin 1)) = var (both x2 x3 b t) h := by
  have z : ∀ i, val_main_cst_1 (F := Ideal) i = (0 : EReal) := fun i => Ideal.ofBits_zero_f32
  rw [val_main_v28_apply, val_main_v26_apply, show idx_main_v26 (ix4 b t h (0 : Fin 1)) = ix3 b t h from funext fun a => by fin_cases a <;> rfl,
    val_main_v25_apply, z, zero_add, val_main_v27_apply, val_main_cst_2_apply]
  refine (div64 _).trans (congrArg (fun s : EReal => s * _) (Finset.sum_congr rfl fun e _ => ?_))
  rw [show idx_main_v25 (ix3 b t h) e = ix4 b t h e from funext fun a => by fin_cases a <;> rfl, val_main_v24_apply, v23_apply]
  rfl

/-- A scale or a shift of the normalized columns. -/
theorem v38_apply (h : Fin 8) (e : Fin 64) : val_main_v38 (F := Ideal) x13 (ix4 b t h e) = x13 (ix1 (col h e)) := by
  rw [val_main_v38_apply, val_main_v37_apply, val_main_v36_apply]
  refine congrArg x13 (funext fun a => Fin.ext (match a with
    | ⟨0, _⟩ => by show h.val * 64 + e.val = 64 * h.val + e.val; omega))

/-- The normalized, scaled and shifted columns. -/
theorem v43_apply (h : Fin 8) (e : Fin 64) : val_main_v43 (F := Ideal) x2 x3 x13 x14 (ix4 b t h e)
    = dev (both x2 x3 b t) (col h e) * Ideal.rsqrt (var (both x2 x3 b t) h + Ideal.ofBits FTy.f32 0x3A27C5AC#32) * x13 (ix1 (col h e))
      + x14 (ix1 (col h e)) := by
  rw [val_main_v43_apply, val_main_v39_apply, val_main_v35_apply, show val_main_v30 (F := Ideal) x2 x3 = val_main_v23 (F := Ideal) x2 x3 from rfl,
    v23_apply, val_main_v34_apply, show idx_main_v34 (ix4 b t h e) = ix4 b t h (0 : Fin 1) from funext fun a => by fin_cases a <;> rfl,
    val_main_v33_apply, val_main_v32_apply, v28_apply, val_main_v31_apply, val_main_cst_3_apply, v38_apply,
    show val_main_v42 (F := Ideal) x14 = val_main_v38 (F := Ideal) x14 from rfl, v38_apply]
  rfl

/-- One direction's bonus: the queries, the keys and the learned factors, summed over the head. -/
theorem v50_apply (h : Fin 8) (e : Fin 64) : val_main_v50 (F := Ideal) x4 x5 x12 (ix4 b t h e)
    = sum (fun k => rowOf x4 b t k * rowOf x5 b t k * x12 (ix2 (head k) (within k))) h := by
  have z : ∀ i, val_main_cst_4 (F := Ideal) i = (0 : EReal) := fun i => Ideal.ofBits_zero_f32
  rw [val_main_v50_apply, show idx_main_v50 (ix4 b t h e) = ix4 b t h (0 : Fin 1) from funext fun a => by fin_cases a <;> rfl,
    val_main_v49_apply, show idx_main_v49 (ix4 b t h (0 : Fin 1)) = ix3 b t h from funext fun a => by fin_cases a <;> rfl,
    val_main_v48_apply, z, zero_add]
  refine Finset.sum_congr rfl fun e _ => ?_
  rw [show idx_main_v48 (ix3 b t h) e = ix4 b t h e from funext fun a => by fin_cases a <;> rfl, val_main_v47_apply, val_main_v44_apply,
    show val_main_v14 (F := Ideal) x4 = val_main_v11 (F := Ideal) x4 from rfl, show val_main_v15 (F := Ideal) x5 = val_main_v11 (F := Ideal) x5 from rfl,
    head_apply, head_apply, val_main_v46_apply, val_main_v45_apply]
  show _ = (_ : EReal) * x12 (ix2 (head (col h e)) (within (col h e)))
  rw [head_col, within_col]
  exact congrArg (fun s : EReal => _ * s) (congrArg x12 (funext fun a => by fin_cases a <;> rfl))

/-- Both directions' bonus times the value. -/
theorem v62_apply (h4 : ∀ i, Real (x4 i)) (h5 : ∀ i, Real (x5 i)) (h6 : ∀ i, Real (x6 i)) (h7 : ∀ i, Real (x7 i)) (h12 : ∀ i, Real (x12 i))
    (h : Fin 8) (e : Fin 64) : val_main_v62 (F := Ideal) x4 x5 x6 x7 x12 (ix4 b t h e)
      = sum (fun k => rowOf x4 b t k * (rowOf x5 b t k + rowOf x6 b t k) * x12 (ix2 (head k) (within k))) h * rowOf x7 b t (col h e) := by
  have z : ∀ i, val_main_cst_5 (F := Ideal) i = (0 : EReal) := fun i => Ideal.ofBits_zero_f32
  rw [val_main_v62_apply, val_main_v53_apply, val_main_v52_apply, z, val_main_v51_apply, v50_apply,
    val_main_v61_apply, show val_main_v60 (F := Ideal) x4 x6 x12 = val_main_v50 (F := Ideal) x4 x6 x12 from rfl, v50_apply,
    show val_main_v17 (F := Ideal) x7 = val_main_v11 (F := Ideal) x7 from rfl, head_apply]
  show (0 + _ * _) + _ * _ = (_ : EReal)
  rw [zero_add]
  exact bonus_split _ _ _ (fun k => x12 (ix2 (head k) (within k))) _ (fun k => h4 _) (fun k => h5 _) (fun k => h6 _) (fun k => h12 _) (h7 _) h

/-- The first mixer's column. -/
theorem v65_apply (h4 : ∀ i, Real (x4 i)) (h5 : ∀ i, Real (x5 i)) (h6 : ∀ i, Real (x6 i)) (h7 : ∀ i, Real (x7 i)) (h12 : ∀ i, Real (x12 i))
    (j : Fin 512) : val_main_v65 (F := Ideal) x2 x3 x4 x5 x6 x7 x8 x12 x13 x14 (ix3 b t j)
      = first (both x2 x3 b t) (rowOf x4 b t) (rowOf x5 b t) (rowOf x6 b t) (rowOf x7 b t) (rowOf x8 b t)
          (fun k => x12 (ix2 (head k) (within k))) (fun k => x13 (ix1 k)) (fun k => x14 (ix1 k)) j := by
  rw [val_main_v65_apply, val_main_v64_apply, show idx_main_v64 (ix3 b t j) = ix4 b t (head j) (within j) from funext fun a => Fin.ext (match a with
    | ⟨0, _⟩ => by show ((b.val * 2048 + t.val) * 512 + j.val) / 1048576 = b.val; omega
    | ⟨1, _⟩ => by show ((b.val * 2048 + t.val) * 512 + j.val) / 512 % 2048 = t.val; omega
    | ⟨2, _⟩ => by show ((b.val * 2048 + t.val) * 512 + j.val) / 64 % 8 = j.val / 64; omega
    | ⟨3, _⟩ => by show ((b.val * 2048 + t.val) * 512 + j.val) % 64 = j.val % 64; omega), val_main_v63_apply, v43_apply,
    v62_apply x4 x5 x6 x7 x12 b t h4 h5 h6 h7 h12, col_head, show val_main_v7 (F := Ideal) x8 = val_main_v1 (F := Ideal) x8 from rfl, late_apply]
  rfl

/-! ## The second mixer -/

/-- A row's place in heads of 128 columns. -/
theorem wide_ix (h : Fin 4) (e : Fin 128) : idx_main_v67 (ix4 b t h e) = ix3 b t (wcol h e) := funext fun a => Fin.ext (match a with
  | ⟨0, _⟩ => by show (((b.val * 2048 + t.val) * 4 + h.val) * 128 + e.val) / 1048576 = b.val; omega
  | ⟨1, _⟩ => by show (((b.val * 2048 + t.val) * 4 + h.val) * 128 + e.val) / 512 % 2048 = t.val; omega
  | ⟨2, _⟩ => by show (((b.val * 2048 + t.val) * 4 + h.val) * 128 + e.val) % 512 = 128 * h.val + e.val; omega)

theorem v67_apply (h : Fin 4) (e : Fin 128) : val_main_v67 (F := Ideal) x9 x10 (ix4 b t h e) = both x9 x10 b t (wcol h e) := by
  rw [val_main_v67_apply, wide_ix, val_main_v66_apply, show val_main_v8 (F := Ideal) x9 = val_main_v1 (F := Ideal) x9 from rfl, late_apply,
    show val_main_v9 (F := Ideal) x10 = val_main_v1 (F := Ideal) x10 from rfl, late_apply]
  rfl

/-- The gate's activation. -/
theorem v69_apply (h : Fin 4) (e : Fin 128) : val_main_v69 (F := Ideal) x11 (ix4 b t h e)
    = rowOf x11 b t (wcol h e) * Ideal.logistic (rowOf x11 b t (wcol h e)) := by
  have z : val_main_v68 (F := Ideal) x11 (ix4 b t h e) = rowOf x11 b t (wcol h e) := by
    rw [val_main_v68_apply, show idx_main_v68 (ix4 b t h e) = ix3 b t (wcol h e) from wide_ix b t h e,
      show val_main_v10 (F := Ideal) x11 = val_main_v1 (F := Ideal) x11 from rfl, late_apply]
  rw [val_main_v69_apply, val_main_call0_v5_apply, val_main_call0_v4_apply, val_main_call0_cst_0_apply, val_main_call0_v3_apply,
    val_main_call0_v2_apply, val_main_call0_cst_apply, val_main_call0_v1_apply, val_main_call0_v0_apply, z]
  show rowOf x11 b t (wcol h e) * Ideal.div (Ideal.ofBits FTy.f32 0x3F800000#32) (Ideal.ofBits FTy.f32 0x3F800000#32 + _) = _
  rw [Ideal.ofBits_one_f32]
  rfl

/-- The inverse root mean square of a head. -/
theorem v77_apply (h : Fin 4) : val_main_v77 (F := Ideal) x9 x10 (ix4 b t h (0 : Fin 1))
    = Ideal.rsqrt (wsum (fun k => both x9 x10 b t k * both x9 x10 b t k) h * Ideal.ofBits FTy.f32 0x3C000000#32 + Ideal.ofBits FTy.f32 0x358637BD#32) := by
  have z : ∀ i, val_main_cst_7 (F := Ideal) i = (0 : EReal) := fun i => Ideal.ofBits_zero_f32
  rw [val_main_v77_apply, val_main_v76_apply, val_main_v74_apply, val_main_v72_apply,
    show idx_main_v72 (ix4 b t h (0 : Fin 1)) = ix3 b t h from funext fun a => by fin_cases a <;> rfl,
    val_main_v71_apply, z, zero_add, val_main_v73_apply, val_main_cst_8_apply, val_main_v75_apply, val_main_cst_9_apply]
  refine congrArg (fun s : EReal => Ideal.rsqrt (s + _)) ((div128 _).trans (congrArg (fun s : EReal => s * _) (Finset.sum_congr rfl fun e _ => ?_)))
  rw [show idx_main_v71 (ix3 b t h) e = ix4 b t h e from funext fun a => by fin_cases a <;> rfl, val_main_v70_apply, v67_apply]
  rfl

theorem v81_apply (h : Fin 4) (e : Fin 128) : val_main_v81 (F := Ideal) x15 (ix4 b t h e) = x15 (ix1 e) := by
  rw [val_main_v81_apply, val_main_v80_apply]
  exact congrArg x15 (funext fun a => by fin_cases a <;> rfl)

/-- The second mixer's column. -/
theorem v84_apply (j : Fin 512) : val_main_v84 (F := Ideal) x9 x10 x11 x15 (ix3 b t j)
    = second (both x9 x10 b t) (rowOf x11 b t) (fun k => x15 (ix1 (wwithin k))) j := by
  rw [val_main_v84_apply, show idx_main_v84 (ix3 b t j) = ix4 b t (wide j) (wwithin j) from funext fun a => Fin.ext (match a with
    | ⟨0, _⟩ => by show ((b.val * 2048 + t.val) * 512 + j.val) / 1048576 = b.val; omega
    | ⟨1, _⟩ => by show ((b.val * 2048 + t.val) * 512 + j.val) / 512 % 2048 = t.val; omega
    | ⟨2, _⟩ => by show ((b.val * 2048 + t.val) * 512 + j.val) / 128 % 4 = j.val / 128; omega
    | ⟨3, _⟩ => by show ((b.val * 2048 + t.val) * 512 + j.val) % 128 = j.val % 128; omega), val_main_v83_apply, val_main_v82_apply, val_main_v79_apply,
    v67_apply, val_main_v78_apply,
    show idx_main_v78 (ix4 b t (wide j) (wwithin j)) = ix4 b t (wide j) (0 : Fin 1) from funext fun a => by fin_cases a <;> rfl,
    v77_apply, v81_apply, v69_apply, wcol_wide]
  rfl

/-! ## The projection -/

/-- The two mixers' columns side by side. -/
theorem v86_apply (h4 : ∀ i, Real (x4 i)) (h5 : ∀ i, Real (x5 i)) (h6 : ∀ i, Real (x6 i)) (h7 : ∀ i, Real (x7 i)) (h12 : ∀ i, Real (x12 i))
    (d : Fin 1024) : val_main_v86 (F := Ideal) x2 x3 x4 x5 x6 x7 x8 x9 x10 x11 x12 x13 x14 x15 (ix3 b t d)
      = mixed x2 x3 x4 x5 x6 x7 x8 x9 x10 x11 x12 x13 x14 x15 b t d := by
  unfold val_main_v86 mixed joined
  by_cases h : d.val < 512
  · rw [dif_pos h]
    refine (concatenate_pair_apply_left (s₁ := S8x2048x512) (s₂ := S8x2048x512) (t := S8x2048x1024) (2 : Fin 3) _ _
      concatenates_S8x2048x512_S8x2048x512_S8x2048x1024_d2 (ix3 b t d) rfl (ix3 b t (⟨d.val, h⟩ : Fin 512)) (fun a => match a with
        | ⟨0, _⟩ => rfl
        | ⟨1, _⟩ => rfl
        | ⟨2, _⟩ => rfl)).trans ?_
    exact v65_apply x2 x3 x4 x5 x6 x7 x8 x12 x13 x14 b t h4 h5 h6 h7 h12 ⟨d.val, h⟩
  · rw [dif_neg h]
    refine (concatenate_pair_apply_right (s₁ := S8x2048x512) (s₂ := S8x2048x512) (t := S8x2048x1024) (2 : Fin 3) _ _
      concatenates_S8x2048x512_S8x2048x512_S8x2048x1024_d2 (ix3 b t d) rfl rfl (ix3 b t (⟨d.val - 512, by omega⟩ : Fin 512)) (fun a ha => match a, ha with
        | ⟨0, _⟩, _ => rfl
        | ⟨1, _⟩, _ => rfl
        | ⟨2, _⟩, ha => absurd rfl ha) (by show d.val - 512 + 512 = d.val; omega)).trans ?_
    exact v84_apply x9 x10 x11 x15 b t ⟨d.val - 512, by omega⟩

end

/-- The reference's result at a batch element, a row and a column. -/
theorem reference_apply (x0 : (⟨S8x2304x1024, .f32⟩ : BufTy).Contents (Elt Ideal)) (x1 : (⟨S8x2x1024, .f32⟩ : BufTy).Contents (Elt Ideal))
    (x16 : (⟨S1024x1024, .f32⟩ : BufTy).Contents (Elt Ideal)) (h4 : ∀ i, Real (x4 i)) (h5 : ∀ i, Real (x5 i)) (h6 : ∀ i, Real (x6 i))
    (h7 : ∀ i, Real (x7 i)) (h12 : ∀ i, Real (x12 i)) (b : Fin 8) (t : Fin 2048) (j : Fin 1024) :
    val_main_v90 (F := Ideal) x0 x1 x2 x3 x4 x5 x6 x7 x8 x9 x10 x11 x12 x13 x14 x15 x16 (ix3 b t j)
      = outAt x0 x1 x16 (mixed x2 x3 x4 x5 x6 x7 x8 x9 x10 x11 x12 x13 x14 x15) b t j := by
  rw [val_main_v90_apply, val_main_v0_apply, show idx_main_v0 (ix3 b t j) = ix3 b (late t) j from funext fun a => by fin_cases a <;> rfl,
    val_main_v89_apply, val_main_v88_apply, val_main_v85_apply,
    show idx_main_v85 (idx_main_v88 (ix3 b t j)) = ix3 b (1 : Fin 2) j from funext fun a => by fin_cases a <;> rfl, val_main_v87_apply]
  refine congrArg (fun s : EReal => x0 (ix3 b (late t) j) + x1 (ix3 b (1 : Fin 2) j) * s) (Finset.sum_congr rfl fun d _ => ?_)
  rw [show lidx_main_v87 (ix3 b t j) d = ix3 b t d from funext fun a => by fin_cases a <;> rfl,
    show ridx_main_v87 (ix3 b t j) d = ix2 d j from funext fun a => by fin_cases a <;> rfl,
    v86_apply x2 x3 x4 x5 x6 x7 x8 x9 x10 x11 x12 x13 x14 x15 b t h4 h5 h6 h7 h12]

end Cert.Proof.CdOutReference

end
-- ==== Proof.FiniteHeads.lean ====
/-
  What the last projection's precondition says: every entry of the arguments that are summed over a head is a real number.
-/
module

public import proofs.«01_k».proof.Proof.FiniteScores
public import proofs.«01_k».proof.Proof.CdOutRow
public import proofs.«01_k».proof.Proof.Gen.Pre_finite_heads

@[expose] public section

noncomputable section

namespace Cert.Proof.FiniteHeads

open Idealize.ShloMosaic Cert.Pre_finite_heads CdOutRow

/-- Under the precondition every entry of the two mixers' outputs but the gates, and of the bonus's factors, is real. -/
theorem real_of_pre [Facts] (x0 : FVec Ideal S8x2304x1024 .f32) (x1 : FVec Ideal S8x2x1024 .f32) (x2 x3 x4 x5 x6 x7 x8 x9 x10 x11 : FVec Ideal S8x2304x512 .f32)
    (x12 : FVec Ideal S8x64 .f32) (x13 x14 : FVec Ideal S512 .f32) (x15 : FVec Ideal S128 .f32) (x16 : FVec Ideal S1024x1024 .f32)
    (h : fn x0 x1 x2 x3 x4 x5 x6 x7 x8 x9 x10 x11 x12 x13 x14 x15 x16 = fun _ => 1#1) :
    (∀ i, Real (x2 i)) ∧ (∀ i, Real (x3 i)) ∧ (∀ i, Real (x4 i)) ∧ (∀ i, Real (x5 i)) ∧ (∀ i, Real (x6 i)) ∧ (∀ i, Real (x7 i))
      ∧ (∀ i, Real (x9 i)) ∧ (∀ i, Real (x10 i)) ∧ ∀ i, Real (x12 i) := by
  have e := congrFun h ix0
  simp only [fn, fn_part1, fn_part2, andi, IntOp.andi_eq_one] at e
  obtain ⟨⟨⟨⟨⟨⟨⟨⟨h2, h3⟩, h4⟩, h5⟩, h6⟩, h7⟩, h9⟩, h10⟩, h12⟩ := e
  have : Subsingleton S_.Idx := ⟨fun a b => funext fun k => k.elim0⟩
  exact ⟨fun i => FiniteScores.real_of_abs_lt _ (Host.reduce_andi_all _ _ _ _ _ h2 i),
    fun i => FiniteScores.real_of_abs_lt _ (Host.reduce_andi_all _ _ _ _ _ h3 i),
    fun i => FiniteScores.real_of_abs_lt _ (Host.reduce_andi_all _ _ _ _ _ h4 i),
    fun i => FiniteScores.real_of_abs_lt _ (Host.reduce_andi_all _ _ _ _ _ h5 i),
    fun i => FiniteScores.real_of_abs_lt _ (Host.reduce_andi_all _ _ _ _ _ h6 i),
    fun i => FiniteScores.real_of_abs_lt _ (Host.reduce_andi_all _ _ _ _ _ h7 i),
    fun i => FiniteScores.real_of_abs_lt _ (Host.reduce_andi_all _ _ _ _ _ h9 i),
    fun i => FiniteScores.real_of_abs_lt _ (Host.reduce_andi_all _ _ _ _ _ h10 i),
    fun i => FiniteScores.real_of_abs_lt _ (Host.reduce_andi_all _ _ _ _ _ h12 i)⟩

end Cert.Proof.FiniteHeads

end
-- ==== Proof.CdOutEquation.lean ====
/-
  The last projection of the second block: the kernel's result array is the reference's.
-/
module

public import proofs.«01_k».proof.Proof.CdOutReference
public import proofs.«01_k».proof.Proof.FiniteHeads

@[expose] public section

noncomputable section

namespace Cert.Proof.CdOutEquation

open Idealize.ShloMosaic Idealize.ShloMosaic.TcCoe

variable (m : (ℓ : Loc Cert.CdOutIdeal.nD Cert.CdOutIdeal.τ Cert.CdOutIdeal.sig) → Buf (Elt Ideal) ℓ)

/-- The precondition makes the summed arguments real. -/
theorem finite (h : Cert.Pre_CdOutIdeal_finite_heads (hPre_finite_heads := Cert.Pre_finite_heads.Gen.facts) m) (c : Dev Cert.CdOutIdeal.nD) :
    CdOutArray.Finite m c :=
  @FiniteHeads.real_of_pre Cert.Pre_finite_heads.Gen.facts _ _ _ _ _ _ _ _ _ _ _ _ _ _ _ _ _ (h c)

/-- An index of the result: a batch element, a row and a column. -/
theorem result_ix (i : Cert.CdOutIdeal.S8x2048x1024.Idx) : i = ix3 (i 0) (i 1) (i 2) :=
  funext fun a => match a with
    | ⟨0, _⟩ => rfl
    | ⟨1, _⟩ => rfl
    | ⟨2, _⟩ => rfl

/-- The kernel's result array is the reference's, of the launch's arguments, under the precondition. -/
theorem result_eq (h : Cert.Pre_CdOutIdeal_finite_heads (hPre_finite_heads := Cert.Pre_finite_heads.Gen.facts) m) (c : Dev Cert.CdOutIdeal.nD) :
    CdOutArray.result m c = Cert.CdOutReferenceIdeal.Read.val_main_v90 (F := Ideal)
      (m ((c : Thread Cert.CdOutIdeal.nD Cert.CdOutIdeal.τ).loc Cert.CdOutIdeal.main_arg0))
      (m ((c : Thread Cert.CdOutIdeal.nD Cert.CdOutIdeal.τ).loc Cert.CdOutIdeal.main_arg1))
      (m ((c : Thread Cert.CdOutIdeal.nD Cert.CdOutIdeal.τ).loc Cert.CdOutIdeal.main_arg2))
      (m ((c : Thread Cert.CdOutIdeal.nD Cert.CdOutIdeal.τ).loc Cert.CdOutIdeal.main_arg3))
      (m ((c : Thread Cert.CdOutIdeal.nD Cert.CdOutIdeal.τ).loc Cert.CdOutIdeal.main_arg4))
      (m ((c : Thread Cert.CdOutIdeal.nD Cert.CdOutIdeal.τ).loc Cert.CdOutIdeal.main_arg5))
      (m ((c : Thread Cert.CdOutIdeal.nD Cert.CdOutIdeal.τ).loc Cert.CdOutIdeal.main_arg6))
      (m ((c : Thread Cert.CdOutIdeal.nD Cert.CdOutIdeal.τ).loc Cert.CdOutIdeal.main_arg7))
      (m ((c : Thread Cert.CdOutIdeal.nD Cert.CdOutIdeal.τ).loc Cert.CdOutIdeal.main_arg8))
      (m ((c : Thread Cert.CdOutIdeal.nD Cert.CdOutIdeal.τ).loc Cert.CdOutIdeal.main_arg9))
      (m ((c : Thread Cert.CdOutIdeal.nD Cert.CdOutIdeal.τ).loc Cert.CdOutIdeal.main_arg10))
      (m ((c : Thread Cert.CdOutIdeal.nD Cert.CdOutIdeal.τ).loc Cert.CdOutIdeal.main_arg11))
      (m ((c : Thread Cert.CdOutIdeal.nD Cert.CdOutIdeal.τ).loc Cert.CdOutIdeal.main_arg12))
      (m ((c : Thread Cert.CdOutIdeal.nD Cert.CdOutIdeal.τ).loc Cert.CdOutIdeal.main_arg13))
      (m ((c : Thread Cert.CdOutIdeal.nD Cert.CdOutIdeal.τ).loc Cert.CdOutIdeal.main_arg14))
      (m ((c : Thread Cert.CdOutIdeal.nD Cert.CdOutIdeal.τ).loc Cert.CdOutIdeal.main_arg15))
      (m ((c : Thread Cert.CdOutIdeal.nD Cert.CdOutIdeal.τ).loc Cert.CdOutIdeal.main_arg16)) := by
  obtain ⟨_, _, h4, h5, h6, h7, _, _, h12⟩ := finite m h c
  funext i
  rw [result_ix i]
  exact (CdOutReference.reference_apply _ _ _ _ _ _ _ _ _ _ _ _ _ _ _ _ _ h4 h5 h6 h7 h12 (i 0) (i 1) (i 2)).symm

end Cert.Proof.CdOutEquation

end
-- ==== Proof.WindowSoftmax.lean ====
/-
  Extended-real arithmetic of a softmax with masked scores and a sink: a masked score is −∞, the sink counts in the maximum and in the
  denominator, and has no value.
-/
module

public import proofs.«01_k».proof.Proof.Softmax

@[expose] public section

noncomputable section

namespace Cert.Proof.WindowSoftmax

open Idealize.ShloMosaic

/-- The greatest of the scores and the sink. -/
def top {n : ℕ} (s : Fin n → EReal) (σ : EReal) : EReal := max (Finset.univ.fold max ⊥ s) σ

/-- The exponential of a score. -/
def weight {n : ℕ} (s : Fin n → EReal) (σ : EReal) (j : Fin n) : EReal := Ideal.exp (s j - top s σ)

/-- The sum of the exponentials, the sink's among them. -/
def total {n : ℕ} (s : Fin n → EReal) (σ : EReal) : EReal := ∑ j, weight s σ j + Ideal.exp (σ - top s σ)

/-- One output as the kernel arranges it: the weighted sum of the values, divided at the end. -/
def attend {n : ℕ} (s v : Fin n → EReal) (σ : EReal) : EReal := Ideal.div (∑ j, weight s σ j * v j) (total s σ)

/-- With no score above the reals and a real sink, the greatest is real. -/
theorem top_real {n : ℕ} (s : Fin n → EReal) (hs : ∀ j, s j < ⊤) (σ : ℝ) : ∃ μ : ℝ, top s σ = μ := by
  have h1 : top s σ < ⊤ := max_lt ((Finset.fold_max_lt _).2 ⟨bot_lt_top, fun j _ => hs j⟩) (EReal.coe_lt_top _)
  have h2 : ⊥ < top s σ := lt_of_lt_of_le (EReal.bot_lt_coe σ) (le_max_right _ _)
  exact ⟨_, (EReal.coe_toReal h1.ne h2.ne').symm⟩

/-- The exponential of a score, less a real number, is a nonnegative real. -/
theorem exp_real (x : EReal) (hx : x < ⊤) (μ : ℝ) : ∃ e : ℝ, 0 ≤ e ∧ Ideal.exp (x - μ) = e := by
  induction x with
  | bot => exact ⟨0, le_refl _, by rw [EReal.bot_sub]; rfl⟩
  | top => exact absurd hx (lt_irrefl _)
  | coe r => exact ⟨Real.exp (r - μ), (Real.exp_pos _).le, by rw [← EReal.coe_sub]; rfl⟩

/-- With no score above the reals and a real sink, the denominator is a positive real. -/
theorem total_real {n : ℕ} (s : Fin n → EReal) (hs : ∀ j, s j < ⊤) (σ : ℝ) : ∃ d : ℝ, 0 < d ∧ total s σ = d := by
  obtain ⟨μ, hμ⟩ := top_real s hs σ
  choose e he he' using fun j => exp_real (s j) (hs j) μ
  refine ⟨∑ j, e j + Real.exp (σ - μ), add_pos_of_nonneg_of_pos (Finset.sum_nonneg fun j _ => he j) (Real.exp_pos _), ?_⟩
  unfold total weight
  rw [hμ, EReal.coe_add, Softmax.coe_sum, ← EReal.coe_sub]
  exact congrArg₂ _ (Finset.sum_congr rfl fun j _ => he' j) rfl

/-- Division by a positive real. -/
theorem div_real (x : EReal) {d : ℝ} (hd : 0 < d) : Ideal.div x (d : EReal) = x * ((d⁻¹ : ℝ) : EReal) := by
  unfold Ideal.div
  rw [if_neg (by exact_mod_cast hd.ne'), EReal.coe_inv]

/-- The quotient of the sums is the sum of the quotients. -/
theorem attend_eq {n : ℕ} (s v : Fin n → EReal) (hs : ∀ j, s j < ⊤) (σ : ℝ) :
    attend s v σ = ∑ j, Ideal.div (weight s σ j) (total s σ) * v j := by
  obtain ⟨d, hd, e⟩ := total_real s hs σ
  unfold attend
  rw [e]
  simp only [div_real _ hd]
  rw [Softmax.sum_mul_coe _ _ (inv_nonneg.2 hd.le)]
  exact Finset.sum_congr rfl fun j _ => mul_right_comm _ _ _

/-- A masked score has no share in the output, whatever its value. -/
theorem share_bot {n : ℕ} (s : Fin n → EReal) (hs : ∀ j, s j < ⊤) (σ : ℝ) (j : Fin n) (hj : s j = ⊥) :
    Ideal.div (weight s σ j) (total s σ) = 0 := by
  obtain ⟨d, hd, e⟩ := total_real s hs σ
  obtain ⟨μ, hμ⟩ := top_real s hs σ
  have hw : weight s σ j = 0 := by
    unfold weight
    rw [hj, hμ, EReal.bot_sub]
    rfl
  rw [e, div_real _ hd, hw, zero_mul]

/-- Values that differ only where the scores are masked give the same output. -/
theorem shares_congr {n : ℕ} (s v w : Fin n → EReal) (hs : ∀ j, s j < ⊤) (σ : ℝ) (h : ∀ j, s j = ⊥ ∨ v j = w j) :
    ∑ j, Ideal.div (weight s σ j) (total s σ) * v j = ∑ j, Ideal.div (weight s σ j) (total s σ) * w j := by
  refine Finset.sum_congr rfl fun j _ => ?_
  rcases h j with h | h
  · rw [share_bot s hs σ j h, zero_mul, zero_mul]
  · rw [h]

/-- The scores followed by the sink, as one row. -/
def row {n : ℕ} (s : Fin n → EReal) (σ : EReal) (j : Fin (n + 1)) : EReal := if h : j.val < n then s ⟨j.val, h⟩ else σ

theorem row_castSucc {n : ℕ} (s : Fin n → EReal) (σ : EReal) (j : Fin n) : row s σ j.castSucc = s j := dif_pos j.isLt

theorem row_last {n : ℕ} (s : Fin n → EReal) (σ : EReal) : row s σ (Fin.last n) = σ := dif_neg (Nat.lt_irrefl n)

/-- The greatest of the row. -/
theorem row_max {n : ℕ} (s : Fin n → EReal) (σ : EReal) : Finset.univ.fold max ⊥ (row s σ) = top s σ := by
  rw [Fin.univ_castSuccEmb, Finset.fold_cons, Finset.fold_map, row_last, max_comm]
  unfold top
  exact congrArg (fun f => max (Finset.univ.fold max ⊥ f) σ) (funext fun j => row_castSucc s σ j)

/-- The sum of the row's exponentials. -/
theorem row_sum {n : ℕ} (s : Fin n → EReal) (σ : EReal) : ∑ j, Ideal.exp (row s σ j - top s σ) = total s σ := by
  rw [Fin.sum_univ_castSucc, row_last]
  exact congrArg (· + _) (Finset.sum_congr rfl fun j _ => by rw [row_castSucc]; rfl)

end Cert.Proof.WindowSoftmax

end
-- ==== Proof.WindowMask.lean ====
/-
  Which keys a query row of the window attention sees, and the comparisons of 32-bit numbers that say so.
-/
module

public import Idealize.ShloMosaic.Lib.Pointwise
public import Idealize.ShloMosaic.Lib.ReduceAll

@[expose] public section

noncomputable section

namespace Cert.Proof.WindowMask

open Idealize.ShloMosaic

/-- Row `r` of block `n` sees key `j` of the three blocks around it when the two are at most 128 apart and the key's block is one of
    the 16 blocks. -/
abbrev near (n r j : ℕ) : Prop := r ≤ j ∧ j ≤ r + 256 ∧ (128 ≤ j ∨ 0 < n) ∧ (j < 256 ∨ n < 15)

/-- The context's keys, after the three blocks, are seen by all rows. -/
abbrev seen (n r j : ℕ) : Prop := 384 ≤ j ∨ near n r j

/-- The row of the sequence (the context's 256 first) that key `j` of block `n` is read from. A neighbour outside the sequence is
    replaced by the block itself. -/
def source (n j : ℕ) : ℕ :=
  if j < 128 then 256 + (n - 1) * 128 + j
  else if j < 256 then 256 + n * 128 + (j - 128)
  else if j < 384 then 256 + min (n + 1) 15 * 128 + (j - 256)
  else j - 384

theorem source_lt {n j : ℕ} (hn : n < 16) (hj : j < 640) : source n j < 2304 := by
  unfold source
  split_ifs <;> omega

/-- The row, context first, that a key of a block is read from. -/
def sourceRow (n : Fin 16) (j : Fin 640) : Fin 2304 := ⟨source n.val j.val, source_lt n.isLt j.isLt⟩
/-- A head, from its group of four and its place there. -/
def headOf (g : Fin 2) (h : Fin 4) : Fin 8 := ⟨g.val * 4 + h.val, by omega⟩
/-- A row among the 2048, from its block and its place there. -/
def rowOf (n : Fin 16) (r : Fin 128) : Fin 2048 := ⟨n.val * 128 + r.val, by omega⟩

/-- The distance of two positions, written without a sign, is at most 128. -/
theorem close (u : Fin 1024) : IntOp.cmpi .sle (IntOp.absi (BitVec.ofNat 32 u.val - 640#32)) 128#32 = 1#1 ↔ 512 ≤ u.val ∧ u.val ≤ 768 := by
  revert u
  decide +kernel

theorem close_iff (r j : ℕ) (hr : r < 128) (hj : j < 640) :
    IntOp.cmpi .sle (IntOp.absi (BitVec.ofNat 32 r + 128#32 - BitVec.ofNat 32 j)) 128#32 = 1#1 ↔ r ≤ j ∧ j ≤ r + 256 := by
  have e : BitVec.ofNat 32 r + 128#32 - BitVec.ofNat 32 j = BitVec.ofNat 32 (r + 768 - j) - 640#32 := by
    apply BitVec.eq_of_toNat_eq
    simp only [BitVec.toNat_sub, BitVec.toNat_add, BitVec.toNat_ofNat]
    omega
  rw [e]
  refine (close ⟨r + 768 - j, by omega⟩).trans ?_
  show 512 ≤ r + 768 - j ∧ r + 768 - j ≤ 768 ↔ _
  omega

theorem after (k j : ℕ) (hk : k < 1024) (hj : j < 1024) : IntOp.cmpi .sge (BitVec.ofNat 32 j) (BitVec.ofNat 32 k) = 1#1 ↔ k ≤ j := by
  rw [IntOp.cmpi_sge, BitVec.toInt_ofNat', BitVec.toInt_ofNat', Int.bmod_eq_of_le (by omega) (by omega), Int.bmod_eq_of_le (by omega) (by omega)]
  omega

theorem before (k j : ℕ) (hk : k < 1024) (hj : j < 1024) : IntOp.cmpi .slt (BitVec.ofNat 32 j) (BitVec.ofNat 32 k) = 1#1 ↔ j < k := by
  rw [IntOp.cmpi_slt, BitVec.toInt_ofNat', BitVec.toInt_ofNat', Int.bmod_eq_of_le (by omega) (by omega), Int.bmod_eq_of_le (by omega) (by omega)]
  omega

theorem beyond (k j : ℕ) (hk : k < 1024) (hj : j < 1024) : IntOp.cmpi .sgt (BitVec.ofNat 32 j) (BitVec.ofNat 32 k) = 1#1 ↔ k < j := by
  rw [IntOp.cmpi_sgt, BitVec.toInt_ofNat', BitVec.toInt_ofNat', Int.bmod_eq_of_le (by omega) (by omega), Int.bmod_eq_of_le (by omega) (by omega)]
  omega

/-- A key's position in the sequence is not before its start. -/
theorem inside_left (u : Fin 2432) : IntOp.cmpi .sge (BitVec.ofNat 32 u.val - 128#32) 0#32 = 1#1 ↔ 128 ≤ u.val := by
  revert u
  decide +kernel

/-- A key's position in the sequence is before its end. -/
theorem inside_right (u : Fin 2432) : IntOp.cmpi .slt (BitVec.ofNat 32 u.val - 128#32) 2048#32 = 1#1 ↔ u.val < 2176 := by
  revert u
  decide +kernel

/-- The positions of a row and of a key differ by the same number whichever block they are counted from. -/
theorem apart (n r j : ℕ) (hn : n < 16) (hr : r < 128) (hj : j < 384) :
    BitVec.ofNat 32 n * 128#32 + BitVec.ofNat 32 r - ((BitVec.ofNat 32 n - 1#32) * 128#32 + BitVec.ofNat 32 j)
      = BitVec.ofNat 32 r + 128#32 - BitVec.ofNat 32 j := by
  apply BitVec.eq_of_toNat_eq
  simp only [BitVec.toNat_sub, BitVec.toNat_add, BitVec.toNat_mul, BitVec.toNat_ofNat]
  omega

theorem position (n j : ℕ) (hn : n < 16) (hj : j < 384) :
    (BitVec.ofNat 32 n - 1#32) * 128#32 + BitVec.ofNat 32 j = BitVec.ofNat 32 (n * 128 + j) - 128#32 := by
  apply BitVec.eq_of_toNat_eq
  simp only [BitVec.toNat_sub, BitVec.toNat_add, BitVec.toNat_mul, BitVec.toNat_ofNat]
  omega

/-- A selection by a one-bit number. -/
theorem select_iff {p : Prop} [Decidable p] {b : BitVec 1} (h : b = 1#1 ↔ p) (x y : EReal) : Scalar.select b x y = if p then x else y := by
  show (if b = (1 : BitVec 1) then x else y) = _
  by_cases hp : p
  · rw [if_pos hp, if_pos (show b = (1 : BitVec 1) from h.2 hp)]
  · rw [if_neg hp, if_neg fun e : b = (1 : BitVec 1) => hp (h.1 e)]

end Cert.Proof.WindowMask

end
-- ==== Proof.WindowBlock.lean ====
/-
  What one grid point of the window attention computes: a block of 128 query rows of four heads against 640 keys, the rows' own block of
  keys between its two neighbours and then the context's keys.
-/
module

public import proofs.«01_k».proof.Defs
public import proofs.«01_k».proof.Proof.Gen.WindowIdeal.Value
public import proofs.«01_k».proof.Proof.WindowSoftmax
public import proofs.«01_k».proof.Proof.WindowMask
public import Idealize.ShloMosaic.Lib.Pointwise

@[expose] public section

noncomputable section

namespace Cert.Proof.WindowBlock

open Idealize.ShloMosaic Cert.WindowIdeal Cert.WindowIdeal.Gen

/-- The scores' scale, as printed. -/
def scale : EReal := Ideal.ofBits FTy.f32 0x3E000000#32

/-- The printed constant below every score is −∞. -/
theorem negInf : Ideal.ofBits FTy.f32 0xFF800000#32 = (⊥ : EReal) := by
  simp [Ideal.ofBits, Ideal.ieee]

/-- A row of the four heads' rows, one head after the other. -/
def place (h : Fin 4) (r : Fin 128) : Fin 512 := ⟨h.val * 128 + r.val, by omega⟩

/-- The four blocks of keys (or values), one after the other. -/
def joined (p o n : Vec Ideal S1x1x128x64 .f32) (x : Vec Ideal S1x1x256x64 .f32) (j : Fin 640) (d : Fin 64) : EReal :=
  if h : j.val < 128 then p (ix4 0 0 ⟨j.val, h⟩ d)
  else if h1 : j.val - 128 < 128 then o (ix4 0 0 ⟨j.val - 128, h1⟩ d)
  else if h2 : j.val - 128 - 128 < 128 then n (ix4 0 0 ⟨j.val - 128 - 128, h2⟩ d)
  else x (ix4 0 0 ⟨j.val - 128 - 128 - 128, by omega⟩ d)

theorem keys_apply (p o n : Vec Ideal S1x1x128x64 .f32) (x : Vec Ideal S1x1x256x64 .f32) (j : Fin 640) (d : Fin 64) :
    k0_pay3 p o n x (ix2 j d) = joined p o n x j d := by
  unfold k0_pay3 joined
  pointwise

theorem values_apply (p o n : Vec Ideal S1x1x128x64 .f32) (x : Vec Ideal S1x1x256x64 .f32) (j : Fin 640) (d : Fin 64) :
    k0_pay7 (k0_pay4 p) (k0_pay5 o) (k0_pay6 n) x (ix2 j d) = joined p o n x j d := by
  unfold k0_pay7 k0_pay4 k0_pay5 k0_pay6 joined
  pointwise

theorem queries_apply (q : Vec Ideal S1x4x128x64 .f32) (h : Fin 4) (r : Fin 128) (d : Fin 64) :
    k0_pay2 q (ix2 (place h r) d) = q (ix4 0 h r d) * scale := by
  unfold k0_pay2 place scale
  pointwise

theorem scores_apply (q : FVec Ideal S512x64 .f32) (k : FVec Ideal S640x64 .f32) (i : Fin 512) (j : Fin 640) :
    k0_pay8 q k (ix2 i j) = ∑ d : Fin 64, q (ix2 i d) * k (ix2 j d) := by
  unfold k0_pay8
  pointwise

/-- The sink of a row: the one of its head. -/
def sinkAt (a b c d : Vec Ideal S1x1x1x1 .f32) (i : Fin 512) : EReal :=
  if i.val < 128 then a (ix4 0 0 0 0) else if i.val - 128 < 128 then b (ix4 0 0 0 0) else if i.val - 128 - 128 < 128 then c (ix4 0 0 0 0) else d (ix4 0 0 0 0)

theorem softmax_apply (v : FVec Ideal S640x64 .f32) (s : FVec Ideal S512x640 .f32) (m : IVec S512x640 1) (z : EReal) (a b c d : Vec Ideal S1x1x1x1 .f32)
    (h : Fin 4) (r : Fin 128) (n : Fin 64) :
    k0_pay10 v s m z a b c d (ix3 h r n)
      = WindowSoftmax.attend (fun j : Fin 640 => Scalar.select (m (ix2 (place h r) j)) (s (ix2 (place h r) j)) z) (fun j => v (ix2 j n))
          (sinkAt a b c d (place h r)) := by
  unfold k0_pay10 WindowSoftmax.attend WindowSoftmax.total WindowSoftmax.weight WindowSoftmax.top place sinkAt
  pointwise [negInf]
  rfl

/-! ## The mask -/

/-- The number that the remainder of a row's place is taken by. -/
def step : BitVec 32 := Scalar.select (Scalar.cmpi .eq 128#32 0#32) 1#32 128#32

/-- The remainder of the rows' places, before its sign is looked at. -/
def remainder : IVec S512x640 32 := remsi (iota .tc S512x640 32 [0] iota_S512x640_d0_w32) (broadcast S512x640 step)

/-- The rows' numbers in their head. -/
def rowNumber : IVec S512x640 32 :=
  select (andi (xori (cmpi .slt remainder (broadcast S512x640 0#32))
      (broadcastTo S512x640 (broadcast S512x640 (Scalar.cmpi .slt step 0#32)) broadcasts_S512x640_S512x640)) (cmpi .ne remainder (broadcast S512x640 0#32)))
    (addi remainder (broadcast S512x640 step)) remainder

theorem rowNumber_apply (h : Fin 4) (r : Fin 128) (j : Fin 640) : rowNumber (ix2 (place h r) j) = BitVec.ofNat 32 r.val := by
  have e : ∀ i : Fin 512, rowNumber (ix2 i (0 : Fin 640)) = BitVec.ofNat 32 (i.val % 128) := by
    unfold rowNumber remainder step
    decide +kernel
  refine (e (place h r)).trans (congrArg (BitVec.ofNat 32) ?_)
  show (h.val * 128 + r.val) % 128 = r.val
  omega

/-- The mask at a row and a key, from its comparisons. -/
theorem mask_eq (a : BitVec 32) (i : Fin 512) (j : Fin 640) :
    k0_pay9 a (ix2 i j)
      = IntOp.ori (IntOp.cmpi .sge (BitVec.ofNat 32 j.val) 384#32)
          (IntOp.andi
            (IntOp.andi (IntOp.cmpi .sle (IntOp.absi (rowNumber (ix2 i j) + 128#32 - BitVec.ofNat 32 j.val)) 128#32)
              (IntOp.ori (IntOp.cmpi .sge (BitVec.ofNat 32 j.val) 128#32) (IntOp.cmpi .sgt a 0#32)))
            (IntOp.ori (IntOp.cmpi .slt (BitVec.ofNat 32 j.val) 256#32) (IntOp.cmpi .slt a 15#32))) := by
  have e : iota .tc S512x640 32 [1] iota_S512x640_d1_w32 (ix2 i j) = BitVec.ofNat 32 j.val := by pointwise
  rw [← e]
  rfl

theorem mask_apply (n : Fin 16) (h : Fin 4) (r : Fin 128) (j : Fin 640) :
    k0_pay9 (BitVec.ofNat 32 n.val) (ix2 (place h r) j) = 1#1 ↔ WindowMask.seen n.val r.val j.val := by
  have hn := n.isLt
  have hj := j.isLt
  rw [mask_eq, rowNumber_apply, IntOp.ori_eq_one, IntOp.andi_eq_one, IntOp.andi_eq_one, IntOp.ori_eq_one, IntOp.ori_eq_one,
    WindowMask.close_iff _ _ r.isLt hj, WindowMask.after 384 _ (by omega) (by omega), WindowMask.after 128 _ (by omega) (by omega),
    WindowMask.beyond 0 _ (by omega) (by omega), WindowMask.before 256 _ (by omega) (by omega), WindowMask.before 15 _ (by omega) (by omega)]
  unfold WindowMask.seen WindowMask.near
  tauto

/-! ## What the body leaves -/

/-- One row's scores: scaled queries against the keys seen, −∞ for the others. -/
def score (n : Fin 16) (r : Fin 128) (q : Fin 64 → EReal) (k : Fin 640 → Fin 64 → EReal) (j : Fin 640) : EReal :=
  if WindowMask.seen n.val r.val j.val then ∑ d, q d * scale * k j d else ⊥

/-- A load through a rectangle reads the block where the rectangle puts the coordinate. -/
theorem ld_at {s : Shape} (X : Vec Ideal s .f32) (r : Rect s) (y : r.shape.Idx) (z : s.Idx) (h : ∀ a, (r.emb y a).val = (z a).val) :
    View.ld X r y = X z := congrArg X (funext fun a => Fin.ext (h a))

/-- A coordinate offset by zero at stride one. -/
theorem at_zero (n : Nat) : 0 + 1 * n = n := by omega

theorem sink_apply (x : Vec Ideal S1x4x1x1 .f32) (h : Fin 4) (r : Fin 128) :
    sinkAt (View.ld x r0_3) (View.ld x r0_4) (View.ld x r0_5) (View.ld x r0_6) (place h r) = x (ix4 0 h 0 0) := by
  unfold sinkAt place
  match h with
  | 0 =>
    rw [if_pos (by show 0 * 128 + r.val < 128; omega)]
    refine ld_at _ _ _ _ fun a => ?_
    fin_cases a <;> rfl
  | 1 =>
    rw [if_neg (by show ¬ 1 * 128 + r.val < 128; omega), if_pos (by show 1 * 128 + r.val - 128 < 128; omega)]
    refine ld_at _ _ _ _ fun a => ?_
    fin_cases a <;> rfl
  | 2 =>
    rw [if_neg (by show ¬ 2 * 128 + r.val < 128; omega), if_neg (by show ¬ 2 * 128 + r.val - 128 < 128; omega),
      if_pos (by show 2 * 128 + r.val - 128 - 128 < 128; omega)]
    refine ld_at _ _ _ _ fun a => ?_
    fin_cases a <;> rfl
  | 3 =>
    rw [if_neg (by show ¬ 3 * 128 + r.val < 128; omega), if_neg (by show ¬ 3 * 128 + r.val - 128 < 128; omega),
      if_neg (by show ¬ 3 * 128 + r.val - 128 - 128 < 128; omega)]
    refine ld_at _ _ _ _ fun a => ?_
    fin_cases a <;> rfl

/-- Loads of whole blocks. -/
theorem ld_rows (x : Vec Ideal S1x1x128x64 .f32) : View.ld x r0_1 = x :=
  funext fun y => ld_at _ _ _ _ fun a => by fin_cases a <;> exact at_zero _

theorem ld_context (x : Vec Ideal S1x1x256x64 .f32) : View.ld x r0_2 = x :=
  funext fun y => ld_at _ _ _ _ fun a => by fin_cases a <;> exact at_zero _

theorem ld_heads (x : Vec Ideal S1x4x128x64 .f32) : View.ld x r0_0 = x :=
  funext fun y => ld_at _ _ _ _ fun a => by fin_cases a <;> exact at_zero _

theorem block_apply (x : FVec Ideal S4x128x64 .f32) (h : Fin 4) (r : Fin 128) (d : Fin 64) : k0_pay1 x (ix4 0 h r d) = x (ix3 h r d) := by
  unfold k0_pay1
  pointwise

/-- What the body leaves in the output's buffer at row `r` and column `d` of head `h`: attention of that head's row. -/
theorem out_apply (i : grid0.Coords) (n : Fin 16) (hn : (i 2).val = n.val) (x0 : Vec Ideal S1x4x128x64 .f32) (x1 x2 x3 : Vec Ideal S1x1x128x64 .f32)
    (x4 : Vec Ideal S1x1x256x64 .f32) (x5 x6 x7 : Vec Ideal S1x1x128x64 .f32) (x8 : Vec Ideal S1x1x256x64 .f32) (x9 : Vec Ideal S1x4x1x1 .f32)
    (h : Fin 4) (r : Fin 128) (d : Fin 64) :
    out0_10 i x0 x1 x2 x3 x4 x5 x6 x7 x8 x9 (ix4 0 h r d)
      = WindowSoftmax.attend (score n r (fun e => x0 (ix4 0 h r e)) (joined x1 x2 x3 x4)) (fun j => joined x5 x6 x7 x8 j d) (x9 (ix4 0 h 0 0)) := by
  have hz : (![0, 0, 0, 0] : Fin S1x4x128x64.rank → Nat) = fun _ => 0 := funext fun a => by fin_cases a <;> rfl
  have hm : (Named.named κ "mask" 0xF149F2CA#32 : Ideal .f32) = (⊥ : EReal) := IdealRules.named_const.ideal_named_scalar _ _ _ _ rfl
  unfold out0_10
  rw [View.canon_unit_zero hz]
  refine (block_apply _ h r d).trans ?_
  rw [hm, hn]
  refine (softmax_apply _ _ _ _ _ _ _ _ h r d).trans ?_
  rw [sink_apply]
  simp only [ld_rows, ld_context, ld_heads, values_apply, scores_apply, queries_apply, keys_apply]
  refine congrArg (fun s => WindowSoftmax.attend s _ _) (funext fun j => ?_)
  exact WindowMask.select_iff (mask_apply n h r j) _ _

end Cert.Proof.WindowBlock

end
-- ==== Proof.WindowArray.lean ====
/-
  The window attention's result array as one function of its argument arrays, and the run that leaves it there.
-/
module

public import proofs.«01_k».proof.Proof.WindowBlock

@[expose] public section

noncomputable section

namespace Cert.Proof.WindowArray

open Idealize.ShloMosaic Idealize.ShloMosaic.TcCoe Idealize.SL.Sem Cert.WindowIdeal Cert.WindowIdeal.Gen Cert.WindowIdeal.Value
open Cert.Proof.WindowBlock Cert.Proof.WindowMask

/-- Attention of batch element `b`, head `h` of group `g`, row `r` of block `n`, at the value column `d`. -/
def outAt (q : Vec Ideal S8x8x2304x64 .f32) (k v : Vec Ideal S8x2x2304x64 .f32) (s : Vec Ideal S8 .f32)
    (b : Fin 8) (g : Fin 2) (h : Fin 4) (n : Fin 16) (r : Fin 128) (d : Fin 64) : EReal :=
  WindowSoftmax.attend (score n r (fun e => q (ix4 b (headOf g h) ⟨256 + (rowOf n r).val, by omega⟩ e)) (fun j e => k (ix4 b g (sourceRow n j) e)))
    (fun j => v (ix4 b g (sourceRow n j) d)) (s (ix1 (headOf g h)))

/-- The result array. -/
def out (q : Vec Ideal S8x8x2304x64 .f32) (k v : Vec Ideal S8x2x2304x64 .f32) (s : Vec Ideal S8 .f32) : Vec Ideal S8x8x2048x64 .f32 := fun i =>
  outAt q k v s (i 0) ⟨(i 1).val / 4, by have : (i 1).val < 8 := (i 1).isLt; omega⟩ ⟨(i 1).val % 4, by omega⟩
    ⟨(i 2).val / 128, by have : (i 2).val < 2048 := (i 2).isLt; omega⟩ ⟨(i 2).val % 128, by omega⟩ (i 3)

variable (m : (ℓ : Loc nD τ sig) → Buf (Elt Ideal) ℓ) (ρ : Dev nD → PrngReg)

/-! ## The windows' block indices at a grid point -/

theorem idx0 : ∀ t : Fin cfg0.N, win0_0.index t (0 : Fin 4) = t.val / 32 ∧ win0_0.index t (1 : Fin 4) = t.val / 16 % 2
    ∧ win0_0.index t (2 : Fin 4) = t.val % 16 + 2 ∧ win0_0.index t (3 : Fin 4) = 0 := (by decide +kernel : ∀ t : Fin grid0.N, _)
theorem idx_prev : ∀ t : Fin cfg0.N, win0_1.index t (0 : Fin 4) = t.val / 32 ∧ win0_1.index t (1 : Fin 4) = t.val / 16 % 2
    ∧ win0_1.index t (2 : Fin 4) = t.val % 16 - 1 + 2 ∧ win0_1.index t (3 : Fin 4) = 0 := (by decide +kernel : ∀ t : Fin grid0.N, _)
theorem idx_own : ∀ t : Fin cfg0.N, win0_2.index t (0 : Fin 4) = t.val / 32 ∧ win0_2.index t (1 : Fin 4) = t.val / 16 % 2
    ∧ win0_2.index t (2 : Fin 4) = t.val % 16 + 2 ∧ win0_2.index t (3 : Fin 4) = 0 := (by decide +kernel : ∀ t : Fin grid0.N, _)
theorem idx_next : ∀ t : Fin cfg0.N, win0_3.index t (0 : Fin 4) = t.val / 32 ∧ win0_3.index t (1 : Fin 4) = t.val / 16 % 2
    ∧ win0_3.index t (2 : Fin 4) = min (t.val % 16 + 1) 15 + 2 ∧ win0_3.index t (3 : Fin 4) = 0 := (by decide +kernel : ∀ t : Fin grid0.N, _)
theorem idx_context : ∀ t : Fin cfg0.N, win0_4.index t (0 : Fin 4) = t.val / 32 ∧ win0_4.index t (1 : Fin 4) = t.val / 16 % 2
    ∧ win0_4.index t (2 : Fin 4) = 0 ∧ win0_4.index t (3 : Fin 4) = 0 := (by decide +kernel : ∀ t : Fin grid0.N, _)
theorem idx9 : ∀ t : Fin cfg0.N, win0_9.index t (0 : Fin 4) = t.val / 16 % 2 ∧ win0_9.index t (1 : Fin 4) = 0
    ∧ win0_9.index t (2 : Fin 4) = 0 ∧ win0_9.index t (3 : Fin 4) = 0 := (by decide +kernel : ∀ t : Fin grid0.N, _)
theorem idx10 : ∀ t : Fin cfg0.N, win0_10.index t (0 : Fin 4) = t.val / 32 ∧ win0_10.index t (1 : Fin 4) = t.val / 16 % 2
    ∧ win0_10.index t (2 : Fin 4) = t.val % 16 ∧ win0_10.index t (3 : Fin 4) = 0 := (by decide +kernel : ∀ t : Fin grid0.N, _)

theorem coord : ∀ t : Fin cfg0.N, (grid0.coords t 2).val = t.val % 16 := (by decide +kernel : ∀ t : Fin grid0.N, _)

/-- The batch element, the group of heads and the block of rows of a grid point. -/
def batch (t : Fin cfg0.N) : Fin 8 := ⟨t.val / 32, by have : t.val < 256 := t.isLt; omega⟩
def group (t : Fin cfg0.N) : Fin 2 := ⟨t.val / 16 % 2, by omega⟩
def part (t : Fin cfg0.N) : Fin 16 := ⟨t.val % 16, by omega⟩

/-! ## The input windows' blocks, read off the argument arrays -/

theorem blk0 (c : Dev nD) (t : Fin cfg0.N) (h : Fin 4) (r : Fin 128) (d : Fin 64) :
    iblk m c 0 t (ix4 0 h r d)
      = m ((c : Thread nD τ).loc main_arg0) (ix4 (batch t) (headOf (group t) h) ⟨256 + (rowOf (part t) r).val, by omega⟩ d) := by
  obtain ⟨e0, e1, e2, e3⟩ := idx0 t
  rw [← V_main_arg0 m c]
  refine congrArg (V m c main_arg0) (funext fun a => Fin.ext ?_)
  match a with
  | ⟨0, _⟩ => show win0_0.index t (0 : Fin 4) * 1 + 1 * 0 = t.val / 32; omega
  | ⟨1, _⟩ => show win0_0.index t (1 : Fin 4) * 4 + 1 * h.val = t.val / 16 % 2 * 4 + h.val; omega
  | ⟨2, _⟩ => show win0_0.index t (2 : Fin 4) * 128 + 1 * r.val = 256 + (t.val % 16 * 128 + r.val); omega
  | ⟨3, _⟩ => show win0_0.index t (3 : Fin 4) * 64 + 1 * d.val = d.val; omega

/-- The rows of the previous, the own and the next block, and of the context, in the whole array. -/
def prevRow (t : Fin cfg0.N) (j : Fin 128) : Fin 2304 := ⟨256 + (t.val % 16 - 1) * 128 + j.val, by omega⟩
def ownRow (t : Fin cfg0.N) (j : Fin 128) : Fin 2304 := ⟨256 + t.val % 16 * 128 + j.val, by omega⟩
def nextRow (t : Fin cfg0.N) (j : Fin 128) : Fin 2304 := ⟨256 + min (t.val % 16 + 1) 15 * 128 + j.val, by omega⟩
def contextRow (j : Fin 256) : Fin 2304 := ⟨j.val, by omega⟩

/-- Where the previous block of rows is read: the same place for keys and for values. -/
theorem at_prev (x : Vec Ideal S8x2x2304x64 .f32) (t : Fin cfg0.N) (j : Fin 128) (d : Fin 64) :
    x (((cfg0.win 1).blk t).view.emb (ix4 0 0 j d)) = x (ix4 (batch t) (group t) (prevRow t j) d) := by
  obtain ⟨e0, e1, e2, e3⟩ := idx_prev t
  refine congrArg x (funext fun a => Fin.ext ?_)
  match a with
  | ⟨0, _⟩ => show win0_1.index t (0 : Fin 4) * 1 + 1 * 0 = t.val / 32; omega
  | ⟨1, _⟩ => show win0_1.index t (1 : Fin 4) * 1 + 1 * 0 = t.val / 16 % 2; omega
  | ⟨2, _⟩ => show win0_1.index t (2 : Fin 4) * 128 + 1 * j.val = 256 + (t.val % 16 - 1) * 128 + j.val; omega
  | ⟨3, _⟩ => show win0_1.index t (3 : Fin 4) * 64 + 1 * d.val = d.val; omega

theorem at_own (x : Vec Ideal S8x2x2304x64 .f32) (t : Fin cfg0.N) (j : Fin 128) (d : Fin 64) :
    x (((cfg0.win 2).blk t).view.emb (ix4 0 0 j d)) = x (ix4 (batch t) (group t) (ownRow t j) d) := by
  obtain ⟨e0, e1, e2, e3⟩ := idx_own t
  refine congrArg x (funext fun a => Fin.ext ?_)
  match a with
  | ⟨0, _⟩ => show win0_2.index t (0 : Fin 4) * 1 + 1 * 0 = t.val / 32; omega
  | ⟨1, _⟩ => show win0_2.index t (1 : Fin 4) * 1 + 1 * 0 = t.val / 16 % 2; omega
  | ⟨2, _⟩ => show win0_2.index t (2 : Fin 4) * 128 + 1 * j.val = 256 + t.val % 16 * 128 + j.val; omega
  | ⟨3, _⟩ => show win0_2.index t (3 : Fin 4) * 64 + 1 * d.val = d.val; omega

theorem at_next (x : Vec Ideal S8x2x2304x64 .f32) (t : Fin cfg0.N) (j : Fin 128) (d : Fin 64) :
    x (((cfg0.win 3).blk t).view.emb (ix4 0 0 j d)) = x (ix4 (batch t) (group t) (nextRow t j) d) := by
  obtain ⟨e0, e1, e2, e3⟩ := idx_next t
  refine congrArg x (funext fun a => Fin.ext ?_)
  match a with
  | ⟨0, _⟩ => show win0_3.index t (0 : Fin 4) * 1 + 1 * 0 = t.val / 32; omega
  | ⟨1, _⟩ => show win0_3.index t (1 : Fin 4) * 1 + 1 * 0 = t.val / 16 % 2; omega
  | ⟨2, _⟩ => show win0_3.index t (2 : Fin 4) * 128 + 1 * j.val = 256 + min (t.val % 16 + 1) 15 * 128 + j.val; omega
  | ⟨3, _⟩ => show win0_3.index t (3 : Fin 4) * 64 + 1 * d.val = d.val; omega

theorem at_context (x : Vec Ideal S8x2x2304x64 .f32) (t : Fin cfg0.N) (j : Fin 256) (d : Fin 64) :
    x (((cfg0.win 4).blk t).view.emb (ix4 0 0 j d)) = x (ix4 (batch t) (group t) (contextRow j) d) := by
  obtain ⟨e0, e1, e2, e3⟩ := idx_context t
  refine congrArg x (funext fun a => Fin.ext ?_)
  match a with
  | ⟨0, _⟩ => show win0_4.index t (0 : Fin 4) * 1 + 1 * 0 = t.val / 32; omega
  | ⟨1, _⟩ => show win0_4.index t (1 : Fin 4) * 1 + 1 * 0 = t.val / 16 % 2; omega
  | ⟨2, _⟩ => show win0_4.index t (2 : Fin 4) * 256 + 1 * j.val = j.val; omega
  | ⟨3, _⟩ => show win0_4.index t (3 : Fin 4) * 64 + 1 * d.val = d.val; omega

/-- Four blocks that hold these rows of an array, one after the other, are the rows the keys are read from. -/
theorem joined_eq (x : Vec Ideal S8x2x2304x64 .f32) (t : Fin cfg0.N) (p o n : Vec Ideal S1x1x128x64 .f32) (y : Vec Ideal S1x1x256x64 .f32)
    (hp : ∀ j d, p (ix4 0 0 j d) = x (ix4 (batch t) (group t) (prevRow t j) d)) (ho : ∀ j d, o (ix4 0 0 j d) = x (ix4 (batch t) (group t) (ownRow t j) d))
    (hn : ∀ j d, n (ix4 0 0 j d) = x (ix4 (batch t) (group t) (nextRow t j) d))
    (hy : ∀ j d, y (ix4 0 0 j d) = x (ix4 (batch t) (group t) (contextRow j) d)) (j : Fin 640) (d : Fin 64) :
    joined p o n y j d = x (ix4 (batch t) (group t) (sourceRow (part t) j) d) := by
  have key : ∀ a : Fin 2304, a.val = WindowMask.source (t.val % 16) j.val →
      x (ix4 (batch t) (group t) a d) = x (ix4 (batch t) (group t) (sourceRow (part t) j) d) :=
    fun a h => congrArg (fun a => x (ix4 (batch t) (group t) a d)) (Fin.ext h)
  unfold joined
  unfold WindowMask.source at key
  split_ifs with h1 h2 h3
  · rw [hp]
    refine key _ ?_
    rw [if_pos h1]
    rfl
  · rw [ho]
    refine key _ ?_
    rw [if_neg h1, if_pos (by omega)]
    rfl
  · rw [hn]
    refine key _ ?_
    rw [if_neg h1, if_neg (by omega), if_pos (by omega)]
    show 256 + min (t.val % 16 + 1) 15 * 128 + (j.val - 128 - 128) = _
    omega
  · rw [hy]
    refine key _ ?_
    rw [if_neg h1, if_neg (by omega), if_neg (by omega)]
    show j.val - 128 - 128 - 128 = _
    omega

theorem keys_eq (c : Dev nD) (t : Fin cfg0.N) :
    joined (iblk m c 1 t) (iblk m c 2 t) (iblk m c 3 t) (iblk m c 4 t)
      = fun j d => m ((c : Thread nD τ).loc main_arg1) (ix4 (batch t) (group t) (sourceRow (part t) j) d) := by
  funext j d
  rw [← V_main_arg1 m c]
  exact joined_eq (V m c main_arg1) t _ _ _ _ (fun j d => at_prev (V m c main_arg1) t j d) (fun j d => at_own (V m c main_arg1) t j d)
    (fun j d => at_next (V m c main_arg1) t j d) (fun j d => at_context (V m c main_arg1) t j d) j d

theorem values_eq (c : Dev nD) (t : Fin cfg0.N) :
    joined (iblk m c 5 t) (iblk m c 6 t) (iblk m c 7 t) (iblk m c 8 t)
      = fun j d => m ((c : Thread nD τ).loc main_arg2) (ix4 (batch t) (group t) (sourceRow (part t) j) d) := by
  funext j d
  rw [← V_main_arg2 m c]
  exact joined_eq (V m c main_arg2) t _ _ _ _ (fun j d => at_prev (V m c main_arg2) t j d) (fun j d => at_own (V m c main_arg2) t j d)
    (fun j d => at_next (V m c main_arg2) t j d) (fun j d => at_context (V m c main_arg2) t j d) j d

/-- The sinks, laid out by groups of heads. -/
theorem V_sink (c : Dev nD) (g : Fin 2) (h : Fin 4) : V m c main_v0 (ix4 g h 0 0) = m ((c : Thread nD τ).loc main_arg3) (ix1 (headOf g h)) := by
  have e : (V m c main_v0 : Vec Ideal S2x4x1x1 .f32) = shapeCast S2x4x1x1 (m ((c : Thread nD τ).loc main_arg3) : Vec Ideal S8 .f32) shapeCasts_S8_S2x4x1x1 := by
    unfold V
    simp only [hostOps0]
    after_results_simp <;> rfl
  rw [e]
  refine shapeCast_apply _ shapeCasts_S8_S2x4x1x1 (ix4 g h 0 0) (ix1 (headOf g h)) ?_
  rw [Shape.rowMajor_val_one, Shape.rowMajor_val_four]
  show g.val * 4 + h.val = ((g.val * 4 + h.val) * 1 + 0) * 1 + 0
  omega

theorem blk9 (c : Dev nD) (t : Fin cfg0.N) (h : Fin 4) :
    iblk m c 9 t (ix4 0 h 0 0) = m ((c : Thread nD τ).loc main_arg3) (ix1 (headOf (group t) h)) := by
  obtain ⟨e0, e1, e2, e3⟩ := idx9 t
  rw [← V_sink m c]
  refine congrArg (V m c main_v0) (funext fun a => Fin.ext ?_)
  match a with
  | ⟨0, _⟩ => show win0_9.index t (0 : Fin 4) * 1 + 1 * 0 = t.val / 16 % 2; omega
  | ⟨1, _⟩ => show win0_9.index t (1 : Fin 4) * 4 + 1 * h.val = h.val; omega
  | ⟨2, _⟩ => show win0_9.index t (2 : Fin 4) * 1 + 1 * 0 = 0; omega
  | ⟨3, _⟩ => show win0_9.index t (3 : Fin 4) * 1 + 1 * 0 = 0; omega

/-! ## The result array -/

/-- The result array of the launch's arguments. -/
def result (c : Dev nD) : Vec Ideal S8x8x2048x64 .f32 :=
  out (m ((c : Thread nD τ).loc main_arg0)) (m ((c : Thread nD τ).loc main_arg1)) (m ((c : Thread nD τ).loc main_arg2))
    (m ((c : Thread nD τ).loc main_arg3))

/-- Where an element of the output's block sits in the array. -/
theorem emb10 (t : Fin cfg0.N) (h : Fin 4) (r : Fin 128) (d : Fin 64) :
    ((cfg0.win 10).blk t).view.emb (ix4 0 h r d) = ix4 (batch t) (headOf (group t) h) (rowOf (part t) r) d := by
  obtain ⟨e0, e1, e2, e3⟩ := idx10 t
  refine funext fun a => Fin.ext ?_
  match a with
  | ⟨0, _⟩ => show win0_10.index t (0 : Fin 4) * 1 + 1 * 0 = t.val / 32; omega
  | ⟨1, _⟩ => show win0_10.index t (1 : Fin 4) * 4 + 1 * h.val = t.val / 16 % 2 * 4 + h.val; omega
  | ⟨2, _⟩ => show win0_10.index t (2 : Fin 4) * 128 + 1 * r.val = t.val % 16 * 128 + r.val; omega
  | ⟨3, _⟩ => show win0_10.index t (3 : Fin 4) * 64 + 1 * d.val = d.val; omega

/-- The result array, at a batch element, a head of a group, a row of a block and a column. -/
theorem result_apply (c : Dev nD) (b : Fin 8) (g : Fin 2) (h : Fin 4) (n : Fin 16) (r : Fin 128) (d : Fin 64) :
    result m c (ix4 b (headOf g h) (rowOf n r) d)
      = outAt (m ((c : Thread nD τ).loc main_arg0)) (m ((c : Thread nD τ).loc main_arg1)) (m ((c : Thread nD τ).loc main_arg2))
          (m ((c : Thread nD τ).loc main_arg3)) b g h n r d := by
  have e1 : (g.val * 4 + h.val) / 4 = g.val := by omega
  have e2 : (g.val * 4 + h.val) % 4 = h.val := by omega
  have e3 : (n.val * 128 + r.val) / 128 = n.val := by omega
  have e4 : (n.val * 128 + r.val) % 128 = r.val := by omega
  show outAt _ _ _ _ b ⟨(g.val * 4 + h.val) / 4, _⟩ ⟨(g.val * 4 + h.val) % 4, _⟩ ⟨(n.val * 128 + r.val) / 128, _⟩ ⟨(n.val * 128 + r.val) % 128, _⟩ d = _
  simp only [e1, e2, e3, e4]

/-- An index of the output's block: a head, a row and a column. -/
theorem block_ix (y : S1x4x128x64.Idx) : ∃ (h : Fin 4) (r : Fin 128) (d : Fin 64), y = ix4 0 h r d := by
  have h0 : (y 0).val < 1 := (y 0).isLt
  refine ⟨y 1, y 2, y 3, funext fun a => Fin.ext ?_⟩
  match a with
  | ⟨0, _⟩ => show (y 0).val = 0; omega
  | ⟨1, _⟩ => rfl
  | ⟨2, _⟩ => rfl
  | ⟨3, _⟩ => rfl

/-- What a grid point writes back is its block of the result array. -/
theorem flushed10_eq (c : Dev nD) (t : Fin cfg0.N) :
    (dats m 0 c).flushed 10 t = ((cfg0.win 10).blk t).view.read (Elt Ideal) (result m c) := by
  rw [flushed10]
  funext y
  obtain ⟨h, r, d, rfl⟩ := block_ix y
  show out0_10 (grid0.coords t) (iblk m c 0 t) (iblk m c 1 t) (iblk m c 2 t) (iblk m c 3 t) (iblk m c 4 t) (iblk m c 5 t) (iblk m c 6 t) (iblk m c 7 t)
      (iblk m c 8 t) (iblk m c 9 t) (ix4 0 h r d)
    = result m c (((cfg0.win 10).blk t).view.emb (ix4 0 h r d))
  rw [emb10, result_apply, out_apply (grid0.coords t) (part t) (coord t), keys_eq, values_eq, blk9]
  unfold outAt
  simp only [blk0]

/-- Every index of the result array is in some grid point's block. -/
theorem covered10 (i : S8x8x2048x64.Idx) : ∃ t : Fin cfg0.N, (cfg0.win 10).flush t = true ∧ i ∈ ((cfg0.win 10).blk t).view.set := by
  have h0 : (i 0).val < 8 := (i 0).isLt
  have h1 : (i 1).val < 8 := (i 1).isLt
  have h2 : (i 2).val < 2048 := (i 2).isLt
  have h3 : (i 3).val < 64 := (i 3).isLt
  refine ⟨(⟨(i 0).val * 32 + (i 1).val / 4 * 16 + (i 2).val / 128, by show _ < 256; omega⟩ : Fin cfg0.N), flush0_10 _, ?_⟩
  have h := ((cfg0.win 10).blk (⟨(i 0).val * 32 + (i 1).val / 4 * 16 + (i 2).val / 128, by show _ < 256; omega⟩ : Fin cfg0.N)).view.emb_mem_set
    (ix4 0 (⟨(i 1).val % 4, by omega⟩ : Fin 4) (⟨(i 2).val % 128, by omega⟩ : Fin 128) (⟨(i 3).val, h3⟩ : Fin 64))
  rw [emb10] at h
  refine (congrArg (· ∈ _) (funext fun a => Fin.ext ?_)).mpr h
  match a with
  | ⟨0, _⟩ => show (i 0).val = ((i 0).val * 32 + (i 1).val / 4 * 16 + (i 2).val / 128) / 32; omega
  | ⟨1, _⟩ => show (i 1).val = ((i 0).val * 32 + (i 1).val / 4 * 16 + (i 2).val / 128) / 16 % 2 * 4 + (i 1).val % 4; omega
  | ⟨2, _⟩ => show (i 2).val = ((i 0).val * 32 + (i 1).val / 4 * 16 + (i 2).val / 128) % 16 * 128 + (i 2).val % 128; omega
  | ⟨3, _⟩ => rfl

/-- The run: the result array is `result` of the arguments, which end unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨(h c).1.trans ((dats m 0 c).arrAt_eq_of_cover 10 (result m c) (fun t _ => flushed10_eq m c t) covered10), (h c).2⟩)
    (run_blocks m ρ)

end Cert.Proof.WindowArray

end
-- ==== Proof.WindowBand.lean ====
/-
  The reference's bands of keys (or values), its mask and its masked scores, read at an element.
-/
module

public import proofs.«01_k».proof.Defs
public import proofs.«01_k».proof.Proof.Gen.WindowReferenceIdeal.Run
public import proofs.«01_k».proof.Proof.Gen.WindowReferenceIdeal.Read
public import proofs.«01_k».proof.Proof.WindowMask

@[expose] public section

noncomputable section

namespace Cert.Proof.WindowBand

open Idealize.ShloMosaic Cert.WindowReferenceIdeal Cert.WindowReferenceIdeal.Read Cert.Proof.WindowMask

variable (x0 : (⟨S8x8x2304x64, .f32⟩ : BufTy).Contents (Elt Ideal)) (x1 x2 : (⟨S8x2x2304x64, .f32⟩ : BufTy).Contents (Elt Ideal))

/-- The printed zero. -/
theorem zero (i : S8x1x128x2x64.Idx) : val_main_v11 (F := Ideal) i = (0 : EReal) := by
  rw [val_main_v11_apply, val_main_cst_apply]
  exact Ideal.ofBits_zero_f32

/-! ## The bands -/

/-- A row of a block of the sequence. -/
theorem own_apply (b : Fin 8) (n : Fin 16) (j : Fin 128) (g : Fin 2) (e : Fin 64) :
    val_main_v9 (F := Ideal) x1 (ix5 b n j g e) = x1 (ix4 b g ⟨256 + (n.val * 128 + j.val), by omega⟩ e) := by
  rw [val_main_v9_apply, val_main_v4_apply, val_main_v1_apply]
  refine congrArg x1 (funext fun a => Fin.ext ?_)
  have hb := b.isLt; have hn := n.isLt; have hj := j.isLt; have hg := g.isLt; have he := e.isLt
  match a with
  | ⟨0, _⟩ => show ((((b.val * 16 + n.val) * 128 + j.val) * 2 + g.val) * 64 + e.val) / 262144 = b.val; omega
  | ⟨1, _⟩ => show ((((b.val * 16 + n.val) * 128 + j.val) * 2 + g.val) * 64 + e.val) / 64 % 2 = g.val; omega
  | ⟨2, _⟩ => show 256 + ((((b.val * 16 + n.val) * 128 + j.val) * 2 + g.val) * 64 + e.val) / 128 % 2048 = 256 + (n.val * 128 + j.val); omega
  | ⟨3, _⟩ => show ((((b.val * 16 + n.val) * 128 + j.val) * 2 + g.val) * 64 + e.val) % 64 = e.val; omega

/-- A row of the block before: zeros before the first. -/
theorem prev_apply (b : Fin 8) (n : Fin 16) (j : Fin 128) (g : Fin 2) (e : Fin 64) :
    val_main_v13 (F := Ideal) x1 (ix5 b n j g e)
      = if 0 < n.val then x1 (ix4 b g ⟨256 + ((n.val - 1) * 128 + j.val), by omega⟩ e) else 0 := by
  unfold val_main_v13
  by_cases h : 0 < n.val
  · have o := own_apply x1 b ⟨n.val - 1, by omega⟩ j g e
    rw [if_pos h, concatenate_pair_apply_right (s₁ := S8x1x128x2x64) (s₂ := S8x15x128x2x64) (t := S8x16x128x2x64) (1 : Fin 5) _ _ _ (ix5 b n j g e) rfl rfl
      (ix5 b (⟨n.val - 1, by omega⟩ : Fin 15) j g e) (fun a ha => match a, ha with
        | ⟨0, _⟩, _ => rfl
        | ⟨1, _⟩, ha => absurd rfl ha
        | ⟨2, _⟩, _ => rfl
        | ⟨3, _⟩, _ => rfl
        | ⟨4, _⟩, _ => rfl) (by show n.val - 1 + 1 = n.val; omega), val_main_v12_apply]
    exact (congrArg (val_main_v9 (F := Ideal) x1) (funext fun a => by fin_cases a <;> rfl)).trans o
  · rw [if_neg h, concatenate_pair_apply_left (s₁ := S8x1x128x2x64) (s₂ := S8x15x128x2x64) (t := S8x16x128x2x64) (1 : Fin 5) _ _ _ (ix5 b n j g e) rfl
      (ix5 b (⟨n.val, by omega⟩ : Fin 1) j g e) (fun a => by fin_cases a <;> rfl), zero]

/-- A row of the block after: zeros after the last. -/
theorem next_apply (b : Fin 8) (n : Fin 16) (j : Fin 128) (g : Fin 2) (e : Fin 64) :
    val_main_v15 (F := Ideal) x1 (ix5 b n j g e)
      = if n.val < 15 then x1 (ix4 b g ⟨256 + (min (n.val + 1) 15 * 128 + j.val), by omega⟩ e) else 0 := by
  unfold val_main_v15
  by_cases h : n.val < 15
  · have o := own_apply x1 b ⟨1 + n.val, by omega⟩ j g e
    rw [if_pos h, concatenate_pair_apply_left (s₁ := S8x15x128x2x64) (s₂ := S8x1x128x2x64) (t := S8x16x128x2x64) (1 : Fin 5) _ _ _ (ix5 b n j g e) rfl
      (ix5 b (⟨n.val, h⟩ : Fin 15) j g e) (fun a => by fin_cases a <;> rfl), val_main_v14_apply]
    refine (congrArg (val_main_v9 (F := Ideal) x1) (funext fun a => by fin_cases a <;> rfl)).trans
      (o.trans (congrArg (fun a => x1 (ix4 b g a e)) (Fin.ext ?_)))
    show 256 + ((1 + n.val) * 128 + j.val) = 256 + (min (n.val + 1) 15 * 128 + j.val)
    omega
  · rw [if_neg h, concatenate_pair_apply_right (s₁ := S8x15x128x2x64) (s₂ := S8x1x128x2x64) (t := S8x16x128x2x64) (1 : Fin 5) _ _ _ (ix5 b n j g e) rfl rfl
      (ix5 b (⟨n.val - 15, by omega⟩ : Fin 1) j g e) (fun a ha => match a, ha with
        | ⟨0, _⟩, _ => rfl
        | ⟨1, _⟩, ha => absurd rfl ha
        | ⟨2, _⟩, _ => rfl
        | ⟨3, _⟩, _ => rfl
        | ⟨4, _⟩, _ => rfl) (by show n.val - 15 + 15 = n.val; omega), zero]

/-- A key among the three blocks, as a key among all. -/
def wide (j : Fin 384) : Fin 640 := ⟨j.val, by omega⟩

/-- A row of the three blocks around one: the row that the keys are read from, zero outside the sequence. -/
theorem band_apply (b : Fin 8) (n : Fin 16) (j : Fin 384) (g : Fin 2) (e : Fin 64) :
    val_main_v16 (F := Ideal) x1 (ix5 b n j g e)
      = if (128 ≤ j.val ∨ 0 < n.val) ∧ (j.val < 256 ∨ n.val < 15) then x1 (ix4 b g (sourceRow n (wide j)) e) else 0 := by
  have key : ∀ a : Fin 2304, a.val = source n.val j.val → x1 (ix4 b g a e) = x1 (ix4 b g (sourceRow n (wide j)) e) :=
    fun a h => congrArg (fun a => x1 (ix4 b g a e)) (Fin.ext h)
  unfold source at key
  have hj := j.isLt
  unfold val_main_v16
  by_cases h1 : j.val < 128
  · rw [concatenate_apply_piece (t := S8x16x384x2x64) (2 : Fin 5) _ _ (ix5 b n j g e) 0 (by simp) S8x16x128x2x64 _ rfl rfl 0 rfl
      (ix5 b n (⟨j.val, h1⟩ : Fin 128) g e) (fun a ha => match a, ha with
        | ⟨0, _⟩, _ => rfl
        | ⟨1, _⟩, _ => rfl
        | ⟨2, _⟩, ha => absurd rfl ha
        | ⟨3, _⟩, _ => rfl
        | ⟨4, _⟩, _ => rfl) (by show 0 + j.val = j.val; omega), prev_apply]
    by_cases h0 : 0 < n.val
    · rw [if_pos h0, if_pos ⟨Or.inr h0, Or.inl (by omega)⟩]
      refine key _ ?_
      rw [if_pos h1]
      show 256 + ((n.val - 1) * 128 + j.val) = 256 + (n.val - 1) * 128 + j.val
      omega
    · rw [if_neg h0, if_neg (by omega)]
  · by_cases h2 : j.val < 256
    · rw [concatenate_apply_piece (t := S8x16x384x2x64) (2 : Fin 5) _ _ (ix5 b n j g e) 1 (by simp) S8x16x128x2x64 _ rfl rfl 128 rfl
        (ix5 b n (⟨j.val - 128, by omega⟩ : Fin 128) g e) (fun a ha => match a, ha with
          | ⟨0, _⟩, _ => rfl
          | ⟨1, _⟩, _ => rfl
          | ⟨2, _⟩, ha => absurd rfl ha
          | ⟨3, _⟩, _ => rfl
          | ⟨4, _⟩, _ => rfl) (by show 128 + (j.val - 128) = j.val; omega), own_apply, if_pos ⟨Or.inl (by omega), Or.inl h2⟩]
      refine key _ ?_
      rw [if_neg h1, if_pos h2]
      show 256 + (n.val * 128 + (j.val - 128)) = 256 + n.val * 128 + (j.val - 128)
      omega
    · rw [concatenate_apply_piece (t := S8x16x384x2x64) (2 : Fin 5) _ _ (ix5 b n j g e) 2 (by simp) S8x16x128x2x64 _ rfl rfl 256 rfl
        (ix5 b n (⟨j.val - 256, by omega⟩ : Fin 128) g e) (fun a ha => match a, ha with
          | ⟨0, _⟩, _ => rfl
          | ⟨1, _⟩, _ => rfl
          | ⟨2, _⟩, ha => absurd rfl ha
          | ⟨3, _⟩, _ => rfl
          | ⟨4, _⟩, _ => rfl) (by show 256 + (j.val - 256) = j.val; omega), next_apply]
      by_cases h0 : n.val < 15
      · rw [if_pos h0, if_pos ⟨Or.inl (by omega), Or.inr h0⟩]
        refine key _ ?_
        rw [if_neg h1, if_neg h2, if_pos hj]
        show 256 + (min (n.val + 1) 15 * 128 + (j.val - 256)) = 256 + min (n.val + 1) 15 * 128 + (j.val - 256)
        omega
      · rw [if_neg h0, if_neg (by omega)]

/-- The band of values is built as the band of keys is. -/
theorem band_values : val_main_v24 (F := Ideal) x2 = val_main_v16 (F := Ideal) x2 := rfl

/-! ## The mask -/

theorem valid_apply (n : Fin 16) (r : Fin 128) (j : Fin 384) : val_main_v60 (F := Ideal) (ix3 n r j) = 1#1 ↔ near n.val r.val j.val := by
  have hn := n.isLt
  have hj := j.isLt
  have eq : val_main_v47 (F := Ideal) (ix3 n r j) = BitVec.ofNat 32 n.val * 128#32 + BitVec.ofNat 32 r.val := by
    rw [val_main_v47_apply, val_main_v37_apply, val_main_v35_apply, val_main_v36_apply, val_main_v32_apply, val_main_v34_apply, val_main_v30_apply,
      val_main_v31_apply, val_main_v29_apply, val_main_v33_apply, val_main_c_apply]
    rfl
  have ek : ∀ i : S16x1x384.Idx, i = ix3 n (0 : Fin 1) j →
      val_main_v46 (F := Ideal) i = (BitVec.ofNat 32 n.val - 1#32) * 128#32 + BitVec.ofNat 32 j.val := by
    rintro i rfl
    rw [val_main_v46_apply, val_main_v44_apply, val_main_v45_apply, val_main_v41_apply, val_main_v43_apply, val_main_v39_apply, val_main_v40_apply,
      val_main_v42_apply, val_main_v30_apply, val_main_v38_apply, val_main_v29_apply, val_main_c_2_apply, val_main_c_3_apply]
    rfl
  have ea : val_main_v52 (F := Ideal) (ix3 n r j) = 1#1 ↔ r.val ≤ j.val ∧ j.val ≤ r.val + 256 := by
    rw [val_main_v52_apply, val_main_v50_apply, val_main_v49_apply, eq, val_main_v48_apply, ek _ (funext fun a => by fin_cases a <;> rfl),
      val_main_v51_apply, val_main_c_4_apply]
    show IntOp.cmpi .sle (IntOp.absi (_ - _)) _ = 1#1 ↔ _
    rw [apart _ _ _ hn r.isLt hj]
    exact close_iff _ _ r.isLt (by omega)
  have eb : val_main_v55 (F := Ideal) (ix3 n r j) = 1#1 ↔ 128 ≤ n.val * 128 + j.val := by
    rw [val_main_v55_apply, val_main_v54_apply, ek _ (funext fun a => by fin_cases a <;> rfl), position _ _ hn hj, val_main_v53_apply, val_main_c_5_apply]
    exact inside_left ⟨n.val * 128 + j.val, by omega⟩
  have ec : val_main_v59 (F := Ideal) (ix3 n r j) = 1#1 ↔ n.val * 128 + j.val < 2176 := by
    rw [val_main_v59_apply, val_main_v58_apply, ek _ (funext fun a => by fin_cases a <;> rfl), position _ _ hn hj, val_main_v57_apply, val_main_c_6_apply]
    exact inside_right ⟨n.val * 128 + j.val, by omega⟩
  rw [val_main_v60_apply, val_main_v56_apply, IntOp.andi_eq_one, IntOp.andi_eq_one, ea, eb, ec]
  unfold near
  omega

end Cert.Proof.WindowBand

end
-- ==== Proof.WindowReference.lean ====
/-
  What the reference's window attention computes, at one element of its result.
-/
module

public import proofs.«01_k».proof.Proof.WindowBand
public import proofs.«01_k».proof.Proof.WindowSoftmax
public import Idealize.ShloMosaic.Lib.ValueIdxRank6

@[expose] public section

noncomputable section

namespace Cert.Proof.WindowReference

open Idealize.ShloMosaic Cert.WindowReferenceIdeal Cert.WindowReferenceIdeal.Read Cert.Proof.WindowMask Cert.Proof.WindowBand

/-- The printed constant below every score is −∞. -/
theorem negInf : Ideal.ofBits FTy.f32 0xFF800000#32 = (⊥ : EReal) := by
  simp [Ideal.ofBits, Ideal.ieee]

variable (x0 : (⟨S8x8x2304x64, .f32⟩ : BufTy).Contents (Elt Ideal)) (x1 x2 : (⟨S8x2x2304x64, .f32⟩ : BufTy).Contents (Elt Ideal))
  (x3 : (⟨S8, .f32⟩ : BufTy).Contents (Elt Ideal))

/-- The reference's score of key `j` for row `r` of block `n`: scaled after the product, −∞ where the row does not see the key. -/
def score (n : Fin 16) (r : Fin 128) (q : Fin 64 → EReal) (k : Fin 640 → Fin 64 → EReal) (j : Fin 640) : EReal :=
  if seen n.val r.val j.val then (∑ d, k j d * q d) * Ideal.ofBits FTy.f32 0x3E000000#32 else ⊥

/-- The scores of row `r` of block `n` for head `h` of group `g` of batch element `b`. -/
def scores (b : Fin 8) (g : Fin 2) (h : Fin 4) (n : Fin 16) (r : Fin 128) : Fin 640 → EReal :=
  score n r (fun e => x0 (ix4 b (headOf g h) ⟨256 + (rowOf n r).val, by omega⟩ e)) (fun j e => x1 (ix4 b g (sourceRow n j) e))

/-- The softmax's share of key `j`. -/
def share (b : Fin 8) (g : Fin 2) (h : Fin 4) (n : Fin 16) (r : Fin 128) (j : Fin 640) : EReal :=
  Ideal.div (WindowSoftmax.weight (scores x0 x1 b g h n r) (x3 (ix1 (headOf g h))) j)
    (WindowSoftmax.total (scores x0 x1 b g h n r) (x3 (ix1 (headOf g h))))

/-- A context key, as a key among all. -/
def late (j : Fin 256) : Fin 640 := ⟨384 + j.val, by omega⟩

/-- The queries by block, group and head. -/
theorem queries_apply (b : Fin 8) (n : Fin 16) (r : Fin 128) (g : Fin 2) (h : Fin 4) (e : Fin 64) :
    val_main_v8 (F := Ideal) x0 (ix6 b n r g h e) = x0 (ix4 b (headOf g h) ⟨256 + (rowOf n r).val, by omega⟩ e) := by
  have c : val_main_v8 (F := Ideal) x0 (ix6 b n r g h e) = val_main_v3 (F := Ideal) x0 (ix4 b (rowOf n r) (headOf g h) e) := by
    unfold val_main_v8
    refine shapeCast_apply _ _ _ _ ?_
    rw [Shape.rowMajor_val_six, Shape.rowMajor_val_four]
    show ((b.val * 2048 + (n.val * 128 + r.val)) * 8 + (g.val * 4 + h.val)) * 64 + e.val
      = ((((b.val * 16 + n.val) * 128 + r.val) * 2 + g.val) * 4 + h.val) * 64 + e.val
    omega
  rw [c, val_main_v3_apply, val_main_v0_apply]
  exact congrArg x0 (funext fun a => by fin_cases a <;> rfl)

/-- The scores of the three blocks, masked. -/
theorem v62_apply (b : Fin 8) (g : Fin 2) (h : Fin 4) (n : Fin 16) (r : Fin 128) (j : Fin 384) :
    val_main_v62 (F := Ideal) x0 x1 (ix6 b n g h r j) = scores x0 x1 b g h n r (wide j) := by
  have e1 : idx_main_v61 (idx_main_call0_v1 (ix6 b n g h r j)) = ix3 n r j := funext fun a => by fin_cases a <;> rfl
  have e2 : idx_main_v26 (ix6 b n g h r j) = ix6 b n g j r h := funext fun a => by fin_cases a <;> rfl
  have e3 : val_main_call0_v2 (F := Ideal) (ix6 b n g h r j) = (⊥ : EReal) := by
    rw [val_main_call0_v2_apply, val_main_call0_v0_apply, val_main_cst_7_apply]
    exact negInf
  rw [val_main_v62_apply, val_main_call0_v1_apply, val_main_v61_apply, e1, e3]
  refine (select_iff (valid_apply n r j) _ _).trans ?_
  have hj := j.isLt
  have hs : seen n.val r.val (wide j).val ↔ near n.val r.val j.val := by
    show 384 ≤ j.val ∨ near n.val r.val j.val ↔ _
    exact or_iff_right (by omega)
  unfold scores score
  by_cases hv : near n.val r.val j.val
  · rw [if_pos hv, if_pos (hs.2 hv), val_main_v28_apply, val_main_v26_apply, e2, val_main_v25_apply, val_main_v27_apply, val_main_cst_1_apply]
    refine congrArg (· * _) (Finset.sum_congr rfl fun e _ => ?_)
    have e4 : lidx_main_v25 (ix6 b n g j r h) e = ix5 b n j g e := funext fun a => by fin_cases a <;> rfl
    have e5 : ridx_main_v25 (ix6 b n g j r h) e = ix6 b n r g h e := funext fun a => by fin_cases a <;> rfl
    rw [e4, e5, band_apply, queries_apply, if_pos hv.2.2]
  · rw [if_neg hv, if_neg (fun c => hv (hs.1 c))]

/-- The scores of the context's keys. -/
theorem v66_apply (b : Fin 8) (g : Fin 2) (h : Fin 4) (n : Fin 16) (r : Fin 128) (j : Fin 256) :
    val_main_v66 (F := Ideal) x0 x1 (ix6 b n g h r j) = scores x0 x1 b g h n r (late j) := by
  have e2 : idx_main_v64 (ix6 b n g h r j) = ix6 b g j n r h := funext fun a => by fin_cases a <;> rfl
  unfold scores score
  have hs : seen n.val r.val (late j).val := Or.inl (Nat.le_add_right 384 j.val)
  rw [if_pos hs, val_main_v66_apply, val_main_v64_apply, e2, val_main_v63_apply, val_main_v65_apply,
    val_main_cst_8_apply]
  refine congrArg (· * _) (Finset.sum_congr rfl fun e _ => ?_)
  have e5 : ridx_main_v63 (ix6 b g j n r h) e = ix6 b n r g h e := funext fun a => by fin_cases a <;> rfl
  rw [e5, queries_apply, val_main_v6_apply, val_main_v1_apply]
  refine congrArg (fun a => x1 a * _) (funext fun a => Fin.ext ?_)
  match a with
  | ⟨0, _⟩ => rfl
  | ⟨1, _⟩ => rfl
  | ⟨2, _⟩ =>
    show j.val = source n.val (384 + j.val)
    unfold source
    rw [if_neg (by omega), if_neg (by omega), if_neg (by omega)]
    omega
  | ⟨3, _⟩ => rfl

/-- The sink of a head. -/
theorem v68_apply (b : Fin 8) (g : Fin 2) (h : Fin 4) (n : Fin 16) (r : Fin 128) (t : Fin 1) :
    val_main_v68 (F := Ideal) x3 (ix6 b n g h r t) = x3 (ix1 (headOf g h)) := by
  have e : idx_main_v68 (ix6 b n g h r t) = ix6 (0 : Fin 1) (0 : Fin 1) g h (0 : Fin 1) (0 : Fin 1) := funext fun a => by
    fin_cases a <;> rfl
  rw [val_main_v68_apply, e]
  unfold val_main_v67
  refine shapeCast_apply _ _ _ _ ?_
  rw [Shape.rowMajor_val_six, Shape.rowMajor_val_one]
  show g.val * 4 + h.val = ((((0 * 1 + 0) * 2 + g.val) * 4 + h.val) * 1 + 0) * 1 + 0
  omega

/-- All the scores of a row, and the sink. -/
theorem v69_apply (b : Fin 8) (g : Fin 2) (h : Fin 4) (n : Fin 16) (r : Fin 128) (t : Fin 641) :
    val_main_v69 (F := Ideal) x0 x1 x3 (ix6 b n g h r t)
      = WindowSoftmax.row (scores x0 x1 b g h n r) (x3 (ix1 (headOf g h))) t := by
  have ht := t.isLt
  unfold val_main_v69 WindowSoftmax.row
  by_cases h1 : t.val < 384
  · rw [concatenate_apply_piece (t := S8x16x2x4x128x641) (5 : Fin 6) _ _ (ix6 b n g h r t) 0 (by simp) S8x16x2x4x128x384 _ rfl rfl 0 rfl
      (ix6 b n g h r (⟨t.val, h1⟩ : Fin 384)) (fun a ha => match a, ha with
        | ⟨0, _⟩, _ => rfl
        | ⟨1, _⟩, _ => rfl
        | ⟨2, _⟩, _ => rfl
        | ⟨3, _⟩, _ => rfl
        | ⟨4, _⟩, _ => rfl
        | ⟨5, _⟩, ha => absurd rfl ha) (by show 0 + t.val = t.val; omega), v62_apply, dif_pos (by omega)]
    rfl
  · by_cases h2 : t.val < 640
    · rw [concatenate_apply_piece (t := S8x16x2x4x128x641) (5 : Fin 6) _ _ (ix6 b n g h r t) 1 (by simp) S8x16x2x4x128x256 _ rfl rfl 384 rfl
        (ix6 b n g h r (⟨t.val - 384, by omega⟩ : Fin 256)) (fun a ha => match a, ha with
          | ⟨0, _⟩, _ => rfl
          | ⟨1, _⟩, _ => rfl
          | ⟨2, _⟩, _ => rfl
          | ⟨3, _⟩, _ => rfl
          | ⟨4, _⟩, _ => rfl
          | ⟨5, _⟩, ha => absurd rfl ha) (by show 384 + (t.val - 384) = t.val; omega), v66_apply, dif_pos h2]
      exact congrArg _ (Fin.ext (by show 384 + (t.val - 384) = t.val; omega))
    · rw [concatenate_apply_piece (t := S8x16x2x4x128x641) (5 : Fin 6) _ _ (ix6 b n g h r t) 2 (by simp) S8x16x2x4x128x1 _ rfl rfl 640 rfl
        (ix6 b n g h r (⟨t.val - 640, by omega⟩ : Fin 1)) (fun a ha => match a, ha with
          | ⟨0, _⟩, _ => rfl
          | ⟨1, _⟩, _ => rfl
          | ⟨2, _⟩, _ => rfl
          | ⟨3, _⟩, _ => rfl
          | ⟨4, _⟩, _ => rfl
          | ⟨5, _⟩, ha => absurd rfl ha) (by show 640 + (t.val - 640) = t.val; omega), v68_apply, dif_neg h2]

/-- The greatest of a row. -/
theorem v70_apply (b : Fin 8) (g : Fin 2) (h : Fin 4) (n : Fin 16) (r : Fin 128) :
    val_main_v70 (F := Ideal) x0 x1 x3 (ix5 b n g h r) = WindowSoftmax.top (scores x0 x1 b g h n r) (x3 (ix1 (headOf g h))) := by
  have e : ∀ t, val_main_v69 (F := Ideal) x0 x1 x3 (ix6 b n g h r t)
      = WindowSoftmax.row (scores x0 x1 b g h n r) (x3 (ix1 (headOf g h))) t := v69_apply x0 x1 x3 b g h n r
  unfold val_main_v70
  rw [Host.reduce_eq_fold_single _ _ _ _ (by decide : S8x16x2x4x128x641.Reduces [5] S8x16x2x4x128), ← WindowSoftmax.row_max]
  generalize val_main_v69 (F := Ideal) x0 x1 x3 = y at e
  rw [← funext e, ← negInf]
  refine congrArg (Finset.univ.fold max _) (funext fun j => congrArg y (funext fun a => Fin.ext ?_))
  fin_cases a <;> rfl

/-- The exponentials of a row less its greatest. -/
theorem v76_apply (b : Fin 8) (g : Fin 2) (h : Fin 4) (n : Fin 16) (r : Fin 128) (t : Fin 641) :
    val_main_v76 (F := Ideal) x0 x1 x3 (ix6 b n g h r t)
      = Ideal.exp (WindowSoftmax.row (scores x0 x1 b g h n r) (x3 (ix1 (headOf g h))) t
          - WindowSoftmax.top (scores x0 x1 b g h n r) (x3 (ix1 (headOf g h)))) := by
  have e : idx_main_v73 (idx_main_v74 (ix6 b n g h r t)) = ix5 b n g h r := funext fun a => by fin_cases a <;> rfl
  rw [val_main_v76_apply, val_main_v75_apply, v69_apply, val_main_v74_apply, val_main_v73_apply, e, val_main_v72_apply, v70_apply,
    val_main_v71_apply, val_main_cst_10_apply]
  show Ideal.exp (_ - max (Ideal.ofBits FTy.f32 0xFF800000#32) _) = _
  rw [negInf, max_eq_right bot_le]

/-- The softmax's divisor. -/
theorem v77_apply (b : Fin 8) (g : Fin 2) (h : Fin 4) (n : Fin 16) (r : Fin 128) :
    val_main_v77 (F := Ideal) x0 x1 x3 (ix5 b n g h r) = WindowSoftmax.total (scores x0 x1 b g h n r) (x3 (ix1 (headOf g h))) := by
  rw [val_main_v77_apply]
  have z : ∀ i, val_main_cst_11 (F := Ideal) i = (0 : EReal) := fun i => Ideal.ofBits_zero_f32
  rw [z, zero_add, ← WindowSoftmax.row_sum]
  refine Finset.sum_congr rfl fun t _ => ?_
  have e : idx_main_v77 (ix5 b n g h r) t = ix6 b n g h r t := funext fun a => by fin_cases a <;> rfl
  rw [e, v76_apply]

/-- The softmax at a key. -/
theorem v80_apply (b : Fin 8) (g : Fin 2) (h : Fin 4) (n : Fin 16) (r : Fin 128) (j : Fin 640) :
    val_main_v80 (F := Ideal) x0 x1 x3 (ix6 b n g h r j.castSucc) = share x0 x1 x3 b g h n r j := by
  have e : idx_main_v78 (idx_main_v79 (ix6 b n g h r j.castSucc)) = ix5 b n g h r := funext fun a => by fin_cases a <;> rfl
  rw [val_main_v80_apply, v76_apply, WindowSoftmax.row_castSucc, val_main_v79_apply, val_main_v78_apply, e, v77_apply]
  rfl

/-- The part of the output that comes from the three blocks. -/
theorem v84_apply (b : Fin 8) (g : Fin 2) (h : Fin 4) (n : Fin 16) (r : Fin 128) (d : Fin 64) :
    val_main_v84 (F := Ideal) x0 x1 x2 x3 (ix6 b n r g h d)
      = ∑ j : Fin 384, (if (128 ≤ j.val ∨ 0 < n.val) ∧ (j.val < 256 ∨ n.val < 15) then x2 (ix4 b g (sourceRow n (wide j)) d) else 0)
          * share x0 x1 x3 b g h n r (wide j) := by
  have e1 : idx_main_v84 (ix6 b n r g h d) = ix6 b n g d h r := funext fun a => by fin_cases a <;> rfl
  rw [val_main_v84_apply, e1, val_main_v83_apply]
  refine Finset.sum_congr rfl fun j _ => ?_
  have e2 : lidx_main_v83 (ix6 b n g d h r) j = ix5 b n j g d := funext fun a => by fin_cases a <;> rfl
  have e3 : ridx_main_v83 (ix6 b n g d h r) j = ix6 b n g h r j := funext fun a => by fin_cases a <;> rfl
  have e4 : idx_main_v81 (ix6 b n g h r j) = ix6 b n g h r (wide j).castSucc := funext fun a => Fin.ext (by
    fin_cases a <;> first | rfl | exact Nat.zero_add _)
  rw [e2, e3, band_values, band_apply, val_main_v81_apply, e4, v80_apply]

/-- The part of the output that comes from the context. -/
theorem v86_apply (b : Fin 8) (g : Fin 2) (h : Fin 4) (n : Fin 16) (r : Fin 128) (d : Fin 64) :
    val_main_v86 (F := Ideal) x0 x1 x2 x3 (ix6 b n r g h d)
      = ∑ j : Fin 256, x2 (ix4 b g (sourceRow n (late j)) d) * share x0 x1 x3 b g h n r (late j) := by
  have e1 : idx_main_v86 (ix6 b n r g h d) = ix6 b g d n h r := funext fun a => by fin_cases a <;> rfl
  rw [val_main_v86_apply, e1, val_main_v85_apply]
  refine Finset.sum_congr rfl fun j _ => ?_
  have e3 : ridx_main_v85 (ix6 b g d n h r) j = ix6 b n g h r j := funext fun a => by fin_cases a <;> rfl
  have e4 : idx_main_v82 (ix6 b n g h r j) = ix6 b n g h r (late j).castSucc := funext fun a => Fin.ext (by
    fin_cases a <;> first | rfl | exact Nat.zero_add _)
  rw [e3, val_main_v82_apply, e4, v80_apply, val_main_v7_apply, val_main_v2_apply]
  refine congrArg (fun a => x2 a * _) (funext fun a => Fin.ext ?_)
  match a with
  | ⟨0, _⟩ => rfl
  | ⟨1, _⟩ => rfl
  | ⟨2, _⟩ =>
    show j.val = source n.val (384 + j.val)
    unfold source
    rw [if_neg (by omega), if_neg (by omega), if_neg (by omega)]
    omega
  | ⟨3, _⟩ => rfl

/-- The reference's result at a batch element, a head, a row and a column. -/
theorem result_apply (b : Fin 8) (g : Fin 2) (h : Fin 4) (n : Fin 16) (r : Fin 128) (d : Fin 64) :
    val_main_v89 (F := Ideal) x0 x1 x2 x3 (ix4 b (headOf g h) (rowOf n r) d)
      = ∑ j : Fin 384, (if (128 ≤ j.val ∨ 0 < n.val) ∧ (j.val < 256 ∨ n.val < 15) then x2 (ix4 b g (sourceRow n (wide j)) d) else 0)
            * share x0 x1 x3 b g h n r (wide j)
          + ∑ j : Fin 256, x2 (ix4 b g (sourceRow n (late j)) d) * share x0 x1 x3 b g h n r (late j) := by
  have e : idx_main_v89 (ix4 b (headOf g h) (rowOf n r) d) = ix4 b (rowOf n r) (headOf g h) d := funext fun a => by fin_cases a <;> rfl
  have c : val_main_v88 (F := Ideal) x0 x1 x2 x3 (ix4 b (rowOf n r) (headOf g h) d)
      = val_main_v87 (F := Ideal) x0 x1 x2 x3 (ix6 b n r g h d) := by
    unfold val_main_v88
    refine shapeCast_apply _ _ _ _ ?_
    rw [Shape.rowMajor_val_six, Shape.rowMajor_val_four]
    show ((((b.val * 16 + n.val) * 128 + r.val) * 2 + g.val) * 4 + h.val) * 64 + d.val
      = ((b.val * 2048 + (n.val * 128 + r.val)) * 8 + (g.val * 4 + h.val)) * 64 + d.val
    omega
  rw [val_main_v89_apply, e, c, val_main_v87_apply, v84_apply, v86_apply]
  rfl

end Cert.Proof.WindowReference

end
-- ==== Proof.FiniteWindows.lean ====
/-
  What the window attention's precondition says: every entry of the queries, the keys and the sinks is a real number.
-/
module

public import proofs.«01_k».proof.Proof.FiniteScores
public import proofs.«01_k».proof.Proof.Gen.Pre_finite_windows

@[expose] public section

noncomputable section

namespace Cert.Proof.FiniteWindows

open Idealize.ShloMosaic Cert.Pre_finite_windows

/-- Under the precondition every entry of the queries, the keys and the sinks is real. -/
theorem real_of_pre [Facts] (x0 : FVec Ideal S8x8x2304x64 .f32) (x1 x2 : FVec Ideal S8x2x2304x64 .f32) (x3 : FVec Ideal S8 .f32)
    (h : fn x0 x1 x2 x3 = fun _ => 1#1) :
    (∀ i, ∃ r : ℝ, x0 i = (r : EReal)) ∧ (∀ i, ∃ r : ℝ, x1 i = (r : EReal)) ∧ ∀ i, ∃ r : ℝ, x3 i = (r : EReal) := by
  have e := congrFun h ix0
  simp only [fn, andi, IntOp.andi_eq_one] at e
  obtain ⟨⟨h0, h1⟩, h3⟩ := e
  have : Subsingleton S_.Idx := ⟨fun a b => funext fun k => k.elim0⟩
  exact ⟨fun i => FiniteScores.real_of_abs_lt _ (Host.reduce_andi_all _ _ _ _ _ h0 i),
    fun i => FiniteScores.real_of_abs_lt _ (Host.reduce_andi_all _ _ _ _ _ h1 i),
    fun i => FiniteScores.real_of_abs_lt _ (Host.reduce_andi_all _ _ _ _ _ h3 i)⟩

end Cert.Proof.FiniteWindows

end
-- ==== Proof.WindowEquation.lean ====
/-
  The window attention's kernel and its reference compute the same result array from queries, keys and sinks whose entries are real,
  whatever the values are.
-/
module

public import proofs.«01_k».proof.Proof.WindowArray
public import proofs.«01_k».proof.Proof.WindowReference
public import proofs.«01_k».proof.Proof.FiniteWindows

@[expose] public section

noncomputable section

namespace Cert.Proof.WindowEquation

open Idealize.ShloMosaic Idealize.ShloMosaic.TcCoe Idealize.SL.Sem Cert.Proof Cert.Proof.WindowMask Cert.Proof.WindowBand
open Cert.Proof.WindowReference (late)

/-- The printed scale is a nonnegative real. -/
theorem scale_real : ∃ c : ℝ, 0 ≤ c ∧ WindowBlock.scale = (c : EReal) := by
  unfold WindowBlock.scale
  simp only [Ideal.ofBits, Ideal.ieee]
  rw [if_neg (by decide), if_neg (by decide), if_neg (by decide)]
  exact ⟨_, by positivity, rfl⟩

/-- The score of scaled queries is the scaled score. -/
theorem score_eq (n : Fin 16) (r : Fin 128) (q : Fin 64 → EReal) (k : Fin 640 → Fin 64 → EReal) :
    WindowBlock.score n r q k = WindowReference.score n r q k := by
  obtain ⟨c, hc, hs⟩ := scale_real
  funext j
  unfold WindowBlock.score WindowReference.score
  refine if_congr Iff.rfl ?_ rfl
  show _ = _ * WindowBlock.scale
  rw [hs, Softmax.sum_mul_coe _ _ hc]
  exact Finset.sum_congr rfl fun d _ => by rw [mul_comm (k j d), mul_right_comm]

/-- From real queries and keys no score is above the reals. -/
theorem score_lt (n : Fin 16) (r : Fin 128) (q : Fin 64 → EReal) (k : Fin 640 → Fin 64 → EReal) (hq : ∀ d, ∃ x : ℝ, q d = x)
    (hk : ∀ j d, ∃ x : ℝ, k j d = x) (j : Fin 640) : WindowReference.score n r q k j < ⊤ := by
  obtain ⟨c, _, hs⟩ := scale_real
  obtain ⟨a, ha⟩ := Softmax.sum_mul_real (k j) q (hk j) hq
  unfold WindowReference.score
  split_ifs
  · show _ * WindowBlock.scale < ⊤
    rw [ha, hs, ← EReal.coe_mul]
    exact EReal.coe_lt_top _
  · exact bot_lt_top

/-- The sum over all keys is the sum over the three blocks' and the sum over the context's. -/
theorem sum_keys (f : Fin 640 → EReal) : ∑ j, f j = ∑ j : Fin 384, f (wide j) + ∑ j : Fin 256, f (late j) :=
  Fin.sum_univ_add (a := 384) (b := 256) f

/-- An index of the result: a batch element, a group and a head, a block and a row, and a column. -/
theorem result_ix (i : Cert.WindowIdeal.S8x8x2048x64.Idx) :
    ∃ (b : Fin 8) (g : Fin 2) (h : Fin 4) (n : Fin 16) (r : Fin 128) (d : Fin 64), i = ix4 b (headOf g h) (rowOf n r) d := by
  have h1 : (i 1).val < 8 := (i 1).isLt
  have h2 : (i 2).val < 2048 := (i 2).isLt
  refine ⟨i 0, ⟨(i 1).val / 4, by omega⟩, ⟨(i 1).val % 4, by omega⟩, ⟨(i 2).val / 128, by omega⟩, ⟨(i 2).val % 128, by omega⟩, i 3,
    funext fun a => Fin.ext ?_⟩
  match a with
  | ⟨0, _⟩ => rfl
  | ⟨1, _⟩ => show (i 1).val = (i 1).val / 4 * 4 + (i 1).val % 4; omega
  | ⟨2, _⟩ => show (i 2).val = (i 2).val / 128 * 128 + (i 2).val % 128; omega
  | ⟨3, _⟩ => rfl

/-- One output: the kernel's is the reference's, though the two read different values for the keys outside the sequence. -/
theorem out_eq (x0 : Vec Ideal Cert.WindowIdeal.S8x8x2304x64 .f32) (x1 x2 : Vec Ideal Cert.WindowIdeal.S8x2x2304x64 .f32)
    (x3 : Vec Ideal Cert.WindowIdeal.S8 .f32) (h0 : ∀ i, ∃ r : ℝ, x0 i = (r : EReal)) (h1 : ∀ i, ∃ r : ℝ, x1 i = (r : EReal))
    (h3 : ∀ i, ∃ r : ℝ, x3 i = (r : EReal)) (b : Fin 8) (g : Fin 2) (h : Fin 4) (n : Fin 16) (r : Fin 128) (d : Fin 64) :
    WindowArray.outAt x0 x1 x2 x3 b g h n r d
      = Cert.WindowReferenceIdeal.Read.val_main_v89 (F := Ideal) x0 x1 x2 x3 (ix4 b (headOf g h) (rowOf n r) d) := by
  obtain ⟨σ, hσ⟩ := h3 (ix1 (headOf g h))
  rw [WindowReference.result_apply]
  unfold WindowArray.outAt WindowReference.share
  rw [score_eq, hσ]
  have hs : ∀ j, WindowReference.scores x0 x1 b g h n r j < ⊤ := score_lt n r _ _ (fun e => h0 _) (fun j e => h1 _)
  change WindowSoftmax.attend (WindowReference.scores x0 x1 b g h n r) _ _ = _
  rw [WindowSoftmax.attend_eq _ _ hs,
    WindowSoftmax.shares_congr (WindowReference.scores x0 x1 b g h n r) _
      (fun j => if (128 ≤ j.val ∨ 0 < n.val) ∧ (j.val < 256 ∨ n.val < 15) ∨ 384 ≤ j.val then x2 (ix4 b g (sourceRow n j) d) else 0) hs σ
      fun j => by
        by_cases c : (128 ≤ j.val ∨ 0 < n.val) ∧ (j.val < 256 ∨ n.val < 15) ∨ 384 ≤ j.val
        · exact Or.inr (if_pos c).symm
        · refine Or.inl (if_neg ?_)
          rintro (hl | hl)
          · exact c (Or.inr hl)
          · exact c (Or.inl hl.2.2),
    sum_keys]
  refine congrArg₂ (· + ·) (Finset.sum_congr rfl fun j _ => ?_) (Finset.sum_congr rfl fun j _ => ?_)
  · have hj : j.val < 384 := j.isLt
    rw [mul_comm]
    refine congrArg (· * _) (if_congr ?_ rfl rfl)
    exact or_iff_left (Nat.not_le.2 hj)
  · rw [mul_comm]
    exact congrArg (· * _) (if_pos (Or.inr (Nat.le_add_right 384 j.val)))

variable (m : (ℓ : Loc Cert.WindowIdeal.nD Cert.WindowIdeal.τ Cert.WindowIdeal.sig) → Buf (Elt Ideal) ℓ)

/-- The kernel's result array is the reference's, of the launch's arguments, under the precondition. -/
theorem result_eq (h : Cert.Pre_WindowIdeal_finite_windows (hPre_finite_windows := Cert.Pre_finite_windows.Gen.facts) m)
    (c : Dev Cert.WindowIdeal.nD) :
    WindowArray.result m c = Cert.WindowReferenceIdeal.Read.val_main_v89 (F := Ideal)
      (m ((c : Thread Cert.WindowIdeal.nD Cert.WindowIdeal.τ).loc Cert.WindowIdeal.main_arg0))
      (m ((c : Thread Cert.WindowIdeal.nD Cert.WindowIdeal.τ).loc Cert.WindowIdeal.main_arg1))
      (m ((c : Thread Cert.WindowIdeal.nD Cert.WindowIdeal.τ).loc Cert.WindowIdeal.main_arg2))
      (m ((c : Thread Cert.WindowIdeal.nD Cert.WindowIdeal.τ).loc Cert.WindowIdeal.main_arg3)) := by
  obtain ⟨h0, h1, h3⟩ := @FiniteWindows.real_of_pre Cert.Pre_finite_windows.Gen.facts _ _ _ _ (h c)
  funext i
  obtain ⟨b, g, k, n, r, d, rfl⟩ := result_ix i
  rw [WindowArray.result_apply]
  exact out_eq _ _ _ _ h0 h1 h3 b g k n r d

end Cert.Proof.WindowEquation

end
-- ==== Proof.PrepRow.lean ====
/-
  One row of the first block's preparation over the extended reals: a compressed row divided by its root mean square, projected, and
  the projection divided by the root mean square of each head.
-/
module

public import proofs.«01_k».proof.Proof.CdOutReference

@[expose] public section

noncomputable section

namespace Cert.Proof.PrepRow

open Idealize.ShloMosaic CdOutRow

/-- The columns of the two compressed rows among the 1536 of a stacked row: the queries' and the keys'. -/
def low (d : Fin 256) : Fin 1536 := ⟨768 + d.val, by omega⟩
def high (d : Fin 256) : Fin 1536 := ⟨1024 + d.val, by omega⟩

/-- The column of the queries' weight that feeds a column of the 512 normalized ones: each head keeps the first 64 of its 96 columns. -/
def qcol (j : Fin 512) : Fin 768 := ⟨96 * (j.val / 64) + j.val % 64, by omega⟩

/-- A column of a row divided by the row's root mean square and scaled. -/
def normed (x g : Fin 256 → EReal) (d : Fin 256) : EReal :=
  x d * Ideal.rsqrt ((∑ e, x e * x e) * Ideal.ofBits FTy.f32 0x3B800000#32 + Ideal.ofBits FTy.f32 0x358637BD#32) * g d

/-- A column of the projection of the scaled row. -/
def projected (x g w : Fin 256 → EReal) : EReal := ∑ d, normed x g d * w d

/-- A column divided by its head's root mean square and scaled. -/
def headed (y g : Fin 512 → EReal) (j : Fin 512) : EReal :=
  y j * Ideal.rsqrt (sum (fun k => y k * y k) (head j) * Ideal.ofBits FTy.f32 0x3C800000#32 + Ideal.ofBits FTy.f32 0x358637BD#32) * g j

/-! ## The literals -/

theorem two_hundred_fiftysixth : Ideal.ofBits FTy.f32 0x3B800000#32 = ((1 / 256 : ℝ) : EReal) := by
  simp [Ideal.ofBits, Ideal.ieee]
  rw [← EReal.coe_mul]
  congr 1
  norm_num

/-- The number added to a mean square is a positive real number. -/
theorem eps_pos : ∃ r : ℝ, 0 < r ∧ Ideal.ofBits FTy.f32 0x358637BD#32 = (r : EReal) := by
  refine ⟨8796093 * (2 ^ 43)⁻¹, by norm_num, ?_⟩
  simp [Ideal.ofBits, Ideal.ieee]
  try rw [← EReal.coe_mul]
  try congr 1
  try norm_num

/-- Dividing by 256 is multiplying with the inverse. -/
theorem div256 (x : EReal) : Ideal.div x (Ideal.ofBits FTy.f32 0x43800000#32) = x * Ideal.ofBits FTy.f32 0x3B800000#32 := by
  have e : Ideal.ofBits FTy.f32 0x43800000#32 = ((256 : ℝ) : EReal) := by
    simp [Ideal.ofBits, Ideal.ieee]
    rw [← EReal.coe_mul]
    congr 1
    norm_num
  rw [e, two_hundred_fiftysixth, Ideal.div_coe (by norm_num)]

/-! ## Real rows have real projections -/

/-- A sum of squares of real numbers is a real number that is not negative. -/
theorem squares {ι : Type} (s : Finset ι) (f : ι → EReal) (h : ∀ i, Real (f i)) : ∃ r : ℝ, 0 ≤ r ∧ ∑ i ∈ s, f i * f i = (r : EReal) := by
  classical
  induction s using Finset.induction_on with
  | empty => exact ⟨0, le_refl 0, by simp⟩
  | insert a t ha ih =>
    obtain ⟨r, hr, er⟩ := ih
    obtain ⟨q, hq⟩ := h a
    exact ⟨q * q + r, add_nonneg (mul_self_nonneg q) hr, by rw [Finset.sum_insert ha, er, hq, EReal.coe_add, EReal.coe_mul]⟩

theorem real_normed (x g : Fin 256 → EReal) (hx : ∀ d, Real (x d)) (hg : ∀ d, Real (g d)) (d : Fin 256) : Real (normed x g d) := by
  obtain ⟨r, hr, er⟩ := squares Finset.univ x hx
  obtain ⟨p, hp, ep⟩ := eps_pos
  have hpos : 0 < r * (1 / 256) + p := add_pos_of_nonneg_of_pos (mul_nonneg hr (by norm_num)) hp
  refine ((hx d).mul ?_).mul (hg d)
  refine ⟨(Real.sqrt (r * (1 / 256) + p))⁻¹, ?_⟩
  rw [er, ep, two_hundred_fiftysixth, ← EReal.coe_mul, ← EReal.coe_add, Ideal.rsqrt_coe, if_neg (not_lt.mpr hpos.le), if_neg hpos.ne']

theorem real_projected (x g w : Fin 256 → EReal) (hx : ∀ d, Real (x d)) (hg : ∀ d, Real (g d)) (hw : ∀ d, Real (w d)) : Real (projected x g w) :=
  Real.sum _ _ fun d => (real_normed x g hx hg d).mul (hw d)

end Cert.Proof.PrepRow

end
-- ==== Proof.PrepBlock.lean ====
/-
  What one grid point of the first block's preparation stores in its three arrays of unrotated heads, row by row.
-/
module

public import proofs.«01_k».proof.Proof.PrepRow
public import proofs.«01_k».proof.Proof.CdOutBlock
public import proofs.«01_k».proof.Proof.Gen.PrepIdeal.Value
public import Idealize.ShloMosaic.Lib.Pipeline.ValueKit.Acc
public import Idealize.ShloMosaic.Lib.Pointwise
public import Idealize.ShloMosaic.Lib.IdealHost
public import Idealize.ShloMosaic.Lib.KernelVsHost

@[expose] public section

noncomputable section

namespace Cert.Proof.PrepBlock

open Idealize.ShloMosaic Cert.PrepIdeal Cert.PrepIdeal.Gen CdOutRow PrepRow

/-! ## The matrix of ones within the heads -/

/-- The head a row number of the matrix is in. -/
theorem rows (k j : Fin 512) : select k0_pay13 k0_pay14 k0_pay12 (ix2 k j) = BitVec.ofNat 32 (k.val / 64) := by
  have h : ∀ k : Fin 512, select k0_pay13 k0_pay14 k0_pay12 (ix2 k (0 : Fin 512)) = BitVec.ofNat 32 (k.val / 64) := by
    unfold k0_pay13 k0_pay14 k0_pay12
    decide +kernel
  exact h k

/-- A column number of the matrix, its quotient by 64 and whether the quotient is to be lowered. -/
abbrev number : IVec S512x512 32 := iota .tc S512x512 32 [1] iota_S512x512_d1_w32
abbrev quotient : IVec S512x512 32 := divsi number (broadcast S512x512 64#32)
def uneven : IVec S512x512 1 :=
  andi (cmpi .ne (subi (extui 32 (cmpi .sgt number (broadcast S512x512 0#32)) natLt_1_32) (extui 32 (cmpi .slt number (broadcast S512x512 0#32)) natLt_1_32))
      (broadcast S512x512 (Scalar.subi (Scalar.extui (Scalar.cmpi .sgt 64#32 0#32)) (Scalar.extui (Scalar.cmpi .slt 64#32 0#32)))))
    (cmpi .ne (remsi number (broadcast S512x512 64#32)) (broadcast S512x512 0#32))

/-- The head a column number of the matrix is in. -/
theorem columns (k j : Fin 512) : select uneven (subi quotient (broadcast S512x512 1#32)) quotient (ix2 k j) = BitVec.ofNat 32 (j.val / 64) := by
  have h : ∀ j : Fin 512, select uneven (subi quotient (broadcast S512x512 1#32)) quotient (ix2 (0 : Fin 512) j) = BitVec.ofNat 32 (j.val / 64) := by
    unfold uneven
    decide +kernel
  exact h j

/-- The matrix of ones. -/
theorem ones (k j : Fin 512) : k0_pay15 (F := Ideal) number k0_pay12 k0_pay13 k0_pay14 (ix2 k j) = (if k.val / 64 = j.val / 64 then (1 : EReal) else 0) := by
  have e : k0_pay15 (F := Ideal) number k0_pay12 k0_pay13 k0_pay14 (ix2 k j)
      = Scalar.select (IntOp.cmpi .eq (select k0_pay13 k0_pay14 k0_pay12 (ix2 k j))
          (select uneven (subi quotient (broadcast S512x512 1#32)) quotient (ix2 k j)))
          (Ideal.ofBits FTy.f32 0x3F800000#32) (Ideal.ofBits FTy.f32 0x00000000#32) := by
    unfold k0_pay15
    rfl
  rw [e, rows, columns]
  exact CdOutBlock.one_where _ _ (by omega) (by omega)

/-! ## The compressed rows -/

/-- The queries' and the keys' compressed rows of a block. -/
theorem low_apply (x : Vec Ideal S1x256x1536 .f32) (r d : Fin 256) : k0_pay5 x (ix2 r d) = x (ix3 (0 : Fin 1) r (low d)) := by
  unfold k0_pay5 k0_pay2
  refine (extractStridedSlice_apply ![0, 768] _ slices_S256x1536_o0_768_S256x256 (ix2 r d) (ix2 r (low d)) (fun a => match a with
    | ⟨0, _⟩ => by show r.val = 0 + r.val; omega
    | ⟨1, _⟩ => rfl)).trans ?_
  refine shapeCast_apply _ shapeCasts_S1x256x1536_S256x1536 (ix2 r (low d)) (ix3 (0 : Fin 1) r (low d)) ?_
  rw [Shape.rowMajor_val_three, Shape.rowMajor_val_two]
  show (0 * 256 + r.val) * 1536 + (768 + d.val) = r.val * 1536 + (768 + d.val)
  omega

theorem high_apply (x : Vec Ideal S1x256x1536 .f32) (r d : Fin 256) : k0_pay6 x (ix2 r d) = x (ix3 (0 : Fin 1) r (high d)) := by
  unfold k0_pay6 k0_pay2
  refine (extractStridedSlice_apply ![0, 1024] _ slices_S256x1536_o0_1024_S256x256 (ix2 r d) (ix2 r (high d)) (fun a => match a with
    | ⟨0, _⟩ => by show r.val = 0 + r.val; omega
    | ⟨1, _⟩ => rfl)).trans ?_
  refine shapeCast_apply _ shapeCasts_S1x256x1536_S256x1536 (ix2 r (high d)) (ix3 (0 : Fin 1) r (high d)) ?_
  rw [Shape.rowMajor_val_three, Shape.rowMajor_val_two]
  show (0 * 256 + r.val) * 1536 + (1024 + d.val) = r.val * 1536 + (1024 + d.val)
  omega

/-! ## The projections -/

variable (v : FVec Ideal S256x256 .f32) (g : Vec Ideal S1x256 .f32)

/-- The queries' projection. -/
theorem up_apply (w : Vec Ideal S256x768 .bf16) (r : Fin 256) (j : Fin 512) :
    k0_pay32 v g w (ix2 r j) = projected (fun d => v (ix2 r d)) (fun d => g (ix2 (0 : Fin 1) d)) (fun d => w (ix2 d (⟨j.val, by omega⟩ : Fin 768))) := by
  unfold k0_pay32
  refine (extractStridedSlice_apply ![0, 0] _ slices_S256x768_o0_0_S256x512 (ix2 r j) (ix2 r (⟨j.val, by omega⟩ : Fin 768)) (fun a => match a with
    | ⟨0, _⟩ => by show r.val = 0 + r.val; omega
    | ⟨1, _⟩ => by show j.val = 0 + j.val; omega)).trans ?_
  generalize (⟨j.val, by omega⟩ : Fin 768) = q
  unfold k0_pay31 projected normed
  pointwise

/-- The keys' scaled row. -/
theorem scaled_apply (r d : Fin 256) : k0_pay39 v g (ix2 r d) = normed (fun d => v (ix2 r d)) (fun d => g (ix2 (0 : Fin 1) d)) d := by
  unfold k0_pay39 normed
  pointwise

/-- The keys' projection. -/
theorem key_apply (w : Vec Ideal S256x512 .bf16) (r : Fin 256) (j : Fin 512) :
    k0_pay40 v g w (ix2 r j) = projected (fun d => v (ix2 r d)) (fun d => g (ix2 (0 : Fin 1) d)) (fun d => w (ix2 d j)) := by
  have e : k0_pay40 v g w (ix2 r j) = ∑ d : Fin 256, k0_pay39 v g (ix2 r d) * w (ix2 d j) := by
    unfold k0_pay40
    generalize k0_pay39 v g = a
    pointwise
  rw [e]
  exact Finset.sum_congr rfl fun d _ => congrArg (fun p : EReal => p * w (ix2 d j)) (scaled_apply v g r d)

/-- The values' projection. -/
theorem value_apply (w : Vec Ideal S256x512 .bf16) (r : Fin 256) (j : Fin 512) :
    k0_pay44 (k0_pay39 v g) w (ix3 (0 : Fin 1) r j) = projected (fun d => v (ix2 r d)) (fun d => g (ix2 (0 : Fin 1) d)) (fun d => w (ix2 d j)) := by
  have e : k0_pay44 (k0_pay39 v g) w (ix3 (0 : Fin 1) r j) = ∑ d : Fin 256, k0_pay39 v g (ix2 r d) * w (ix2 d j) := by
    unfold k0_pay44
    generalize k0_pay39 v g = a
    pointwise
  rw [e]
  exact Finset.sum_congr rfl fun d _ => congrArg (fun p : EReal => p * w (ix2 d j)) (scaled_apply v g r d)

/-! ## The heads' root mean squares -/

variable (o : FVec Ideal S512x512 .bf16)

/-- The queries' head mean of squares with the small number added, for a real projection. -/
theorem up_mean (ho : ∀ k j : Fin 512, o (ix2 k j) = (if k.val / 64 = j.val / 64 then (1 : EReal) else 0)) (w : Vec Ideal S256x768 .bf16)
    (r : Fin 256) (hy : ∀ k : Fin 512, Real (k0_pay32 v g w (ix2 r k))) (j : Fin 512) :
    k0_pay34 v o g w (ix2 r j) = sum (fun k => k0_pay32 v g w (ix2 r k) * k0_pay32 v g w (ix2 r k)) (head j) * Ideal.ofBits FTy.f32 0x3C800000#32
      + Ideal.ofBits FTy.f32 0x358637BD#32 := by
  unfold k0_pay34
  generalize k0_pay32 v g w = y at hy ⊢
  refine Eq.trans (b := (∑ k : Fin 512, (y (ix2 r k) * y (ix2 r k)) * o (ix2 k j)
    + ∑ k : Fin 512, (y (ix2 r k) * y (ix2 r k) - y (ix2 r k) * y (ix2 r k)) * o (ix2 k j)) * Ideal.ofBits FTy.f32 0x3C800000#32
      + Ideal.ofBits FTy.f32 0x358637BD#32) (by pointwise) ?_
  rw [split_sum (fun k => y (ix2 r k) * y (ix2 r k)) (fun k => o (ix2 k j)) fun k => (hy k).mul (hy k)]
  simp only [ho, sum_ones (fun k => y (ix2 r k) * y (ix2 r k)) j]

/-- The keys' head mean of squares, for a real projection. -/
theorem key_mean (ho : ∀ k j : Fin 512, o (ix2 k j) = (if k.val / 64 = j.val / 64 then (1 : EReal) else 0)) (w : Vec Ideal S256x512 .bf16)
    (r : Fin 256) (hy : ∀ k : Fin 512, Real (k0_pay40 v g w (ix2 r k))) (j : Fin 512) :
    k0_pay42 v o g w (ix2 r j) = sum (fun k => k0_pay40 v g w (ix2 r k) * k0_pay40 v g w (ix2 r k)) (head j) * Ideal.ofBits FTy.f32 0x3C800000#32 := by
  unfold k0_pay42
  generalize k0_pay40 v g w = y at hy ⊢
  refine Eq.trans (b := (∑ k : Fin 512, (y (ix2 r k) * y (ix2 r k)) * o (ix2 k j)
    + ∑ k : Fin 512, (y (ix2 r k) * y (ix2 r k) - y (ix2 r k) * y (ix2 r k)) * o (ix2 k j)) * Ideal.ofBits FTy.f32 0x3C800000#32) (by pointwise) ?_
  rw [split_sum (fun k => y (ix2 r k) * y (ix2 r k)) (fun k => o (ix2 k j)) fun k => (hy k).mul (hy k)]
  simp only [ho, sum_ones (fun k => y (ix2 r k) * y (ix2 r k)) j]

theorem up_store (y s : FVec Ideal S256x512 .f32) (n : Vec Ideal S1x512 .f32) (r : Fin 256) (j : Fin 512) :
    k0_pay35 y (k0_pay33 n) s (ix3 (0 : Fin 1) r j) = y (ix2 r j) * Ideal.rsqrt (s (ix2 r j)) * n (ix2 (0 : Fin 1) j) := by
  unfold k0_pay35 k0_pay33
  pointwise

theorem key_store (y s : FVec Ideal S256x512 .f32) (n : Vec Ideal S1x512 .f32) (r : Fin 256) (j : Fin 512) :
    k0_pay43 y (k0_pay41 n) s (ix3 (0 : Fin 1) r j)
      = y (ix2 r j) * Ideal.rsqrt (s (ix2 r j) + Ideal.ofBits FTy.f32 0x358637BD#32) * n (ix2 (0 : Fin 1) j) := by
  unfold k0_pay43 k0_pay41
  pointwise

/-! ## The stored blocks -/

theorem ld_rows (x : Vec Ideal S1x256x1536 .f32) : View.ld x r0_0 = x := View.ld_unit_lit' _ x (by decide)
theorem ld_weight (x : Vec Ideal S256x512 .bf16) : View.ld x r0_1 = x := View.ld_unit_lit' _ x (by decide)
theorem ld_gain (x : Vec Ideal S1x512 .f32) : View.ld x r0_3 = x := View.ld_unit_lit' _ x (by decide)
theorem ld_scale (x : Vec Ideal S1x256 .f32) : View.ld x r0_7 = x := View.ld_unit_lit' _ x (by decide)
theorem ld_up (x : Vec Ideal S256x768 .bf16) : View.ld x r0_8 = x := View.ld_unit_lit' _ x (by decide)

variable (x0 : Vec Ideal S1x256x1536 .f32) (x1 x2 : Vec Ideal S256x512 .f32) (x3 x4 : Vec Ideal S256x256 .f32) (x5 : Vec Ideal S1x512 .f32)
  (x6 : Vec Ideal S1x128 .f32) (x7 x8 : Vec Ideal S1x256 .f32) (x9 : Vec Ideal S1x512 .f32) (x10 : Vec Ideal S1x256 .f32) (x11 : Vec Ideal S1x512 .f32)
  (x12 : Vec Ideal S1x128 .f32) (x13 : Vec Ideal S256x768 .bf16) (x14 x15 : Vec Ideal S256x512 .bf16)

/-- A row of the block's queries, projected. -/
abbrev query (r : Fin 256) (j : Fin 512) : EReal :=
  projected (fun d => x0 (ix3 (0 : Fin 1) r (low d))) (fun d => x7 (ix2 (0 : Fin 1) d)) (fun d => x13 (ix2 d (⟨j.val, by omega⟩ : Fin 768)))

/-- A row of the block's keys, or values, projected. -/
abbrev key (w : Vec Ideal S256x512 .bf16) (r : Fin 256) (j : Fin 512) : EReal :=
  projected (fun d => x0 (ix3 (0 : Fin 1) r (high d))) (fun d => x8 (ix2 (0 : Fin 1) d)) (fun d => w (ix2 d j))

/-- The queries' stored element. -/
theorem query_apply (r : Fin 256) (j : Fin 512) (h : ∀ k, Real (query x0 x7 x13 r k)) :
    out0_18 x0 x1 x2 x3 x4 x5 x6 x7 x8 x9 x10 x11 x12 x13 x14 x15 (ix3 (0 : Fin 1) r j)
      = headed (query x0 x7 x13 r) (fun k => x9 (ix2 (0 : Fin 1) k)) j := by
  unfold out0_18 k0_pay51 k0_pay57
  rw [View.canon_cons_unit_lit' _ _ _ (by decide)]
  rw [ld_rows, ld_scale, ld_up, ld_gain, up_store]
  have e : ∀ k : Fin 512, k0_pay32 (k0_pay5 x0) x7 x13 (ix2 r k) = query x0 x7 x13 r k := fun k => by
    rw [up_apply]
    simp only [low_apply]
  rw [up_mean _ _ _ ones x13 r (fun k => by rw [e]; exact h k)]
  simp only [e]
  rfl

/-- The keys' stored element. -/
theorem key_stored (r : Fin 256) (j : Fin 512) (h : ∀ k, Real (key x0 x8 x14 r k)) :
    out0_20 x0 x1 x2 x3 x4 x5 x6 x7 x8 x9 x10 x11 x12 x13 x14 x15 (ix3 (0 : Fin 1) r j)
      = headed (key x0 x8 x14 r) (fun k => x11 (ix2 (0 : Fin 1) k)) j := by
  unfold out0_20 k0_pay52 k0_pay57
  rw [View.canon_cons_unit_lit' _ _ _ (by decide)]
  rw [ld_rows, ld_scale, ld_weight, ld_gain, key_store]
  have e : ∀ k : Fin 512, k0_pay40 (k0_pay6 x0) x8 x14 (ix2 r k) = key x0 x8 x14 r k := fun k => by
    rw [key_apply]
    simp only [high_apply]
  rw [key_mean _ _ _ ones x14 r (fun k => by rw [e]; exact h k)]
  simp only [e]
  rfl

/-- The values' stored element. -/
theorem value_stored (r : Fin 256) (j : Fin 512) :
    out0_21 x0 x1 x2 x3 x4 x5 x6 x7 x8 x9 x10 x11 x12 x13 x14 x15 (ix3 (0 : Fin 1) r j) = key x0 x8 x15 r j := by
  unfold out0_21 k0_pay52
  rw [View.canon_cons_unit_lit' _ _ _ (by decide)]
  rw [ld_rows, ld_scale, ld_weight, value_apply]
  simp only [high_apply]

end Cert.Proof.PrepBlock

end
-- ==== Proof.PrepHost.lean ====
/-
  The arrays the first block's preparation is handed by the host, as the region finds them: the scales, the gains and the weights.
-/
module

public import proofs.«01_k».proof.Proof.PrepBlock

@[expose] public section

noncomputable section

namespace Cert.Proof.PrepHost

open Idealize.ShloMosaic Idealize.ShloMosaic.TcCoe Idealize.SL.Sem Cert.PrepIdeal Cert.PrepIdeal.Gen Cert.PrepIdeal.Value CdOutRow CdOutArray PrepRow

/-- A scale of 256 numbers laid out as one row. -/
theorem scale_laid (x : Vec Ideal S256 .f32) (k : Fin 256) :
    shapeCast S1x256 (shapeCast S256 (broadcastInDim S1x256 ![0, 1] bcast_S1x256_S1x256_0_1 (shapeCast S1x256 x shapeCasts_S256_S1x256))
      shapeCasts_S1x256_S256) shapeCasts_S256_S1x256 (ix2 (0 : Fin 1) k) = x (ix1 k) := by
  refine (shapeCast_apply _ shapeCasts_S256_S1x256 (ix2 (0 : Fin 1) k) (ix1 k) ?_).trans ?_
  · rw [Shape.rowMajor_val_two, Shape.rowMajor_val_one]
    show k.val = 0 * 256 + k.val
    omega
  refine (shapeCast_apply _ shapeCasts_S1x256_S256 (ix1 k) (ix2 (0 : Fin 1) k) ?_).trans ?_
  · rw [Shape.rowMajor_val_two, Shape.rowMajor_val_one]
    show 0 * 256 + k.val = k.val
    omega
  refine (broadcastInDim_apply _ bcast_S1x256_S1x256_0_1 _ (ix2 (0 : Fin 1) k) (ix2 (0 : Fin 1) k) (fun a => match a with
    | ⟨0, _⟩ => rfl
    | ⟨1, _⟩ => rfl)).trans ?_
  refine shapeCast_apply _ shapeCasts_S256_S1x256 (ix2 (0 : Fin 1) k) (ix1 k) ?_
  rw [Shape.rowMajor_val_two, Shape.rowMajor_val_one]
  show k.val = 0 * 256 + k.val
  omega

/-- A gain of 64 numbers, one copy per head, laid out as one row. -/
theorem gain_laid (x : Vec Ideal S64 .f32) (k : Fin 512) :
    shapeCast S1x512 (shapeCast S512 (broadcastInDim S8x64 ![0, 1] bcast_S1x64_S8x64_0_1 (shapeCast S1x64 x shapeCasts_S64_S1x64))
      shapeCasts_S8x64_S512) shapeCasts_S512_S1x512 (ix2 (0 : Fin 1) k) = x (ix1 (within k)) := by
  refine (shapeCast_apply _ shapeCasts_S512_S1x512 (ix2 (0 : Fin 1) k) (ix1 k) ?_).trans ?_
  · rw [Shape.rowMajor_val_two, Shape.rowMajor_val_one]
    show k.val = 0 * 512 + k.val
    omega
  refine (shapeCast_apply _ shapeCasts_S8x64_S512 (ix1 k) (ix2 (head k) (within k)) ?_).trans ?_
  · rw [Shape.rowMajor_val_two, Shape.rowMajor_val_one]
    show k.val / 64 * 64 + k.val % 64 = k.val
    omega
  refine (broadcastInDim_apply _ bcast_S1x64_S8x64_0_1 _ (ix2 (head k) (within k)) (ix2 (0 : Fin 1) (within k)) (fun a => match a with
    | ⟨0, _⟩ => rfl
    | ⟨1, _⟩ => rfl)).trans ?_
  refine shapeCast_apply _ shapeCasts_S64_S1x64 (ix2 (0 : Fin 1) (within k)) (ix1 (within k)) ?_
  rw [Shape.rowMajor_val_two, Shape.rowMajor_val_one]
  show k.val % 64 = 0 * 64 + k.val % 64
  omega

/-- The first 64 columns of each head of the queries' weight, one head after the other. -/
theorem up_laid (x : Vec Ideal S256x768 .f32) (z : Vec Ideal S256x256 .f32) (d : Fin 256) (j : Fin 512) :
    concatenate S256x768 1 [⟨S256x512, shapeCast S256x512 (extractStridedSlice S256x8x64 ![0, 0, 0]
        (shapeCast S256x8x96 x shapeCasts_S256x768_S256x8x96) slices_S256x8x96_S256x8x64_0_0_0) shapeCasts_S256x8x64_S256x512⟩, ⟨S256x256, z⟩]
      concatenates_S256x512_S256x256_S256x768_d1 (ix2 d (⟨j.val, by omega⟩ : Fin 768)) = x (ix2 d (qcol j)) := by
  refine (concatenate_pair_apply_left (s₁ := S256x512) (s₂ := S256x256) (t := S256x768) (1 : Fin 2) _ z concatenates_S256x512_S256x256_S256x768_d1
    (ix2 d (⟨j.val, by omega⟩ : Fin 768)) rfl (ix2 d j) (fun a => match a with
      | ⟨0, _⟩ => rfl
      | ⟨1, _⟩ => rfl)).trans ?_
  refine (shapeCast_apply _ shapeCasts_S256x8x64_S256x512 (ix2 d j) (ix3 d (head j) (within j)) ?_).trans ?_
  · rw [Shape.rowMajor_val_three, Shape.rowMajor_val_two]
    show (d.val * 8 + j.val / 64) * 64 + j.val % 64 = d.val * 512 + j.val
    omega
  have hw : j.val % 64 < 96 := by omega
  refine (extractStridedSlice_apply ![0, 0, 0] _ slices_S256x8x96_S256x8x64_0_0_0 (ix3 d (head j) (within j))
    (ix3 d (head j) (⟨j.val % 64, hw⟩ : Fin 96)) (fun a => match a with
    | ⟨0, _⟩ => by show d.val = 0 + d.val; omega
    | ⟨1, _⟩ => by show j.val / 64 = 0 + j.val / 64; omega
    | ⟨2, _⟩ => by show j.val % 64 = 0 + j.val % 64; omega)).trans ?_
  refine shapeCast_apply _ shapeCasts_S256x768_S256x8x96 (ix3 d (head j) (⟨j.val % 64, hw⟩ : Fin 96)) (ix2 d (qcol j)) ?_
  rw [Shape.rowMajor_val_three, Shape.rowMajor_val_two]
  show d.val * 768 + (96 * (j.val / 64) + j.val % 64) = (d.val * 8 + j.val / 64) * 96 + j.val % 64
  omega

variable (m : (ℓ : Loc nD τ sig) → Buf (Elt Ideal) ℓ)

/-- The two scales. -/
theorem V_low (c : Dev nD) (k : Fin 256) : V m c main_v89 (ix2 (0 : Fin 1) k) = m ((c : Thread nD τ).loc main_arg5) (ix1 k) := by
  refine Eq.trans (congrFun ?_ (ix2 (0 : Fin 1) k)) (scale_laid (m ((c : Thread nD τ).loc main_arg5)) k)
  unfold V
  simp only [hostOps0, hostOps0_1, hostOps0_2, List.flatten_cons, List.flatten_nil, List.append_nil, List.cons_append, List.nil_append]
  after_results_simp <;> rfl

theorem V_high (c : Dev nD) (k : Fin 256) : V m c main_v93 (ix2 (0 : Fin 1) k) = m ((c : Thread nD τ).loc main_arg6) (ix1 k) := by
  refine Eq.trans (congrFun ?_ (ix2 (0 : Fin 1) k)) (scale_laid (m ((c : Thread nD τ).loc main_arg6)) k)
  unfold V
  simp only [hostOps0, hostOps0_1, hostOps0_2, List.flatten_cons, List.flatten_nil, List.append_nil, List.cons_append, List.nil_append]
  after_results_simp <;> rfl

/-- The queries' and the keys' gains. -/
theorem V_query (c : Dev nD) (k : Fin 512) : V m c main_v97 (ix2 (0 : Fin 1) k) = m ((c : Thread nD τ).loc main_arg10) (ix1 (within k)) := by
  refine Eq.trans (congrFun ?_ (ix2 (0 : Fin 1) k)) (gain_laid (m ((c : Thread nD τ).loc main_arg10)) k)
  unfold V
  simp only [hostOps0, hostOps0_1, hostOps0_2, List.flatten_cons, List.flatten_nil, List.append_nil, List.cons_append, List.nil_append]
  after_results_simp <;> rfl

theorem V_key (c : Dev nD) (k : Fin 512) : V m c main_v105 (ix2 (0 : Fin 1) k) = m ((c : Thread nD τ).loc main_arg12) (ix1 (within k)) := by
  refine Eq.trans (congrFun ?_ (ix2 (0 : Fin 1) k)) (gain_laid (m ((c : Thread nD τ).loc main_arg12)) k)
  unfold V
  simp only [hostOps0, hostOps0_1, hostOps0_2, List.flatten_cons, List.flatten_nil, List.append_nil, List.cons_append, List.nil_append]
  after_results_simp <;> rfl

/-- The three weights. -/
theorem V_up (c : Dev nD) (d : Fin 256) (j : Fin 512) :
    V m c main_v111 (ix2 d (⟨j.val, by omega⟩ : Fin 768)) = m ((c : Thread nD τ).loc main_arg7) (ix2 d (qcol j)) := by
  refine Eq.trans (congrFun ?_ (ix2 d (⟨j.val, by omega⟩ : Fin 768))) (up_laid (m ((c : Thread nD τ).loc main_arg7))
    (shapeCast S256x256 (extractStridedSlice S256x8x32 ![0, 0, 64] (shapeCast S256x8x96 (m ((c : Thread nD τ).loc main_arg7) : Vec Ideal S256x768 .f32)
      shapeCasts_S256x768_S256x8x96) slices_S256x8x96_S256x8x32_0_0_64) shapeCasts_S256x8x32_S256x256) d j)
  unfold V
  simp only [hostOps0, hostOps0_1, hostOps0_2, List.flatten_cons, List.flatten_nil, List.append_nil, List.cons_append, List.nil_append]
  after_results_simp <;> rfl

theorem V_keys (c : Dev nD) : (V m c main_v112 : Vec Ideal S256x512 .bf16) = (m ((c : Thread nD τ).loc main_arg8) : Vec Ideal S256x512 .f32) := by
  unfold V
  simp only [hostOps0, hostOps0_1, hostOps0_2, List.flatten_cons, List.flatten_nil, List.append_nil, List.cons_append, List.nil_append]
  after_results_simp <;> rfl

theorem V_values (c : Dev nD) : (V m c main_v113 : Vec Ideal S256x512 .bf16) = (m ((c : Thread nD τ).loc main_arg9) : Vec Ideal S256x512 .f32) := by
  unfold V
  simp only [hostOps0, hostOps0_1, hostOps0_2, List.flatten_cons, List.flatten_nil, List.append_nil, List.cons_append, List.nil_append]
  after_results_simp <;> rfl

end Cert.Proof.PrepHost

end
-- ==== Proof.PrepArray.lean ====
/-
  The three arrays of unrotated heads that the first block's preparation leaves, as functions of its argument arrays, and the run that
  leaves them there.
-/
module

public import proofs.«01_k».proof.Proof.PrepHost

@[expose] public section

noncomputable section

namespace Cert.Proof.PrepArray

open Idealize.ShloMosaic Idealize.ShloMosaic.TcCoe Idealize.SL.Sem Cert.PrepIdeal Cert.PrepIdeal.Gen Cert.PrepIdeal.Value CdOutRow CdOutArray PrepRow
  PrepHost

/-- The queries' projection of row `t` of batch element `b`. -/
def queryOf (p : Vec Ideal S8x2304x1536 .f32) (g : Vec Ideal S256 .f32) (w : Vec Ideal S256x768 .f32) (b : Fin 8) (t : Fin 2304) (j : Fin 512) : EReal :=
  projected (fun d => p (ix3 b t (low d))) (fun d => g (ix1 d)) (fun d => w (ix2 d (qcol j)))

/-- The keys' projection, and the values', of row `t` of batch element `b`. -/
def keyOf (p : Vec Ideal S8x2304x1536 .f32) (g : Vec Ideal S256 .f32) (w : Vec Ideal S256x512 .f32) (b : Fin 8) (t : Fin 2304) (j : Fin 512) : EReal :=
  projected (fun d => p (ix3 b t (high d))) (fun d => g (ix1 d)) (fun d => w (ix2 d j))

variable (m : (ℓ : Loc nD τ sig) → Buf (Elt Ideal) ℓ) (ρ : Dev nD → PrngReg)

/-- The normalized queries, the normalized keys and the values of the launch's arguments. -/
def queries (c : Dev nD) : Vec Ideal S8x2304x512 .f32 := fun i =>
  headed (queryOf (m ((c : Thread nD τ).loc main_arg0)) (m ((c : Thread nD τ).loc main_arg5)) (m ((c : Thread nD τ).loc main_arg7)) (i 0) (i 1))
    (fun k => m ((c : Thread nD τ).loc main_arg10) (ix1 (within k))) (i 2)

def keys (c : Dev nD) : Vec Ideal S8x2304x512 .f32 := fun i =>
  headed (keyOf (m ((c : Thread nD τ).loc main_arg0)) (m ((c : Thread nD τ).loc main_arg6)) (m ((c : Thread nD τ).loc main_arg8)) (i 0) (i 1))
    (fun k => m ((c : Thread nD τ).loc main_arg12) (ix1 (within k))) (i 2)

def values (c : Dev nD) : Vec Ideal S8x2304x512 .f32 := fun i =>
  keyOf (m ((c : Thread nD τ).loc main_arg0)) (m ((c : Thread nD τ).loc main_arg6)) (m ((c : Thread nD τ).loc main_arg9)) (i 0) (i 1) (i 2)

/-- The arguments the normalized heads are computed from are real numbers. -/
def Finite (c : Dev nD) : Prop :=
  (∀ i, Real (m ((c : Thread nD τ).loc main_arg0) i)) ∧ (∀ i, Real (m ((c : Thread nD τ).loc main_arg5) i))
    ∧ (∀ i, Real (m ((c : Thread nD τ).loc main_arg6) i)) ∧ (∀ i, Real (m ((c : Thread nD τ).loc main_arg7) i))
    ∧ ∀ i, Real (m ((c : Thread nD τ).loc main_arg8) i)

/-! ## The windows' block indices at a grid point -/

theorem idx0 : ∀ t : Fin cfg0.N, win0_0.index t (0 : Fin 3) = t.val / 9 ∧ win0_0.index t (1 : Fin 3) = t.val % 9 ∧ win0_0.index t (2 : Fin 3) = 0 :=
  (by decide +kernel : ∀ t : Fin grid0.N, _)
theorem idx_scale : ∀ t : Fin cfg0.N, win0_7.index t (0 : Fin 2) = 0 ∧ win0_7.index t (1 : Fin 2) = 0 := (by decide +kernel : ∀ t : Fin grid0.N, _)
theorem idx_gain : ∀ t : Fin cfg0.N, win0_9.index t (0 : Fin 2) = 0 ∧ win0_9.index t (1 : Fin 2) = 0 := (by decide +kernel : ∀ t : Fin grid0.N, _)
theorem idx13 : ∀ t : Fin cfg0.N, win0_13.index t (0 : Fin 2) = 0 ∧ win0_13.index t (1 : Fin 2) = 0 := (by decide +kernel : ∀ t : Fin grid0.N, _)
theorem idx_weight : ∀ t : Fin cfg0.N, win0_14.index t (0 : Fin 2) = 0 ∧ win0_14.index t (1 : Fin 2) = 0 := (by decide +kernel : ∀ t : Fin grid0.N, _)
theorem idx_out : ∀ t : Fin cfg0.N, win0_18.index t (0 : Fin 3) = t.val / 9 ∧ win0_18.index t (1 : Fin 3) = t.val % 9 ∧ win0_18.index t (2 : Fin 3) = 0 :=
  (by decide +kernel : ∀ t : Fin grid0.N, _)

/-- A grid point's batch element, and a row of its block. -/
def batch (t : Fin cfg0.N) : Fin 8 := ⟨t.val / 9, by have : t.val < 72 := t.isLt; omega⟩
def place (t : Fin cfg0.N) (r : Fin 256) : Fin 2304 := ⟨t.val % 9 * 256 + r.val, by omega⟩

/-! ## The input windows' blocks, read off the argument arrays -/

/-- Where an element of a block of one row of 256 columns, of one row of 512 columns and of a whole weight sits in its array. -/
theorem scale_at (t : Fin cfg0.N) (k : Fin 256) (i : S1x256.Idx) (h1 : (i 1).val = win0_7.index t (1 : Fin 2) * 256 + 1 * k.val) :
    i = ix2 (0 : Fin 1) k := by
  obtain ⟨e0, e1⟩ := idx_scale t
  refine funext fun a => Fin.ext ?_
  match a with
  | ⟨0, _⟩ => show (i 0).val = 0; have : (i 0).val < 1 := (i 0).isLt; omega
  | ⟨1, _⟩ => show (i 1).val = k.val; omega

theorem gain_at (t : Fin cfg0.N) (k : Fin 512) (i : S1x512.Idx) (h1 : (i 1).val = win0_9.index t (1 : Fin 2) * 512 + 1 * k.val) :
    i = ix2 (0 : Fin 1) k := by
  obtain ⟨e0, e1⟩ := idx_gain t
  refine funext fun a => Fin.ext ?_
  match a with
  | ⟨0, _⟩ => show (i 0).val = 0; have : (i 0).val < 1 := (i 0).isLt; omega
  | ⟨1, _⟩ => show (i 1).val = k.val; omega

theorem weight_at (t : Fin cfg0.N) (d : Fin 256) (k : Fin 512) (i : S256x512.Idx) (h0 : (i 0).val = win0_14.index t (0 : Fin 2) * 256 + 1 * d.val)
    (h1 : (i 1).val = win0_14.index t (1 : Fin 2) * 512 + 1 * k.val) : i = ix2 d k := by
  obtain ⟨e0, e1⟩ := idx_weight t
  refine funext fun a => Fin.ext ?_
  match a with
  | ⟨0, _⟩ => show (i 0).val = d.val; omega
  | ⟨1, _⟩ => show (i 1).val = k.val; omega

section
variable (c : Dev nD) (t : Fin cfg0.N)

theorem blk0 (r : Fin 256) (k : Fin 1536) :
    iblk m c 0 t (ix3 (0 : Fin 1) r k) = m ((c : Thread nD τ).loc main_arg0) (ix3 (batch t) (place t r) k) := by
  obtain ⟨e0, e1, e2⟩ := idx0 t
  refine Eq.trans ?_ (congrFun (V_main_arg0 m c) (ix3 (batch t) (place t r) k))
  refine congrArg (V m c main_arg0) (funext fun a => Fin.ext ?_)
  match a with
  | ⟨0, _⟩ => show win0_0.index t (0 : Fin 3) * 1 + 1 * 0 = t.val / 9; omega
  | ⟨1, _⟩ => show win0_0.index t (1 : Fin 3) * 256 + 1 * r.val = t.val % 9 * 256 + r.val; omega
  | ⟨2, _⟩ => show win0_0.index t (2 : Fin 3) * 1536 + 1 * k.val = k.val; omega

theorem blk7 (k : Fin 256) : iblk m c 7 t (ix2 (0 : Fin 1) k) = m ((c : Thread nD τ).loc main_arg5) (ix1 k) :=
  (congrArg (V m c main_v89) (scale_at t k _ rfl)).trans (V_low m c k)
theorem blk8 (k : Fin 256) : iblk m c 8 t (ix2 (0 : Fin 1) k) = m ((c : Thread nD τ).loc main_arg6) (ix1 k) :=
  (congrArg (V m c main_v93) (scale_at t k _ rfl)).trans (V_high m c k)
theorem blk9 (k : Fin 512) : iblk m c 9 t (ix2 (0 : Fin 1) k) = m ((c : Thread nD τ).loc main_arg10) (ix1 (within k)) :=
  (congrArg (V m c main_v97) (gain_at t k _ rfl)).trans (V_query m c k)
theorem blk11 (k : Fin 512) : iblk m c 11 t (ix2 (0 : Fin 1) k) = m ((c : Thread nD τ).loc main_arg12) (ix1 (within k)) :=
  (congrArg (V m c main_v105) (gain_at t k _ rfl)).trans (V_key m c k)

theorem blk13 (d : Fin 256) (j : Fin 512) :
    iblk m c 13 t (ix2 d (⟨j.val, by omega⟩ : Fin 768)) = m ((c : Thread nD τ).loc main_arg7) (ix2 d (qcol j)) := by
  obtain ⟨e0, e1⟩ := idx13 t
  rw [← V_up m c]
  refine congrArg (V m c main_v111) (funext fun a => Fin.ext ?_)
  match a with
  | ⟨0, _⟩ => show win0_13.index t (0 : Fin 2) * 256 + 1 * d.val = d.val; omega
  | ⟨1, _⟩ => show win0_13.index t (1 : Fin 2) * 768 + 1 * j.val = j.val; omega

theorem blk14 (d : Fin 256) (j : Fin 512) : iblk m c 14 t (ix2 d j) = m ((c : Thread nD τ).loc main_arg8) (ix2 d j) :=
  (congrArg (V m c main_v112) (weight_at t d j _ rfl rfl)).trans (congrFun (V_keys m c) (ix2 d j))
theorem blk15 (d : Fin 256) (j : Fin 512) : iblk m c 15 t (ix2 d j) = m ((c : Thread nD τ).loc main_arg9) (ix2 d j) :=
  (congrArg (V m c main_v113) (weight_at t d j _ rfl rfl)).trans (congrFun (V_values m c) (ix2 d j))

/-- The block's projections are the arguments'. -/
theorem query_blk (r : Fin 256) : PrepBlock.query (iblk m c 0 t) (iblk m c 7 t) (iblk m c 13 t) r
    = queryOf (m ((c : Thread nD τ).loc main_arg0)) (m ((c : Thread nD τ).loc main_arg5)) (m ((c : Thread nD τ).loc main_arg7)) (batch t) (place t r) := by
  funext j
  unfold PrepBlock.query queryOf
  rw [show (fun d => iblk m c 0 t (ix3 (0 : Fin 1) r (low d))) = _ from funext fun d => blk0 m c t r (low d),
    show (fun d => iblk m c 7 t (ix2 (0 : Fin 1) d)) = _ from funext fun d => blk7 m c t d,
    show (fun d => iblk m c 13 t (ix2 d (⟨j.val, by omega⟩ : Fin 768))) = _ from funext fun d => blk13 m c t d j]

theorem key_blk (r : Fin 256) : PrepBlock.key (iblk m c 0 t) (iblk m c 8 t) (iblk m c 14 t) r
    = keyOf (m ((c : Thread nD τ).loc main_arg0)) (m ((c : Thread nD τ).loc main_arg6)) (m ((c : Thread nD τ).loc main_arg8)) (batch t) (place t r) := by
  funext j
  unfold PrepBlock.key keyOf
  rw [show (fun d => iblk m c 0 t (ix3 (0 : Fin 1) r (high d))) = _ from funext fun d => blk0 m c t r (high d),
    show (fun d => iblk m c 8 t (ix2 (0 : Fin 1) d)) = _ from funext fun d => blk8 m c t d,
    show (fun d => iblk m c 14 t (ix2 d j)) = _ from funext fun d => blk14 m c t d j]

theorem value_blk (r : Fin 256) : PrepBlock.key (iblk m c 0 t) (iblk m c 8 t) (iblk m c 15 t) r
    = keyOf (m ((c : Thread nD τ).loc main_arg0)) (m ((c : Thread nD τ).loc main_arg6)) (m ((c : Thread nD τ).loc main_arg9)) (batch t) (place t r) := by
  funext j
  unfold PrepBlock.key keyOf
  rw [show (fun d => iblk m c 0 t (ix3 (0 : Fin 1) r (high d))) = _ from funext fun d => blk0 m c t r (high d),
    show (fun d => iblk m c 8 t (ix2 (0 : Fin 1) d)) = _ from funext fun d => blk8 m c t d,
    show (fun d => iblk m c 15 t (ix2 d j)) = _ from funext fun d => blk15 m c t d j]
end

/-! ## The result arrays -/

/-- Where an element of an output's block sits in its array. -/
theorem out_at (t : Fin cfg0.N) (r : Fin 256) (j : Fin 512) (i : S8x2304x512.Idx) (h0 : (i 0).val = win0_18.index t (0 : Fin 3) * 1 + 1 * 0)
    (h1 : (i 1).val = win0_18.index t (1 : Fin 3) * 256 + 1 * r.val) (h2 : (i 2).val = win0_18.index t (2 : Fin 3) * 512 + 1 * j.val) :
    i = ix3 (batch t) (place t r) j := by
  obtain ⟨e0, e1, e2⟩ := idx_out t
  refine funext fun a => Fin.ext ?_
  match a with
  | ⟨0, _⟩ => show (i 0).val = t.val / 9; omega
  | ⟨1, _⟩ => show (i 1).val = t.val % 9 * 256 + r.val; omega
  | ⟨2, _⟩ => show (i 2).val = j.val; omega

theorem emb18 (t : Fin cfg0.N) (r : Fin 256) (j : Fin 512) :
    ((cfg0.win 18).blk t).view.emb (ix3 (0 : Fin 1) r j) = ix3 (batch t) (place t r) j := out_at t r j _ rfl rfl rfl
theorem emb20 (t : Fin cfg0.N) (r : Fin 256) (j : Fin 512) :
    ((cfg0.win 20).blk t).view.emb (ix3 (0 : Fin 1) r j) = ix3 (batch t) (place t r) j := out_at t r j _ rfl rfl rfl
theorem emb21 (t : Fin cfg0.N) (r : Fin 256) (j : Fin 512) :
    ((cfg0.win 21).blk t).view.emb (ix3 (0 : Fin 1) r j) = ix3 (batch t) (place t r) j := out_at t r j _ rfl rfl rfl

/-- An index of an output's block: a row and a column. -/
theorem block_ix (y : S1x256x512.Idx) : ∃ (r : Fin 256) (j : Fin 512), y = ix3 (0 : Fin 1) r j :=
  ⟨y 1, y 2, funext fun a => match a with
    | ⟨0, _⟩ => Subsingleton.elim (α := Fin 1) _ _
    | ⟨1, _⟩ => rfl
    | ⟨2, _⟩ => rfl⟩

/-- What a grid point writes back is its block of the normalized queries, of the normalized keys and of the values. -/
theorem flushed18_eq (c : Dev nD) (hf : Finite m c) (t : Fin cfg0.N) :
    (dats m 0 c).flushed 18 t = ((cfg0.win 18).blk t).view.read (Elt Ideal) (queries m c) := by
  obtain ⟨h0, h5, _, h7, _⟩ := hf
  rw [flushed18]
  funext y
  obtain ⟨r, j, rfl⟩ := block_ix y
  refine (PrepBlock.query_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t) (iblk m c 15 t)
    r j (fun k => of_eq (congrFun (query_blk m c t r) k) (real_projected _ _ _ (fun d => h0 _) (fun d => h5 _) (fun d => h7 _)))).trans ?_
  show _ = queries m c (((cfg0.win 18).blk t).view.emb (ix3 (0 : Fin 1) r j))
  rw [emb18, query_blk, show (fun k => iblk m c 9 t (ix2 (0 : Fin 1) k)) = _ from funext (blk9 m c t)]
  rfl

theorem flushed20_eq (c : Dev nD) (hf : Finite m c) (t : Fin cfg0.N) :
    (dats m 0 c).flushed 20 t = ((cfg0.win 20).blk t).view.read (Elt Ideal) (keys m c) := by
  obtain ⟨h0, _, h6, _, h8⟩ := hf
  rw [flushed20]
  funext y
  obtain ⟨r, j, rfl⟩ := block_ix y
  refine (PrepBlock.key_stored (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t) (iblk m c 15 t)
    r j (fun k => of_eq (congrFun (key_blk m c t r) k) (real_projected _ _ _ (fun d => h0 _) (fun d => h6 _) (fun d => h8 _)))).trans ?_
  show _ = keys m c (((cfg0.win 20).blk t).view.emb (ix3 (0 : Fin 1) r j))
  rw [emb20, key_blk, show (fun k => iblk m c 11 t (ix2 (0 : Fin 1) k)) = _ from funext (blk11 m c t)]
  rfl

theorem flushed21_eq (c : Dev nD) (t : Fin cfg0.N) :
    (dats m 0 c).flushed 21 t = ((cfg0.win 21).blk t).view.read (Elt Ideal) (values m c) := by
  rw [flushed21]
  funext y
  obtain ⟨r, j, rfl⟩ := block_ix y
  refine (PrepBlock.value_stored (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t) (iblk m c 15 t)
    r j).trans ?_
  show _ = values m c (((cfg0.win 21).blk t).view.emb (ix3 (0 : Fin 1) r j))
  rw [emb21, value_blk]
  rfl

/-- The grid point and the place in its block of an index of a result array. -/
theorem spot (i : S8x2304x512.Idx) : ∃ (t : Fin cfg0.N) (r : Fin 256) (j : Fin 512), ix3 (batch t) (place t r) j = i := by
  have h0 : (i 0).val < 8 := (i 0).isLt
  have h1 : (i 1).val < 2304 := (i 1).isLt
  obtain ⟨t, ht⟩ : ∃ t : Fin cfg0.N, t.val = (i 0).val * 9 + (i 1).val / 256 := ⟨⟨(i 0).val * 9 + (i 1).val / 256, by show _ < 72; omega⟩, rfl⟩
  refine ⟨t, ⟨(i 1).val % 256, by omega⟩, ⟨(i 2).val, (i 2).isLt⟩, funext fun a => Fin.ext ?_⟩
  match a with
  | ⟨0, _⟩ => show t.val / 9 = (i 0).val; omega
  | ⟨1, _⟩ => show t.val % 9 * 256 + (i 1).val % 256 = (i 1).val; omega
  | ⟨2, _⟩ => rfl

/-- Every index of a result array is in some grid point's block. -/
theorem covered18 (i : S8x2304x512.Idx) : ∃ t : Fin cfg0.N, (cfg0.win 18).flush t = true ∧ i ∈ ((cfg0.win 18).blk t).view.set := by
  obtain ⟨t, r, j, rfl⟩ := spot i
  exact ⟨t, flush0_18 t, emb18 t r j ▸ ((cfg0.win 18).blk t).view.emb_mem_set (ix3 (0 : Fin 1) r j)⟩
theorem covered20 (i : S8x2304x512.Idx) : ∃ t : Fin cfg0.N, (cfg0.win 20).flush t = true ∧ i ∈ ((cfg0.win 20).blk t).view.set := by
  obtain ⟨t, r, j, rfl⟩ := spot i
  exact ⟨t, flush0_20 t, emb20 t r j ▸ ((cfg0.win 20).blk t).view.emb_mem_set (ix3 (0 : Fin 1) r j)⟩
theorem covered21 (i : S8x2304x512.Idx) : ∃ t : Fin cfg0.N, (cfg0.win 21).flush t = true ∧ i ∈ ((cfg0.win 21).blk t).view.set := by
  obtain ⟨t, r, j, rfl⟩ := spot i
  exact ⟨t, flush0_21 t, emb21 t r j ▸ ((cfg0.win 21).blk t).view.emb_mem_set (ix3 (0 : Fin 1) r j)⟩

/-- The run: the three arrays are those of the arguments, which end unchanged. -/
theorem run (hf : ∀ c, Finite m c) : θ_run defs (onTc (τ := τ) (main (F := Ideal))) ⟨m, fun _ => 0, ρ⟩ fun r => ∀ c : Dev nD,
      r.2.mem ((c : Thread nD τ).loc main_v114_2) = queries m c
      ∧ r.2.mem ((c : Thread nD τ).loc main_v114_4) = keys m c
      ∧ r.2.mem ((c : Thread nD τ).loc main_v114_5) = values m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => by
    obtain ⟨_, _, h2, _, h4, h5, _, rest⟩ := h c
    exact ⟨h2.trans ((dats m 0 c).arrAt_eq_of_cover 18 (queries m c) (fun t _ => flushed18_eq m c (hf c) t) covered18),
      h4.trans ((dats m 0 c).arrAt_eq_of_cover 20 (keys m c) (fun t _ => flushed20_eq m c (hf c) t) covered20),
      h5.trans ((dats m 0 c).arrAt_eq_of_cover 21 (values m c) (fun t _ => flushed21_eq m c t) covered21), rest⟩)
    (run_blocks m ρ)

end Cert.Proof.PrepArray

end
-- ==== Proof.PrepReference.lean ====
/-
  What the reference's preparation of the first block computes, at one element of each of its three results.
-/
module

public import proofs.«01_k».proof.Proof.PrepArray
public import proofs.«01_k».proof.Proof.Gen.PrepReferenceIdeal.Run
public import proofs.«01_k».proof.Proof.Gen.PrepReferenceIdeal.Read

@[expose] public section

noncomputable section

namespace Cert.Proof.PrepReference

open Idealize.ShloMosaic Cert.PrepReferenceIdeal Cert.PrepReferenceIdeal.Gen Cert.PrepReferenceIdeal.Read CdOutRow CdOutArray CdOutReference PrepRow PrepArray

variable (x0 : (⟨S8x2304x1536, .f32⟩ : BufTy).Contents (Elt Ideal)) (x5 x6 : (⟨S256, .f32⟩ : BufTy).Contents (Elt Ideal))
  (x7 : (⟨S256x768, .f32⟩ : BufTy).Contents (Elt Ideal)) (x8 x9 : (⟨S256x512, .f32⟩ : BufTy).Contents (Elt Ideal))
  (x10 x12 : (⟨S64, .f32⟩ : BufTy).Contents (Elt Ideal)) (b : Fin 8) (t : Fin 2304)

/-! ## The queries -/

theorem v0_apply (d : Fin 256) : val_main_v0 (F := Ideal) x0 (ix3 b t d) = x0 (ix3 b t (low d)) := by
  rw [val_main_v0_apply]
  exact congrArg x0 (funext fun a => by fin_cases a <;> rfl)

/-- The row's mean of squares. -/
theorem v6_apply : val_main_v6 (F := Ideal) x0 (ix3 b t (0 : Fin 1))
    = (∑ e, x0 (ix3 b t (low e)) * x0 (ix3 b t (low e))) * Ideal.ofBits FTy.f32 0x3B800000#32 := by
  have z : ∀ i, val_main_cst (F := Ideal) i = (0 : EReal) := fun i => Ideal.ofBits_zero_f32
  rw [val_main_v6_apply, val_main_v4_apply, show idx_main_v4 (ix3 b t (0 : Fin 1)) = ix2 b t from funext fun a => by fin_cases a <;> rfl,
    val_main_v3_apply, z, zero_add, val_main_v5_apply, val_main_cst_0_apply]
  refine (div256 _).trans (congrArg (fun s : EReal => s * _) (Finset.sum_congr rfl fun e _ => ?_))
  rw [show idx_main_v3 (ix2 b t) e = ix3 b t e from funext fun a => by fin_cases a <;> rfl, val_main_v2_apply, v0_apply]
  rfl

theorem v14_apply (d : Fin 256) : val_main_v14 (F := Ideal) x0 x5 (ix3 b t d)
    = normed (fun e => x0 (ix3 b t (low e))) (fun e => x5 (ix1 e)) d := by
  rw [val_main_v14_apply, val_main_v11_apply, v0_apply, val_main_v10_apply,
    show idx_main_v10 (ix3 b t d) = ix3 b t (0 : Fin 1) from funext fun a => by fin_cases a <;> rfl, val_main_v9_apply, val_main_v8_apply, v6_apply,
    val_main_v7_apply, val_main_cst_1_apply, val_main_v13_apply, val_main_v12_apply,
    show idx_main_v12 (idx_main_v13 (ix3 b t d)) = ix1 d from funext fun a => by fin_cases a <;> rfl]
  rfl

/-- The column of the queries' projection a head's column is taken from. -/
theorem wide_col (h : Fin 8) (e : Fin 64) : idx_main_v16 (idx_main_v17 (ix4 b t h e)) = ix3 b t (qcol (col h e)) := funext fun a => Fin.ext (match a with
  | ⟨0, _⟩ => by
    show (((b.val * 2304 + t.val) * 8 + h.val) * 96 + e.val) / 1769472 = b.val
    omega
  | ⟨1, _⟩ => by
    show (((b.val * 2304 + t.val) * 8 + h.val) * 96 + e.val) / 768 % 2304 = t.val
    omega
  | ⟨2, _⟩ => by
    show (((b.val * 2304 + t.val) * 8 + h.val) * 96 + e.val) % 768 = 96 * ((64 * h.val + e.val) / 64) + (64 * h.val + e.val) % 64
    omega)

theorem v17_apply (h : Fin 8) (e : Fin 64) : val_main_v17 (F := Ideal) x0 x5 x7 (ix4 b t h e) = queryOf x0 x5 x7 b t (col h e) := by
  rw [val_main_v17_apply, val_main_v16_apply, wide_col, val_main_v15_apply]
  unfold queryOf projected
  refine Finset.sum_congr rfl fun d _ => ?_
  rw [show lidx_main_v15 (ix3 b t (qcol (col h e))) d = ix3 b t d from funext fun a => by fin_cases a <;> rfl, v14_apply,
    show ridx_main_v15 (ix3 b t (qcol (col h e))) d = ix2 d (qcol (col h e)) from funext fun a => by fin_cases a <;> rfl]

/-- A head's mean of squares. -/
theorem v22_apply (h : Fin 8) : val_main_v22 (F := Ideal) x0 x5 x7 (ix4 b t h (0 : Fin 1))
    = sum (fun k => queryOf x0 x5 x7 b t k * queryOf x0 x5 x7 b t k) h * Ideal.ofBits FTy.f32 0x3C800000#32 := by
  have z : ∀ i, val_main_cst_2 (F := Ideal) i = (0 : EReal) := fun i => Ideal.ofBits_zero_f32
  rw [val_main_v22_apply, val_main_v20_apply, show idx_main_v20 (ix4 b t h (0 : Fin 1)) = ix3 b t h from funext fun a => by fin_cases a <;> rfl,
    val_main_v19_apply, z, zero_add, val_main_v21_apply, val_main_cst_3_apply]
  refine (div64 _).trans (congrArg (fun s : EReal => s * _) (Finset.sum_congr rfl fun e _ => ?_))
  rw [show idx_main_v19 (ix3 b t h) e = ix4 b t h e from funext fun a => by fin_cases a <;> rfl, val_main_v18_apply, v17_apply]
  rfl

theorem v30_apply (h : Fin 8) (e : Fin 64) : val_main_v30 (F := Ideal) x0 x5 x7 x10 (ix4 b t h e)
    = headed (queryOf x0 x5 x7 b t) (fun k => x10 (ix1 (within k))) (col h e) := by
  rw [val_main_v30_apply, val_main_v27_apply, v17_apply, val_main_v26_apply,
    show idx_main_v26 (ix4 b t h e) = ix4 b t h (0 : Fin 1) from funext fun a => by fin_cases a <;> rfl, val_main_v25_apply, val_main_v24_apply, v22_apply,
    val_main_v23_apply, val_main_cst_4_apply, val_main_v29_apply, val_main_v28_apply,
    show idx_main_v28 (idx_main_v29 (ix4 b t h e)) = ix1 e from funext fun a => by fin_cases a <;> rfl]
  unfold headed
  beta_reduce
  rw [head_col, within_col]
  rfl

/-- Where a result's column sits among the heads. -/
theorem heads_ix (j : Fin 512) : idx_main_v60 (ix3 b t j) = ix4 b t (head j) (within j) := funext fun a => Fin.ext (match a with
  | ⟨0, _⟩ => by show ((b.val * 2304 + t.val) * 512 + j.val) / 1179648 = b.val; omega
  | ⟨1, _⟩ => by show ((b.val * 2304 + t.val) * 512 + j.val) / 512 % 2304 = t.val; omega
  | ⟨2, _⟩ => by show ((b.val * 2304 + t.val) * 512 + j.val) / 64 % 8 = j.val / 64; omega
  | ⟨3, _⟩ => by show ((b.val * 2304 + t.val) * 512 + j.val) % 64 = j.val % 64; omega)

/-- The reference's normalized queries. -/
theorem queries_apply (j : Fin 512) : val_main_v60 (F := Ideal) x0 x5 x7 x10 (ix3 b t j)
    = headed (queryOf x0 x5 x7 b t) (fun k => x10 (ix1 (within k))) j := by
  rw [val_main_v60_apply, heads_ix, v30_apply, col_head]

/-! ## The keys and the values -/

theorem v1_apply (d : Fin 256) : val_main_v1 (F := Ideal) x0 (ix3 b t d) = x0 (ix3 b t (high d)) := by
  rw [val_main_v1_apply]
  exact congrArg x0 (funext fun a => by fin_cases a <;> rfl)

theorem v35_apply : val_main_v35 (F := Ideal) x0 (ix3 b t (0 : Fin 1))
    = (∑ e, x0 (ix3 b t (high e)) * x0 (ix3 b t (high e))) * Ideal.ofBits FTy.f32 0x3B800000#32 := by
  have z : ∀ i, val_main_cst_5 (F := Ideal) i = (0 : EReal) := fun i => Ideal.ofBits_zero_f32
  rw [val_main_v35_apply, val_main_v33_apply, show idx_main_v33 (ix3 b t (0 : Fin 1)) = ix2 b t from funext fun a => by fin_cases a <;> rfl,
    val_main_v32_apply, z, zero_add, val_main_v34_apply, val_main_cst_6_apply]
  refine (div256 _).trans (congrArg (fun s : EReal => s * _) (Finset.sum_congr rfl fun e _ => ?_))
  rw [show idx_main_v32 (ix2 b t) e = ix3 b t e from funext fun a => by fin_cases a <;> rfl, val_main_v31_apply, v1_apply]
  rfl

theorem v43_apply (d : Fin 256) : val_main_v43 (F := Ideal) x0 x6 (ix3 b t d)
    = normed (fun e => x0 (ix3 b t (high e))) (fun e => x6 (ix1 e)) d := by
  rw [val_main_v43_apply, val_main_v40_apply, v1_apply, val_main_v39_apply,
    show idx_main_v39 (ix3 b t d) = ix3 b t (0 : Fin 1) from funext fun a => by fin_cases a <;> rfl, val_main_v38_apply, val_main_v37_apply, v35_apply,
    val_main_v36_apply, val_main_cst_7_apply, val_main_v42_apply, val_main_v41_apply,
    show idx_main_v41 (idx_main_v42 (ix3 b t d)) = ix1 d from funext fun a => by fin_cases a <;> rfl]
  rfl

/-- The keys' projection, which is the values' with their weight. -/
theorem v44_apply (j : Fin 512) : val_main_v44 (F := Ideal) x0 x6 x8 (ix3 b t j) = keyOf x0 x6 x8 b t j := by
  rw [val_main_v44_apply]
  unfold keyOf projected
  refine Finset.sum_congr rfl fun d _ => ?_
  rw [show lidx_main_v44 (ix3 b t j) d = ix3 b t d from funext fun a => by fin_cases a <;> rfl, v43_apply,
    show ridx_main_v44 (ix3 b t j) d = ix2 d j from funext fun a => by fin_cases a <;> rfl]

/-- The reference's values. -/
theorem values_apply (j : Fin 512) : val_main_v59 (F := Ideal) x0 x6 x9 (ix3 b t j) = keyOf x0 x6 x9 b t j :=
  (congrFun (show val_main_v59 (F := Ideal) x0 x6 x9 = val_main_v44 (F := Ideal) x0 x6 x9 from rfl) _).trans (v44_apply x0 x6 x9 b t j)

theorem v45_apply (h : Fin 8) (e : Fin 64) : val_main_v45 (F := Ideal) x0 x6 x8 (ix4 b t h e) = keyOf x0 x6 x8 b t (col h e) := by
  rw [val_main_v45_apply, show idx_main_v45 (ix4 b t h e) = ix3 b t (col h e) from funext fun a => Fin.ext (match a with
    | ⟨0, _⟩ => by show (((b.val * 2304 + t.val) * 8 + h.val) * 64 + e.val) / 1179648 = b.val; omega
    | ⟨1, _⟩ => by show (((b.val * 2304 + t.val) * 8 + h.val) * 64 + e.val) / 512 % 2304 = t.val; omega
    | ⟨2, _⟩ => by show (((b.val * 2304 + t.val) * 8 + h.val) * 64 + e.val) % 512 = 64 * h.val + e.val; omega), v44_apply]

theorem v50_apply (h : Fin 8) : val_main_v50 (F := Ideal) x0 x6 x8 (ix4 b t h (0 : Fin 1))
    = sum (fun k => keyOf x0 x6 x8 b t k * keyOf x0 x6 x8 b t k) h * Ideal.ofBits FTy.f32 0x3C800000#32 := by
  have z : ∀ i, val_main_cst_8 (F := Ideal) i = (0 : EReal) := fun i => Ideal.ofBits_zero_f32
  rw [val_main_v50_apply, val_main_v48_apply, show idx_main_v48 (ix4 b t h (0 : Fin 1)) = ix3 b t h from funext fun a => by fin_cases a <;> rfl,
    val_main_v47_apply, z, zero_add, val_main_v49_apply, val_main_cst_9_apply]
  refine (div64 _).trans (congrArg (fun s : EReal => s * _) (Finset.sum_congr rfl fun e _ => ?_))
  rw [show idx_main_v47 (ix3 b t h) e = ix4 b t h e from funext fun a => by fin_cases a <;> rfl, val_main_v46_apply, v45_apply]
  rfl

theorem v58_apply (h : Fin 8) (e : Fin 64) : val_main_v58 (F := Ideal) x0 x6 x8 x12 (ix4 b t h e)
    = headed (keyOf x0 x6 x8 b t) (fun k => x12 (ix1 (within k))) (col h e) := by
  rw [val_main_v58_apply, val_main_v55_apply, v45_apply, val_main_v54_apply,
    show idx_main_v54 (ix4 b t h e) = ix4 b t h (0 : Fin 1) from funext fun a => by fin_cases a <;> rfl, val_main_v53_apply, val_main_v52_apply, v50_apply,
    val_main_v51_apply, val_main_cst_10_apply, val_main_v57_apply, val_main_v56_apply,
    show idx_main_v56 (idx_main_v57 (ix4 b t h e)) = ix1 e from funext fun a => by fin_cases a <;> rfl]
  unfold headed
  beta_reduce
  rw [head_col, within_col]
  rfl

/-- The reference's normalized keys. -/
theorem keys_apply (j : Fin 512) : val_main_v61 (F := Ideal) x0 x6 x8 x12 (ix3 b t j)
    = headed (keyOf x0 x6 x8 b t) (fun k => x12 (ix1 (within k))) j := by
  rw [val_main_v61_apply, show idx_main_v61 (ix3 b t j) = ix4 b t (head j) (within j) from heads_ix b t j, v58_apply, col_head]

end Cert.Proof.PrepReference

end
-- ==== Proof.FiniteRanks.lean ====
/-
  What the preparation's precondition says: every entry of the stacked rows, the two scales and the two weights is a real number.
-/
module

public import proofs.«01_k».proof.Proof.FiniteScores
public import proofs.«01_k».proof.Proof.CdOutRow
public import proofs.«01_k».proof.Proof.Gen.Pre_finite_ranks

@[expose] public section

noncomputable section

namespace Cert.Proof.FiniteRanks

open Idealize.ShloMosaic Cert.Pre_finite_ranks CdOutRow

/-- Under the precondition every entry the normalized heads are computed from is real. -/
theorem real_of_pre [Facts] (x0 : FVec Ideal S8x2304x1536 .f32) (x1 x2 : IVec S2304 32) (x3 x4 : FVec Ideal S64 .f32) (x5 x6 : FVec Ideal S256 .f32)
    (x7 : FVec Ideal S256x768 .f32) (x8 x9 : FVec Ideal S256x512 .f32) (x10 : FVec Ideal S64 .f32) (x11 : FVec Ideal S32 .f32)
    (x12 : FVec Ideal S64 .f32) (x13 : FVec Ideal S32 .f32)
    (h : fn x0 x1 x2 x3 x4 x5 x6 x7 x8 x9 x10 x11 x12 x13 = fun _ => 1#1) :
    (∀ i, Real (x0 i)) ∧ (∀ i, Real (x5 i)) ∧ (∀ i, Real (x6 i)) ∧ (∀ i, Real (x7 i)) ∧ ∀ i, Real (x8 i) := by
  have e := congrFun h ix0
  simp only [fn, fn_part1, andi, IntOp.andi_eq_one] at e
  obtain ⟨⟨⟨⟨h0, h5⟩, h6⟩, h7⟩, h8⟩ := e
  have : Subsingleton S_.Idx := ⟨fun a b => funext fun k => k.elim0⟩
  exact ⟨fun i => FiniteScores.real_of_abs_lt _ (Host.reduce_andi_all _ _ _ _ _ h0 i),
    fun i => FiniteScores.real_of_abs_lt _ (Host.reduce_andi_all _ _ _ _ _ h5 i),
    fun i => FiniteScores.real_of_abs_lt _ (Host.reduce_andi_all _ _ _ _ _ h6 i),
    fun i => FiniteScores.real_of_abs_lt _ (Host.reduce_andi_all _ _ _ _ _ h7 i),
    fun i => FiniteScores.real_of_abs_lt _ (Host.reduce_andi_all _ _ _ _ _ h8 i)⟩

end Cert.Proof.FiniteRanks

end
-- ==== Proof.PrepEquation.lean ====
/-
  The first block's preparation: the kernel's three arrays of unrotated heads are the reference's.
-/
module

public import proofs.«01_k».proof.Proof.PrepReference
public import proofs.«01_k».proof.Proof.FiniteRanks

@[expose] public section

noncomputable section

namespace Cert.Proof.PrepEquation

open Idealize.ShloMosaic Idealize.ShloMosaic.TcCoe

variable (m : (ℓ : Loc Cert.PrepIdeal.nD Cert.PrepIdeal.τ Cert.PrepIdeal.sig) → Buf (Elt Ideal) ℓ)

/-- The precondition makes the arguments of the normalized heads real. -/
theorem finite (h : Cert.Pre_PrepIdeal_finite_ranks (hPre_finite_ranks := Cert.Pre_finite_ranks.Gen.facts) m) (c : Dev Cert.PrepIdeal.nD) :
    PrepArray.Finite m c :=
  @FiniteRanks.real_of_pre Cert.Pre_finite_ranks.Gen.facts _ _ _ _ _ _ _ _ _ _ _ _ _ _ (h c)

/-- An index of a result: a batch element, a row and a column. -/
theorem result_ix (i : Cert.PrepIdeal.S8x2304x512.Idx) : i = ix3 (i 0) (i 1) (i 2) :=
  funext fun a => match a with
    | ⟨0, _⟩ => rfl
    | ⟨1, _⟩ => rfl
    | ⟨2, _⟩ => rfl

/-- The normalized queries, the normalized keys and the values. -/
theorem queries_eq (c : Dev Cert.PrepIdeal.nD) : PrepArray.queries m c = Cert.PrepReferenceIdeal.Read.val_main_v60 (F := Ideal)
    (m ((c : Thread Cert.PrepIdeal.nD Cert.PrepIdeal.τ).loc Cert.PrepIdeal.main_arg0))
    (m ((c : Thread Cert.PrepIdeal.nD Cert.PrepIdeal.τ).loc Cert.PrepIdeal.main_arg5))
    (m ((c : Thread Cert.PrepIdeal.nD Cert.PrepIdeal.τ).loc Cert.PrepIdeal.main_arg7))
    (m ((c : Thread Cert.PrepIdeal.nD Cert.PrepIdeal.τ).loc Cert.PrepIdeal.main_arg10)) := by
  funext i
  rw [result_ix i]
  exact (PrepReference.queries_apply _ _ _ _ (i 0) (i 1) (i 2)).symm

theorem keys_eq (c : Dev Cert.PrepIdeal.nD) : PrepArray.keys m c = Cert.PrepReferenceIdeal.Read.val_main_v61 (F := Ideal)
    (m ((c : Thread Cert.PrepIdeal.nD Cert.PrepIdeal.τ).loc Cert.PrepIdeal.main_arg0))
    (m ((c : Thread Cert.PrepIdeal.nD Cert.PrepIdeal.τ).loc Cert.PrepIdeal.main_arg6))
    (m ((c : Thread Cert.PrepIdeal.nD Cert.PrepIdeal.τ).loc Cert.PrepIdeal.main_arg8))
    (m ((c : Thread Cert.PrepIdeal.nD Cert.PrepIdeal.τ).loc Cert.PrepIdeal.main_arg12)) := by
  funext i
  rw [result_ix i]
  exact (PrepReference.keys_apply _ _ _ _ (i 0) (i 1) (i 2)).symm

theorem values_eq (c : Dev Cert.PrepIdeal.nD) : PrepArray.values m c = Cert.PrepReferenceIdeal.Read.val_main_v59 (F := Ideal)
    (m ((c : Thread Cert.PrepIdeal.nD Cert.PrepIdeal.τ).loc Cert.PrepIdeal.main_arg0))
    (m ((c : Thread Cert.PrepIdeal.nD Cert.PrepIdeal.τ).loc Cert.PrepIdeal.main_arg6))
    (m ((c : Thread Cert.PrepIdeal.nD Cert.PrepIdeal.τ).loc Cert.PrepIdeal.main_arg9)) := by
  funext i
  rw [result_ix i]
  exact (PrepReference.values_apply _ _ _ (i 0) (i 1) (i 2)).symm

end Cert.Proof.PrepEquation

end
-- ==== Proof.lean ====
/- The proof of the claim: the programs' side conditions, the frames of the kernels and of their references, and the
   equality of each kernel's ideal form with its reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.Gen.FfnCtx
public import proofs.«01_k».proof.Proof.Gen.FfnCtx.Skeleton
public import proofs.«01_k».proof.Proof.Gen.FfnCtx.Launch
public import proofs.«01_k».proof.Proof.Gen.FfnCtx.Points
public import proofs.«01_k».proof.Proof.Gen.FfnCtx.Frame
public import proofs.«01_k».proof.Proof.Gen.FfnCtxIdeal
public import proofs.«01_k».proof.Proof.Gen.FfnCtxIdeal.Skeleton
public import proofs.«01_k».proof.Proof.Gen.FfnCtxIdeal.Launch
public import proofs.«01_k».proof.Proof.Gen.FfnCtxIdeal.Points
public import proofs.«01_k».proof.Proof.Gen.FfnCtxIdeal.Frame
public import proofs.«01_k».proof.Proof.Gen.FfnCtxReferenceIdeal
public import proofs.«01_k».proof.Proof.Gen.FfnCtxIdeal.Value
public import proofs.«01_k».proof.Proof.Gen.FfnCtxReferenceIdeal.Run
public import proofs.«01_k».proof.Proof.Gen.FfnCtxReferenceIdeal.Read
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModReferenceIdeal
public import proofs.«01_k».proof.Proof.Gen.ModIdeal.Value
public import proofs.«01_k».proof.Proof.Gen.ModReferenceIdeal.Run
public import proofs.«01_k».proof.Proof.Gen.ModReferenceIdeal.Read
public import proofs.«01_k».proof.Proof.Gen.ModAb
public import proofs.«01_k».proof.Proof.Gen.ModAb.Skeleton
public import proofs.«01_k».proof.Proof.Gen.ModAb.Launch
public import proofs.«01_k».proof.Proof.Gen.ModAb.Points
public import proofs.«01_k».proof.Proof.Gen.ModAb.Frame
public import proofs.«01_k».proof.Proof.Gen.ModAbIdeal
public import proofs.«01_k».proof.Proof.Gen.ModAbIdeal.Skeleton
public import proofs.«01_k».proof.Proof.Gen.ModAbIdeal.Launch
public import proofs.«01_k».proof.Proof.Gen.ModAbIdeal.Points
public import proofs.«01_k».proof.Proof.Gen.ModAbIdeal.Frame
public import proofs.«01_k».proof.Proof.Gen.ModAbReferenceIdeal
public import proofs.«01_k».proof.Proof.Gen.ModAbIdeal.Value
public import proofs.«01_k».proof.Proof.Gen.ModAbReferenceIdeal.Run
public import proofs.«01_k».proof.Proof.Gen.ModAbReferenceIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutReferenceIdeal
public import proofs.«01_k».proof.Proof.Gen.OutIdeal.Value
public import proofs.«01_k».proof.Proof.Gen.OutReferenceIdeal.Run
public import proofs.«01_k».proof.Proof.Gen.OutReferenceIdeal.Read
public import proofs.«01_k».proof.Proof.Gen.CdOut
public import proofs.«01_k».proof.Proof.Gen.CdOut.Skeleton
public import proofs.«01_k».proof.Proof.Gen.CdOut.Launch
public import proofs.«01_k».proof.Proof.Gen.CdOut.Points
public import proofs.«01_k».proof.Proof.Gen.CdOut.Frame
public import proofs.«01_k».proof.Proof.Gen.CdOutIdeal
public import proofs.«01_k».proof.Proof.Gen.CdOutIdeal.Skeleton
public import proofs.«01_k».proof.Proof.Gen.CdOutIdeal.Launch
public import proofs.«01_k».proof.Proof.Gen.CdOutIdeal.Points
public import proofs.«01_k».proof.Proof.Gen.CdOutIdeal.Frame
public import proofs.«01_k».proof.Proof.Gen.CdOutReferenceIdeal
public import proofs.«01_k».proof.Proof.Gen.CdOutIdeal.Value
public import proofs.«01_k».proof.Proof.Gen.CdOutReferenceIdeal.Run
public import proofs.«01_k».proof.Proof.Gen.CdOutReferenceIdeal.Read
public import proofs.«01_k».proof.Proof.Gen.Pre_finite_heads
public import proofs.«01_k».proof.Proof.Gen.Pre_finite_scores
public import proofs.«01_k».proof.Proof.AttnEquation
public import proofs.«01_k».proof.Proof.FfnEquation
public import proofs.«01_k».proof.Proof.FfnCtxEquation
public import proofs.«01_k».proof.Proof.ModEquation
public import proofs.«01_k».proof.Proof.ModAbEquation
public import proofs.«01_k».proof.Proof.OutEquation
public import proofs.«01_k».proof.Proof.CdOutEquation
public import proofs.«01_k».proof.Proof.WindowEquation
public import proofs.«01_k».proof.Proof.PrepEquation
public import Idealize.ShloMosaic.Adequacy
public import Idealize.ShloMosaic.Init
public import proofs.«01_k».proof.Proof.Gen.Window
public import proofs.«01_k».proof.Proof.Gen.Window.Skeleton
public import proofs.«01_k».proof.Proof.Gen.Window.Launch
public import proofs.«01_k».proof.Proof.Gen.Window.Points
public import proofs.«01_k».proof.Proof.Gen.Window.Frame
public import proofs.«01_k».proof.Proof.Gen.WindowIdeal
public import proofs.«01_k».proof.Proof.Gen.WindowIdeal.Skeleton
public import proofs.«01_k».proof.Proof.Gen.WindowIdeal.Launch
public import proofs.«01_k».proof.Proof.Gen.WindowIdeal.Points
public import proofs.«01_k».proof.Proof.Gen.WindowIdeal.Frame
public import proofs.«01_k».proof.Proof.Gen.WindowReferenceIdeal
public import proofs.«01_k».proof.Proof.Gen.WindowIdeal.Value
public import proofs.«01_k».proof.Proof.Gen.WindowReferenceIdeal.Run
public import proofs.«01_k».proof.Proof.Gen.WindowReferenceIdeal.Read
public import proofs.«01_k».proof.Proof.Gen.Pre_finite_windows
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepReferenceIdeal
public import proofs.«01_k».proof.Proof.Gen.Pre_finite_ranks
public import proofs.«01_k».proof.Proof.Gen.PrepIdeal.Value
public import proofs.«01_k».proof.Proof.Gen.PrepReferenceIdeal.Run
public import proofs.«01_k».proof.Proof.Gen.PrepReferenceIdeal.Read

@[expose] public section

noncomputable section

namespace Cert.Proof

open Idealize.ShloMosaic Idealize.SL.Sem Cert.Kernel

/-- The attention kernel and its reference end with the same array, where the queries' and the keys' entries are real. -/
theorem attention : Cert.algebraic_KernelIdeal_ReferenceIdeal_pre_finite_scores
    (hPre_finite_scores := Cert.Pre_finite_scores.Gen.facts) :=
  fun m g m' g' hpre ha => ⟨fun c => AttnArray.result m c, AttnArray.run m g,
    (θ_run _ _ _).mono (fun r h c => ⟨(h c).1.trans (by
        obtain ⟨a0, a1, a2, a3, a4⟩ := ha c
        rw [a0, a1, a2, a3, a4, Cert.ReferenceIdeal.Read.val_main_v21_eq]
        exact (AttnEquation.result_eq m hpre c).symm), (h c).2⟩) (Cert.ReferenceIdeal.Value.run m' g')⟩

/-- The feed-forward kernel of the last block and its reference end with the same array. -/
theorem ffn : Cert.algebraic_FfnIdeal_FfnReferenceIdeal :=
  fun m g m' g' _ ha => ⟨fun c => FfnArray.result m c, FfnArray.run m g,
    (θ_run _ _ _).mono (fun r h c => ⟨(h c).1.trans (by
        obtain ⟨a0, a1, a2, a3, a4, a5, a6, a7⟩ := ha c
        refine (Cert.FfnReferenceIdeal.Read.val_main_v51_eq m' c).trans ?_
        rw [a0, a1, a2, a3, a4, a5, a6, a7]
        exact (FfnEquation.result_eq m c).symm), (h c).2⟩) (Cert.FfnReferenceIdeal.Value.run m' g')⟩

/-- The feed-forward kernel of the first block, over both sequences, and its reference end with the same array. -/
theorem ffnCtx : Cert.algebraic_FfnCtxIdeal_FfnCtxReferenceIdeal :=
  fun m g m' g' _ ha => ⟨fun c => FfnCtxArray.result m c, FfnCtxArray.run m g,
    (θ_run _ _ _).mono (fun r h c => ⟨(h c).1.trans (by
        obtain ⟨a0, a1, a2, a3, a4, a5, a6, a7⟩ := ha c
        refine (Cert.FfnCtxReferenceIdeal.Read.val_main_v106_eq m' c).trans ?_
        rw [a0, a1, a2, a3, a4, a5, a6, a7]
        exact (FfnCtxEquation.result_eq m c).symm), (h c).2⟩) (Cert.FfnCtxReferenceIdeal.Value.run m' g')⟩

/-- The modulated projection's kernel of the later blocks and its reference end with the same array. -/
theorem mod : Cert.algebraic_ModIdeal_ModReferenceIdeal :=
  fun m g m' g' _ ha => ⟨fun c => ModArray.result m c, ModArray.run m g,
    (θ_run _ _ _).mono (fun r h c => ⟨(h c).1.trans (by
        obtain ⟨a0, a1, a2, a3⟩ := ha c
        rw [a0, a1, a2, a3, Cert.ModReferenceIdeal.Read.val_main_v41_eq]
        exact (ModEquation.result_eq m c).symm), (h c).2⟩) (Cert.ModReferenceIdeal.Value.run m' g')⟩

/-- The modulated projection's kernel of the first block and its reference end with the same array. -/
theorem modAb : Cert.algebraic_ModAbIdeal_ModAbReferenceIdeal :=
  fun m g m' g' _ ha => ⟨fun c => ModAbArray.result m c, ModAbArray.run m g,
    (θ_run _ _ _).mono (fun r h c => ⟨(h c).1.trans (by
        obtain ⟨a0, a1, a2, a3⟩ := ha c
        rw [a0, a1, a2, a3, Cert.ModAbReferenceIdeal.Read.val_main_v41_eq]
        exact (ModAbEquation.result_eq m c).symm), (h c).2⟩) (Cert.ModAbReferenceIdeal.Value.run m' g')⟩

/-- The kernel of the heads' last product and its reference end with the same array. -/
theorem out : Cert.algebraic_OutIdeal_OutReferenceIdeal :=
  fun m g m' g' _ ha => ⟨fun c => OutArray.result m c, OutArray.run m g,
    (θ_run _ _ _).mono (fun r h c => ⟨(h c).1.trans (by
        obtain ⟨a0, a1⟩ := ha c
        rw [a0, a1, Cert.OutReferenceIdeal.Read.val_main_v1_eq]
        exact (OutEquation.result_eq m c).symm), (h c).2⟩) (Cert.OutReferenceIdeal.Value.run m' g')⟩

/-- The kernel of the second block's last projection and its reference end with the same array, where the summed arguments are real numbers. -/
theorem cdOut : Cert.algebraic_CdOutIdeal_CdOutReferenceIdeal_pre_finite_heads (hPre_finite_heads := Cert.Pre_finite_heads.Gen.facts) :=
  fun m g m' g' hpre ha => ⟨fun c => CdOutArray.result m c, CdOutArray.run m g fun c => CdOutEquation.finite m hpre c,
    (θ_run _ _ _).mono (fun r h c => ⟨(h c).1.trans (by
        obtain ⟨a0, a1, a2, a3, a4, a5, a6, a7, a8, a9, a10, a11, a12, a13, a14, a15, a16⟩ := ha c
        refine (Cert.CdOutReferenceIdeal.Read.val_main_v90_eq m' c).trans ?_
        rw [a0, a1, a2, a3, a4, a5, a6, a7, a8, a9, a10, a11, a12, a13, a14, a15, a16]
        exact (CdOutEquation.result_eq m hpre c).symm), (h c).2⟩) (Cert.CdOutReferenceIdeal.Value.run m' g')⟩

/-- The window attention's kernel and its reference end with the same array, where the queries, the keys and the sinks are real numbers. -/
theorem window : Cert.algebraic_WindowIdeal_WindowReferenceIdeal_pre_finite_windows
    (hPre_finite_windows := Cert.Pre_finite_windows.Gen.facts) :=
  fun m g m' g' hpre ha => ⟨fun c => WindowArray.result m c, WindowArray.run m g,
    (θ_run _ _ _).mono (fun r h c => ⟨(h c).1.trans (by
        obtain ⟨a0, a1, a2, a3⟩ := ha c
        refine (Cert.WindowReferenceIdeal.Read.val_main_v89_eq m' c).trans ?_
        rw [a0, a1, a2, a3]
        exact (WindowEquation.result_eq m hpre c).symm), (h c).2⟩) (Cert.WindowReferenceIdeal.Value.run m' g')⟩

/-- The preparation of the latent attention's heads and its reference end with the same queries, keys and values, where the rows, the scales and
  the weights they are normalized from are real numbers. -/
theorem prep : Cert.algebraic_PrepIdeal_PrepReferenceIdeal_pre_finite_ranks (hPre_finite_ranks := Cert.Pre_finite_ranks.Gen.facts) :=
  fun m g m' g' hpre ha => ⟨fun c => PrepArray.queries m c, fun c => PrepArray.keys m c, fun c => PrepArray.values m c,
    PrepArray.run m g fun c => PrepEquation.finite m hpre c,
    (θ_run _ _ _).mono (fun r h c => ⟨(h c).1.trans (by
        obtain ⟨a0, a1, a2, a3, a4, a5, a6, a7, a8, a9, a10, a11, a12, a13⟩ := ha c
        refine (Cert.PrepReferenceIdeal.Read.val_main_v60_eq m' c).trans ?_
        rw [a0, a5, a7, a10]
        exact (PrepEquation.queries_eq m c).symm), (h c).2.1.trans (by
        obtain ⟨a0, a1, a2, a3, a4, a5, a6, a7, a8, a9, a10, a11, a12, a13⟩ := ha c
        refine (Cert.PrepReferenceIdeal.Read.val_main_v61_eq m' c).trans ?_
        rw [a0, a6, a8, a12]
        exact (PrepEquation.keys_eq m c).symm), (h c).2.2.1.trans (by
        obtain ⟨a0, a1, a2, a3, a4, a5, a6, a7, a8, a9, a10, a11, a12, a13⟩ := ha c
        refine (Cert.PrepReferenceIdeal.Read.val_main_v59_eq _ _ _).trans ?_
        rw [a0, a6, a9]
        exact (PrepEquation.values_eq m c).symm), (h c).2.2.2⟩) (Cert.PrepReferenceIdeal.Value.run m' g')⟩

theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts, Cert.FfnCtx.Gen.facts, Cert.FfnCtxIdeal.Gen.facts, Cert.FfnCtxReferenceIdeal.Gen.facts, Cert.Mod.Gen.facts, Cert.ModIdeal.Gen.facts, Cert.ModReferenceIdeal.Gen.facts, Cert.ModAb.Gen.facts, Cert.ModAbIdeal.Gen.facts, Cert.ModAbReferenceIdeal.Gen.facts, Cert.Out.Gen.facts, Cert.OutIdeal.Gen.facts, Cert.OutReferenceIdeal.Gen.facts, Cert.CdOut.Gen.facts, Cert.CdOutIdeal.Gen.facts, Cert.CdOutReferenceIdeal.Gen.facts, Cert.Window.Gen.facts, Cert.WindowIdeal.Gen.facts, Cert.WindowReferenceIdeal.Gen.facts, Cert.Prep.Gen.facts, Cert.PrepIdeal.Gen.facts, Cert.PrepReferenceIdeal.Gen.facts, Cert.Pre_finite_scores.Gen.facts, Cert.Pre_finite_heads.Gen.facts, Cert.Pre_finite_windows.Gen.facts, Cert.Pre_finite_ranks.Gen.facts,
  fun m ρ _ => Cert.Kernel.Gen.frame m ρ, fun m ρ _ => Cert.KernelIdeal.Gen.frame m ρ, fun m ρ _ => Cert.KernelIdeal.Gen.frame m ρ,
  fun m ρ _ => (θ_run _ _ _).mono (fun r h => ⟨fun c => (h c).2, sem_eq_zero_of_no_sems (by decide) r.2⟩) (Cert.ReferenceIdeal.Value.run m ρ), fun m ρ _ => (θ_run _ _ _).mono (fun r h => ⟨fun c => (h c).2, sem_eq_zero_of_no_sems (by decide) r.2⟩) (Cert.ReferenceIdeal.Value.run m ρ),
  fun m ρ _ => Cert.Ffn.Gen.frame m ρ, fun m ρ _ => Cert.FfnIdeal.Gen.frame m ρ, fun m ρ _ => (θ_run _ _ _).mono (fun r h => ⟨fun c => (h c).2, sem_eq_zero_of_no_sems (by decide) r.2⟩) (Cert.FfnReferenceIdeal.Value.run m ρ),
  fun m ρ _ => Cert.FfnCtx.Gen.frame m ρ, fun m ρ _ => Cert.FfnCtxIdeal.Gen.frame m ρ, fun m ρ _ => (θ_run _ _ _).mono (fun r h => ⟨fun c => (h c).2, sem_eq_zero_of_no_sems (by decide) r.2⟩) (Cert.FfnCtxReferenceIdeal.Value.run m ρ),
  fun m ρ _ => Cert.Mod.Gen.frame m ρ, fun m ρ _ => Cert.ModIdeal.Gen.frame m ρ, fun m ρ _ => (θ_run _ _ _).mono (fun r h => ⟨fun c => (h c).2, sem_eq_zero_of_no_sems (by decide) r.2⟩) (Cert.ModReferenceIdeal.Value.run m ρ),
  fun m ρ _ => Cert.ModAb.Gen.frame m ρ, fun m ρ _ => Cert.ModAbIdeal.Gen.frame m ρ, fun m ρ _ => (θ_run _ _ _).mono (fun r h => ⟨fun c => (h c).2, sem_eq_zero_of_no_sems (by decide) r.2⟩) (Cert.ModAbReferenceIdeal.Value.run m ρ),
  fun m ρ _ => Cert.Out.Gen.frame m ρ, fun m ρ _ => Cert.OutIdeal.Gen.frame m ρ, fun m ρ _ => (θ_run _ _ _).mono (fun r h => ⟨fun c => (h c).2, sem_eq_zero_of_no_sems (by decide) r.2⟩) (Cert.OutReferenceIdeal.Value.run m ρ),
  fun m ρ _ => Cert.CdOut.Gen.frame m ρ, fun m ρ _ => Cert.CdOutIdeal.Gen.frame m ρ, fun m ρ _ => Cert.CdOutIdeal.Gen.frame m ρ,
  fun m ρ _ => (θ_run _ _ _).mono (fun r h => ⟨fun c => (h c).2, sem_eq_zero_of_no_sems (by decide) r.2⟩) (Cert.CdOutReferenceIdeal.Value.run m ρ), fun m ρ _ => (θ_run _ _ _).mono (fun r h => ⟨fun c => (h c).2, sem_eq_zero_of_no_sems (by decide) r.2⟩) (Cert.CdOutReferenceIdeal.Value.run m ρ),
  fun m ρ _ => Cert.Window.Gen.frame m ρ, fun m ρ _ => Cert.WindowIdeal.Gen.frame m ρ, fun m ρ _ => Cert.WindowIdeal.Gen.frame m ρ,
  fun m ρ _ => (θ_run _ _ _).mono (fun r h => ⟨fun c => (h c).2, sem_eq_zero_of_no_sems (by decide) r.2⟩) (Cert.WindowReferenceIdeal.Value.run m ρ), fun m ρ _ => (θ_run _ _ _).mono (fun r h => ⟨fun c => (h c).2, sem_eq_zero_of_no_sems (by decide) r.2⟩) (Cert.WindowReferenceIdeal.Value.run m ρ),
  fun m ρ _ => Cert.Prep.Gen.frame m ρ, fun m ρ _ => Cert.PrepIdeal.Gen.frame m ρ, fun m ρ _ => Cert.PrepIdeal.Gen.frame m ρ,
  fun m ρ _ => (θ_run _ _ _).mono (fun r h => ⟨fun c => (h c).2.2.2, sem_eq_zero_of_no_sems (by decide) r.2⟩) (Cert.PrepReferenceIdeal.Value.run m ρ), fun m ρ _ => (θ_run _ _ _).mono (fun r h => ⟨fun c => (h c).2.2.2, sem_eq_zero_of_no_sems (by decide) r.2⟩) (Cert.PrepReferenceIdeal.Value.run m ρ),
  trivial, attention, trivial, ffn, trivial, ffnCtx, trivial, mod, trivial, modAb, trivial, out, trivial, cdOut,
  IdealRules.named_const.statement Cert.WindowIdeal.κ "mask" .f32 0xF149F2CA#32 ⊥ rfl, window, trivial, prep⟩

end Cert.Proof

end
